-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2.2.2.2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel5 [hPre_routed : Cert.Pre_routed.Facts] (m : (ℓ : Loc Cert.Kernel5.nD Cert.Kernel5.τ Cert.Kernel5.sig) → Buf (Elt Bits) ℓ) : Prop :=
  ∀ c : Dev Cert.Kernel5.nD,
    (Cert.Pre_routed.fn (F := Bits) (m ((c.tc : Thread Cert.Kernel5.nD Cert.Kernel5.τ).loc Cert.Kernel5.main_arg0)) (m ((c.tc : Thread Cert.Kernel5.nD Cert.Kernel5.τ).loc Cert.Kernel5.main_arg1)) (m ((c.tc : Thread Cert.Kernel5.nD Cert.Kernel5.τ).loc Cert.Kernel5.main_arg2)) (m ((c.tc : Thread Cert.Kernel5.nD Cert.Kernel5.τ).loc Cert.Kernel5.main_arg3)) (m ((c.tc : Thread Cert.Kernel5.nD Cert.Kernel5.τ).loc Cert.Kernel5.main_arg4)) (m ((c.tc : Thread Cert.Kernel5.nD Cert.Kernel5.τ).loc Cert.Kernel5.main_arg5)) (m ((c.tc : Thread Cert.Kernel5.nD Cert.Kernel5.τ).loc Cert.Kernel5.main_arg6))).1 = (fun _ => 1#1)
    ∧ (Cert.Pre_routed.fn (F := Bits) (m ((c.tc : Thread Cert.Kernel5.nD Cert.Kernel5.τ).loc Cert.Kernel5.main_arg0)) (m ((c.tc : Thread Cert.Kernel5.nD Cert.Kernel5.τ).loc Cert.Kernel5.main_arg1)) (m ((c.tc : Thread Cert.Kernel5.nD Cert.Kernel5.τ).loc Cert.Kernel5.main_arg2)) (m ((c.tc : Thread Cert.Kernel5.nD Cert.Kernel5.τ).loc Cert.Kernel5.main_arg3)) (m ((c.tc : Thread Cert.Kernel5.nD Cert.Kernel5.τ).loc Cert.Kernel5.main_arg4)) (m ((c.tc : Thread Cert.Kernel5.nD Cert.Kernel5.τ).loc Cert.Kernel5.main_arg5)) (m ((c.tc : Thread Cert.Kernel5.nD Cert.Kernel5.τ).loc Cert.Kernel5.main_arg6))).2 = (fun _ => 1#1)

def Pre_Kernel5Ideal [hPre_routed : Cert.Pre_routed.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_routed.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6))).1 = (fun _ => 1#1)
    ∧ (Cert.Pre_routed.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6))).2 = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_routed [hPre_routed : Cert.Pre_routed.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_routed.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6))).1 = (fun _ => 1#1)
    ∧ (Cert.Pre_routed.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6))).2 = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel5 [hKernel5 : Cert.Kernel5.Facts] [hPre_routed : Cert.Pre_routed.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6))
      ∧ r.2.sem = fun _ => 0)

def quiescent_Kernel5Ideal [hKernel5Ideal : Cert.Kernel5Ideal.Facts] [hPre_routed : Cert.Pre_routed.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6))
      ∧ r.2.sem = fun _ => 0)

def quiescent_Reference5Ideal_pre_routed [hReference5Ideal : Cert.Reference5Ideal.Facts] [hPre_routed : Cert.Pre_routed.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_routed m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v11_0)) (v1 : (c : Dev Cert.KernelIdeal.nD) → Buf (Elt Ideal) ((c.tc : Thread Cert.KernelIdeal.nD Cert.KernelIdeal.τ).loc Cert.KernelIdeal.main_v11_1)) (v2 : (c : Dev Cert.KernelIdeal.nD) → Buf (Elt Ideal) ((c.tc : Thread Cert.KernelIdeal.nD Cert.KernelIdeal.τ).loc Cert.KernelIdeal.main_v11_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11_0) = v0 c
          ∧ r.2.mem ((c.tc : Thread Cert.KernelIdeal.nD Cert.KernelIdeal.τ).loc Cert.KernelIdeal.main_v11_1) = v1 c
          ∧ r.2.mem ((c.tc : Thread Cert.KernelIdeal.nD Cert.KernelIdeal.τ).loc Cert.KernelIdeal.main_v11_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v50) = v0 c
          ∧ r.2.mem ((c.tc : Thread Cert.ReferenceIdeal.nD Cert.ReferenceIdeal.τ).loc Cert.ReferenceIdeal.main_v63) = v1 c
          ∧ r.2.mem ((c.tc : Thread Cert.ReferenceIdeal.nD Cert.ReferenceIdeal.τ).loc Cert.ReferenceIdeal.main_v64) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v1) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v8) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v10_0)) (v1 : (c : Dev Cert.Kernel3Ideal.nD) → Buf (Elt Ideal) ((c.tc : Thread Cert.Kernel3Ideal.nD Cert.Kernel3Ideal.τ).loc Cert.Kernel3Ideal.main_v10_1)) (v2 : (c : Dev Cert.Kernel3Ideal.nD) → Buf (Elt Ideal) ((c.tc : Thread Cert.Kernel3Ideal.nD Cert.Kernel3Ideal.τ).loc Cert.Kernel3Ideal.main_v10_2)) (v3 : (c : Dev Cert.Kernel3Ideal.nD) → Buf (Elt Ideal) ((c.tc : Thread Cert.Kernel3Ideal.nD Cert.Kernel3Ideal.τ).loc Cert.Kernel3Ideal.main_v10_3)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v10_0) = v0 c
          ∧ r.2.mem ((c.tc : Thread Cert.Kernel3Ideal.nD Cert.Kernel3Ideal.τ).loc Cert.Kernel3Ideal.main_v10_1) = v1 c
          ∧ r.2.mem ((c.tc : Thread Cert.Kernel3Ideal.nD Cert.Kernel3Ideal.τ).loc Cert.Kernel3Ideal.main_v10_2) = v2 c
          ∧ r.2.mem ((c.tc : Thread Cert.Kernel3Ideal.nD Cert.Kernel3Ideal.τ).loc Cert.Kernel3Ideal.main_v10_3) = v3 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v23) = v0 c
          ∧ r.2.mem ((c.tc : Thread Cert.Reference3Ideal.nD Cert.Reference3Ideal.τ).loc Cert.Reference3Ideal.main_v36) = v1 c
          ∧ r.2.mem ((c.tc : Thread Cert.Reference3Ideal.nD Cert.Reference3Ideal.τ).loc Cert.Reference3Ideal.main_v47) = v2 c
          ∧ r.2.mem ((c.tc : Thread Cert.Reference3Ideal.nD Cert.Reference3Ideal.τ).loc Cert.Reference3Ideal.main_v48) = v3 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel5_Kernel5Ideal : Prop :=
  True

def algebraic_Kernel5Ideal_Reference5Ideal [hKernel5Ideal : Cert.Kernel5Ideal.Facts] [hReference5Ideal : Cert.Reference5Ideal.Facts] [hPre_routed : Cert.Pre_routed.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)) →
    ∃ (v0 : (c : Dev Cert.Kernel5Ideal.nD) → Buf (Elt Ideal) ((c.tc : Thread Cert.Kernel5Ideal.nD Cert.Kernel5Ideal.τ).loc Cert.Kernel5Ideal.main_v3)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v3) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v31) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)) →
    ∃ (v0 : (c : Dev Cert.Kernel4Ideal.nD) → Buf (Elt Ideal) ((c.tc : Thread Cert.Kernel4Ideal.nD Cert.Kernel4Ideal.τ).loc Cert.Kernel4Ideal.main_v9)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v9) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v34) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel5 : Cert.Kernel5.Facts) (hKernel5Ideal : Cert.Kernel5Ideal.Facts) (hReference5Ideal : Cert.Reference5Ideal.Facts) (hKernel4 : Cert.Kernel4.Facts) (hKernel4Ideal : Cert.Kernel4Ideal.Facts) (hReference4Ideal : Cert.Reference4Ideal.Facts) (hPre_finite : Cert.Pre_finite.Facts) (hPre_routed : Cert.Pre_routed.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel5 (hKernel5 := hKernel5) (hPre_routed := hPre_routed)
    ∧ quiescent_Kernel5Ideal (hKernel5Ideal := hKernel5Ideal) (hPre_routed := hPre_routed)
    ∧ quiescent_Reference5Ideal (hReference5Ideal := hReference5Ideal)
    ∧ quiescent_Reference5Ideal_pre_routed (hReference5Ideal := hReference5Ideal) (hPre_routed := hPre_routed)
    ∧ quiescent_Kernel4 (hKernel4 := hKernel4)
    ∧ quiescent_Kernel4Ideal (hKernel4Ideal := hKernel4Ideal)
    ∧ quiescent_Reference4Ideal (hReference4Ideal := hReference4Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel5_Kernel5Ideal
    ∧ algebraic_Kernel5Ideal_Reference5Ideal (hKernel5Ideal := hKernel5Ideal) (hReference5Ideal := hReference5Ideal) (hPre_routed := hPre_routed)
    ∧ preserves_Kernel4_Kernel4Ideal
    ∧ algebraic_Kernel4Ideal_Reference4Ideal (hKernel4Ideal := hKernel4Ideal) (hReference4Ideal := hReference4Ideal)
-- ==== Pre_finite.lean ====
abbrev S4x8192x1024 : Shape := ⟨3, ![4, 8192, 1024]⟩
abbrev S4x256x1024 : Shape := ⟨3, ![4, 256, 1024]⟩
abbrev S1024x1024 : Shape := ⟨2, ![1024, 1024]⟩
abbrev S1024 : Shape := ⟨1, ![1024]⟩
abbrev S1024x16 : Shape := ⟨2, ![1024, 16]⟩
abbrev S_ : Shape := ⟨0, ![]⟩

class Facts : Prop where
  bcast_S_S4x8192x1024 : S_.BroadcastsInDim S4x8192x1024 (![] : Fin 0 → Fin S4x8192x1024.rank)
  bcast_S_S4x256x1024 : S_.BroadcastsInDim S4x256x1024 (![] : Fin 0 → Fin S4x256x1024.rank)
  bcast_S_S1024x1024 : S_.BroadcastsInDim S1024x1024 (![] : Fin 0 → Fin S1024x1024.rank)
  bcast_S_S1024 : S_.BroadcastsInDim S1024 (![] : Fin 0 → Fin S1024.rank)
  bcast_S_S1024x16 : S_.BroadcastsInDim S1024x16 (![] : Fin 0 → Fin S1024x16.rank)

variable [Facts]

def fn_part1 {F : FTy → Type} [FloatOps F] (main_arg6 : FVec F S1024 .f32) (main_arg7 : FVec F S1024 .f32) (main_arg8 : FVec F S1024x16 .f32) (main_v2 : IVec S4x8192x1024 1) (main_v5 : IVec S4x256x1024 1) (main_v8 : IVec S1024x1024 1) (main_v11 : IVec S1024x1024 1) (main_v14 : IVec S1024x1024 1) (main_v17 : IVec S1024x1024 1) : IVec S4x8192x1024 1 × IVec S4x256x1024 1 × IVec S1024x1024 1 × IVec S1024x1024 1 × IVec S1024x1024 1 × IVec S1024x1024 1 × IVec S1024 1 × IVec S1024 1 × IVec S1024x16 1 :=
  let main_v18 : FVec F S1024 .f32 := Host.absf main_arg6
  let main_cst_5 : FVec F S_ .f32 := constant S_ .f32 0x7F800000#32
  let main_v19 : FVec F S1024 .f32 := broadcastInDim S1024 ![] bcast_S_S1024 main_cst_5
  let main_v20 : IVec S1024 1 := cmpf .olt main_v18 main_v19
  let main_v21 : FVec F S1024 .f32 := Host.absf main_arg7
  let main_cst_6 : FVec F S_ .f32 := constant S_ .f32 0x7F800000#32
  let main_v22 : FVec F S1024 .f32 := broadcastInDim S1024 ![] bcast_S_S1024 main_cst_6
  let main_v23 : IVec S1024 1 := cmpf .olt main_v21 main_v22
  let main_v24 : FVec F S1024x16 .f32 := Host.absf main_arg8
  let main_cst_7 : FVec F S_ .f32 := constant S_ .f32 0x7F800000#32
  let main_v25 : FVec F S1024x16 .f32 := broadcastInDim S1024x16 ![] bcast_S_S1024x16 main_cst_7
  let main_v26 : IVec S1024x16 1 := cmpf .olt main_v24 main_v25
  (main_v2, main_v5, main_v8, main_v11, main_v14, main_v17, main_v20, main_v23, main_v26)

def fn {F : FTy → Type} [FloatOps F] (main_arg0 : FVec F S4x8192x1024 .f32) (main_arg1 : FVec F S4x256x1024 .f32) (main_arg2 : FVec F S1024x1024 .f32) (main_arg3 : FVec F S1024x1024 .f32) (main_arg4 : FVec F S1024x1024 .f32) (main_arg5 : FVec F S1024x1024 .f32) (main_arg6 : FVec F S1024 .f32) (main_arg7 : FVec F S1024 .f32) (main_arg8 : FVec F S1024x16 .f32) : IVec S4x8192x1024 1 × IVec S4x256x1024 1 × IVec S1024x1024 1 × IVec S1024x1024 1 × IVec S1024x1024 1 × IVec S1024x1024 1 × IVec S1024 1 × IVec S1024 1 × IVec S1024x16 1 :=
  let main_v0 : FVec F S4x8192x1024 .f32 := Host.absf main_arg0
  let main_cst : FVec F S_ .f32 := constant S_ .f32 0x7F800000#32
  let main_v1 : FVec F S4x8192x1024 .f32 := broadcastInDim S4x8192x1024 ![] bcast_S_S4x8192x1024 main_cst
  let main_v2 : IVec S4x8192x1024 1 := cmpf .olt main_v0 main_v1
  let main_v3 : FVec F S4x256x1024 .f32 := Host.absf main_arg1
  let main_cst_0 : FVec F S_ .f32 := constant S_ .f32 0x7F800000#32
  let main_v4 : FVec F S4x256x1024 .f32 := broadcastInDim S4x256x1024 ![] bcast_S_S4x256x1024 main_cst_0
  let main_v5 : IVec S4x256x1024 1 := cmpf .olt main_v3 main_v4
  let main_v6 : FVec F S1024x1024 .f32 := Host.absf main_arg2
  let main_cst_1 : FVec F S_ .f32 := constant S_ .f32 0x7F800000#32
  let main_v7 : FVec F S1024x1024 .f32 := broadcastInDim S1024x1024 ![] bcast_S_S1024x1024 main_cst_1
  let main_v8 : IVec S1024x1024 1 := cmpf .olt main_v6 main_v7
  let main_v9 : FVec F S1024x1024 .f32 := Host.absf main_arg3
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_v12 : FVec F S1024x1024 .f32 := Host.absf main_arg4
  let main_cst_3 : FVec F S_ .f32 := constant S_ .f32 0x7F800000#32
  let main_v13 : FVec F S1024x1024 .f32 := broadcastInDim S1024x1024 ![] bcast_S_S1024x1024 main_cst_3
  let main_v14 : IVec S1024x1024 1 := cmpf .olt main_v12 main_v13
  let main_v15 : FVec F S1024x1024 .f32 := Host.absf main_arg5
  let main_cst_4 : FVec F S_ .f32 := constant S_ .f32 0x7F800000#32
  let main_v16 : FVec F S1024x1024 .f32 := broadcastInDim S1024x1024 ![] bcast_S_S1024x1024 main_cst_4
  let main_v17 : IVec S1024x1024 1 := cmpf .olt main_v15 main_v16
  fn_part1 (F := F) main_arg6 main_arg7 main_arg8 main_v2 main_v5 main_v8 main_v11 main_v14 main_v17
-- ==== Pre_routed.lean ====
abbrev S4x16x64 : Shape := ⟨3, ![4, 16, 64]⟩
abbrev S4x8192x1024 : Shape := ⟨3, ![4, 8192, 1024]⟩
abbrev S4x8192x16 : Shape := ⟨3, ![4, 8192, 16]⟩
abbrev S1024 : Shape := ⟨1, ![1024]⟩
abbrev S4x16x1024x1024 : Shape := ⟨4, ![4, 16, 1024, 1024]⟩
abbrev S4x64x16 : Shape := ⟨3, ![4, 64, 16]⟩
abbrev S4x64x1x16 : Shape := ⟨4, ![4, 64, 1, 16]⟩
abbrev S4x64x128x16 : Shape := ⟨4, ![4, 64, 128, 16]⟩
abbrev S_ : Shape := ⟨0, ![]⟩

class Facts : Prop where
  transposes_S4x16x64_S4x64x16_0_2_1 : S4x16x64.Transposes [0, 2, 1] S4x64x16
  bcast_S4x64x16_S4x64x1x16_0_1_3 : S4x64x16.BroadcastsInDim S4x64x1x16 (![0, 1, 3] : Fin 3 → Fin S4x64x1x16.rank)
  shapeCasts_S4x8192x16_S4x64x128x16 : S4x8192x16.ShapeCasts S4x64x128x16
  bcast_S4x64x1x16_S4x64x128x16_0_1_2_3 : S4x64x1x16.BroadcastsInDim S4x64x128x16 (![0, 1, 2, 3] : Fin 4 → Fin S4x64x128x16.rank)
  bcast_S_S4x64x1x16 : S_.BroadcastsInDim S4x64x1x16 (![] : Fin 0 → Fin S4x64x1x16.rank)
  bcast_S_S4x64x128x16 : S_.BroadcastsInDim S4x64x128x16 (![] : Fin 0 → Fin S4x64x128x16.rank)
  bcast_S_S4x16x64 : S_.BroadcastsInDim S4x16x64 (![] : Fin 0 → Fin S4x16x64.rank)

variable [Facts]

def fn_part1 {F : FTy → Type} [FloatOps F] (main_v2 : IVec S4x64x128x16 32) (main_v12 : IVec S4x64x128x16 1) (main_v17 : IVec S4x16x64 1) (main_v18 : IVec S4x64x128x16 32) : IVec S4x16x64 1 × IVec S4x64x128x16 1 :=
  let main_v19 : IVec S4x64x128x16 1 := cmpi .eq main_v2 main_v18
  let main_v20 : IVec S4x64x128x16 1 := ori main_v19 main_v12
  (main_v17, main_v20)

def fn {F : FTy → Type} [FloatOps F] (main_arg0 : IVec S4x16x64 32) (main_arg1 : FVec F S4x8192x1024 .f32) (main_arg2 : IVec S4x8192x16 32) (main_arg3 : FVec F S4x8192x16 .f32) (main_arg4 : FVec F S1024 .f32) (main_arg5 : FVec F S1024 .f32) (main_arg6 : FVec F S4x16x1024x1024 .f32) : IVec S4x16x64 1 × IVec S4x64x128x16 1 :=
  let main_v0 : IVec S4x64x16 32 := (transpose S4x64x16 [0, 2, 1] · transposes_S4x16x64_S4x64x16_0_2_1) main_arg0
  let main_v1 : IVec S4x64x1x16 32 := broadcastInDim S4x64x1x16 ![0, 1, 3] bcast_S4x64x16_S4x64x1x16_0_1_3 main_v0
  let main_v2 : IVec S4x64x128x16 32 := shapeCast S4x64x128x16 main_arg2 shapeCasts_S4x8192x16_S4x64x128x16
  let main_v3 : IVec S4x64x128x16 32 := broadcastInDim S4x64x128x16 ![0, 1, 2, 3] bcast_S4x64x1x16_S4x64x128x16_0_1_2_3 main_v1
  let main_v4 : IVec S4x64x128x16 1 := cmpi .sle main_v3 main_v2
  let main_c : IVec S_ 32 := constantI S_ 32 128#32
  let main_v5 : IVec S4x64x1x16 32 := broadcastInDim S4x64x1x16 ![] bcast_S_S4x64x1x16 main_c
  let main_v6 : IVec S4x64x1x16 32 := addi main_v1 main_v5
  let main_v7 : IVec S4x64x128x16 32 := broadcastInDim S4x64x128x16 ![0, 1, 2, 3] bcast_S4x64x1x16_S4x64x128x16_0_1_2_3 main_v6
  let main_v8 : IVec S4x64x128x16 1 := cmpi .slt main_v2 main_v7
  let main_v9 : IVec S4x64x128x16 1 := andi main_v4 main_v8
  let main_c_0 : IVec S_ 32 := constantI S_ 32 1024#32
  let main_v10 : IVec S4x64x128x16 32 := broadcastInDim S4x64x128x16 ![] bcast_S_S4x64x128x16 main_c_0
  let main_v11 : IVec S4x64x128x16 1 := cmpi .slt main_v2 main_v10
  let main_v12 : IVec S4x64x128x16 1 := andi main_v9 main_v11
  let main_c_1 : IVec S_ 32 := constantI S_ 32 0#32
  let main_v13 : IVec S4x16x64 32 := broadcastInDim S4x16x64 ![] bcast_S_S4x16x64 main_c_1
  let main_v14 : IVec S4x16x64 1 := cmpi .sge main_arg0 main_v13
  let main_c_2 : IVec S_ 32 := constantI S_ 32 1024#32
  let main_v15 : IVec S4x16x64 32 := broadcastInDim S4x16x64 ![] bcast_S_S4x16x64 main_c_2
  let main_v16 : IVec S4x16x64 1 := cmpi .sle main_arg0 main_v15
  let main_v17 : IVec S4x16x64 1 := andi main_v14 main_v16
  let main_c_3 : IVec S_ 32 := constantI S_ 32 4294967295#32
  let main_v18 : IVec S4x64x128x16 32 := broadcastInDim S4x64x128x16 ![] bcast_S_S4x64x128x16 main_c_3
  fn_part1 (F := F) main_v2 main_v12 main_v17 main_v18
-- ==== Kernel.lean ====
abbrev S4x8192x1024 : Shape := ⟨3, ![4, 8192, 1024]⟩
abbrev S4x256x1024 : Shape := ⟨3, ![4, 256, 1024]⟩
abbrev S1024x1024 : Shape := ⟨2, ![1024, 1024]⟩
abbrev S1024 : Shape := ⟨1, ![1024]⟩
abbrev S1024x16 : Shape := ⟨2, ![1024, 16]⟩
abbrev S16x1024 : Shape := ⟨2, ![16, 1024]⟩
abbrev S1x1024 : Shape := ⟨2, ![1, 1024]⟩
abbrev S4x16x8192 : Shape := ⟨3, ![4, 16, 8192]⟩
abbrev S1x1024x1024 : Shape := ⟨3, ![1, 1024, 1024]⟩
abbrev S1x256x1024 : Shape := ⟨3, ![1, 256, 1024]⟩
abbrev S1x16x1024 : Shape := ⟨3, ![1, 16, 1024]⟩
abbrev S256x1024 : Shape := ⟨2, ![256, 1024]⟩
abbrev S1024x256 : Shape := ⟨2, ![1024, 256]⟩
abbrev S256x256 : Shape := ⟨2, ![256, 256]⟩
abbrev S1024x1 : Shape := ⟨2, ![1024, 1]⟩
abbrev S32x1024 : Shape := ⟨2, ![32, 1024]⟩

abbrev nBuf : Space → Nat
  | .hbm => 23
  | .vmem => 20
  | .smem => 0
  | _ => 0

abbrev bufTy : (tb : Table) → Fin (tcTables nBuf tb) → BufTy
  | .hbm, ⟨0, _⟩ => ⟨S4x8192x1024, .f32⟩
  | .hbm, ⟨1, _⟩ => ⟨S4x256x1024, .f32⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S1024x1024, .f32⟩
  | .hbm, ⟨6, _⟩ => ⟨S1024, .f32⟩
  | .hbm, ⟨7, _⟩ => ⟨S1024, .f32⟩
  | .hbm, ⟨8, _⟩ => ⟨S1024x16, .f32⟩
  | .hbm, ⟨9, _⟩ => ⟨S16x1024, .f32⟩
  | .hbm, ⟨10, _⟩ => ⟨S16x1024, .bf16⟩
  | .hbm, ⟨11, _⟩ => ⟨S16x1024, .f32⟩
  | .hbm, ⟨12, _⟩ => ⟨S16x1024, .f32⟩
  | .hbm, ⟨13, _⟩ => ⟨S16x1024, .bf16⟩
  | .hbm, ⟨14, _⟩ => ⟨S1024x1024, .bf16⟩
  | .hbm, ⟨15, _⟩ => ⟨S1024x1024, .bf16⟩
  | .hbm, ⟨16, _⟩ => ⟨S1024x1024, .bf16⟩
  | .hbm, ⟨17, _⟩ => ⟨S1024x1024, .bf16⟩
  | .hbm, ⟨18, _⟩ => ⟨S1x1024, .f32⟩
  | .hbm, ⟨19, _⟩ => ⟨S1x1024, .f32⟩
  | .hbm, ⟨20, _⟩ => ⟨S4x8192x1024, .f32⟩
  | .hbm, ⟨21, _⟩ => ⟨S4x8192x1024, .bf16⟩
  | .hbm, ⟨22, _⟩ => ⟨S4x16x8192, .f32⟩
  | .local _ .vmem, ⟨0, _⟩ => ⟨S1x1024x1024, .f32⟩
  | .local _ .vmem, ⟨1, _⟩ => ⟨S1x1024x1024, .f32⟩
  | .local _ .vmem, ⟨2, _⟩ => ⟨S1x256x1024, .f32⟩
  | .local _ .vmem, ⟨3, _⟩ => ⟨S1x256x1024, .f32⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1x1024, .f32⟩
  | .local _ .vmem, ⟨9, _⟩ => ⟨S1x1024, .f32⟩
  | .local _ .vmem, ⟨10, _⟩ => ⟨S16x1024, .bf16⟩
  | .local _ .vmem, ⟨11, _⟩ => ⟨S16x1024, .bf16⟩
  | .local _ .vmem, ⟨12, _⟩ => ⟨S1x1024x1024, .f32⟩
  | .local _ .vmem, ⟨13, _⟩ => ⟨S1x1024x1024, .f32⟩
  | .local _ .vmem, ⟨14, _⟩ => ⟨S1x1024x1024, .bf16⟩
  | .local _ .vmem, ⟨15, _⟩ => ⟨S1x1024x1024, .bf16⟩
  | .local _ .vmem, ⟨16, _⟩ => ⟨S1x16x1024, .f32⟩
  | .local _ .vmem, ⟨17, _⟩ => ⟨S1x16x1024, .f32⟩
  | .local _ .vmem, ⟨18, _⟩ => ⟨S256x1024, .bf16⟩
  | .local _ .vmem, ⟨19, _⟩ => ⟨S256x1024, .bf16⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11_0 : Ref sig .tc := ⟨.hbm, 20, rfl⟩
abbrev main_v11_1 : Ref sig .tc := ⟨.hbm, 21, rfl⟩
abbrev main_v11_2 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg10_1 : Ref sig .tc := ⟨.vmem, 13, rfl⟩
abbrev cc0_stg11_0 : Ref sig .tc := ⟨.vmem, 14, rfl⟩
abbrev cc0_stg11_1 : Ref sig .tc := ⟨.vmem, 15, rfl⟩
abbrev cc0_stg12_0 : Ref sig .tc := ⟨.vmem, 16, rfl⟩
abbrev cc0_stg12_1 : Ref sig .tc := ⟨.vmem, 17, rfl⟩
abbrev cc0_scratch0 : Ref sig .tc := ⟨.vmem, 18, rfl⟩
abbrev cc0_scratch1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem10_1 : DmaSem sig := 13
abbrev cc0_sem11_0 : DmaSem sig := 14
abbrev cc0_sem11_1 : DmaSem sig := 15
abbrev cc0_sem12_0 : DmaSem sig := 16
abbrev cc0_sem12_1 : DmaSem sig := 17

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S16x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S16x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x1024x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x1024x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x16x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== ReferenceIdeal.lean ====
abbrev S4x8192x1024 : Shape := ⟨3, ![4, 8192, 1024]⟩
abbrev S4x256x1024 : Shape := ⟨3, ![4, 256, 1024]⟩
abbrev S1024x1024 : Shape := ⟨2, ![1024, 1024]⟩
abbrev S1024 : Shape := ⟨1, ![1024]⟩
abbrev S1024x16 : Shape := ⟨2, ![1024, 16]⟩
abbrev S4x8192x4x256 : Shape := ⟨4, ![4, 8192, 4, 256]⟩
abbrev S4x256x4x256 : Shape := ⟨4, ![4, 256, 4, 256]⟩
abbrev S4x4x8192x256 : Shape := ⟨4, ![4, 4, 8192, 256]⟩
abbrev S_ : Shape := ⟨0, ![]⟩
abbrev S4x4x8192 : Shape := ⟨3, ![4, 4, 8192]⟩
abbrev S4x4x8192x1 : Shape := ⟨4, ![4, 4, 8192, 1]⟩
abbrev S4x4x256x8192 : Shape := ⟨4, ![4, 4, 256, 8192]⟩
abbrev S4x8192 : Shape := ⟨2, ![4, 8192]⟩
abbrev S4x8192x1 : Shape := ⟨3, ![4, 8192, 1]⟩
abbrev S1x1x1024 : Shape := ⟨3, ![1, 1, 1024]⟩
abbrev S4x8192x16 : Shape := ⟨3, ![4, 8192, 16]⟩
abbrev S4x16x8192 : Shape := ⟨3, ![4, 16, 8192]⟩

abbrev nBuf : Space → Nat
  | .hbm => 87
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S4x256x1024, .f32⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S1024x1024, .f32⟩
  | .hbm, ⟨6, _⟩ => ⟨S1024, .f32⟩
  | .hbm, ⟨7, _⟩ => ⟨S1024, .f32⟩
  | .hbm, ⟨8, _⟩ => ⟨S1024x16, .f32⟩
  | .hbm, ⟨9, _⟩ => ⟨S4x8192x1024, .f32⟩
  | .hbm, ⟨10, _⟩ => ⟨S4x8192x4x256, .f32⟩
  | .hbm, ⟨11, _⟩ => ⟨S4x256x1024, .f32⟩
  | .hbm, ⟨12, _⟩ => ⟨S4x256x4x256, .f32⟩
  | .hbm, ⟨13, _⟩ => ⟨S4x256x1024, .f32⟩
  | .hbm, ⟨14, _⟩ => ⟨S4x256x4x256, .f32⟩
  | .hbm, ⟨15, _⟩ => ⟨S4x4x8192x256, .f32⟩
  | .hbm, ⟨16, _⟩ => ⟨S_, .f32⟩
  | .hbm, ⟨17, _⟩ => ⟨S4x4x8192x256, .f32⟩
  | .hbm, ⟨18, _⟩ => ⟨S4x4x8192x256, .f32⟩
  | .hbm, ⟨19, _⟩ => ⟨S_, .f32⟩
  | .hbm, ⟨20, _⟩ => ⟨S4x4x8192, .f32⟩
  | .hbm, ⟨21, _⟩ => ⟨S_, .f32⟩
  | .hbm, ⟨22, _⟩ => ⟨S4x4x8192, .f32⟩
  | .hbm, ⟨23, _⟩ => ⟨S4x4x8192, .f32⟩
  | .hbm, ⟨24, _⟩ => ⟨S4x4x8192x1, .f32⟩
  | .hbm, ⟨25, _⟩ => ⟨S4x4x8192x256, .f32⟩
  | .hbm, ⟨26, _⟩ => ⟨S4x4x8192x256, .f32⟩
  | .hbm, ⟨27, _⟩ => ⟨S4x4x8192x256, .f32⟩
  | .hbm, ⟨28, _⟩ => ⟨S_, .f32⟩
  | .hbm, ⟨29, _⟩ => ⟨S4x4x8192, .f32⟩
  | .hbm, ⟨30, _⟩ => ⟨S4x4x8192x1, .f32⟩
  | .hbm, ⟨31, _⟩ => ⟨S4x4x8192x256, .f32⟩
  | .hbm, ⟨32, _⟩ => ⟨S4x4x8192x256, .f32⟩
  | .hbm, ⟨33, _⟩ => ⟨S4x4x256x8192, .f32⟩
  | .hbm, ⟨34, _⟩ => ⟨S4x8192x4x256, .f32⟩
  | .hbm, ⟨35, _⟩ => ⟨S4x8192x1024, .f32⟩
  | .hbm, ⟨36, _⟩ => ⟨S4x8192x1024, .f32⟩
  | .hbm, ⟨37, _⟩ => ⟨S_, .f32⟩
  | .hbm, ⟨38, _⟩ => ⟨S4x8192x1024, .f32⟩
  | .hbm, ⟨39, _⟩ => ⟨S4x8192x1024, .f32⟩
  | .hbm, ⟨40, _⟩ => ⟨S4x8192x1024, .f32⟩
  | .hbm, ⟨41, _⟩ => ⟨S_, .f32⟩
  | .hbm, ⟨42, _⟩ => ⟨S4x8192, .f32⟩
  | .hbm, ⟨43, _⟩ => ⟨S4x8192x1, .f32⟩
  | .hbm, ⟨44, _⟩ => ⟨S_, .f32⟩
  | .hbm, ⟨45, _⟩ => ⟨S4x8192x1, .f32⟩
  | .hbm, ⟨46, _⟩ => ⟨S4x8192x1, .f32⟩
  | .hbm, ⟨47, _⟩ => ⟨S4x8192x1024, .f32⟩
  | .hbm, ⟨48, _⟩ => ⟨S4x8192x1024, .f32⟩
  | .hbm, ⟨49, _⟩ => ⟨S4x8192x1024, .f32⟩
  | .hbm, ⟨50, _⟩ => ⟨S_, .f32⟩
  | .hbm, ⟨51, _⟩ => ⟨S4x8192, .f32⟩
  | .hbm, ⟨52, _⟩ => ⟨S4x8192x1, .f32⟩
  | .hbm, ⟨53, _⟩ => ⟨S_, .f32⟩
  | .hbm, ⟨54, _⟩ => ⟨S4x8192x1, .f32⟩
  | .hbm, ⟨55, _⟩ => ⟨S4x8192x1, .f32⟩
  | .hbm, ⟨56, _⟩ => ⟨S4x8192x1024, .f32⟩
  | .hbm, ⟨57, _⟩ => ⟨S4x8192x1024, .f32⟩
  | .hbm, ⟨58, _⟩ => ⟨S_, .f32⟩
  | .hbm, ⟨59, _⟩ => ⟨S4x8192x1, .f32⟩
  | .hbm, ⟨60, _⟩ => ⟨S4x8192x1, .f32⟩
  | .hbm, ⟨61, _⟩ => ⟨S4x8192x1, .f32⟩
  | .hbm, ⟨62, _⟩ => ⟨S4x8192x1024, .f32⟩
  | .hbm, ⟨63, _⟩ => ⟨S4x8192x1024, .f32⟩
  | .hbm, ⟨64, _⟩ => ⟨S1x1x1024, .f32⟩
  | .hbm, ⟨65, _⟩ => ⟨S4x8192x1024, .f32⟩
  | .hbm, ⟨66, _⟩ => ⟨S4x8192x1024, .f32⟩
  | .hbm, ⟨67, _⟩ => ⟨S1x1x1024, .f32⟩
  | .hbm, ⟨68, _⟩ => ⟨S4x8192x1024, .f32⟩
  | .hbm, ⟨69, _⟩ => ⟨S4x8192x1024, .f32⟩
  | .hbm, ⟨70, _⟩ => ⟨S4x8192x16, .f32⟩
  | .hbm, ⟨71, _⟩ => ⟨S_, .f32⟩
  | .hbm, ⟨72, _⟩ => ⟨S4x8192, .f32⟩
  | .hbm, ⟨73, _⟩ => ⟨S_, .f32⟩
  | .hbm, ⟨74, _⟩ => ⟨S4x8192, .f32⟩
  | .hbm, ⟨75, _⟩ => ⟨S4x8192, .f32⟩
  | .hbm, ⟨76, _⟩ => ⟨S4x8192x1, .f32⟩
  | .hbm, ⟨77, _⟩ => ⟨S4x8192x16, .f32⟩
  | .hbm, ⟨78, _⟩ => ⟨S4x8192x16, .f32⟩
  | .hbm, ⟨79, _⟩ => ⟨S4x8192x16, .f32⟩
  | .hbm, ⟨80, _⟩ => ⟨S_, .f32⟩
  | .hbm, ⟨81, _⟩ => ⟨S4x8192, .f32⟩
  | .hbm, ⟨82, _⟩ => ⟨S4x8192x1, .f32⟩
  | .hbm, ⟨83, _⟩ => ⟨S4x8192x16, .f32⟩
  | .hbm, ⟨84, _⟩ => ⟨S4x8192x16, .f32⟩
  | .hbm, ⟨85, _⟩ => ⟨S4x8192x1024, .bf16⟩
  | .hbm, ⟨86, _⟩ => ⟨S4x16x8192, .f32⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_v8 : Ref sig .tc := ⟨.hbm, 18, rfl⟩
abbrev main_cst_0 : Ref sig .tc := ⟨.hbm, 19, rfl⟩
abbrev main_v9 : Ref sig .tc := ⟨.hbm, 20, rfl⟩
abbrev main_cst_1 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_2 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_3 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_4 : Ref sig .tc := ⟨.hbm, 41, rfl⟩
abbrev main_v27 : Ref sig .tc := ⟨.hbm, 42, rfl⟩
abbrev main_v28 : Ref sig .tc := ⟨.hbm, 43, rfl⟩
abbrev main_cst_5 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_cst_6 : Ref sig .tc := ⟨.hbm, 50, rfl⟩
abbrev main_v34 : Ref sig .tc := ⟨.hbm, 51, rfl⟩
abbrev main_v35 : Ref sig .tc := ⟨.hbm, 52, rfl⟩
abbrev main_cst_7 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_cst_8 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_cst_9 : Ref sig .tc := ⟨.hbm, 71, rfl⟩
abbrev main_v52 : Ref sig .tc := ⟨.hbm, 72, rfl⟩
abbrev main_cst_10 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_cst_11 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩

abbrev nD : Nat := 1
abbrev τ : Topo := Topo.v7x

variable {F : FTy → Type} [FloatOps F]
-- ==== Kernel2.lean ====
abbrev S4x16x1024x1024 : Shape := ⟨4, ![4, 16, 1024, 1024]⟩
abbrev S16x1024x2048 : Shape := ⟨3, ![16, 1024, 2048]⟩
abbrev S16x2048x1024 : Shape := ⟨3, ![16, 2048, 1024]⟩
abbrev S2x1x1024x1024 : Shape := ⟨4, ![2, 1, 1024, 1024]⟩
abbrev S1x1024x512 : Shape := ⟨3, ![1, 1024, 512]⟩
abbrev S1x512x1024 : Shape := ⟨3, ![1, 512, 1024]⟩
abbrev S2x1024x1024 : Shape := ⟨3, ![2, 1024, 1024]⟩
abbrev S1024x512 : Shape := ⟨2, ![1024, 512]⟩
abbrev S512x1024 : Shape := ⟨2, ![512, 1024]⟩
abbrev S1x1x1024x1024 : Shape := ⟨4, ![1, 1, 1024, 1024]⟩
abbrev S1024x1024 : Shape := ⟨2, ![1024, 1024]⟩
abbrev S1x1024x1024 : Shape := ⟨3, ![1, 1024, 1024]⟩

abbrev nBuf : Space → Nat
  | .hbm => 6
  | .vmem => 11
  | .smem => 0
  | _ => 0

abbrev bufTy : (tb : Table) → Fin (tcTables nBuf tb) → BufTy
  | .hbm, ⟨0, _⟩ => ⟨S4x16x1024x1024, .f32⟩
  | .hbm, ⟨1, _⟩ => ⟨S16x1024x2048, .f32⟩
  | .hbm, ⟨2, _⟩ => ⟨S16x1024x2048, .f32⟩
  | .hbm, ⟨3, _⟩ => ⟨S16x2048x1024, .f32⟩
  | .hbm, ⟨4, _⟩ => ⟨S4x16x1024x1024, .bf16⟩
  | .hbm, ⟨5, _⟩ => ⟨S4x16x1024x1024, .bf16⟩
  | .local _ .vmem, ⟨0, _⟩ => ⟨S2x1x1024x1024, .bf16⟩
  | .local _ .vmem, ⟨1, _⟩ => ⟨S2x1x1024x1024, .bf16⟩
  | .local _ .vmem, ⟨2, _⟩ => ⟨S1x1024x512, .f32⟩
  | .local _ .vmem, ⟨3, _⟩ => ⟨S1x1024x512, .f32⟩
  | .local _ .vmem, ⟨4, _⟩ => ⟨S1x1024x512, .f32⟩
  | .local _ .vmem, ⟨5, _⟩ => ⟨S1x1024x512, .f32⟩
  | .local _ .vmem, ⟨6, _⟩ => ⟨S1x512x1024, .f32⟩
  | .local _ .vmem, ⟨7, _⟩ => ⟨S1x512x1024, .f32⟩
  | .local _ .vmem, ⟨8, _⟩ => ⟨S2x1x1024x1024, .bf16⟩
  | .local _ .vmem, ⟨9, _⟩ => ⟨S2x1x1024x1024, .bf16⟩
  | .local _ .vmem, ⟨10, _⟩ => ⟨S2x1024x1024, .f32⟩
  | _, _ => ⟨S4x16x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![16, 2, 4], ![false, false, false]⟩

def k0_cond2 (i : grid0.Coords) : BitVec 1 :=
  let arg2 : BitVec 32 := BitVec.ofNat 32 (i 2).val
  let c3_i32 : BitVec 32 := 3#32
  let v54 : BitVec 1 := Scalar.cmpi .eq arg2 c3_i32
  let v55 : BitVec 32 := Scalar.extui v54
  let c0_i32_39 : BitVec 32 := 0#32
  let v56 : BitVec 1 := Scalar.cmpi .ne v55 c0_i32_39
  v56

def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, arg0.toNat, c0_i32.toNat, c0_i32_0.toNat]

abbrev stage0_0 : Fin 2 → Memref sig .tc .vmem S2x1x1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1x512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, true]

abbrev stage0_4 : Fin 2 → Memref sig .tc .vmem S2x1x1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== Reference2Ideal.lean ====
abbrev S4x16x1024x1024 : Shape := ⟨4, ![4, 16, 1024, 1024]⟩
abbrev S16x1024x2048 : Shape := ⟨3, ![16, 1024, 2048]⟩
abbrev S16x2048x1024 : Shape := ⟨3, ![16, 2048, 1024]⟩
abbrev S16x2048x4x1024 : Shape := ⟨4, ![16, 2048, 4, 1024]⟩
abbrev S4x16x1024x2048 : Shape := ⟨4, ![4, 16, 1024, 2048]⟩
abbrev S_ : Shape := ⟨0, ![]⟩
abbrev S16x1024x4x1024 : Shape := ⟨4, ![16, 1024, 4, 1024]⟩

abbrev nBuf : Space → Nat
  | .hbm => 21
  | .vmem => 0
  | .smem => 0
  | _ => 0

abbrev bufTy : (tb : Table) → Fin (tcTables nBuf tb) → BufTy
  | .hbm, ⟨0, _⟩ => ⟨S4x16x1024x1024, .f32⟩
  | .hbm, ⟨1, _⟩ => ⟨S16x1024x2048, .f32⟩
  | .hbm, ⟨2, _⟩ => ⟨S16x1024x2048, .f32⟩
  | .hbm, ⟨3, _⟩ => ⟨S16x2048x1024, .f32⟩
  | .hbm, ⟨4, _⟩ => ⟨S16x2048x4x1024, .f32⟩
  | .hbm, ⟨5, _⟩ => ⟨S4x16x1024x2048, .f32⟩
  | .hbm, ⟨6, _⟩ => ⟨S16x2048x4x1024, .f32⟩
  | .hbm, ⟨7, _⟩ => ⟨S4x16x1024x2048, .f32⟩
  | .hbm, ⟨8, _⟩ => ⟨S4x16x1024x2048, .f32⟩
  | .hbm, ⟨9, _⟩ => ⟨S4x16x1024x2048, .f32⟩
  | .hbm, ⟨10, _⟩ => ⟨S_, .f32⟩
  | .hbm, ⟨11, _⟩ => ⟨S4x16x1024x2048, .f32⟩
  | .hbm, ⟨12, _⟩ => ⟨S4x16x1024x2048, .f32⟩
  | .hbm, ⟨13, _⟩ => ⟨S_, .f32⟩
  | .hbm, ⟨14, _⟩ => ⟨S4x16x1024x2048, .f32⟩
  | .hbm, ⟨15, _⟩ => ⟨S4x16x1024x2048, .f32⟩
  | .hbm, ⟨16, _⟩ => ⟨S4x16x1024x2048, .f32⟩
  | .hbm, ⟨17, _⟩ => ⟨S4x16x1024x2048, .f32⟩
  | .hbm, ⟨18, _⟩ => ⟨S16x1024x4x1024, .f32⟩
  | .hbm, ⟨19, _⟩ => ⟨S4x16x1024x1024, .f32⟩
  | .hbm, ⟨20, _⟩ => ⟨S4x16x1024x1024, .bf16⟩
  | _, _ => ⟨S4x16x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_call0_v5 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩

abbrev nD : Nat := 1
abbrev τ : Topo := Topo.v7x

variable {F : FTy → Type} [FloatOps F]
-- ==== Kernel3.lean ====
abbrev S4x8192x1024 : Shape := ⟨3, ![4, 8192, 1024]⟩
abbrev S1024 : Shape := ⟨1, ![1024]⟩
abbrev S1024x4608 : Shape := ⟨2, ![1024, 4608]⟩
abbrev S2048 : Shape := ⟨1, ![2048]⟩
abbrev S1024x1024 : Shape := ⟨2, ![1024, 1024]⟩
abbrev S1024x1536 : Shape := ⟨2, ![1024, 1536]⟩
abbrev S1536x1024 : Shape := ⟨2, ![1536, 1024]⟩
abbrev S1024x2048 : Shape := ⟨2, ![1024, 2048]⟩
abbrev S1x1024 : Shape := ⟨2, ![1, 1024]⟩
abbrev S1x2048 : Shape := ⟨2, ![1, 2048]⟩
abbrev S4x8192x512 : Shape := ⟨3, ![4, 8192, 512]⟩
abbrev S4x1536x8192 : Shape := ⟨3, ![4, 1536, 8192]⟩
abbrev S4x8192x2048 : Shape := ⟨3, ![4, 8192, 2048]⟩
abbrev S1x512x1024 : Shape := ⟨3, ![1, 512, 1024]⟩
abbrev S1x512x512 : Shape := ⟨3, ![1, 512, 512]⟩
abbrev S1x1536x512 : Shape := ⟨3, ![1, 1536, 512]⟩
abbrev S1x512x2048 : Shape := ⟨3, ![1, 512, 2048]⟩
abbrev S1x256x1024 : Shape := ⟨3, ![1, 256, 1024]⟩
abbrev S256x1024 : Shape := ⟨2, ![256, 1024]⟩
abbrev S256 : Shape := ⟨1, ![256]⟩
abbrev S256x1 : Shape := ⟨2, ![256, 1]⟩
abbrev S256x512 : Shape := ⟨2, ![256, 512]⟩
abbrev S1x256x512 : Shape := ⟨3, ![1, 256, 512]⟩
abbrev S1536x256 : Shape := ⟨2, ![1536, 256]⟩
abbrev S1x1536x256 : Shape := ⟨3, ![1, 1536, 256]⟩
abbrev S256x2048 : Shape := ⟨2, ![256, 2048]⟩
abbrev S1x256x2048 : Shape := ⟨3, ![1, 256, 2048]⟩

abbrev nBuf : Space → Nat
  | .hbm => 19
  | .vmem => 16
  | .smem => 0
  | _ => 0

abbrev bufTy : (tb : Table) → Fin (tcTables nBuf tb) → BufTy
  | .hbm, ⟨0, _⟩ => ⟨S4x8192x1024, .f32⟩
  | .hbm, ⟨1, _⟩ => ⟨S1024, .f32⟩
  | .hbm, ⟨2, _⟩ => ⟨S1024, .f32⟩
  | .hbm, ⟨3, _⟩ => ⟨S1024x4608, .f32⟩
  | .hbm, ⟨4, _⟩ => ⟨S2048, .f32⟩
  | .hbm, ⟨5, _⟩ => ⟨S1024x1024, .f32⟩
  | .hbm, ⟨6, _⟩ => ⟨S1024x1024, .bf16⟩
  | .hbm, ⟨7, _⟩ => ⟨S1024x1536, .f32⟩
  | .hbm, ⟨8, _⟩ => ⟨S1536x1024, .f32⟩
  | .hbm, ⟨9, _⟩ => ⟨S1536x1024, .bf16⟩
  | .hbm, ⟨10, _⟩ => ⟨S1024x2048, .f32⟩
  | .hbm, ⟨11, _⟩ => ⟨S1024x2048, .bf16⟩
  | .hbm, ⟨12, _⟩ => ⟨S1x1024, .f32⟩
  | .hbm, ⟨13, _⟩ => ⟨S1x1024, .f32⟩
  | .hbm, ⟨14, _⟩ => ⟨S1x2048, .f32⟩
  | .hbm, ⟨15, _⟩ => ⟨S4x8192x1024, .f32⟩
  | .hbm, ⟨16, _⟩ => ⟨S4x8192x512, .f32⟩
  | .hbm, ⟨17, _⟩ => ⟨S4x1536x8192, .bf16⟩
  | .hbm, ⟨18, _⟩ => ⟨S4x8192x2048, .bf16⟩
  | .local _ .vmem, ⟨0, _⟩ => ⟨S1x512x1024, .f32⟩
  | .local _ .vmem, ⟨1, _⟩ => ⟨S1x512x1024, .f32⟩
  | .local _ .vmem, ⟨2, _⟩ => ⟨S1x1024, .f32⟩
  | .local _ .vmem, ⟨3, _⟩ => ⟨S1x1024, .f32⟩
  | .local _ .vmem, ⟨4, _⟩ => ⟨S1024x1024, .bf16⟩
  | .local _ .vmem, ⟨5, _⟩ => ⟨S1536x1024, .bf16⟩
  | .local _ .vmem, ⟨6, _⟩ => ⟨S1024x2048, .bf16⟩
  | .local _ .vmem, ⟨7, _⟩ => ⟨S1x2048, .f32⟩
  | .local _ .vmem, ⟨8, _⟩ => ⟨S1x512x1024, .f32⟩
  | .local _ .vmem, ⟨9, _⟩ => ⟨S1x512x1024, .f32⟩
  | .local _ .vmem, ⟨10, _⟩ => ⟨S1x512x512, .f32⟩
  | .local _ .vmem, ⟨11, _⟩ => ⟨S1x512x512, .f32⟩
  | .local _ .vmem, ⟨12, _⟩ => ⟨S1x1536x512, .bf16⟩
  | .local _ .vmem, ⟨13, _⟩ => ⟨S1x1536x512, .bf16⟩
  | .local _ .vmem, ⟨14, _⟩ => ⟨S1x512x2048, .bf16⟩
  | .local _ .vmem, ⟨15, _⟩ => ⟨S1x512x2048, .bf16⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10_0 : Ref sig .tc := ⟨.hbm, 15, rfl⟩
abbrev main_v10_1 : Ref sig .tc := ⟨.hbm, 16, rfl⟩
abbrev main_v10_2 : Ref sig .tc := ⟨.hbm, 17, rfl⟩
abbrev main_v10_3 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem10_1 : DmaSem sig := 15

abbrev nD : Nat := 1
abbrev τ : Topo := Topo.v7x

variable {F : FTy → Type} [FloatOps F]

abbrev grid0 : Pipeline.Grid := ⟨2, ![4, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1536x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x512x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x1536x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x512x2048 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== Reference3Ideal.lean ====
abbrev S4x8192x1024 : Shape := ⟨3, ![4, 8192, 1024]⟩
abbrev S1024 : Shape := ⟨1, ![1024]⟩
abbrev S1024x4608 : Shape := ⟨2, ![1024, 4608]⟩
abbrev S2048 : Shape := ⟨1, ![2048]⟩
abbrev S_ : Shape := ⟨0, ![]⟩
abbrev S4x8192 : Shape := ⟨2, ![4, 8192]⟩
abbrev S4x8192x1 : Shape := ⟨3, ![4, 8192, 1]⟩
abbrev S1x1x1024 : Shape := ⟨3, ![1, 1, 1024]⟩
abbrev S4x8192x4608 : Shape := ⟨3, ![4, 8192, 4608]⟩
abbrev S4x8192x1536 : Shape := ⟨3, ![4, 8192, 1536]⟩
abbrev S4x8192x2048 : Shape := ⟨3, ![4, 8192, 2048]⟩
abbrev S4x8192x512 : Shape := ⟨3, ![4, 8192, 512]⟩
abbrev S1x1x2048 : Shape := ⟨3, ![1, 1, 2048]⟩
abbrev S4x1536x8192 : Shape := ⟨3, ![4, 1536, 8192]⟩

abbrev nBuf : Space → Nat
  | .hbm => 63
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S1024, .f32⟩
  | .hbm, ⟨2, _⟩ => ⟨S1024, .f32⟩
  | .hbm, ⟨3, _⟩ => ⟨S1024x4608, .f32⟩
  | .hbm, ⟨4, _⟩ => ⟨S2048, .f32⟩
  | .hbm, ⟨5, _⟩ => ⟨S_, .f32⟩
  | .hbm, ⟨6, _⟩ => ⟨S4x8192, .f32⟩
  | .hbm, ⟨7, _⟩ => ⟨S4x8192x1, .f32⟩
  | .hbm, ⟨8, _⟩ => ⟨S_, .f32⟩
  | .hbm, ⟨9, _⟩ => ⟨S4x8192x1, .f32⟩
  | .hbm, ⟨10, _⟩ => ⟨S4x8192x1, .f32⟩
  | .hbm, ⟨11, _⟩ => ⟨S4x8192x1024, .f32⟩
  | .hbm, ⟨12, _⟩ => ⟨S4x8192x1024, .f32⟩
  | .hbm, ⟨13, _⟩ => ⟨S4x8192x1024, .f32⟩
  | .hbm, ⟨14, _⟩ => ⟨S_, .f32⟩
  | .hbm, ⟨15, _⟩ => ⟨S4x8192, .f32⟩
  | .hbm, ⟨16, _⟩ => ⟨S4x8192x1, .f32⟩
  | .hbm, ⟨17, _⟩ => ⟨S_, .f32⟩
  | .hbm, ⟨18, _⟩ => ⟨S4x8192x1, .f32⟩
  | .hbm, ⟨19, _⟩ => ⟨S4x8192x1, .f32⟩
  | .hbm, ⟨20, _⟩ => ⟨S4x8192x1024, .f32⟩
  | .hbm, ⟨21, _⟩ => ⟨S4x8192x1024, .f32⟩
  | .hbm, ⟨22, _⟩ => ⟨S_, .f32⟩
  | .hbm, ⟨23, _⟩ => ⟨S4x8192x1, .f32⟩
  | .hbm, ⟨24, _⟩ => ⟨S4x8192x1, .f32⟩
  | .hbm, ⟨25, _⟩ => ⟨S4x8192x1, .f32⟩
  | .hbm, ⟨26, _⟩ => ⟨S4x8192x1024, .f32⟩
  | .hbm, ⟨27, _⟩ => ⟨S4x8192x1024, .f32⟩
  | .hbm, ⟨28, _⟩ => ⟨S1x1x1024, .f32⟩
  | .hbm, ⟨29, _⟩ => ⟨S4x8192x1024, .f32⟩
  | .hbm, ⟨30, _⟩ => ⟨S4x8192x1024, .f32⟩
  | .hbm, ⟨31, _⟩ => ⟨S1x1x1024, .f32⟩
  | .hbm, ⟨32, _⟩ => ⟨S4x8192x1024, .f32⟩
  | .hbm, ⟨33, _⟩ => ⟨S4x8192x1024, .f32⟩
  | .hbm, ⟨34, _⟩ => ⟨S4x8192x4608, .f32⟩
  | .hbm, ⟨35, _⟩ => ⟨S4x8192x1024, .f32⟩
  | .hbm, ⟨36, _⟩ => ⟨S4x8192x1536, .f32⟩
  | .hbm, ⟨37, _⟩ => ⟨S4x8192x2048, .f32⟩
  | .hbm, ⟨38, _⟩ => ⟨S4x8192x512, .f32⟩
  | .hbm, ⟨39, _⟩ => ⟨S4x8192x512, .f32⟩
  | .hbm, ⟨40, _⟩ => ⟨S4x8192x512, .f32⟩
  | .hbm, ⟨41, _⟩ => ⟨S4x8192x512, .f32⟩
  | .hbm, ⟨42, _⟩ => ⟨S_, .f32⟩
  | .hbm, ⟨43, _⟩ => ⟨S4x8192x512, .f32⟩
  | .hbm, ⟨44, _⟩ => ⟨S4x8192x512, .f32⟩
  | .hbm, ⟨45, _⟩ => ⟨S_, .f32⟩
  | .hbm, ⟨46, _⟩ => ⟨S4x8192x512, .f32⟩
  | .hbm, ⟨47, _⟩ => ⟨S4x8192x512, .f32⟩
  | .hbm, ⟨48, _⟩ => ⟨S4x8192x512, .f32⟩
  | .hbm, ⟨49, _⟩ => ⟨S1x1x2048, .f32⟩
  | .hbm, ⟨50, _⟩ => ⟨S4x8192x2048, .f32⟩
  | .hbm, ⟨51, _⟩ => ⟨S4x8192x2048, .f32⟩
  | .hbm, ⟨52, _⟩ => ⟨S4x8192x2048, .f32⟩
  | .hbm, ⟨53, _⟩ => ⟨S4x8192x2048, .f32⟩
  | .hbm, ⟨54, _⟩ => ⟨S_, .f32⟩
  | .hbm, ⟨55, _⟩ => ⟨S4x8192x2048, .f32⟩
  | .hbm, ⟨56, _⟩ => ⟨S4x8192x2048, .f32⟩
  | .hbm, ⟨57, _⟩ => ⟨S_, .f32⟩
  | .hbm, ⟨58, _⟩ => ⟨S4x8192x2048, .f32⟩
  | .hbm, ⟨59, _⟩ => ⟨S4x8192x2048, .f32⟩
  | .hbm, ⟨60, _⟩ => ⟨S4x1536x8192, .f32⟩
  | .hbm, ⟨61, _⟩ => ⟨S4x1536x8192, .bf16⟩
  | .hbm, ⟨62, _⟩ => ⟨S4x8192x2048, .bf16⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_3 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_cst_4 : Ref sig .tc := ⟨.hbm, 42, rfl⟩
abbrev main_v32 : Ref sig .tc := ⟨.hbm, 43, rfl⟩
abbrev main_v33 : Ref sig .tc := ⟨.hbm, 44, rfl⟩
abbrev main_cst_5 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_cst_6 : Ref sig .tc := ⟨.hbm, 54, rfl⟩
abbrev main_v42 : Ref sig .tc := ⟨.hbm, 55, rfl⟩
abbrev main_v43 : Ref sig .tc := ⟨.hbm, 56, rfl⟩
abbrev main_cst_7 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩

abbrev nD : Nat := 1
abbrev τ : Topo := Topo.v7x

variable {F : FTy → Type} [FloatOps F]
-- ==== Kernel5.lean ====
abbrev S4x16x64 : Shape := ⟨3, ![4, 16, 64]⟩
abbrev S4x8192x1024 : Shape := ⟨3, ![4, 8192, 1024]⟩
abbrev S4x8192x16 : Shape := ⟨3, ![4, 8192, 16]⟩
abbrev S1024 : Shape := ⟨1, ![1024]⟩
abbrev S4x16x1024x1024 : Shape := ⟨4, ![4, 16, 1024, 1024]⟩
abbrev S1x1024 : Shape := ⟨2, ![1, 1024]⟩
abbrev S1x512x1024 : Shape := ⟨3, ![1, 512, 1024]⟩
abbrev S1x512x16 : Shape := ⟨3, ![1, 512, 16]⟩
abbrev S1x16x1024x1024 : Shape := ⟨4, ![1, 16, 1024, 1024]⟩
abbrev S1x128x1024 : Shape := ⟨3, ![1, 128, 1024]⟩
abbrev S128x1024 : Shape := ⟨2, ![128, 1024]⟩
abbrev S1x128x16 : Shape := ⟨3, ![1, 128, 16]⟩
abbrev S128x16 : Shape := ⟨2, ![128, 16]⟩
abbrev S1x1x1 : Shape := ⟨3, ![1, 1, 1]⟩
abbrev S128x1 : Shape := ⟨2, ![128, 1]⟩
abbrev S128x144 : Shape := ⟨2, ![128, 144]⟩
abbrev S1x1x144x1024 : Shape := ⟨4, ![1, 1, 144, 1024]⟩
abbrev S144x1024 : Shape := ⟨2, ![144, 1024]⟩
abbrev S128 : Shape := ⟨1, ![128]⟩

abbrev nBuf : Space → Nat
  | .hbm => 10
  | .vmem => 11
  | .smem => 1
  | _ => 0

abbrev bufTy : (tb : Table) → Fin (tcTables nBuf tb) → BufTy
  | .hbm, ⟨0, _⟩ => ⟨S4x8192x1024, .f32⟩
  | .hbm, ⟨1, _⟩ => ⟨S4x8192x16, .i32⟩
  | .hbm, ⟨2, _⟩ => ⟨S4x8192x16, .f32⟩
  | .hbm, ⟨3, _⟩ => ⟨S1024, .f32⟩
  | .hbm, ⟨4, _⟩ => ⟨S1024, .f32⟩
  | .hbm, ⟨5, _⟩ => ⟨S4x16x1024x1024, .f32⟩
  | .hbm, ⟨6, _⟩ => ⟨S1x1024, .f32⟩
  | .hbm, ⟨7, _⟩ => ⟨S1x1024, .f32⟩
  | .hbm, ⟨8, _⟩ => ⟨S4x16x1024x1024, .bf16⟩
  | .hbm, ⟨9, _⟩ => ⟨S4x8192x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x512x16, .i32⟩
  | .local _ .vmem, ⟨3, _⟩ => ⟨S1x512x16, .i32⟩
  | .local _ .vmem, ⟨4, _⟩ => ⟨S1x512x16, .f32⟩
  | .local _ .vmem, ⟨5, _⟩ => ⟨S1x512x16, .f32⟩
  | .local _ .vmem, ⟨6, _⟩ => ⟨S1x1024, .f32⟩
  | .local _ .vmem, ⟨7, _⟩ => ⟨S1x1024, .f32⟩
  | .local _ .vmem, ⟨8, _⟩ => ⟨S1x16x1024x1024, .bf16⟩
  | .local _ .vmem, ⟨9, _⟩ => ⟨S1x512x1024, .f32⟩
  | .local _ .vmem, ⟨10, _⟩ => ⟨S1x512x1024, .f32⟩
  | .local _ .smem, ⟨0, _⟩ => ⟨S4x16x64, .i32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_arg6 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨2, ![4, 16], ![false, false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 3 → Nat :=
  let arg0 : BitVec 32 := BitVec.ofNat 32 (i 0).val
  let v10 : Index := Scalar.indexCast arg0
  let c0_8 : Index := 0#32
  let arg1 : BitVec 32 := BitVec.ofNat 32 (i 1).val
  let c4_i32 : BitVec 32 := 4#32
  let v8 : BitVec 32 := Scalar.muli arg1 c4_i32
  let c0_i32 : BitVec 32 := 0#32
  let v9 : BitVec 32 := Scalar.addi v8 c0_i32
  let v11 : Index := Scalar.indexCast v9
  ![v10.toNat, 0, v11.toNat]
def k0_mult1 (v12 : BitVec 32) : BitVec 32 :=
  let c0_i32_9 : BitVec 32 := 0#32
  let v14 : BitVec 1 := Scalar.cmpi .sgt v12 c0_i32_9
  let v15 : BitVec 32 := Scalar.extui v14
  let c0_i32_10 : BitVec 32 := 0#32
  let v16 : BitVec 1 := Scalar.cmpi .slt v12 c0_i32_10
  let v17 : BitVec 32 := Scalar.extui v16
  let v18 : BitVec 32 := Scalar.subi v15 v17
  let c16_i32 : BitVec 32 := 16#32
  let c0_i32_11 : BitVec 32 := 0#32
  let v19 : BitVec 1 := Scalar.cmpi .sgt c16_i32 c0_i32_11
  let v20 : BitVec 32 := Scalar.extui v19
  let c0_i32_12 : BitVec 32 := 0#32
  let v21 : BitVec 1 := Scalar.cmpi .slt c16_i32 c0_i32_12
  let v22 : BitVec 32 := Scalar.extui v21
  let v23 : BitVec 32 := Scalar.subi v20 v22
  let v24 : BitVec 1 := Scalar.cmpi .ne v18 v23
  let v25 : BitVec 32 := Scalar.remsi v12 c16_i32
  let c0_i32_13 : BitVec 32 := 0#32
  let v26 : BitVec 1 := Scalar.cmpi .ne v25 c0_i32_13
  let v27 : BitVec 1 := Scalar.andi v24 v26
  let v13 : BitVec 32 := Scalar.divsi v12 c16_i32
  let c1_i32 : BitVec 32 := 1#32
  let v28 : BitVec 32 := Scalar.subi v13 c1_i32
  let v29 : BitVec 32 := Scalar.select v27 v28 v13
  let c16_i32_14 : BitVec 32 := 16#32
  let v30 : BitVec 32 := Scalar.muli v29 c16_i32_14
  let c880_i32 : BitVec 32 := 880#32
  let v31 : BitVec 32 := Scalar.minsi v30 c880_i32
  v31

def k0_off2 (v12 : BitVec 32) : Fin 4 → Nat :=
  let c0_16 : Index := 0#32
  let c0_17 : Index := 0#32
  let c0_i32_9 : BitVec 32 := 0#32
  let v14 : BitVec 1 := Scalar.cmpi .sgt v12 c0_i32_9
  let v15 : BitVec 32 := Scalar.extui v14
  let c0_i32_10 : BitVec 32 := 0#32
  let v16 : BitVec 1 := Scalar.cmpi .slt v12 c0_i32_10
  let v17 : BitVec 32 := Scalar.extui v16
  let v18 : BitVec 32 := Scalar.subi v15 v17
  let c16_i32 : BitVec 32 := 16#32
  let c0_i32_11 : BitVec 32 := 0#32
  let v19 : BitVec 1 := Scalar.cmpi .sgt c16_i32 c0_i32_11
  let v20 : BitVec 32 := Scalar.extui v19
  let c0_i32_12 : BitVec 32 := 0#32
  let v21 : BitVec 1 := Scalar.cmpi .slt c16_i32 c0_i32_12
  let v22 : BitVec 32 := Scalar.extui v21
  let v23 : BitVec 32 := Scalar.subi v20 v22
  let v24 : BitVec 1 := Scalar.cmpi .ne v18 v23
  let v25 : BitVec 32 := Scalar.remsi v12 c16_i32
  let c0_i32_13 : BitVec 32 := 0#32
  let v26 : BitVec 1 := Scalar.cmpi .ne v25 c0_i32_13
  let v27 : BitVec 1 := Scalar.andi v24 v26
  let v13 : BitVec 32 := Scalar.divsi v12 c16_i32
  let c1_i32 : BitVec 32 := 1#32
  let v28 : BitVec 32 := Scalar.subi v13 c1_i32
  let v29 : BitVec 32 := Scalar.select v27 v28 v13
  let c16_i32_14 : BitVec 32 := 16#32
  let v30 : BitVec 32 := Scalar.muli v29 c16_i32_14
  let c880_i32 : BitVec 32 := 880#32
  let v31 : BitVec 32 := Scalar.minsi v30 c880_i32
  let v32 : BitVec 32 := v31
  let v45 : Index := Scalar.indexCast v32
  let c0_18 : Index := 0#32
  ![0, 0, v45.toNat, 0]

def k0_chk1 (v12 : BitVec 32) : Prop :=
  (16 ∣ (k0_mult1 v12).toNat) ∧
  (∀ a, (k0_off2 v12) a + S1x1x144x1024.size a ≤ S1x16x1024x1024.size a)
theorem k0_mult1_dvd : ∀ (v12 : BitVec 32) (k0_hw1 : k0_chk1 v12), 16 ∣ (k0_mult1 v12).toNat := fun v12 k0_hw1 => k0_hw1.1
theorem k0_off2_inb : ∀ (v12 : BitVec 32) (k0_hw1 : k0_chk1 v12), ∀ a, (k0_off2 v12) a + S1x1x144x1024.size a ≤ S1x16x1024x1024.size a := fun v12 k0_hw1 => k0_hw1.2

def k0_off3 (i : grid0.Coords) : Fin 3 → Nat :=
  let arg0 : BitVec 32 := BitVec.ofNat 32 (i 0).val
  let v52 : Index := Scalar.indexCast arg0
  let c1 : Index := 1#32
  let arg1 : BitVec 32 := BitVec.ofNat 32 (i 1).val
  let c4_i32_20 : BitVec 32 := 4#32
  let v50 : BitVec 32 := Scalar.muli arg1 c4_i32_20
  let c0_i32_21 : BitVec 32 := 0#32
  let v51 : BitVec 32 := Scalar.addi v50 c0_i32_21
  let v53 : Index := Scalar.indexCast v51
  ![v52.toNat, 1, v53.toNat]
def k0_mult2 (v54 : BitVec 32) : BitVec 32 :=
  let c0_i32_23 : BitVec 32 := 0#32
  let v56 : BitVec 1 := Scalar.cmpi .sgt v54 c0_i32_23
  let v57 : BitVec 32 := Scalar.extui v56
  let c0_i32_24 : BitVec 32 := 0#32
  let v58 : BitVec 1 := Scalar.cmpi .slt v54 c0_i32_24
  let v59 : BitVec 32 := Scalar.extui v58
  let v60 : BitVec 32 := Scalar.subi v57 v59
  let c16_i32_22 : BitVec 32 := 16#32
  let c0_i32_25 : BitVec 32 := 0#32
  let v61 : BitVec 1 := Scalar.cmpi .sgt c16_i32_22 c0_i32_25
  let v62 : BitVec 32 := Scalar.extui v61
  let c0_i32_26 : BitVec 32 := 0#32
  let v63 : BitVec 1 := Scalar.cmpi .slt c16_i32_22 c0_i32_26
  let v64 : BitVec 32 := Scalar.extui v63
  let v65 : BitVec 32 := Scalar.subi v62 v64
  let v66 : BitVec 1 := Scalar.cmpi .ne v60 v65
  let v67 : BitVec 32 := Scalar.remsi v54 c16_i32_22
  let c0_i32_27 : BitVec 32 := 0#32
  let v68 : BitVec 1 := Scalar.cmpi .ne v67 c0_i32_27
  let v69 : BitVec 1 := Scalar.andi v66 v68
  let v55 : BitVec 32 := Scalar.divsi v54 c16_i32_22
  let c1_i32_28 : BitVec 32 := 1#32
  let v70 : BitVec 32 := Scalar.subi v55 c1_i32_28
  let v71 : BitVec 32 := Scalar.select v69 v70 v55
  let c16_i32_29 : BitVec 32 := 16#32
  let v72 : BitVec 32 := Scalar.muli v71 c16_i32_29
  let c880_i32_30 : BitVec 32 := 880#32
  let v73 : BitVec 32 := Scalar.minsi v72 c880_i32_30
  v73

def k0_off4 (v54 : BitVec 32) : Fin 4 → Nat :=
  let c0_32 : Index := 0#32
  let c1_33 : Index := 1#32
  let c0_i32_23 : BitVec 32 := 0#32
  let v56 : BitVec 1 := Scalar.cmpi .sgt v54 c0_i32_23
  let v57 : BitVec 32 := Scalar.extui v56
  let c0_i32_24 : BitVec 32 := 0#32
  let v58 : BitVec 1 := Scalar.cmpi .slt v54 c0_i32_24
  let v59 : BitVec 32 := Scalar.extui v58
  let v60 : BitVec 32 := Scalar.subi v57 v59
  let c16_i32_22 : BitVec 32 := 16#32
  let c0_i32_25 : BitVec 32 := 0#32
  let v61 : BitVec 1 := Scalar.cmpi .sgt c16_i32_22 c0_i32_25
  let v62 : BitVec 32 := Scalar.extui v61
  let c0_i32_26 : BitVec 32 := 0#32
  let v63 : BitVec 1 := Scalar.cmpi .slt c16_i32_22 c0_i32_26
  let v64 : BitVec 32 := Scalar.extui v63
  let v65 : BitVec 32 := Scalar.subi v62 v64
  let v66 : BitVec 1 := Scalar.cmpi .ne v60 v65
  let v67 : BitVec 32 := Scalar.remsi v54 c16_i32_22
  let c0_i32_27 : BitVec 32 := 0#32
  let v68 : BitVec 1 := Scalar.cmpi .ne v67 c0_i32_27
  let v69 : BitVec 1 := Scalar.andi v66 v68
  let v55 : BitVec 32 := Scalar.divsi v54 c16_i32_22
  let c1_i32_28 : BitVec 32 := 1#32
  let v70 : BitVec 32 := Scalar.subi v55 c1_i32_28
  let v71 : BitVec 32 := Scalar.select v69 v70 v55
  let c16_i32_29 : BitVec 32 := 16#32
  let v72 : BitVec 32 := Scalar.muli v71 c16_i32_29
  let c880_i32_30 : BitVec 32 := 880#32
  let v73 : BitVec 32 := Scalar.minsi v72 c880_i32_30
  let v74 : BitVec 32 := v73
  let v87 : Index := Scalar.indexCast v74
  let c0_34 : Index := 0#32
  ![0, 1, v87.toNat, 0]

def k0_chk2 (v54 : BitVec 32) : Prop :=
  (16 ∣ (k0_mult2 v54).toNat) ∧
  (∀ a, (k0_off4 v54) a + S1x1x144x1024.size a ≤ S1x16x1024x1024.size a)
theorem k0_mult2_dvd : ∀ (v54 : BitVec 32) (k0_hw2 : k0_chk2 v54), 16 ∣ (k0_mult2 v54).toNat := fun v54 k0_hw2 => k0_hw2.1
theorem k0_off4_inb : ∀ (v54 : BitVec 32) (k0_hw2 : k0_chk2 v54), ∀ a, (k0_off4 v54) a + S1x1x144x1024.size a ≤ S1x16x1024x1024.size a := fun v54 k0_hw2 => k0_hw2.2

def k0_off5 (i : grid0.Coords) : Fin 3 → Nat :=
  let arg0 : BitVec 32 := BitVec.ofNat 32 (i 0).val
  let v94 : Index := Scalar.indexCast arg0
  let c2 : Index := 2#32
  let arg1 : BitVec 32 := BitVec.ofNat 32 (i 1).val
  let c4_i32_36 : BitVec 32 := 4#32
  let v92 : BitVec 32 := Scalar.muli arg1 c4_i32_36
  let c0_i32_37 : BitVec 32 := 0#32
  let v93 : BitVec 32 := Scalar.addi v92 c0_i32_37
  let v95 : Index := Scalar.indexCast v93
  ![v94.toNat, 2, v95.toNat]
def k0_mult3 (v96 : BitVec 32) : BitVec 32 :=
  let c0_i32_39 : BitVec 32 := 0#32
  let v98 : BitVec 1 := Scalar.cmpi .sgt v96 c0_i32_39
  let v99 : BitVec 32 := Scalar.extui v98
  let c0_i32_40 : BitVec 32 := 0#32
  let v100 : BitVec 1 := Scalar.cmpi .slt v96 c0_i32_40
  let v101 : BitVec 32 := Scalar.extui v100
  let v102 : BitVec 32 := Scalar.subi v99 v101
  let c16_i32_38 : BitVec 32 := 16#32
  let c0_i32_41 : BitVec 32 := 0#32
  let v103 : BitVec 1 := Scalar.cmpi .sgt c16_i32_38 c0_i32_41
  let v104 : BitVec 32 := Scalar.extui v103
  let c0_i32_42 : BitVec 32 := 0#32
  let v105 : BitVec 1 := Scalar.cmpi .slt c16_i32_38 c0_i32_42
  let v106 : BitVec 32 := Scalar.extui v105
  let v107 : BitVec 32 := Scalar.subi v104 v106
  let v108 : BitVec 1 := Scalar.cmpi .ne v102 v107
  let v109 : BitVec 32 := Scalar.remsi v96 c16_i32_38
  let c0_i32_43 : BitVec 32 := 0#32
  let v110 : BitVec 1 := Scalar.cmpi .ne v109 c0_i32_43
  let v111 : BitVec 1 := Scalar.andi v108 v110
  let v97 : BitVec 32 := Scalar.divsi v96 c16_i32_38
  let c1_i32_44 : BitVec 32 := 1#32
  let v112 : BitVec 32 := Scalar.subi v97 c1_i32_44
  let v113 : BitVec 32 := Scalar.select v111 v112 v97
  let c16_i32_45 : BitVec 32 := 16#32
  let v114 : BitVec 32 := Scalar.muli v113 c16_i32_45
  let c880_i32_46 : BitVec 32 := 880#32
  let v115 : BitVec 32 := Scalar.minsi v114 c880_i32_46
  v115

def k0_off6 (v96 : BitVec 32) : Fin 4 → Nat :=
  let c0_48 : Index := 0#32
  let c2_49 : Index := 2#32
  let c0_i32_39 : BitVec 32 := 0#32
  let v98 : BitVec 1 := Scalar.cmpi .sgt v96 c0_i32_39
  let v99 : BitVec 32 := Scalar.extui v98
  let c0_i32_40 : BitVec 32 := 0#32
  let v100 : BitVec 1 := Scalar.cmpi .slt v96 c0_i32_40
  let v101 : BitVec 32 := Scalar.extui v100
  let v102 : BitVec 32 := Scalar.subi v99 v101
  let c16_i32_38 : BitVec 32 := 16#32
  let c0_i32_41 : BitVec 32 := 0#32
  let v103 : BitVec 1 := Scalar.cmpi .sgt c16_i32_38 c0_i32_41
  let v104 : BitVec 32 := Scalar.extui v103
  let c0_i32_42 : BitVec 32 := 0#32
  let v105 : BitVec 1 := Scalar.cmpi .slt c16_i32_38 c0_i32_42
  let v106 : BitVec 32 := Scalar.extui v105
  let v107 : BitVec 32 := Scalar.subi v104 v106
  let v108 : BitVec 1 := Scalar.cmpi .ne v102 v107
  let v109 : BitVec 32 := Scalar.remsi v96 c16_i32_38
  let c0_i32_43 : BitVec 32 := 0#32
  let v110 : BitVec 1 := Scalar.cmpi .ne v109 c0_i32_43
  let v111 : BitVec 1 := Scalar.andi v108 v110
  let v97 : BitVec 32 := Scalar.divsi v96 c16_i32_38
  let c1_i32_44 : BitVec 32 := 1#32
  let v112 : BitVec 32 := Scalar.subi v97 c1_i32_44
  let v113 : BitVec 32 := Scalar.select v111 v112 v97
  let c16_i32_45 : BitVec 32 := 16#32
  let v114 : BitVec 32 := Scalar.muli v113 c16_i32_45
  let c880_i32_46 : BitVec 32 := 880#32
  let v115 : BitVec 32 := Scalar.minsi v114 c880_i32_46
  let v116 : BitVec 32 := v115
  let v129 : Index := Scalar.indexCast v116
  let c0_50 : Index := 0#32
  ![0, 2, v129.toNat, 0]

def k0_chk3 (v96 : BitVec 32) : Prop :=
  (16 ∣ (k0_mult3 v96).toNat) ∧
  (∀ a, (k0_off6 v96) a + S1x1x144x1024.size a ≤ S1x16x1024x1024.size a)
theorem k0_mult3_dvd : ∀ (v96 : BitVec 32) (k0_hw3 : k0_chk3 v96), 16 ∣ (k0_mult3 v96).toNat := fun v96 k0_hw3 => k0_hw3.1
theorem k0_off6_inb : ∀ (v96 : BitVec 32) (k0_hw3 : k0_chk3 v96), ∀ a, (k0_off6 v96) a + S1x1x144x1024.size a ≤ S1x16x1024x1024.size a := fun v96 k0_hw3 => k0_hw3.2

def k0_off7 (i : grid0.Coords) : Fin 3 → Nat :=
  let arg0 : BitVec 32 := BitVec.ofNat 32 (i 0).val
  let v136 : Index := Scalar.indexCast arg0
  let c3 : Index := 3#32
  let arg1 : BitVec 32 := BitVec.ofNat 32 (i 1).val
  let c4_i32_52 : BitVec 32 := 4#32
  let v134 : BitVec 32 := Scalar.muli arg1 c4_i32_52
  let c0_i32_53 : BitVec 32 := 0#32
  let v135 : BitVec 32 := Scalar.addi v134 c0_i32_53
  let v137 : Index := Scalar.indexCast v135
  ![v136.toNat, 3, v137.toNat]
def k0_mult4 (v138 : BitVec 32) : BitVec 32 :=
  let c0_i32_55 : BitVec 32 := 0#32
  let v140 : BitVec 1 := Scalar.cmpi .sgt v138 c0_i32_55
  let v141 : BitVec 32 := Scalar.extui v140
  let c0_i32_56 : BitVec 32 := 0#32
  let v142 : BitVec 1 := Scalar.cmpi .slt v138 c0_i32_56
  let v143 : BitVec 32 := Scalar.extui v142
  let v144 : BitVec 32 := Scalar.subi v141 v143
  let c16_i32_54 : BitVec 32 := 16#32
  let c0_i32_57 : BitVec 32 := 0#32
  let v145 : BitVec 1 := Scalar.cmpi .sgt c16_i32_54 c0_i32_57
  let v146 : BitVec 32 := Scalar.extui v145
  let c0_i32_58 : BitVec 32 := 0#32
  let v147 : BitVec 1 := Scalar.cmpi .slt c16_i32_54 c0_i32_58
  let v148 : BitVec 32 := Scalar.extui v147
  let v149 : BitVec 32 := Scalar.subi v146 v148
  let v150 : BitVec 1 := Scalar.cmpi .ne v144 v149
  let v151 : BitVec 32 := Scalar.remsi v138 c16_i32_54
  let c0_i32_59 : BitVec 32 := 0#32
  let v152 : BitVec 1 := Scalar.cmpi .ne v151 c0_i32_59
  let v153 : BitVec 1 := Scalar.andi v150 v152
  let v139 : BitVec 32 := Scalar.divsi v138 c16_i32_54
  let c1_i32_60 : BitVec 32 := 1#32
  let v154 : BitVec 32 := Scalar.subi v139 c1_i32_60
  let v155 : BitVec 32 := Scalar.select v153 v154 v139
  let c16_i32_61 : BitVec 32 := 16#32
  let v156 : BitVec 32 := Scalar.muli v155 c16_i32_61
  let c880_i32_62 : BitVec 32 := 880#32
  let v157 : BitVec 32 := Scalar.minsi v156 c880_i32_62
  v157

def k0_off8 (v138 : BitVec 32) : Fin 4 → Nat :=
  let c0_64 : Index := 0#32
  let c3_65 : Index := 3#32
  let c0_i32_55 : BitVec 32 := 0#32
  let v140 : BitVec 1 := Scalar.cmpi .sgt v138 c0_i32_55
  let v141 : BitVec 32 := Scalar.extui v140
  let c0_i32_56 : BitVec 32 := 0#32
  let v142 : BitVec 1 := Scalar.cmpi .slt v138 c0_i32_56
  let v143 : BitVec 32 := Scalar.extui v142
  let v144 : BitVec 32 := Scalar.subi v141 v143
  let c16_i32_54 : BitVec 32 := 16#32
  let c0_i32_57 : BitVec 32 := 0#32
  let v145 : BitVec 1 := Scalar.cmpi .sgt c16_i32_54 c0_i32_57
  let v146 : BitVec 32 := Scalar.extui v145
  let c0_i32_58 : BitVec 32 := 0#32
  let v147 : BitVec 1 := Scalar.cmpi .slt c16_i32_54 c0_i32_58
  let v148 : BitVec 32 := Scalar.extui v147
  let v149 : BitVec 32 := Scalar.subi v146 v148
  let v150 : BitVec 1 := Scalar.cmpi .ne v144 v149
  let v151 : BitVec 32 := Scalar.remsi v138 c16_i32_54
  let c0_i32_59 : BitVec 32 := 0#32
  let v152 : BitVec 1 := Scalar.cmpi .ne v151 c0_i32_59
  let v153 : BitVec 1 := Scalar.andi v150 v152
  let v139 : BitVec 32 := Scalar.divsi v138 c16_i32_54
  let c1_i32_60 : BitVec 32 := 1#32
  let v154 : BitVec 32 := Scalar.subi v139 c1_i32_60
  let v155 : BitVec 32 := Scalar.select v153 v154 v139
  let c16_i32_61 : BitVec 32 := 16#32
  let v156 : BitVec 32 := Scalar.muli v155 c16_i32_61
  let c880_i32_62 : BitVec 32 := 880#32
  let v157 : BitVec 32 := Scalar.minsi v156 c880_i32_62
  let v158 : BitVec 32 := v157
  let v171 : Index := Scalar.indexCast v158
  let c0_66 : Index := 0#32
  ![0, 3, v171.toNat, 0]

def k0_chk4 (v138 : BitVec 32) : Prop :=
  (16 ∣ (k0_mult4 v138).toNat) ∧
  (∀ a, (k0_off8 v138) a + S1x1x144x1024.size a ≤ S1x16x1024x1024.size a)
theorem k0_mult4_dvd : ∀ (v138 : BitVec 32) (k0_hw4 : k0_chk4 v138), 16 ∣ (k0_mult4 v138).toNat := fun v138 k0_hw4 => k0_hw4.1
theorem k0_off8_inb : ∀ (v138 : BitVec 32) (k0_hw4 : k0_chk4 v138), ∀ a, (k0_off8 v138) a + S1x1x144x1024.size a ≤ S1x16x1024x1024.size a := fun v138 k0_hw4 => k0_hw4.2

def k0_off9 (i : grid0.Coords) : Fin 3 → Nat :=
  let arg0 : BitVec 32 := BitVec.ofNat 32 (i 0).val
  let v178 : Index := Scalar.indexCast arg0
  let c4 : Index := 4#32
  let arg1 : BitVec 32 := BitVec.ofNat 32 (i 1).val
  let c4_i32_68 : BitVec 32 := 4#32
  let v176 : BitVec 32 := Scalar.muli arg1 c4_i32_68
  let c0_i32_69 : BitVec 32 := 0#32
  let v177 : BitVec 32 := Scalar.addi v176 c0_i32_69
  let v179 : Index := Scalar.indexCast v177
  ![v178.toNat, 4, v179.toNat]
def k0_mult5 (v180 : BitVec 32) : BitVec 32 :=
  let c0_i32_71 : BitVec 32 := 0#32
  let v182 : BitVec 1 := Scalar.cmpi .sgt v180 c0_i32_71
  let v183 : BitVec 32 := Scalar.extui v182
  let c0_i32_72 : BitVec 32 := 0#32
  let v184 : BitVec 1 := Scalar.cmpi .slt v180 c0_i32_72
  let v185 : BitVec 32 := Scalar.extui v184
  let v186 : BitVec 32 := Scalar.subi v183 v185
  let c16_i32_70 : BitVec 32 := 16#32
  let c0_i32_73 : BitVec 32 := 0#32
  let v187 : BitVec 1 := Scalar.cmpi .sgt c16_i32_70 c0_i32_73
  let v188 : BitVec 32 := Scalar.extui v187
  let c0_i32_74 : BitVec 32 := 0#32
  let v189 : BitVec 1 := Scalar.cmpi .slt c16_i32_70 c0_i32_74
  let v190 : BitVec 32 := Scalar.extui v189
  let v191 : BitVec 32 := Scalar.subi v188 v190
  let v192 : BitVec 1 := Scalar.cmpi .ne v186 v191
  let v193 : BitVec 32 := Scalar.remsi v180 c16_i32_70
  let c0_i32_75 : BitVec 32 := 0#32
  let v194 : BitVec 1 := Scalar.cmpi .ne v193 c0_i32_75
  let v195 : BitVec 1 := Scalar.andi v192 v194
  let v181 : BitVec 32 := Scalar.divsi v180 c16_i32_70
  let c1_i32_76 : BitVec 32 := 1#32
  let v196 : BitVec 32 := Scalar.subi v181 c1_i32_76
  let v197 : BitVec 32 := Scalar.select v195 v196 v181
  let c16_i32_77 : BitVec 32 := 16#32
  let v198 : BitVec 32 := Scalar.muli v197 c16_i32_77
  let c880_i32_78 : BitVec 32 := 880#32
  let v199 : BitVec 32 := Scalar.minsi v198 c880_i32_78
  v199

def k0_off10 (v180 : BitVec 32) : Fin 4 → Nat :=
  let c0_80 : Index := 0#32
  let c4_81 : Index := 4#32
  let c0_i32_71 : BitVec 32 := 0#32
  let v182 : BitVec 1 := Scalar.cmpi .sgt v180 c0_i32_71
  let v183 : BitVec 32 := Scalar.extui v182
  let c0_i32_72 : BitVec 32 := 0#32
  let v184 : BitVec 1 := Scalar.cmpi .slt v180 c0_i32_72
  let v185 : BitVec 32 := Scalar.extui v184
  let v186 : BitVec 32 := Scalar.subi v183 v185
  let c16_i32_70 : BitVec 32 := 16#32
  let c0_i32_73 : BitVec 32 := 0#32
  let v187 : BitVec 1 := Scalar.cmpi .sgt c16_i32_70 c0_i32_73
  let v188 : BitVec 32 := Scalar.extui v187
  let c0_i32_74 : BitVec 32 := 0#32
  let v189 : BitVec 1 := Scalar.cmpi .slt c16_i32_70 c0_i32_74
  let v190 : BitVec 32 := Scalar.extui v189
  let v191 : BitVec 32 := Scalar.subi v188 v190
  let v192 : BitVec 1 := Scalar.cmpi .ne v186 v191
  let v193 : BitVec 32 := Scalar.remsi v180 c16_i32_70
  let c0_i32_75 : BitVec 32 := 0#32
  let v194 : BitVec 1 := Scalar.cmpi .ne v193 c0_i32_75
  let v195 : BitVec 1 := Scalar.andi v192 v194
  let v181 : BitVec 32 := Scalar.divsi v180 c16_i32_70
  let c1_i32_76 : BitVec 32 := 1#32
  let v196 : BitVec 32 := Scalar.subi v181 c1_i32_76
  let v197 : BitVec 32 := Scalar.select v195 v196 v181
  let c16_i32_77 : BitVec 32 := 16#32
  let v198 : BitVec 32 := Scalar.muli v197 c16_i32_77
  let c880_i32_78 : BitVec 32 := 880#32
  let v199 : BitVec 32 := Scalar.minsi v198 c880_i32_78
  let v200 : BitVec 32 := v199
  let v213 : Index := Scalar.indexCast v200
  let c0_82 : Index := 0#32
  ![0, 4, v213.toNat, 0]

def k0_chk5 (v180 : BitVec 32) : Prop :=
  (16 ∣ (k0_mult5 v180).toNat) ∧
  (∀ a, (k0_off10 v180) a + S1x1x144x1024.size a ≤ S1x16x1024x1024.size a)
theorem k0_mult5_dvd : ∀ (v180 : BitVec 32) (k0_hw5 : k0_chk5 v180), 16 ∣ (k0_mult5 v180).toNat := fun v180 k0_hw5 => k0_hw5.1
theorem k0_off10_inb : ∀ (v180 : BitVec 32) (k0_hw5 : k0_chk5 v180), ∀ a, (k0_off10 v180) a + S1x1x144x1024.size a ≤ S1x16x1024x1024.size a := fun v180 k0_hw5 => k0_hw5.2

def k0_off11 (i : grid0.Coords) : Fin 3 → Nat :=
  let arg0 : BitVec 32 := BitVec.ofNat 32 (i 0).val
  let v220 : Index := Scalar.indexCast arg0
  let c5 : Index := 5#32
  let arg1 : BitVec 32 := BitVec.ofNat 32 (i 1).val
  let c4_i32_84 : BitVec 32 := 4#32
  let v218 : BitVec 32 := Scalar.muli arg1 c4_i32_84
  let c0_i32_85 : BitVec 32 := 0#32
  let v219 : BitVec 32 := Scalar.addi v218 c0_i32_85
  let v221 : Index := Scalar.indexCast v219
  ![v220.toNat, 5, v221.toNat]
def k0_mult6 (v222 : BitVec 32) : BitVec 32 :=
  let c0_i32_87 : BitVec 32 := 0#32
  let v224 : BitVec 1 := Scalar.cmpi .sgt v222 c0_i32_87
  let v225 : BitVec 32 := Scalar.extui v224
  let c0_i32_88 : BitVec 32 := 0#32
  let v226 : BitVec 1 := Scalar.cmpi .slt v222 c0_i32_88
  let v227 : BitVec 32 := Scalar.extui v226
  let v228 : BitVec 32 := Scalar.subi v225 v227
  let c16_i32_86 : BitVec 32 := 16#32
  let c0_i32_89 : BitVec 32 := 0#32
  let v229 : BitVec 1 := Scalar.cmpi .sgt c16_i32_86 c0_i32_89
  let v230 : BitVec 32 := Scalar.extui v229
  let c0_i32_90 : BitVec 32 := 0#32
  let v231 : BitVec 1 := Scalar.cmpi .slt c16_i32_86 c0_i32_90
  let v232 : BitVec 32 := Scalar.extui v231
  let v233 : BitVec 32 := Scalar.subi v230 v232
  let v234 : BitVec 1 := Scalar.cmpi .ne v228 v233
  let v235 : BitVec 32 := Scalar.remsi v222 c16_i32_86
  let c0_i32_91 : BitVec 32 := 0#32
  let v236 : BitVec 1 := Scalar.cmpi .ne v235 c0_i32_91
  let v237 : BitVec 1 := Scalar.andi v234 v236
  let v223 : BitVec 32 := Scalar.divsi v222 c16_i32_86
  let c1_i32_92 : BitVec 32 := 1#32
  let v238 : BitVec 32 := Scalar.subi v223 c1_i32_92
  let v239 : BitVec 32 := Scalar.select v237 v238 v223
  let c16_i32_93 : BitVec 32 := 16#32
  let v240 : BitVec 32 := Scalar.muli v239 c16_i32_93
  let c880_i32_94 : BitVec 32 := 880#32
  let v241 : BitVec 32 := Scalar.minsi v240 c880_i32_94
  v241

def k0_off12 (v222 : BitVec 32) : Fin 4 → Nat :=
  let c0_96 : Index := 0#32
  let c5_97 : Index := 5#32
  let c0_i32_87 : BitVec 32 := 0#32
  let v224 : BitVec 1 := Scalar.cmpi .sgt v222 c0_i32_87
  let v225 : BitVec 32 := Scalar.extui v224
  let c0_i32_88 : BitVec 32 := 0#32
  let v226 : BitVec 1 := Scalar.cmpi .slt v222 c0_i32_88
  let v227 : BitVec 32 := Scalar.extui v226
  let v228 : BitVec 32 := Scalar.subi v225 v227
  let c16_i32_86 : BitVec 32 := 16#32
  let c0_i32_89 : BitVec 32 := 0#32
  let v229 : BitVec 1 := Scalar.cmpi .sgt c16_i32_86 c0_i32_89
  let v230 : BitVec 32 := Scalar.extui v229
  let c0_i32_90 : BitVec 32 := 0#32
  let v231 : BitVec 1 := Scalar.cmpi .slt c16_i32_86 c0_i32_90
  let v232 : BitVec 32 := Scalar.extui v231
  let v233 : BitVec 32 := Scalar.subi v230 v232
  let v234 : BitVec 1 := Scalar.cmpi .ne v228 v233
  let v235 : BitVec 32 := Scalar.remsi v222 c16_i32_86
  let c0_i32_91 : BitVec 32 := 0#32
  let v236 : BitVec 1 := Scalar.cmpi .ne v235 c0_i32_91
  let v237 : BitVec 1 := Scalar.andi v234 v236
  let v223 : BitVec 32 := Scalar.divsi v222 c16_i32_86
  let c1_i32_92 : BitVec 32 := 1#32
  let v238 : BitVec 32 := Scalar.subi v223 c1_i32_92
  let v239 : BitVec 32 := Scalar.select v237 v238 v223
  let c16_i32_93 : BitVec 32 := 16#32
  let v240 : BitVec 32 := Scalar.muli v239 c16_i32_93
  let c880_i32_94 : BitVec 32 := 880#32
  let v241 : BitVec 32 := Scalar.minsi v240 c880_i32_94
  let v242 : BitVec 32 := v241
  let v255 : Index := Scalar.indexCast v242
  let c0_98 : Index := 0#32
  ![0, 5, v255.toNat, 0]

def k0_chk6 (v222 : BitVec 32) : Prop :=
  (16 ∣ (k0_mult6 v222).toNat) ∧
  (∀ a, (k0_off12 v222) a + S1x1x144x1024.size a ≤ S1x16x1024x1024.size a)
theorem k0_mult6_dvd : ∀ (v222 : BitVec 32) (k0_hw6 : k0_chk6 v222), 16 ∣ (k0_mult6 v222).toNat := fun v222 k0_hw6 => k0_hw6.1
theorem k0_off12_inb : ∀ (v222 : BitVec 32) (k0_hw6 : k0_chk6 v222), ∀ a, (k0_off12 v222) a + S1x1x144x1024.size a ≤ S1x16x1024x1024.size a := fun v222 k0_hw6 => k0_hw6.2

def k0_off13 (i : grid0.Coords) : Fin 3 → Nat :=
  let arg0 : BitVec 32 := BitVec.ofNat 32 (i 0).val
  let v262 : Index := Scalar.indexCast arg0
  let c6 : Index := 6#32
  let arg1 : BitVec 32 := BitVec.ofNat 32 (i 1).val
  let c4_i32_100 : BitVec 32 := 4#32
  let v260 : BitVec 32 := Scalar.muli arg1 c4_i32_100
  let c0_i32_101 : BitVec 32 := 0#32
  let v261 : BitVec 32 := Scalar.addi v260 c0_i32_101
  let v263 : Index := Scalar.indexCast v261
  ![v262.toNat, 6, v263.toNat]
def k0_mult7 (v264 : BitVec 32) : BitVec 32 :=
  let c0_i32_103 : BitVec 32 := 0#32
  let v266 : BitVec 1 := Scalar.cmpi .sgt v264 c0_i32_103
  let v267 : BitVec 32 := Scalar.extui v266
  let c0_i32_104 : BitVec 32 := 0#32
  let v268 : BitVec 1 := Scalar.cmpi .slt v264 c0_i32_104
  let v269 : BitVec 32 := Scalar.extui v268
  let v270 : BitVec 32 := Scalar.subi v267 v269
  let c16_i32_102 : BitVec 32 := 16#32
  let c0_i32_105 : BitVec 32 := 0#32
  let v271 : BitVec 1 := Scalar.cmpi .sgt c16_i32_102 c0_i32_105
  let v272 : BitVec 32 := Scalar.extui v271
  let c0_i32_106 : BitVec 32 := 0#32
  let v273 : BitVec 1 := Scalar.cmpi .slt c16_i32_102 c0_i32_106
  let v274 : BitVec 32 := Scalar.extui v273
  let v275 : BitVec 32 := Scalar.subi v272 v274
  let v276 : BitVec 1 := Scalar.cmpi .ne v270 v275
  let v277 : BitVec 32 := Scalar.remsi v264 c16_i32_102
  let c0_i32_107 : BitVec 32 := 0#32
  let v278 : BitVec 1 := Scalar.cmpi .ne v277 c0_i32_107
  let v279 : BitVec 1 := Scalar.andi v276 v278
  let v265 : BitVec 32 := Scalar.divsi v264 c16_i32_102
  let c1_i32_108 : BitVec 32 := 1#32
  let v280 : BitVec 32 := Scalar.subi v265 c1_i32_108
  let v281 : BitVec 32 := Scalar.select v279 v280 v265
  let c16_i32_109 : BitVec 32 := 16#32
  let v282 : BitVec 32 := Scalar.muli v281 c16_i32_109
  let c880_i32_110 : BitVec 32 := 880#32
  let v283 : BitVec 32 := Scalar.minsi v282 c880_i32_110
  v283

def k0_off14 (v264 : BitVec 32) : Fin 4 → Nat :=
  let c0_112 : Index := 0#32
  let c6_113 : Index := 6#32
  let c0_i32_103 : BitVec 32 := 0#32
  let v266 : BitVec 1 := Scalar.cmpi .sgt v264 c0_i32_103
  let v267 : BitVec 32 := Scalar.extui v266
  let c0_i32_104 : BitVec 32 := 0#32
  let v268 : BitVec 1 := Scalar.cmpi .slt v264 c0_i32_104
  let v269 : BitVec 32 := Scalar.extui v268
  let v270 : BitVec 32 := Scalar.subi v267 v269
  let c16_i32_102 : BitVec 32 := 16#32
  let c0_i32_105 : BitVec 32 := 0#32
  let v271 : BitVec 1 := Scalar.cmpi .sgt c16_i32_102 c0_i32_105
  let v272 : BitVec 32 := Scalar.extui v271
  let c0_i32_106 : BitVec 32 := 0#32
  let v273 : BitVec 1 := Scalar.cmpi .slt c16_i32_102 c0_i32_106
  let v274 : BitVec 32 := Scalar.extui v273
  let v275 : BitVec 32 := Scalar.subi v272 v274
  let v276 : BitVec 1 := Scalar.cmpi .ne v270 v275
  let v277 : BitVec 32 := Scalar.remsi v264 c16_i32_102
  let c0_i32_107 : BitVec 32 := 0#32
  let v278 : BitVec 1 := Scalar.cmpi .ne v277 c0_i32_107
  let v279 : BitVec 1 := Scalar.andi v276 v278
  let v265 : BitVec 32 := Scalar.divsi v264 c16_i32_102
  let c1_i32_108 : BitVec 32 := 1#32
  let v280 : BitVec 32 := Scalar.subi v265 c1_i32_108
  let v281 : BitVec 32 := Scalar.select v279 v280 v265
  let c16_i32_109 : BitVec 32 := 16#32
  let v282 : BitVec 32 := Scalar.muli v281 c16_i32_109
  let c880_i32_110 : BitVec 32 := 880#32
  let v283 : BitVec 32 := Scalar.minsi v282 c880_i32_110
  let v284 : BitVec 32 := v283
  let v297 : Index := Scalar.indexCast v284
  let c0_114 : Index := 0#32
  ![0, 6, v297.toNat, 0]

def k0_chk7 (v264 : BitVec 32) : Prop :=
  (16 ∣ (k0_mult7 v264).toNat) ∧
  (∀ a, (k0_off14 v264) a + S1x1x144x1024.size a ≤ S1x16x1024x1024.size a)
theorem k0_mult7_dvd : ∀ (v264 : BitVec 32) (k0_hw7 : k0_chk7 v264), 16 ∣ (k0_mult7 v264).toNat := fun v264 k0_hw7 => k0_hw7.1
theorem k0_off14_inb : ∀ (v264 : BitVec 32) (k0_hw7 : k0_chk7 v264), ∀ a, (k0_off14 v264) a + S1x1x144x1024.size a ≤ S1x16x1024x1024.size a := fun v264 k0_hw7 => k0_hw7.2

def k0_off15 (i : grid0.Coords) : Fin 3 → Nat :=
  let arg0 : BitVec 32 := BitVec.ofNat 32 (i 0).val
  let v304 : Index := Scalar.indexCast arg0
  let c7 : Index := 7#32
  let arg1 : BitVec 32 := BitVec.ofNat 32 (i 1).val
  let c4_i32_116 : BitVec 32 := 4#32
  let v302 : BitVec 32 := Scalar.muli arg1 c4_i32_116
  let c0_i32_117 : BitVec 32 := 0#32
  let v303 : BitVec 32 := Scalar.addi v302 c0_i32_117
  let v305 : Index := Scalar.indexCast v303
  ![v304.toNat, 7, v305.toNat]
def k0_mult8 (v306 : BitVec 32) : BitVec 32 :=
  let c0_i32_119 : BitVec 32 := 0#32
  let v308 : BitVec 1 := Scalar.cmpi .sgt v306 c0_i32_119
  let v309 : BitVec 32 := Scalar.extui v308
  let c0_i32_120 : BitVec 32 := 0#32
  let v310 : BitVec 1 := Scalar.cmpi .slt v306 c0_i32_120
  let v311 : BitVec 32 := Scalar.extui v310
  let v312 : BitVec 32 := Scalar.subi v309 v311
  let c16_i32_118 : BitVec 32 := 16#32
  let c0_i32_121 : BitVec 32 := 0#32
  let v313 : BitVec 1 := Scalar.cmpi .sgt c16_i32_118 c0_i32_121
  let v314 : BitVec 32 := Scalar.extui v313
  let c0_i32_122 : BitVec 32 := 0#32
  let v315 : BitVec 1 := Scalar.cmpi .slt c16_i32_118 c0_i32_122
  let v316 : BitVec 32 := Scalar.extui v315
  let v317 : BitVec 32 := Scalar.subi v314 v316
  let v318 : BitVec 1 := Scalar.cmpi .ne v312 v317
  let v319 : BitVec 32 := Scalar.remsi v306 c16_i32_118
  let c0_i32_123 : BitVec 32 := 0#32
  let v320 : BitVec 1 := Scalar.cmpi .ne v319 c0_i32_123
  let v321 : BitVec 1 := Scalar.andi v318 v320
  let v307 : BitVec 32 := Scalar.divsi v306 c16_i32_118
  let c1_i32_124 : BitVec 32 := 1#32
  let v322 : BitVec 32 := Scalar.subi v307 c1_i32_124
  let v323 : BitVec 32 := Scalar.select v321 v322 v307
  let c16_i32_125 : BitVec 32 := 16#32
  let v324 : BitVec 32 := Scalar.muli v323 c16_i32_125
  let c880_i32_126 : BitVec 32 := 880#32
  let v325 : BitVec 32 := Scalar.minsi v324 c880_i32_126
  v325

def k0_off16 (v306 : BitVec 32) : Fin 4 → Nat :=
  let c0_128 : Index := 0#32
  let c7_129 : Index := 7#32
  let c0_i32_119 : BitVec 32 := 0#32
  let v308 : BitVec 1 := Scalar.cmpi .sgt v306 c0_i32_119
  let v309 : BitVec 32 := Scalar.extui v308
  let c0_i32_120 : BitVec 32 := 0#32
  let v310 : BitVec 1 := Scalar.cmpi .slt v306 c0_i32_120
  let v311 : BitVec 32 := Scalar.extui v310
  let v312 : BitVec 32 := Scalar.subi v309 v311
  let c16_i32_118 : BitVec 32 := 16#32
  let c0_i32_121 : BitVec 32 := 0#32
  let v313 : BitVec 1 := Scalar.cmpi .sgt c16_i32_118 c0_i32_121
  let v314 : BitVec 32 := Scalar.extui v313
  let c0_i32_122 : BitVec 32 := 0#32
  let v315 : BitVec 1 := Scalar.cmpi .slt c16_i32_118 c0_i32_122
  let v316 : BitVec 32 := Scalar.extui v315
  let v317 : BitVec 32 := Scalar.subi v314 v316
  let v318 : BitVec 1 := Scalar.cmpi .ne v312 v317
  let v319 : BitVec 32 := Scalar.remsi v306 c16_i32_118
  let c0_i32_123 : BitVec 32 := 0#32
  let v320 : BitVec 1 := Scalar.cmpi .ne v319 c0_i32_123
  let v321 : BitVec 1 := Scalar.andi v318 v320
  let v307 : BitVec 32 := Scalar.divsi v306 c16_i32_118
  let c1_i32_124 : BitVec 32 := 1#32
  let v322 : BitVec 32 := Scalar.subi v307 c1_i32_124
  let v323 : BitVec 32 := Scalar.select v321 v322 v307
  let c16_i32_125 : BitVec 32 := 16#32
  let v324 : BitVec 32 := Scalar.muli v323 c16_i32_125
  let c880_i32_126 : BitVec 32 := 880#32
  let v325 : BitVec 32 := Scalar.minsi v324 c880_i32_126
  let v326 : BitVec 32 := v325
  let v339 : Index := Scalar.indexCast v326
  let c0_130 : Index := 0#32
  ![0, 7, v339.toNat, 0]

def k0_chk8 (v306 : BitVec 32) : Prop :=
  (16 ∣ (k0_mult8 v306).toNat) ∧
  (∀ a, (k0_off16 v306) a + S1x1x144x1024.size a ≤ S1x16x1024x1024.size a)
theorem k0_mult8_dvd : ∀ (v306 : BitVec 32) (k0_hw8 : k0_chk8 v306), 16 ∣ (k0_mult8 v306).toNat := fun v306 k0_hw8 => k0_hw8.1
theorem k0_off16_inb : ∀ (v306 : BitVec 32) (k0_hw8 : k0_chk8 v306), ∀ a, (k0_off16 v306) a + S1x1x144x1024.size a ≤ S1x16x1024x1024.size a := fun v306 k0_hw8 => k0_hw8.2

def k0_off17 (i : grid0.Coords) : Fin 3 → Nat :=
  let arg0 : BitVec 32 := BitVec.ofNat 32 (i 0).val
  let v346 : Index := Scalar.indexCast arg0
  let c8 : Index := 8#32
  let arg1 : BitVec 32 := BitVec.ofNat 32 (i 1).val
  let c4_i32_132 : BitVec 32 := 4#32
  let v344 : BitVec 32 := Scalar.muli arg1 c4_i32_132
  let c0_i32_133 : BitVec 32 := 0#32
  let v345 : BitVec 32 := Scalar.addi v344 c0_i32_133
  let v347 : Index := Scalar.indexCast v345
  ![v346.toNat, 8, v347.toNat]
def k0_mult9 (v348 : BitVec 32) : BitVec 32 :=
  let c0_i32_135 : BitVec 32 := 0#32
  let v350 : BitVec 1 := Scalar.cmpi .sgt v348 c0_i32_135
  let v351 : BitVec 32 := Scalar.extui v350
  let c0_i32_136 : BitVec 32 := 0#32
  let v352 : BitVec 1 := Scalar.cmpi .slt v348 c0_i32_136
  let v353 : BitVec 32 := Scalar.extui v352
  let v354 : BitVec 32 := Scalar.subi v351 v353
  let c16_i32_134 : BitVec 32 := 16#32
  let c0_i32_137 : BitVec 32 := 0#32
  let v355 : BitVec 1 := Scalar.cmpi .sgt c16_i32_134 c0_i32_137
  let v356 : BitVec 32 := Scalar.extui v355
  let c0_i32_138 : BitVec 32 := 0#32
  let v357 : BitVec 1 := Scalar.cmpi .slt c16_i32_134 c0_i32_138
  let v358 : BitVec 32 := Scalar.extui v357
  let v359 : BitVec 32 := Scalar.subi v356 v358
  let v360 : BitVec 1 := Scalar.cmpi .ne v354 v359
  let v361 : BitVec 32 := Scalar.remsi v348 c16_i32_134
  let c0_i32_139 : BitVec 32 := 0#32
  let v362 : BitVec 1 := Scalar.cmpi .ne v361 c0_i32_139
  let v363 : BitVec 1 := Scalar.andi v360 v362
  let v349 : BitVec 32 := Scalar.divsi v348 c16_i32_134
  let c1_i32_140 : BitVec 32 := 1#32
  let v364 : BitVec 32 := Scalar.subi v349 c1_i32_140
  let v365 : BitVec 32 := Scalar.select v363 v364 v349
  let c16_i32_141 : BitVec 32 := 16#32
  let v366 : BitVec 32 := Scalar.muli v365 c16_i32_141
  let c880_i32_142 : BitVec 32 := 880#32
  let v367 : BitVec 32 := Scalar.minsi v366 c880_i32_142
  v367

def k0_off18 (v348 : BitVec 32) : Fin 4 → Nat :=
  let c0_144 : Index := 0#32
  let c8_145 : Index := 8#32
  let c0_i32_135 : BitVec 32 := 0#32
  let v350 : BitVec 1 := Scalar.cmpi .sgt v348 c0_i32_135
  let v351 : BitVec 32 := Scalar.extui v350
  let c0_i32_136 : BitVec 32 := 0#32
  let v352 : BitVec 1 := Scalar.cmpi .slt v348 c0_i32_136
  let v353 : BitVec 32 := Scalar.extui v352
  let v354 : BitVec 32 := Scalar.subi v351 v353
  let c16_i32_134 : BitVec 32 := 16#32
  let c0_i32_137 : BitVec 32 := 0#32
  let v355 : BitVec 1 := Scalar.cmpi .sgt c16_i32_134 c0_i32_137
  let v356 : BitVec 32 := Scalar.extui v355
  let c0_i32_138 : BitVec 32 := 0#32
  let v357 : BitVec 1 := Scalar.cmpi .slt c16_i32_134 c0_i32_138
  let v358 : BitVec 32 := Scalar.extui v357
  let v359 : BitVec 32 := Scalar.subi v356 v358
  let v360 : BitVec 1 := Scalar.cmpi .ne v354 v359
  let v361 : BitVec 32 := Scalar.remsi v348 c16_i32_134
  let c0_i32_139 : BitVec 32 := 0#32
  let v362 : BitVec 1 := Scalar.cmpi .ne v361 c0_i32_139
  let v363 : BitVec 1 := Scalar.andi v360 v362
  let v349 : BitVec 32 := Scalar.divsi v348 c16_i32_134
  let c1_i32_140 : BitVec 32 := 1#32
  let v364 : BitVec 32 := Scalar.subi v349 c1_i32_140
  let v365 : BitVec 32 := Scalar.select v363 v364 v349
  let c16_i32_141 : BitVec 32 := 16#32
  let v366 : BitVec 32 := Scalar.muli v365 c16_i32_141
  let c880_i32_142 : BitVec 32 := 880#32
  let v367 : BitVec 32 := Scalar.minsi v366 c880_i32_142
  let v368 : BitVec 32 := v367
  let v381 : Index := Scalar.indexCast v368
  let c0_146 : Index := 0#32
  ![0, 8, v381.toNat, 0]

def k0_chk9 (v348 : BitVec 32) : Prop :=
  (16 ∣ (k0_mult9 v348).toNat) ∧
  (∀ a, (k0_off18 v348) a + S1x1x144x1024.size a ≤ S1x16x1024x1024.size a)
theorem k0_mult9_dvd : ∀ (v348 : BitVec 32) (k0_hw9 : k0_chk9 v348), 16 ∣ (k0_mult9 v348).toNat := fun v348 k0_hw9 => k0_hw9.1
theorem k0_off18_inb : ∀ (v348 : BitVec 32) (k0_hw9 : k0_chk9 v348), ∀ a, (k0_off18 v348) a + S1x1x144x1024.size a ≤ S1x16x1024x1024.size a := fun v348 k0_hw9 => k0_hw9.2

def k0_off19 (i : grid0.Coords) : Fin 3 → Nat :=
  let arg0 : BitVec 32 := BitVec.ofNat 32 (i 0).val
  let v388 : Index := Scalar.indexCast arg0
  let c9 : Index := 9#32
  let arg1 : BitVec 32 := BitVec.ofNat 32 (i 1).val
  let c4_i32_148 : BitVec 32 := 4#32
  let v386 : BitVec 32 := Scalar.muli arg1 c4_i32_148
  let c0_i32_149 : BitVec 32 := 0#32
  let v387 : BitVec 32 := Scalar.addi v386 c0_i32_149
  let v389 : Index := Scalar.indexCast v387
  ![v388.toNat, 9, v389.toNat]
def k0_mult10 (v390 : BitVec 32) : BitVec 32 :=
  let c0_i32_151 : BitVec 32 := 0#32
  let v392 : BitVec 1 := Scalar.cmpi .sgt v390 c0_i32_151
  let v393 : BitVec 32 := Scalar.extui v392
  let c0_i32_152 : BitVec 32 := 0#32
  let v394 : BitVec 1 := Scalar.cmpi .slt v390 c0_i32_152
  let v395 : BitVec 32 := Scalar.extui v394
  let v396 : BitVec 32 := Scalar.subi v393 v395
  let c16_i32_150 : BitVec 32 := 16#32
  let c0_i32_153 : BitVec 32 := 0#32
  let v397 : BitVec 1 := Scalar.cmpi .sgt c16_i32_150 c0_i32_153
  let v398 : BitVec 32 := Scalar.extui v397
  let c0_i32_154 : BitVec 32 := 0#32
  let v399 : BitVec 1 := Scalar.cmpi .slt c16_i32_150 c0_i32_154
  let v400 : BitVec 32 := Scalar.extui v399
  let v401 : BitVec 32 := Scalar.subi v398 v400
  let v402 : BitVec 1 := Scalar.cmpi .ne v396 v401
  let v403 : BitVec 32 := Scalar.remsi v390 c16_i32_150
  let c0_i32_155 : BitVec 32 := 0#32
  let v404 : BitVec 1 := Scalar.cmpi .ne v403 c0_i32_155
  let v405 : BitVec 1 := Scalar.andi v402 v404
  let v391 : BitVec 32 := Scalar.divsi v390 c16_i32_150
  let c1_i32_156 : BitVec 32 := 1#32
  let v406 : BitVec 32 := Scalar.subi v391 c1_i32_156
  let v407 : BitVec 32 := Scalar.select v405 v406 v391
  let c16_i32_157 : BitVec 32 := 16#32
  let v408 : BitVec 32 := Scalar.muli v407 c16_i32_157
  let c880_i32_158 : BitVec 32 := 880#32
  let v409 : BitVec 32 := Scalar.minsi v408 c880_i32_158
  v409

def k0_off20 (v390 : BitVec 32) : Fin 4 → Nat :=
  let c0_160 : Index := 0#32
  let c9_161 : Index := 9#32
  let c0_i32_151 : BitVec 32 := 0#32
  let v392 : BitVec 1 := Scalar.cmpi .sgt v390 c0_i32_151
  let v393 : BitVec 32 := Scalar.extui v392
  let c0_i32_152 : BitVec 32 := 0#32
  let v394 : BitVec 1 := Scalar.cmpi .slt v390 c0_i32_152
  let v395 : BitVec 32 := Scalar.extui v394
  let v396 : BitVec 32 := Scalar.subi v393 v395
  let c16_i32_150 : BitVec 32 := 16#32
  let c0_i32_153 : BitVec 32 := 0#32
  let v397 : BitVec 1 := Scalar.cmpi .sgt c16_i32_150 c0_i32_153
  let v398 : BitVec 32 := Scalar.extui v397
  let c0_i32_154 : BitVec 32 := 0#32
  let v399 : BitVec 1 := Scalar.cmpi .slt c16_i32_150 c0_i32_154
  let v400 : BitVec 32 := Scalar.extui v399
  let v401 : BitVec 32 := Scalar.subi v398 v400
  let v402 : BitVec 1 := Scalar.cmpi .ne v396 v401
  let v403 : BitVec 32 := Scalar.remsi v390 c16_i32_150
  let c0_i32_155 : BitVec 32 := 0#32
  let v404 : BitVec 1 := Scalar.cmpi .ne v403 c0_i32_155
  let v405 : BitVec 1 := Scalar.andi v402 v404
  let v391 : BitVec 32 := Scalar.divsi v390 c16_i32_150
  let c1_i32_156 : BitVec 32 := 1#32
  let v406 : BitVec 32 := Scalar.subi v391 c1_i32_156
  let v407 : BitVec 32 := Scalar.select v405 v406 v391
  let c16_i32_157 : BitVec 32 := 16#32
  let v408 : BitVec 32 := Scalar.muli v407 c16_i32_157
  let c880_i32_158 : BitVec 32 := 880#32
  let v409 : BitVec 32 := Scalar.minsi v408 c880_i32_158
  let v410 : BitVec 32 := v409
  let v423 : Index := Scalar.indexCast v410
  let c0_162 : Index := 0#32
  ![0, 9, v423.toNat, 0]

def k0_chk10 (v390 : BitVec 32) : Prop :=
  (16 ∣ (k0_mult10 v390).toNat) ∧
  (∀ a, (k0_off20 v390) a + S1x1x144x1024.size a ≤ S1x16x1024x1024.size a)
theorem k0_mult10_dvd : ∀ (v390 : BitVec 32) (k0_hw10 : k0_chk10 v390), 16 ∣ (k0_mult10 v390).toNat := fun v390 k0_hw10 => k0_hw10.1
theorem k0_off20_inb : ∀ (v390 : BitVec 32) (k0_hw10 : k0_chk10 v390), ∀ a, (k0_off20 v390) a + S1x1x144x1024.size a ≤ S1x16x1024x1024.size a := fun v390 k0_hw10 => k0_hw10.2

def k0_off21 (i : grid0.Coords) : Fin 3 → Nat :=
  let arg0 : BitVec 32 := BitVec.ofNat 32 (i 0).val
  let v430 : Index := Scalar.indexCast arg0
  let c10 : Index := 10#32
  let arg1 : BitVec 32 := BitVec.ofNat 32 (i 1).val
  let c4_i32_164 : BitVec 32 := 4#32
  let v428 : BitVec 32 := Scalar.muli arg1 c4_i32_164
  let c0_i32_165 : BitVec 32 := 0#32
  let v429 : BitVec 32 := Scalar.addi v428 c0_i32_165
  let v431 : Index := Scalar.indexCast v429
  ![v430.toNat, 10, v431.toNat]
def k0_mult11 (v432 : BitVec 32) : BitVec 32 :=
  let c0_i32_167 : BitVec 32 := 0#32
  let v434 : BitVec 1 := Scalar.cmpi .sgt v432 c0_i32_167
  let v435 : BitVec 32 := Scalar.extui v434
  let c0_i32_168 : BitVec 32 := 0#32
  let v436 : BitVec 1 := Scalar.cmpi .slt v432 c0_i32_168
  let v437 : BitVec 32 := Scalar.extui v436
  let v438 : BitVec 32 := Scalar.subi v435 v437
  let c16_i32_166 : BitVec 32 := 16#32
  let c0_i32_169 : BitVec 32 := 0#32
  let v439 : BitVec 1 := Scalar.cmpi .sgt c16_i32_166 c0_i32_169
  let v440 : BitVec 32 := Scalar.extui v439
  let c0_i32_170 : BitVec 32 := 0#32
  let v441 : BitVec 1 := Scalar.cmpi .slt c16_i32_166 c0_i32_170
  let v442 : BitVec 32 := Scalar.extui v441
  let v443 : BitVec 32 := Scalar.subi v440 v442
  let v444 : BitVec 1 := Scalar.cmpi .ne v438 v443
  let v445 : BitVec 32 := Scalar.remsi v432 c16_i32_166
  let c0_i32_171 : BitVec 32 := 0#32
  let v446 : BitVec 1 := Scalar.cmpi .ne v445 c0_i32_171
  let v447 : BitVec 1 := Scalar.andi v444 v446
  let v433 : BitVec 32 := Scalar.divsi v432 c16_i32_166
  let c1_i32_172 : BitVec 32 := 1#32
  let v448 : BitVec 32 := Scalar.subi v433 c1_i32_172
  let v449 : BitVec 32 := Scalar.select v447 v448 v433
  let c16_i32_173 : BitVec 32 := 16#32
  let v450 : BitVec 32 := Scalar.muli v449 c16_i32_173
  let c880_i32_174 : BitVec 32 := 880#32
  let v451 : BitVec 32 := Scalar.minsi v450 c880_i32_174
  v451

def k0_off22 (v432 : BitVec 32) : Fin 4 → Nat :=
  let c0_176 : Index := 0#32
  let c10_177 : Index := 10#32
  let c0_i32_167 : BitVec 32 := 0#32
  let v434 : BitVec 1 := Scalar.cmpi .sgt v432 c0_i32_167
  let v435 : BitVec 32 := Scalar.extui v434
  let c0_i32_168 : BitVec 32 := 0#32
  let v436 : BitVec 1 := Scalar.cmpi .slt v432 c0_i32_168
  let v437 : BitVec 32 := Scalar.extui v436
  let v438 : BitVec 32 := Scalar.subi v435 v437
  let c16_i32_166 : BitVec 32 := 16#32
  let c0_i32_169 : BitVec 32 := 0#32
  let v439 : BitVec 1 := Scalar.cmpi .sgt c16_i32_166 c0_i32_169
  let v440 : BitVec 32 := Scalar.extui v439
  let c0_i32_170 : BitVec 32 := 0#32
  let v441 : BitVec 1 := Scalar.cmpi .slt c16_i32_166 c0_i32_170
  let v442 : BitVec 32 := Scalar.extui v441
  let v443 : BitVec 32 := Scalar.subi v440 v442
  let v444 : BitVec 1 := Scalar.cmpi .ne v438 v443
  let v445 : BitVec 32 := Scalar.remsi v432 c16_i32_166
  let c0_i32_171 : BitVec 32 := 0#32
  let v446 : BitVec 1 := Scalar.cmpi .ne v445 c0_i32_171
  let v447 : BitVec 1 := Scalar.andi v444 v446
  let v433 : BitVec 32 := Scalar.divsi v432 c16_i32_166
  let c1_i32_172 : BitVec 32 := 1#32
  let v448 : BitVec 32 := Scalar.subi v433 c1_i32_172
  let v449 : BitVec 32 := Scalar.select v447 v448 v433
  let c16_i32_173 : BitVec 32 := 16#32
  let v450 : BitVec 32 := Scalar.muli v449 c16_i32_173
  let c880_i32_174 : BitVec 32 := 880#32
  let v451 : BitVec 32 := Scalar.minsi v450 c880_i32_174
  let v452 : BitVec 32 := v451
  let v465 : Index := Scalar.indexCast v452
  let c0_178 : Index := 0#32
  ![0, 10, v465.toNat, 0]

def k0_chk11 (v432 : BitVec 32) : Prop :=
  (16 ∣ (k0_mult11 v432).toNat) ∧
  (∀ a, (k0_off22 v432) a + S1x1x144x1024.size a ≤ S1x16x1024x1024.size a)
theorem k0_mult11_dvd : ∀ (v432 : BitVec 32) (k0_hw11 : k0_chk11 v432), 16 ∣ (k0_mult11 v432).toNat := fun v432 k0_hw11 => k0_hw11.1
theorem k0_off22_inb : ∀ (v432 : BitVec 32) (k0_hw11 : k0_chk11 v432), ∀ a, (k0_off22 v432) a + S1x1x144x1024.size a ≤ S1x16x1024x1024.size a := fun v432 k0_hw11 => k0_hw11.2

def k0_off23 (i : grid0.Coords) : Fin 3 → Nat :=
  let arg0 : BitVec 32 := BitVec.ofNat 32 (i 0).val
  let v472 : Index := Scalar.indexCast arg0
  let c11 : Index := 11#32
  let arg1 : BitVec 32 := BitVec.ofNat 32 (i 1).val
  let c4_i32_180 : BitVec 32 := 4#32
  let v470 : BitVec 32 := Scalar.muli arg1 c4_i32_180
  let c0_i32_181 : BitVec 32 := 0#32
  let v471 : BitVec 32 := Scalar.addi v470 c0_i32_181
  let v473 : Index := Scalar.indexCast v471
  ![v472.toNat, 11, v473.toNat]
def k0_mult12 (v474 : BitVec 32) : BitVec 32 :=
  let c0_i32_183 : BitVec 32 := 0#32
  let v476 : BitVec 1 := Scalar.cmpi .sgt v474 c0_i32_183
  let v477 : BitVec 32 := Scalar.extui v476
  let c0_i32_184 : BitVec 32 := 0#32
  let v478 : BitVec 1 := Scalar.cmpi .slt v474 c0_i32_184
  let v479 : BitVec 32 := Scalar.extui v478
  let v480 : BitVec 32 := Scalar.subi v477 v479
  let c16_i32_182 : BitVec 32 := 16#32
  let c0_i32_185 : BitVec 32 := 0#32
  let v481 : BitVec 1 := Scalar.cmpi .sgt c16_i32_182 c0_i32_185
  let v482 : BitVec 32 := Scalar.extui v481
  let c0_i32_186 : BitVec 32 := 0#32
  let v483 : BitVec 1 := Scalar.cmpi .slt c16_i32_182 c0_i32_186
  let v484 : BitVec 32 := Scalar.extui v483
  let v485 : BitVec 32 := Scalar.subi v482 v484
  let v486 : BitVec 1 := Scalar.cmpi .ne v480 v485
  let v487 : BitVec 32 := Scalar.remsi v474 c16_i32_182
  let c0_i32_187 : BitVec 32 := 0#32
  let v488 : BitVec 1 := Scalar.cmpi .ne v487 c0_i32_187
  let v489 : BitVec 1 := Scalar.andi v486 v488
  let v475 : BitVec 32 := Scalar.divsi v474 c16_i32_182
  let c1_i32_188 : BitVec 32 := 1#32
  let v490 : BitVec 32 := Scalar.subi v475 c1_i32_188
  let v491 : BitVec 32 := Scalar.select v489 v490 v475
  let c16_i32_189 : BitVec 32 := 16#32
  let v492 : BitVec 32 := Scalar.muli v491 c16_i32_189
  let c880_i32_190 : BitVec 32 := 880#32
  let v493 : BitVec 32 := Scalar.minsi v492 c880_i32_190
  v493

def k0_off24 (v474 : BitVec 32) : Fin 4 → Nat :=
  let c0_192 : Index := 0#32
  let c11_193 : Index := 11#32
  let c0_i32_183 : BitVec 32 := 0#32
  let v476 : BitVec 1 := Scalar.cmpi .sgt v474 c0_i32_183
  let v477 : BitVec 32 := Scalar.extui v476
  let c0_i32_184 : BitVec 32 := 0#32
  let v478 : BitVec 1 := Scalar.cmpi .slt v474 c0_i32_184
  let v479 : BitVec 32 := Scalar.extui v478
  let v480 : BitVec 32 := Scalar.subi v477 v479
  let c16_i32_182 : BitVec 32 := 16#32
  let c0_i32_185 : BitVec 32 := 0#32
  let v481 : BitVec 1 := Scalar.cmpi .sgt c16_i32_182 c0_i32_185
  let v482 : BitVec 32 := Scalar.extui v481
  let c0_i32_186 : BitVec 32 := 0#32
  let v483 : BitVec 1 := Scalar.cmpi .slt c16_i32_182 c0_i32_186
  let v484 : BitVec 32 := Scalar.extui v483
  let v485 : BitVec 32 := Scalar.subi v482 v484
  let v486 : BitVec 1 := Scalar.cmpi .ne v480 v485
  let v487 : BitVec 32 := Scalar.remsi v474 c16_i32_182
  let c0_i32_187 : BitVec 32 := 0#32
  let v488 : BitVec 1 := Scalar.cmpi .ne v487 c0_i32_187
  let v489 : BitVec 1 := Scalar.andi v486 v488
  let v475 : BitVec 32 := Scalar.divsi v474 c16_i32_182
  let c1_i32_188 : BitVec 32 := 1#32
  let v490 : BitVec 32 := Scalar.subi v475 c1_i32_188
  let v491 : BitVec 32 := Scalar.select v489 v490 v475
  let c16_i32_189 : BitVec 32 := 16#32
  let v492 : BitVec 32 := Scalar.muli v491 c16_i32_189
  let c880_i32_190 : BitVec 32 := 880#32
  let v493 : BitVec 32 := Scalar.minsi v492 c880_i32_190
  let v494 : BitVec 32 := v493
  let v507 : Index := Scalar.indexCast v494
  let c0_194 : Index := 0#32
  ![0, 11, v507.toNat, 0]

def k0_chk12 (v474 : BitVec 32) : Prop :=
  (16 ∣ (k0_mult12 v474).toNat) ∧
  (∀ a, (k0_off24 v474) a + S1x1x144x1024.size a ≤ S1x16x1024x1024.size a)
theorem k0_mult12_dvd : ∀ (v474 : BitVec 32) (k0_hw12 : k0_chk12 v474), 16 ∣ (k0_mult12 v474).toNat := fun v474 k0_hw12 => k0_hw12.1
theorem k0_off24_inb : ∀ (v474 : BitVec 32) (k0_hw12 : k0_chk12 v474), ∀ a, (k0_off24 v474) a + S1x1x144x1024.size a ≤ S1x16x1024x1024.size a := fun v474 k0_hw12 => k0_hw12.2

def k0_off25 (i : grid0.Coords) : Fin 3 → Nat :=
  let arg0 : BitVec 32 := BitVec.ofNat 32 (i 0).val
  let v514 : Index := Scalar.indexCast arg0
  let c12 : Index := 12#32
  let arg1 : BitVec 32 := BitVec.ofNat 32 (i 1).val
  let c4_i32_196 : BitVec 32 := 4#32
  let v512 : BitVec 32 := Scalar.muli arg1 c4_i32_196
  let c0_i32_197 : BitVec 32 := 0#32
  let v513 : BitVec 32 := Scalar.addi v512 c0_i32_197
  let v515 : Index := Scalar.indexCast v513
  ![v514.toNat, 12, v515.toNat]
def k0_mult13 (v516 : BitVec 32) : BitVec 32 :=
  let c0_i32_199 : BitVec 32 := 0#32
  let v518 : BitVec 1 := Scalar.cmpi .sgt v516 c0_i32_199
  let v519 : BitVec 32 := Scalar.extui v518
  let c0_i32_200 : BitVec 32 := 0#32
  let v520 : BitVec 1 := Scalar.cmpi .slt v516 c0_i32_200
  let v521 : BitVec 32 := Scalar.extui v520
  let v522 : BitVec 32 := Scalar.subi v519 v521
  let c16_i32_198 : BitVec 32 := 16#32
  let c0_i32_201 : BitVec 32 := 0#32
  let v523 : BitVec 1 := Scalar.cmpi .sgt c16_i32_198 c0_i32_201
  let v524 : BitVec 32 := Scalar.extui v523
  let c0_i32_202 : BitVec 32 := 0#32
  let v525 : BitVec 1 := Scalar.cmpi .slt c16_i32_198 c0_i32_202
  let v526 : BitVec 32 := Scalar.extui v525
  let v527 : BitVec 32 := Scalar.subi v524 v526
  let v528 : BitVec 1 := Scalar.cmpi .ne v522 v527
  let v529 : BitVec 32 := Scalar.remsi v516 c16_i32_198
  let c0_i32_203 : BitVec 32 := 0#32
  let v530 : BitVec 1 := Scalar.cmpi .ne v529 c0_i32_203
  let v531 : BitVec 1 := Scalar.andi v528 v530
  let v517 : BitVec 32 := Scalar.divsi v516 c16_i32_198
  let c1_i32_204 : BitVec 32 := 1#32
  let v532 : BitVec 32 := Scalar.subi v517 c1_i32_204
  let v533 : BitVec 32 := Scalar.select v531 v532 v517
  let c16_i32_205 : BitVec 32 := 16#32
  let v534 : BitVec 32 := Scalar.muli v533 c16_i32_205
  let c880_i32_206 : BitVec 32 := 880#32
  let v535 : BitVec 32 := Scalar.minsi v534 c880_i32_206
  v535

def k0_off26 (v516 : BitVec 32) : Fin 4 → Nat :=
  let c0_208 : Index := 0#32
  let c12_209 : Index := 12#32
  let c0_i32_199 : BitVec 32 := 0#32
  let v518 : BitVec 1 := Scalar.cmpi .sgt v516 c0_i32_199
  let v519 : BitVec 32 := Scalar.extui v518
  let c0_i32_200 : BitVec 32 := 0#32
  let v520 : BitVec 1 := Scalar.cmpi .slt v516 c0_i32_200
  let v521 : BitVec 32 := Scalar.extui v520
  let v522 : BitVec 32 := Scalar.subi v519 v521
  let c16_i32_198 : BitVec 32 := 16#32
  let c0_i32_201 : BitVec 32 := 0#32
  let v523 : BitVec 1 := Scalar.cmpi .sgt c16_i32_198 c0_i32_201
  let v524 : BitVec 32 := Scalar.extui v523
  let c0_i32_202 : BitVec 32 := 0#32
  let v525 : BitVec 1 := Scalar.cmpi .slt c16_i32_198 c0_i32_202
  let v526 : BitVec 32 := Scalar.extui v525
  let v527 : BitVec 32 := Scalar.subi v524 v526
  let v528 : BitVec 1 := Scalar.cmpi .ne v522 v527
  let v529 : BitVec 32 := Scalar.remsi v516 c16_i32_198
  let c0_i32_203 : BitVec 32 := 0#32
  let v530 : BitVec 1 := Scalar.cmpi .ne v529 c0_i32_203
  let v531 : BitVec 1 := Scalar.andi v528 v530
  let v517 : BitVec 32 := Scalar.divsi v516 c16_i32_198
  let c1_i32_204 : BitVec 32 := 1#32
  let v532 : BitVec 32 := Scalar.subi v517 c1_i32_204
  let v533 : BitVec 32 := Scalar.select v531 v532 v517
  let c16_i32_205 : BitVec 32 := 16#32
  let v534 : BitVec 32 := Scalar.muli v533 c16_i32_205
  let c880_i32_206 : BitVec 32 := 880#32
  let v535 : BitVec 32 := Scalar.minsi v534 c880_i32_206
  let v536 : BitVec 32 := v535
  let v549 : Index := Scalar.indexCast v536
  let c0_210 : Index := 0#32
  ![0, 12, v549.toNat, 0]

def k0_chk13 (v516 : BitVec 32) : Prop :=
  (16 ∣ (k0_mult13 v516).toNat) ∧
  (∀ a, (k0_off26 v516) a + S1x1x144x1024.size a ≤ S1x16x1024x1024.size a)
theorem k0_mult13_dvd : ∀ (v516 : BitVec 32) (k0_hw13 : k0_chk13 v516), 16 ∣ (k0_mult13 v516).toNat := fun v516 k0_hw13 => k0_hw13.1
theorem k0_off26_inb : ∀ (v516 : BitVec 32) (k0_hw13 : k0_chk13 v516), ∀ a, (k0_off26 v516) a + S1x1x144x1024.size a ≤ S1x16x1024x1024.size a := fun v516 k0_hw13 => k0_hw13.2

def k0_off27 (i : grid0.Coords) : Fin 3 → Nat :=
  let arg0 : BitVec 32 := BitVec.ofNat 32 (i 0).val
  let v556 : Index := Scalar.indexCast arg0
  let c13 : Index := 13#32
  let arg1 : BitVec 32 := BitVec.ofNat 32 (i 1).val
  let c4_i32_212 : BitVec 32 := 4#32
  let v554 : BitVec 32 := Scalar.muli arg1 c4_i32_212
  let c0_i32_213 : BitVec 32 := 0#32
  let v555 : BitVec 32 := Scalar.addi v554 c0_i32_213
  let v557 : Index := Scalar.indexCast v555
  ![v556.toNat, 13, v557.toNat]
def k0_mult14 (v558 : BitVec 32) : BitVec 32 :=
  let c0_i32_215 : BitVec 32 := 0#32
  let v560 : BitVec 1 := Scalar.cmpi .sgt v558 c0_i32_215
  let v561 : BitVec 32 := Scalar.extui v560
  let c0_i32_216 : BitVec 32 := 0#32
  let v562 : BitVec 1 := Scalar.cmpi .slt v558 c0_i32_216
  let v563 : BitVec 32 := Scalar.extui v562
  let v564 : BitVec 32 := Scalar.subi v561 v563
  let c16_i32_214 : BitVec 32 := 16#32
  let c0_i32_217 : BitVec 32 := 0#32
  let v565 : BitVec 1 := Scalar.cmpi .sgt c16_i32_214 c0_i32_217
  let v566 : BitVec 32 := Scalar.extui v565
  let c0_i32_218 : BitVec 32 := 0#32
  let v567 : BitVec 1 := Scalar.cmpi .slt c16_i32_214 c0_i32_218
  let v568 : BitVec 32 := Scalar.extui v567
  let v569 : BitVec 32 := Scalar.subi v566 v568
  let v570 : BitVec 1 := Scalar.cmpi .ne v564 v569
  let v571 : BitVec 32 := Scalar.remsi v558 c16_i32_214
  let c0_i32_219 : BitVec 32 := 0#32
  let v572 : BitVec 1 := Scalar.cmpi .ne v571 c0_i32_219
  let v573 : BitVec 1 := Scalar.andi v570 v572
  let v559 : BitVec 32 := Scalar.divsi v558 c16_i32_214
  let c1_i32_220 : BitVec 32 := 1#32
  let v574 : BitVec 32 := Scalar.subi v559 c1_i32_220
  let v575 : BitVec 32 := Scalar.select v573 v574 v559
  let c16_i32_221 : BitVec 32 := 16#32
  let v576 : BitVec 32 := Scalar.muli v575 c16_i32_221
  let c880_i32_222 : BitVec 32 := 880#32
  let v577 : BitVec 32 := Scalar.minsi v576 c880_i32_222
  v577

def k0_off28 (v558 : BitVec 32) : Fin 4 → Nat :=
  let c0_224 : Index := 0#32
  let c13_225 : Index := 13#32
  let c0_i32_215 : BitVec 32 := 0#32
  let v560 : BitVec 1 := Scalar.cmpi .sgt v558 c0_i32_215
  let v561 : BitVec 32 := Scalar.extui v560
  let c0_i32_216 : BitVec 32 := 0#32
  let v562 : BitVec 1 := Scalar.cmpi .slt v558 c0_i32_216
  let v563 : BitVec 32 := Scalar.extui v562
  let v564 : BitVec 32 := Scalar.subi v561 v563
  let c16_i32_214 : BitVec 32 := 16#32
  let c0_i32_217 : BitVec 32 := 0#32
  let v565 : BitVec 1 := Scalar.cmpi .sgt c16_i32_214 c0_i32_217
  let v566 : BitVec 32 := Scalar.extui v565
  let c0_i32_218 : BitVec 32 := 0#32
  let v567 : BitVec 1 := Scalar.cmpi .slt c16_i32_214 c0_i32_218
  let v568 : BitVec 32 := Scalar.extui v567
  let v569 : BitVec 32 := Scalar.subi v566 v568
  let v570 : BitVec 1 := Scalar.cmpi .ne v564 v569
  let v571 : BitVec 32 := Scalar.remsi v558 c16_i32_214
  let c0_i32_219 : BitVec 32 := 0#32
  let v572 : BitVec 1 := Scalar.cmpi .ne v571 c0_i32_219
  let v573 : BitVec 1 := Scalar.andi v570 v572
  let v559 : BitVec 32 := Scalar.divsi v558 c16_i32_214
  let c1_i32_220 : BitVec 32 := 1#32
  let v574 : BitVec 32 := Scalar.subi v559 c1_i32_220
  let v575 : BitVec 32 := Scalar.select v573 v574 v559
  let c16_i32_221 : BitVec 32 := 16#32
  let v576 : BitVec 32 := Scalar.muli v575 c16_i32_221
  let c880_i32_222 : BitVec 32 := 880#32
  let v577 : BitVec 32 := Scalar.minsi v576 c880_i32_222
  let v578 : BitVec 32 := v577
  let v591 : Index := Scalar.indexCast v578
  let c0_226 : Index := 0#32
  ![0, 13, v591.toNat, 0]

def k0_chk14 (v558 : BitVec 32) : Prop :=
  (16 ∣ (k0_mult14 v558).toNat) ∧
  (∀ a, (k0_off28 v558) a + S1x1x144x1024.size a ≤ S1x16x1024x1024.size a)
theorem k0_mult14_dvd : ∀ (v558 : BitVec 32) (k0_hw14 : k0_chk14 v558), 16 ∣ (k0_mult14 v558).toNat := fun v558 k0_hw14 => k0_hw14.1
theorem k0_off28_inb : ∀ (v558 : BitVec 32) (k0_hw14 : k0_chk14 v558), ∀ a, (k0_off28 v558) a + S1x1x144x1024.size a ≤ S1x16x1024x1024.size a := fun v558 k0_hw14 => k0_hw14.2

def k0_off29 (i : grid0.Coords) : Fin 3 → Nat :=
  let arg0 : BitVec 32 := BitVec.ofNat 32 (i 0).val
  let v598 : Index := Scalar.indexCast arg0
  let c14 : Index := 14#32
  let arg1 : BitVec 32 := BitVec.ofNat 32 (i 1).val
  let c4_i32_228 : BitVec 32 := 4#32
  let v596 : BitVec 32 := Scalar.muli arg1 c4_i32_228
  let c0_i32_229 : BitVec 32 := 0#32
  let v597 : BitVec 32 := Scalar.addi v596 c0_i32_229
  let v599 : Index := Scalar.indexCast v597
  ![v598.toNat, 14, v599.toNat]
def k0_mult15 (v600 : BitVec 32) : BitVec 32 :=
  let c0_i32_231 : BitVec 32 := 0#32
  let v602 : BitVec 1 := Scalar.cmpi .sgt v600 c0_i32_231
  let v603 : BitVec 32 := Scalar.extui v602
  let c0_i32_232 : BitVec 32 := 0#32
  let v604 : BitVec 1 := Scalar.cmpi .slt v600 c0_i32_232
  let v605 : BitVec 32 := Scalar.extui v604
  let v606 : BitVec 32 := Scalar.subi v603 v605
  let c16_i32_230 : BitVec 32 := 16#32
  let c0_i32_233 : BitVec 32 := 0#32
  let v607 : BitVec 1 := Scalar.cmpi .sgt c16_i32_230 c0_i32_233
  let v608 : BitVec 32 := Scalar.extui v607
  let c0_i32_234 : BitVec 32 := 0#32
  let v609 : BitVec 1 := Scalar.cmpi .slt c16_i32_230 c0_i32_234
  let v610 : BitVec 32 := Scalar.extui v609
  let v611 : BitVec 32 := Scalar.subi v608 v610
  let v612 : BitVec 1 := Scalar.cmpi .ne v606 v611
  let v613 : BitVec 32 := Scalar.remsi v600 c16_i32_230
  let c0_i32_235 : BitVec 32 := 0#32
  let v614 : BitVec 1 := Scalar.cmpi .ne v613 c0_i32_235
  let v615 : BitVec 1 := Scalar.andi v612 v614
  let v601 : BitVec 32 := Scalar.divsi v600 c16_i32_230
  let c1_i32_236 : BitVec 32 := 1#32
  let v616 : BitVec 32 := Scalar.subi v601 c1_i32_236
  let v617 : BitVec 32 := Scalar.select v615 v616 v601
  let c16_i32_237 : BitVec 32 := 16#32
  let v618 : BitVec 32 := Scalar.muli v617 c16_i32_237
  let c880_i32_238 : BitVec 32 := 880#32
  let v619 : BitVec 32 := Scalar.minsi v618 c880_i32_238
  v619

def k0_off30 (v600 : BitVec 32) : Fin 4 → Nat :=
  let c0_240 : Index := 0#32
  let c14_241 : Index := 14#32
  let c0_i32_231 : BitVec 32 := 0#32
  let v602 : BitVec 1 := Scalar.cmpi .sgt v600 c0_i32_231
  let v603 : BitVec 32 := Scalar.extui v602
  let c0_i32_232 : BitVec 32 := 0#32
  let v604 : BitVec 1 := Scalar.cmpi .slt v600 c0_i32_232
  let v605 : BitVec 32 := Scalar.extui v604
  let v606 : BitVec 32 := Scalar.subi v603 v605
  let c16_i32_230 : BitVec 32 := 16#32
  let c0_i32_233 : BitVec 32 := 0#32
  let v607 : BitVec 1 := Scalar.cmpi .sgt c16_i32_230 c0_i32_233
  let v608 : BitVec 32 := Scalar.extui v607
  let c0_i32_234 : BitVec 32 := 0#32
  let v609 : BitVec 1 := Scalar.cmpi .slt c16_i32_230 c0_i32_234
  let v610 : BitVec 32 := Scalar.extui v609
  let v611 : BitVec 32 := Scalar.subi v608 v610
  let v612 : BitVec 1 := Scalar.cmpi .ne v606 v611
  let v613 : BitVec 32 := Scalar.remsi v600 c16_i32_230
  let c0_i32_235 : BitVec 32 := 0#32
  let v614 : BitVec 1 := Scalar.cmpi .ne v613 c0_i32_235
  let v615 : BitVec 1 := Scalar.andi v612 v614
  let v601 : BitVec 32 := Scalar.divsi v600 c16_i32_230
  let c1_i32_236 : BitVec 32 := 1#32
  let v616 : BitVec 32 := Scalar.subi v601 c1_i32_236
  let v617 : BitVec 32 := Scalar.select v615 v616 v601
  let c16_i32_237 : BitVec 32 := 16#32
  let v618 : BitVec 32 := Scalar.muli v617 c16_i32_237
  let c880_i32_238 : BitVec 32 := 880#32
  let v619 : BitVec 32 := Scalar.minsi v618 c880_i32_238
  let v620 : BitVec 32 := v619
  let v633 : Index := Scalar.indexCast v620
  let c0_242 : Index := 0#32
  ![0, 14, v633.toNat, 0]

def k0_chk15 (v600 : BitVec 32) : Prop :=
  (16 ∣ (k0_mult15 v600).toNat) ∧
  (∀ a, (k0_off30 v600) a + S1x1x144x1024.size a ≤ S1x16x1024x1024.size a)
theorem k0_mult15_dvd : ∀ (v600 : BitVec 32) (k0_hw15 : k0_chk15 v600), 16 ∣ (k0_mult15 v600).toNat := fun v600 k0_hw15 => k0_hw15.1
theorem k0_off30_inb : ∀ (v600 : BitVec 32) (k0_hw15 : k0_chk15 v600), ∀ a, (k0_off30 v600) a + S1x1x144x1024.size a ≤ S1x16x1024x1024.size a := fun v600 k0_hw15 => k0_hw15.2

def k0_off31 (i : grid0.Coords) : Fin 3 → Nat :=
  let arg0 : BitVec 32 := BitVec.ofNat 32 (i 0).val
  let v640 : Index := Scalar.indexCast arg0
  let c15 : Index := 15#32
  let arg1 : BitVec 32 := BitVec.ofNat 32 (i 1).val
  let c4_i32_244 : BitVec 32 := 4#32
  let v638 : BitVec 32 := Scalar.muli arg1 c4_i32_244
  let c0_i32_245 : BitVec 32 := 0#32
  let v639 : BitVec 32 := Scalar.addi v638 c0_i32_245
  let v641 : Index := Scalar.indexCast v639
  ![v640.toNat, 15, v641.toNat]
def k0_mult16 (v642 : BitVec 32) : BitVec 32 :=
  let c0_i32_247 : BitVec 32 := 0#32
  let v644 : BitVec 1 := Scalar.cmpi .sgt v642 c0_i32_247
  let v645 : BitVec 32 := Scalar.extui v644
  let c0_i32_248 : BitVec 32 := 0#32
  let v646 : BitVec 1 := Scalar.cmpi .slt v642 c0_i32_248
  let v647 : BitVec 32 := Scalar.extui v646
  let v648 : BitVec 32 := Scalar.subi v645 v647
  let c16_i32_246 : BitVec 32 := 16#32
  let c0_i32_249 : BitVec 32 := 0#32
  let v649 : BitVec 1 := Scalar.cmpi .sgt c16_i32_246 c0_i32_249
  let v650 : BitVec 32 := Scalar.extui v649
  let c0_i32_250 : BitVec 32 := 0#32
  let v651 : BitVec 1 := Scalar.cmpi .slt c16_i32_246 c0_i32_250
  let v652 : BitVec 32 := Scalar.extui v651
  let v653 : BitVec 32 := Scalar.subi v650 v652
  let v654 : BitVec 1 := Scalar.cmpi .ne v648 v653
  let v655 : BitVec 32 := Scalar.remsi v642 c16_i32_246
  let c0_i32_251 : BitVec 32 := 0#32
  let v656 : BitVec 1 := Scalar.cmpi .ne v655 c0_i32_251
  let v657 : BitVec 1 := Scalar.andi v654 v656
  let v643 : BitVec 32 := Scalar.divsi v642 c16_i32_246
  let c1_i32_252 : BitVec 32 := 1#32
  let v658 : BitVec 32 := Scalar.subi v643 c1_i32_252
  let v659 : BitVec 32 := Scalar.select v657 v658 v643
  let c16_i32_253 : BitVec 32 := 16#32
  let v660 : BitVec 32 := Scalar.muli v659 c16_i32_253
  let c880_i32_254 : BitVec 32 := 880#32
  let v661 : BitVec 32 := Scalar.minsi v660 c880_i32_254
  v661

def k0_off32 (v642 : BitVec 32) : Fin 4 → Nat :=
  let c0_256 : Index := 0#32
  let c15_257 : Index := 15#32
  let c0_i32_247 : BitVec 32 := 0#32
  let v644 : BitVec 1 := Scalar.cmpi .sgt v642 c0_i32_247
  let v645 : BitVec 32 := Scalar.extui v644
  let c0_i32_248 : BitVec 32 := 0#32
  let v646 : BitVec 1 := Scalar.cmpi .slt v642 c0_i32_248
  let v647 : BitVec 32 := Scalar.extui v646
  let v648 : BitVec 32 := Scalar.subi v645 v647
  let c16_i32_246 : BitVec 32 := 16#32
  let c0_i32_249 : BitVec 32 := 0#32
  let v649 : BitVec 1 := Scalar.cmpi .sgt c16_i32_246 c0_i32_249
  let v650 : BitVec 32 := Scalar.extui v649
  let c0_i32_250 : BitVec 32 := 0#32
  let v651 : BitVec 1 := Scalar.cmpi .slt c16_i32_246 c0_i32_250
  let v652 : BitVec 32 := Scalar.extui v651
  let v653 : BitVec 32 := Scalar.subi v650 v652
  let v654 : BitVec 1 := Scalar.cmpi .ne v648 v653
  let v655 : BitVec 32 := Scalar.remsi v642 c16_i32_246
  let c0_i32_251 : BitVec 32 := 0#32
  let v656 : BitVec 1 := Scalar.cmpi .ne v655 c0_i32_251
  let v657 : BitVec 1 := Scalar.andi v654 v656
  let v643 : BitVec 32 := Scalar.divsi v642 c16_i32_246
  let c1_i32_252 : BitVec 32 := 1#32
  let v658 : BitVec 32 := Scalar.subi v643 c1_i32_252
  let v659 : BitVec 32 := Scalar.select v657 v658 v643
  let c16_i32_253 : BitVec 32 := 16#32
  let v660 : BitVec 32 := Scalar.muli v659 c16_i32_253
  let c880_i32_254 : BitVec 32 := 880#32
  let v661 : BitVec 32 := Scalar.minsi v660 c880_i32_254
  let v662 : BitVec 32 := v661
  let v675 : Index := Scalar.indexCast v662
  let c0_258 : Index := 0#32
  ![0, 15, v675.toNat, 0]

def k0_chk16 (v642 : BitVec 32) : Prop :=
  (16 ∣ (k0_mult16 v642).toNat) ∧
  (∀ a, (k0_off32 v642) a + S1x1x144x1024.size a ≤ S1x16x1024x1024.size a)
theorem k0_mult16_dvd : ∀ (v642 : BitVec 32) (k0_hw16 : k0_chk16 v642), 16 ∣ (k0_mult16 v642).toNat := fun v642 k0_hw16 => k0_hw16.1
theorem k0_off32_inb : ∀ (v642 : BitVec 32) (k0_hw16 : k0_chk16 v642), ∀ a, (k0_off32 v642) a + S1x1x144x1024.size a ≤ S1x16x1024x1024.size a := fun v642 k0_hw16 => k0_hw16.2

def k0_off33 (i : grid0.Coords) : Fin 3 → Nat :=
  let arg0 : BitVec 32 := BitVec.ofNat 32 (i 0).val
  let v717 : Index := Scalar.indexCast arg0
  let c0_283 : Index := 0#32
  let arg1 : BitVec 32 := BitVec.ofNat 32 (i 1).val
  let c4_i32_281 : BitVec 32 := 4#32
  let v715 : BitVec 32 := Scalar.muli arg1 c4_i32_281
  let c1_i32_282 : BitVec 32 := 1#32
  let v716 : BitVec 32 := Scalar.addi v715 c1_i32_282
  let v718 : Index := Scalar.indexCast v716
  ![v717.toNat, 0, v718.toNat]
def k0_mult17 (v719 : BitVec 32) : BitVec 32 :=
  let c0_i32_285 : BitVec 32 := 0#32
  let v721 : BitVec 1 := Scalar.cmpi .sgt v719 c0_i32_285
  let v722 : BitVec 32 := Scalar.extui v721
  let c0_i32_286 : BitVec 32 := 0#32
  let v723 : BitVec 1 := Scalar.cmpi .slt v719 c0_i32_286
  let v724 : BitVec 32 := Scalar.extui v723
  let v725 : BitVec 32 := Scalar.subi v722 v724
  let c16_i32_284 : BitVec 32 := 16#32
  let c0_i32_287 : BitVec 32 := 0#32
  let v726 : BitVec 1 := Scalar.cmpi .sgt c16_i32_284 c0_i32_287
  let v727 : BitVec 32 := Scalar.extui v726
  let c0_i32_288 : BitVec 32 := 0#32
  let v728 : BitVec 1 := Scalar.cmpi .slt c16_i32_284 c0_i32_288
  let v729 : BitVec 32 := Scalar.extui v728
  let v730 : BitVec 32 := Scalar.subi v727 v729
  let v731 : BitVec 1 := Scalar.cmpi .ne v725 v730
  let v732 : BitVec 32 := Scalar.remsi v719 c16_i32_284
  let c0_i32_289 : BitVec 32 := 0#32
  let v733 : BitVec 1 := Scalar.cmpi .ne v732 c0_i32_289
  let v734 : BitVec 1 := Scalar.andi v731 v733
  let v720 : BitVec 32 := Scalar.divsi v719 c16_i32_284
  let c1_i32_290 : BitVec 32 := 1#32
  let v735 : BitVec 32 := Scalar.subi v720 c1_i32_290
  let v736 : BitVec 32 := Scalar.select v734 v735 v720
  let c16_i32_291 : BitVec 32 := 16#32
  let v737 : BitVec 32 := Scalar.muli v736 c16_i32_291
  let c880_i32_292 : BitVec 32 := 880#32
  let v738 : BitVec 32 := Scalar.minsi v737 c880_i32_292
  v738

def k0_off34 (v719 : BitVec 32) : Fin 4 → Nat :=
  let c0_294 : Index := 0#32
  let c0_295 : Index := 0#32
  let c0_i32_285 : BitVec 32 := 0#32
  let v721 : BitVec 1 := Scalar.cmpi .sgt v719 c0_i32_285
  let v722 : BitVec 32 := Scalar.extui v721
  let c0_i32_286 : BitVec 32 := 0#32
  let v723 : BitVec 1 := Scalar.cmpi .slt v719 c0_i32_286
  let v724 : BitVec 32 := Scalar.extui v723
  let v725 : BitVec 32 := Scalar.subi v722 v724
  let c16_i32_284 : BitVec 32 := 16#32
  let c0_i32_287 : BitVec 32 := 0#32
  let v726 : BitVec 1 := Scalar.cmpi .sgt c16_i32_284 c0_i32_287
  let v727 : BitVec 32 := Scalar.extui v726
  let c0_i32_288 : BitVec 32 := 0#32
  let v728 : BitVec 1 := Scalar.cmpi .slt c16_i32_284 c0_i32_288
  let v729 : BitVec 32 := Scalar.extui v728
  let v730 : BitVec 32 := Scalar.subi v727 v729
  let v731 : BitVec 1 := Scalar.cmpi .ne v725 v730
  let v732 : BitVec 32 := Scalar.remsi v719 c16_i32_284
  let c0_i32_289 : BitVec 32 := 0#32
  let v733 : BitVec 1 := Scalar.cmpi .ne v732 c0_i32_289
  let v734 : BitVec 1 := Scalar.andi v731 v733
  let v720 : BitVec 32 := Scalar.divsi v719 c16_i32_284
  let c1_i32_290 : BitVec 32 := 1#32
  let v735 : BitVec 32 := Scalar.subi v720 c1_i32_290
  let v736 : BitVec 32 := Scalar.select v734 v735 v720
  let c16_i32_291 : BitVec 32 := 16#32
  let v737 : BitVec 32 := Scalar.muli v736 c16_i32_291
  let c880_i32_292 : BitVec 32 := 880#32
  let v738 : BitVec 32 := Scalar.minsi v737 c880_i32_292
  let v739 : BitVec 32 := v738
  let v752 : Index := Scalar.indexCast v739
  let c0_296 : Index := 0#32
  ![0, 0, v752.toNat, 0]

def k0_chk17 (v719 : BitVec 32) : Prop :=
  (16 ∣ (k0_mult17 v719).toNat) ∧
  (∀ a, (k0_off34 v719) a + S1x1x144x1024.size a ≤ S1x16x1024x1024.size a)
theorem k0_mult17_dvd : ∀ (v719 : BitVec 32) (k0_hw17 : k0_chk17 v719), 16 ∣ (k0_mult17 v719).toNat := fun v719 k0_hw17 => k0_hw17.1
theorem k0_off34_inb : ∀ (v719 : BitVec 32) (k0_hw17 : k0_chk17 v719), ∀ a, (k0_off34 v719) a + S1x1x144x1024.size a ≤ S1x16x1024x1024.size a := fun v719 k0_hw17 => k0_hw17.2

def k0_off35 (i : grid0.Coords) : Fin 3 → Nat :=
  let arg0 : BitVec 32 := BitVec.ofNat 32 (i 0).val
  let v759 : Index := Scalar.indexCast arg0
  let c1_300 : Index := 1#32
  let arg1 : BitVec 32 := BitVec.ofNat 32 (i 1).val
  let c4_i32_298 : BitVec 32 := 4#32
  let v757 : BitVec 32 := Scalar.muli arg1 c4_i32_298
  let c1_i32_299 : BitVec 32 := 1#32
  let v758 : BitVec 32 := Scalar.addi v757 c1_i32_299
  let v760 : Index := Scalar.indexCast v758
  ![v759.toNat, 1, v760.toNat]
def k0_mult18 (v761 : BitVec 32) : BitVec 32 :=
  let c0_i32_302 : BitVec 32 := 0#32
  let v763 : BitVec 1 := Scalar.cmpi .sgt v761 c0_i32_302
  let v764 : BitVec 32 := Scalar.extui v763
  let c0_i32_303 : BitVec 32 := 0#32
  let v765 : BitVec 1 := Scalar.cmpi .slt v761 c0_i32_303
  let v766 : BitVec 32 := Scalar.extui v765
  let v767 : BitVec 32 := Scalar.subi v764 v766
  let c16_i32_301 : BitVec 32 := 16#32
  let c0_i32_304 : BitVec 32 := 0#32
  let v768 : BitVec 1 := Scalar.cmpi .sgt c16_i32_301 c0_i32_304
  let v769 : BitVec 32 := Scalar.extui v768
  let c0_i32_305 : BitVec 32 := 0#32
  let v770 : BitVec 1 := Scalar.cmpi .slt c16_i32_301 c0_i32_305
  let v771 : BitVec 32 := Scalar.extui v770
  let v772 : BitVec 32 := Scalar.subi v769 v771
  let v773 : BitVec 1 := Scalar.cmpi .ne v767 v772
  let v774 : BitVec 32 := Scalar.remsi v761 c16_i32_301
  let c0_i32_306 : BitVec 32 := 0#32
  let v775 : BitVec 1 := Scalar.cmpi .ne v774 c0_i32_306
  let v776 : BitVec 1 := Scalar.andi v773 v775
  let v762 : BitVec 32 := Scalar.divsi v761 c16_i32_301
  let c1_i32_307 : BitVec 32 := 1#32
  let v777 : BitVec 32 := Scalar.subi v762 c1_i32_307
  let v778 : BitVec 32 := Scalar.select v776 v777 v762
  let c16_i32_308 : BitVec 32 := 16#32
  let v779 : BitVec 32 := Scalar.muli v778 c16_i32_308
  let c880_i32_309 : BitVec 32 := 880#32
  let v780 : BitVec 32 := Scalar.minsi v779 c880_i32_309
  v780

def k0_off36 (v761 : BitVec 32) : Fin 4 → Nat :=
  let c0_311 : Index := 0#32
  let c1_312 : Index := 1#32
  let c0_i32_302 : BitVec 32 := 0#32
  let v763 : BitVec 1 := Scalar.cmpi .sgt v761 c0_i32_302
  let v764 : BitVec 32 := Scalar.extui v763
  let c0_i32_303 : BitVec 32 := 0#32
  let v765 : BitVec 1 := Scalar.cmpi .slt v761 c0_i32_303
  let v766 : BitVec 32 := Scalar.extui v765
  let v767 : BitVec 32 := Scalar.subi v764 v766
  let c16_i32_301 : BitVec 32 := 16#32
  let c0_i32_304 : BitVec 32 := 0#32
  let v768 : BitVec 1 := Scalar.cmpi .sgt c16_i32_301 c0_i32_304
  let v769 : BitVec 32 := Scalar.extui v768
  let c0_i32_305 : BitVec 32 := 0#32
  let v770 : BitVec 1 := Scalar.cmpi .slt c16_i32_301 c0_i32_305
  let v771 : BitVec 32 := Scalar.extui v770
  let v772 : BitVec 32 := Scalar.subi v769 v771
  let v773 : BitVec 1 := Scalar.cmpi .ne v767 v772
  let v774 : BitVec 32 := Scalar.remsi v761 c16_i32_301
  let c0_i32_306 : BitVec 32 := 0#32
  let v775 : BitVec 1 := Scalar.cmpi .ne v774 c0_i32_306
  let v776 : BitVec 1 := Scalar.andi v773 v775
  let v762 : BitVec 32 := Scalar.divsi v761 c16_i32_301
  let c1_i32_307 : BitVec 32 := 1#32
  let v777 : BitVec 32 := Scalar.subi v762 c1_i32_307
  let v778 : BitVec 32 := Scalar.select v776 v777 v762
  let c16_i32_308 : BitVec 32 := 16#32
  let v779 : BitVec 32 := Scalar.muli v778 c16_i32_308
  let c880_i32_309 : BitVec 32 := 880#32
  let v780 : BitVec 32 := Scalar.minsi v779 c880_i32_309
  let v781 : BitVec 32 := v780
  let v794 : Index := Scalar.indexCast v781
  let c0_313 : Index := 0#32
  ![0, 1, v794.toNat, 0]

def k0_chk18 (v761 : BitVec 32) : Prop :=
  (16 ∣ (k0_mult18 v761).toNat) ∧
  (∀ a, (k0_off36 v761) a + S1x1x144x1024.size a ≤ S1x16x1024x1024.size a)
theorem k0_mult18_dvd : ∀ (v761 : BitVec 32) (k0_hw18 : k0_chk18 v761), 16 ∣ (k0_mult18 v761).toNat := fun v761 k0_hw18 => k0_hw18.1
theorem k0_off36_inb : ∀ (v761 : BitVec 32) (k0_hw18 : k0_chk18 v761), ∀ a, (k0_off36 v761) a + S1x1x144x1024.size a ≤ S1x16x1024x1024.size a := fun v761 k0_hw18 => k0_hw18.2

def k0_off37 (i : grid0.Coords) : Fin 3 → Nat :=
  let arg0 : BitVec 32 := BitVec.ofNat 32 (i 0).val
  let v801 : Index := Scalar.indexCast arg0
  let c2_317 : Index := 2#32
  let arg1 : BitVec 32 := BitVec.ofNat 32 (i 1).val
  let c4_i32_315 : BitVec 32 := 4#32
  let v799 : BitVec 32 := Scalar.muli arg1 c4_i32_315
  let c1_i32_316 : BitVec 32 := 1#32
  let v800 : BitVec 32 := Scalar.addi v799 c1_i32_316
  let v802 : Index := Scalar.indexCast v800
  ![v801.toNat, 2, v802.toNat]
def k0_mult19 (v803 : BitVec 32) : BitVec 32 :=
  let c0_i32_319 : BitVec 32 := 0#32
  let v805 : BitVec 1 := Scalar.cmpi .sgt v803 c0_i32_319
  let v806 : BitVec 32 := Scalar.extui v805
  let c0_i32_320 : BitVec 32 := 0#32
  let v807 : BitVec 1 := Scalar.cmpi .slt v803 c0_i32_320
  let v808 : BitVec 32 := Scalar.extui v807
  let v809 : BitVec 32 := Scalar.subi v806 v808
  let c16_i32_318 : BitVec 32 := 16#32
  let c0_i32_321 : BitVec 32 := 0#32
  let v810 : BitVec 1 := Scalar.cmpi .sgt c16_i32_318 c0_i32_321
  let v811 : BitVec 32 := Scalar.extui v810
  let c0_i32_322 : BitVec 32 := 0#32
  let v812 : BitVec 1 := Scalar.cmpi .slt c16_i32_318 c0_i32_322
  let v813 : BitVec 32 := Scalar.extui v812
  let v814 : BitVec 32 := Scalar.subi v811 v813
  let v815 : BitVec 1 := Scalar.cmpi .ne v809 v814
  let v816 : BitVec 32 := Scalar.remsi v803 c16_i32_318
  let c0_i32_323 : BitVec 32 := 0#32
  let v817 : BitVec 1 := Scalar.cmpi .ne v816 c0_i32_323
  let v818 : BitVec 1 := Scalar.andi v815 v817
  let v804 : BitVec 32 := Scalar.divsi v803 c16_i32_318
  let c1_i32_324 : BitVec 32 := 1#32
  let v819 : BitVec 32 := Scalar.subi v804 c1_i32_324
  let v820 : BitVec 32 := Scalar.select v818 v819 v804
  let c16_i32_325 : BitVec 32 := 16#32
  let v821 : BitVec 32 := Scalar.muli v820 c16_i32_325
  let c880_i32_326 : BitVec 32 := 880#32
  let v822 : BitVec 32 := Scalar.minsi v821 c880_i32_326
  v822

def k0_off38 (v803 : BitVec 32) : Fin 4 → Nat :=
  let c0_328 : Index := 0#32
  let c2_329 : Index := 2#32
  let c0_i32_319 : BitVec 32 := 0#32
  let v805 : BitVec 1 := Scalar.cmpi .sgt v803 c0_i32_319
  let v806 : BitVec 32 := Scalar.extui v805
  let c0_i32_320 : BitVec 32 := 0#32
  let v807 : BitVec 1 := Scalar.cmpi .slt v803 c0_i32_320
  let v808 : BitVec 32 := Scalar.extui v807
  let v809 : BitVec 32 := Scalar.subi v806 v808
  let c16_i32_318 : BitVec 32 := 16#32
  let c0_i32_321 : BitVec 32 := 0#32
  let v810 : BitVec 1 := Scalar.cmpi .sgt c16_i32_318 c0_i32_321
  let v811 : BitVec 32 := Scalar.extui v810
  let c0_i32_322 : BitVec 32 := 0#32
  let v812 : BitVec 1 := Scalar.cmpi .slt c16_i32_318 c0_i32_322
  let v813 : BitVec 32 := Scalar.extui v812
  let v814 : BitVec 32 := Scalar.subi v811 v813
  let v815 : BitVec 1 := Scalar.cmpi .ne v809 v814
  let v816 : BitVec 32 := Scalar.remsi v803 c16_i32_318
  let c0_i32_323 : BitVec 32 := 0#32
  let v817 : BitVec 1 := Scalar.cmpi .ne v816 c0_i32_323
  let v818 : BitVec 1 := Scalar.andi v815 v817
  let v804 : BitVec 32 := Scalar.divsi v803 c16_i32_318
  let c1_i32_324 : BitVec 32 := 1#32
  let v819 : BitVec 32 := Scalar.subi v804 c1_i32_324
  let v820 : BitVec 32 := Scalar.select v818 v819 v804
  let c16_i32_325 : BitVec 32 := 16#32
  let v821 : BitVec 32 := Scalar.muli v820 c16_i32_325
  let c880_i32_326 : BitVec 32 := 880#32
  let v822 : BitVec 32 := Scalar.minsi v821 c880_i32_326
  let v823 : BitVec 32 := v822
  let v836 : Index := Scalar.indexCast v823
  let c0_330 : Index := 0#32
  ![0, 2, v836.toNat, 0]

def k0_chk19 (v803 : BitVec 32) : Prop :=
  (16 ∣ (k0_mult19 v803).toNat) ∧
  (∀ a, (k0_off38 v803) a + S1x1x144x1024.size a ≤ S1x16x1024x1024.size a)
theorem k0_mult19_dvd : ∀ (v803 : BitVec 32) (k0_hw19 : k0_chk19 v803), 16 ∣ (k0_mult19 v803).toNat := fun v803 k0_hw19 => k0_hw19.1
theorem k0_off38_inb : ∀ (v803 : BitVec 32) (k0_hw19 : k0_chk19 v803), ∀ a, (k0_off38 v803) a + S1x1x144x1024.size a ≤ S1x16x1024x1024.size a := fun v803 k0_hw19 => k0_hw19.2

def k0_off39 (i : grid0.Coords) : Fin 3 → Nat :=
  let arg0 : BitVec 32 := BitVec.ofNat 32 (i 0).val
  let v843 : Index := Scalar.indexCast arg0
  let c3_334 : Index := 3#32
  let arg1 : BitVec 32 := BitVec.ofNat 32 (i 1).val
  let c4_i32_332 : BitVec 32 := 4#32
  let v841 : BitVec 32 := Scalar.muli arg1 c4_i32_332
  let c1_i32_333 : BitVec 32 := 1#32
  let v842 : BitVec 32 := Scalar.addi v841 c1_i32_333
  let v844 : Index := Scalar.indexCast v842
  ![v843.toNat, 3, v844.toNat]
def k0_mult20 (v845 : BitVec 32) : BitVec 32 :=
  let c0_i32_336 : BitVec 32 := 0#32
  let v847 : BitVec 1 := Scalar.cmpi .sgt v845 c0_i32_336
  let v848 : BitVec 32 := Scalar.extui v847
  let c0_i32_337 : BitVec 32 := 0#32
  let v849 : BitVec 1 := Scalar.cmpi .slt v845 c0_i32_337
  let v850 : BitVec 32 := Scalar.extui v849
  let v851 : BitVec 32 := Scalar.subi v848 v850
  let c16_i32_335 : BitVec 32 := 16#32
  let c0_i32_338 : BitVec 32 := 0#32
  let v852 : BitVec 1 := Scalar.cmpi .sgt c16_i32_335 c0_i32_338
  let v853 : BitVec 32 := Scalar.extui v852
  let c0_i32_339 : BitVec 32 := 0#32
  let v854 : BitVec 1 := Scalar.cmpi .slt c16_i32_335 c0_i32_339
  let v855 : BitVec 32 := Scalar.extui v854
  let v856 : BitVec 32 := Scalar.subi v853 v855
  let v857 : BitVec 1 := Scalar.cmpi .ne v851 v856
  let v858 : BitVec 32 := Scalar.remsi v845 c16_i32_335
  let c0_i32_340 : BitVec 32 := 0#32
  let v859 : BitVec 1 := Scalar.cmpi .ne v858 c0_i32_340
  let v860 : BitVec 1 := Scalar.andi v857 v859
  let v846 : BitVec 32 := Scalar.divsi v845 c16_i32_335
  let c1_i32_341 : BitVec 32 := 1#32
  let v861 : BitVec 32 := Scalar.subi v846 c1_i32_341
  let v862 : BitVec 32 := Scalar.select v860 v861 v846
  let c16_i32_342 : BitVec 32 := 16#32
  let v863 : BitVec 32 := Scalar.muli v862 c16_i32_342
  let c880_i32_343 : BitVec 32 := 880#32
  let v864 : BitVec 32 := Scalar.minsi v863 c880_i32_343
  v864

def k0_off40 (v845 : BitVec 32) : Fin 4 → Nat :=
  let c0_345 : Index := 0#32
  let c3_346 : Index := 3#32
  let c0_i32_336 : BitVec 32 := 0#32
  let v847 : BitVec 1 := Scalar.cmpi .sgt v845 c0_i32_336
  let v848 : BitVec 32 := Scalar.extui v847
  let c0_i32_337 : BitVec 32 := 0#32
  let v849 : BitVec 1 := Scalar.cmpi .slt v845 c0_i32_337
  let v850 : BitVec 32 := Scalar.extui v849
  let v851 : BitVec 32 := Scalar.subi v848 v850
  let c16_i32_335 : BitVec 32 := 16#32
  let c0_i32_338 : BitVec 32 := 0#32
  let v852 : BitVec 1 := Scalar.cmpi .sgt c16_i32_335 c0_i32_338
  let v853 : BitVec 32 := Scalar.extui v852
  let c0_i32_339 : BitVec 32 := 0#32
  let v854 : BitVec 1 := Scalar.cmpi .slt c16_i32_335 c0_i32_339
  let v855 : BitVec 32 := Scalar.extui v854
  let v856 : BitVec 32 := Scalar.subi v853 v855
  let v857 : BitVec 1 := Scalar.cmpi .ne v851 v856
  let v858 : BitVec 32 := Scalar.remsi v845 c16_i32_335
  let c0_i32_340 : BitVec 32 := 0#32
  let v859 : BitVec 1 := Scalar.cmpi .ne v858 c0_i32_340
  let v860 : BitVec 1 := Scalar.andi v857 v859
  let v846 : BitVec 32 := Scalar.divsi v845 c16_i32_335
  let c1_i32_341 : BitVec 32 := 1#32
  let v861 : BitVec 32 := Scalar.subi v846 c1_i32_341
  let v862 : BitVec 32 := Scalar.select v860 v861 v846
  let c16_i32_342 : BitVec 32 := 16#32
  let v863 : BitVec 32 := Scalar.muli v862 c16_i32_342
  let c880_i32_343 : BitVec 32 := 880#32
  let v864 : BitVec 32 := Scalar.minsi v863 c880_i32_343
  let v865 : BitVec 32 := v864
  let v878 : Index := Scalar.indexCast v865
  let c0_347 : Index := 0#32
  ![0, 3, v878.toNat, 0]

def k0_chk20 (v845 : BitVec 32) : Prop :=
  (16 ∣ (k0_mult20 v845).toNat) ∧
  (∀ a, (k0_off40 v845) a + S1x1x144x1024.size a ≤ S1x16x1024x1024.size a)
theorem k0_mult20_dvd : ∀ (v845 : BitVec 32) (k0_hw20 : k0_chk20 v845), 16 ∣ (k0_mult20 v845).toNat := fun v845 k0_hw20 => k0_hw20.1
theorem k0_off40_inb : ∀ (v845 : BitVec 32) (k0_hw20 : k0_chk20 v845), ∀ a, (k0_off40 v845) a + S1x1x144x1024.size a ≤ S1x16x1024x1024.size a := fun v845 k0_hw20 => k0_hw20.2

def k0_off41 (i : grid0.Coords) : Fin 3 → Nat :=
  let arg0 : BitVec 32 := BitVec.ofNat 32 (i 0).val
  let v885 : Index := Scalar.indexCast arg0
  let c4_351 : Index := 4#32
  let arg1 : BitVec 32 := BitVec.ofNat 32 (i 1).val
  let c4_i32_349 : BitVec 32 := 4#32
  let v883 : BitVec 32 := Scalar.muli arg1 c4_i32_349
  let c1_i32_350 : BitVec 32 := 1#32
  let v884 : BitVec 32 := Scalar.addi v883 c1_i32_350
  let v886 : Index := Scalar.indexCast v884
  ![v885.toNat, 4, v886.toNat]
def k0_mult21 (v887 : BitVec 32) : BitVec 32 :=
  let c0_i32_353 : BitVec 32 := 0#32
  let v889 : BitVec 1 := Scalar.cmpi .sgt v887 c0_i32_353
  let v890 : BitVec 32 := Scalar.extui v889
  let c0_i32_354 : BitVec 32 := 0#32
  let v891 : BitVec 1 := Scalar.cmpi .slt v887 c0_i32_354
  let v892 : BitVec 32 := Scalar.extui v891
  let v893 : BitVec 32 := Scalar.subi v890 v892
  let c16_i32_352 : BitVec 32 := 16#32
  let c0_i32_355 : BitVec 32 := 0#32
  let v894 : BitVec 1 := Scalar.cmpi .sgt c16_i32_352 c0_i32_355
  let v895 : BitVec 32 := Scalar.extui v894
  let c0_i32_356 : BitVec 32 := 0#32
  let v896 : BitVec 1 := Scalar.cmpi .slt c16_i32_352 c0_i32_356
  let v897 : BitVec 32 := Scalar.extui v896
  let v898 : BitVec 32 := Scalar.subi v895 v897
  let v899 : BitVec 1 := Scalar.cmpi .ne v893 v898
  let v900 : BitVec 32 := Scalar.remsi v887 c16_i32_352
  let c0_i32_357 : BitVec 32 := 0#32
  let v901 : BitVec 1 := Scalar.cmpi .ne v900 c0_i32_357
  let v902 : BitVec 1 := Scalar.andi v899 v901
  let v888 : BitVec 32 := Scalar.divsi v887 c16_i32_352
  let c1_i32_358 : BitVec 32 := 1#32
  let v903 : BitVec 32 := Scalar.subi v888 c1_i32_358
  let v904 : BitVec 32 := Scalar.select v902 v903 v888
  let c16_i32_359 : BitVec 32 := 16#32
  let v905 : BitVec 32 := Scalar.muli v904 c16_i32_359
  let c880_i32_360 : BitVec 32 := 880#32
  let v906 : BitVec 32 := Scalar.minsi v905 c880_i32_360
  v906

def k0_off42 (v887 : BitVec 32) : Fin 4 → Nat :=
  let c0_362 : Index := 0#32
  let c4_363 : Index := 4#32
  let c0_i32_353 : BitVec 32 := 0#32
  let v889 : BitVec 1 := Scalar.cmpi .sgt v887 c0_i32_353
  let v890 : BitVec 32 := Scalar.extui v889
  let c0_i32_354 : BitVec 32 := 0#32
  let v891 : BitVec 1 := Scalar.cmpi .slt v887 c0_i32_354
  let v892 : BitVec 32 := Scalar.extui v891
  let v893 : BitVec 32 := Scalar.subi v890 v892
  let c16_i32_352 : BitVec 32 := 16#32
  let c0_i32_355 : BitVec 32 := 0#32
  let v894 : BitVec 1 := Scalar.cmpi .sgt c16_i32_352 c0_i32_355
  let v895 : BitVec 32 := Scalar.extui v894
  let c0_i32_356 : BitVec 32 := 0#32
  let v896 : BitVec 1 := Scalar.cmpi .slt c16_i32_352 c0_i32_356
  let v897 : BitVec 32 := Scalar.extui v896
  let v898 : BitVec 32 := Scalar.subi v895 v897
  let v899 : BitVec 1 := Scalar.cmpi .ne v893 v898
  let v900 : BitVec 32 := Scalar.remsi v887 c16_i32_352
  let c0_i32_357 : BitVec 32 := 0#32
  let v901 : BitVec 1 := Scalar.cmpi .ne v900 c0_i32_357
  let v902 : BitVec 1 := Scalar.andi v899 v901
  let v888 : BitVec 32 := Scalar.divsi v887 c16_i32_352
  let c1_i32_358 : BitVec 32 := 1#32
  let v903 : BitVec 32 := Scalar.subi v888 c1_i32_358
  let v904 : BitVec 32 := Scalar.select v902 v903 v888
  let c16_i32_359 : BitVec 32 := 16#32
  let v905 : BitVec 32 := Scalar.muli v904 c16_i32_359
  let c880_i32_360 : BitVec 32 := 880#32
  let v906 : BitVec 32 := Scalar.minsi v905 c880_i32_360
  let v907 : BitVec 32 := v906
  let v920 : Index := Scalar.indexCast v907
  let c0_364 : Index := 0#32
  ![0, 4, v920.toNat, 0]

def k0_chk21 (v887 : BitVec 32) : Prop :=
  (16 ∣ (k0_mult21 v887).toNat) ∧
  (∀ a, (k0_off42 v887) a + S1x1x144x1024.size a ≤ S1x16x1024x1024.size a)
theorem k0_mult21_dvd : ∀ (v887 : BitVec 32) (k0_hw21 : k0_chk21 v887), 16 ∣ (k0_mult21 v887).toNat := fun v887 k0_hw21 => k0_hw21.1
theorem k0_off42_inb : ∀ (v887 : BitVec 32) (k0_hw21 : k0_chk21 v887), ∀ a, (k0_off42 v887) a + S1x1x144x1024.size a ≤ S1x16x1024x1024.size a := fun v887 k0_hw21 => k0_hw21.2

def k0_off43 (i : grid0.Coords) : Fin 3 → Nat :=
  let arg0 : BitVec 32 := BitVec.ofNat 32 (i 0).val
  let v927 : Index := Scalar.indexCast arg0
  let c5_368 : Index := 5#32
  let arg1 : BitVec 32 := BitVec.ofNat 32 (i 1).val
  let c4_i32_366 : BitVec 32 := 4#32
  let v925 : BitVec 32 := Scalar.muli arg1 c4_i32_366
  let c1_i32_367 : BitVec 32 := 1#32
  let v926 : BitVec 32 := Scalar.addi v925 c1_i32_367
  let v928 : Index := Scalar.indexCast v926
  ![v927.toNat, 5, v928.toNat]
def k0_mult22 (v929 : BitVec 32) : BitVec 32 :=
  let c0_i32_370 : BitVec 32 := 0#32
  let v931 : BitVec 1 := Scalar.cmpi .sgt v929 c0_i32_370
  let v932 : BitVec 32 := Scalar.extui v931
  let c0_i32_371 : BitVec 32 := 0#32
  let v933 : BitVec 1 := Scalar.cmpi .slt v929 c0_i32_371
  let v934 : BitVec 32 := Scalar.extui v933
  let v935 : BitVec 32 := Scalar.subi v932 v934
  let c16_i32_369 : BitVec 32 := 16#32
  let c0_i32_372 : BitVec 32 := 0#32
  let v936 : BitVec 1 := Scalar.cmpi .sgt c16_i32_369 c0_i32_372
  let v937 : BitVec 32 := Scalar.extui v936
  let c0_i32_373 : BitVec 32 := 0#32
  let v938 : BitVec 1 := Scalar.cmpi .slt c16_i32_369 c0_i32_373
  let v939 : BitVec 32 := Scalar.extui v938
  let v940 : BitVec 32 := Scalar.subi v937 v939
  let v941 : BitVec 1 := Scalar.cmpi .ne v935 v940
  let v942 : BitVec 32 := Scalar.remsi v929 c16_i32_369
  let c0_i32_374 : BitVec 32 := 0#32
  let v943 : BitVec 1 := Scalar.cmpi .ne v942 c0_i32_374
  let v944 : BitVec 1 := Scalar.andi v941 v943
  let v930 : BitVec 32 := Scalar.divsi v929 c16_i32_369
  let c1_i32_375 : BitVec 32 := 1#32
  let v945 : BitVec 32 := Scalar.subi v930 c1_i32_375
  let v946 : BitVec 32 := Scalar.select v944 v945 v930
  let c16_i32_376 : BitVec 32 := 16#32
  let v947 : BitVec 32 := Scalar.muli v946 c16_i32_376
  let c880_i32_377 : BitVec 32 := 880#32
  let v948 : BitVec 32 := Scalar.minsi v947 c880_i32_377
  v948

def k0_off44 (v929 : BitVec 32) : Fin 4 → Nat :=
  let c0_379 : Index := 0#32
  let c5_380 : Index := 5#32
  let c0_i32_370 : BitVec 32 := 0#32
  let v931 : BitVec 1 := Scalar.cmpi .sgt v929 c0_i32_370
  let v932 : BitVec 32 := Scalar.extui v931
  let c0_i32_371 : BitVec 32 := 0#32
  let v933 : BitVec 1 := Scalar.cmpi .slt v929 c0_i32_371
  let v934 : BitVec 32 := Scalar.extui v933
  let v935 : BitVec 32 := Scalar.subi v932 v934
  let c16_i32_369 : BitVec 32 := 16#32
  let c0_i32_372 : BitVec 32 := 0#32
  let v936 : BitVec 1 := Scalar.cmpi .sgt c16_i32_369 c0_i32_372
  let v937 : BitVec 32 := Scalar.extui v936
  let c0_i32_373 : BitVec 32 := 0#32
  let v938 : BitVec 1 := Scalar.cmpi .slt c16_i32_369 c0_i32_373
  let v939 : BitVec 32 := Scalar.extui v938
  let v940 : BitVec 32 := Scalar.subi v937 v939
  let v941 : BitVec 1 := Scalar.cmpi .ne v935 v940
  let v942 : BitVec 32 := Scalar.remsi v929 c16_i32_369
  let c0_i32_374 : BitVec 32 := 0#32
  let v943 : BitVec 1 := Scalar.cmpi .ne v942 c0_i32_374
  let v944 : BitVec 1 := Scalar.andi v941 v943
  let v930 : BitVec 32 := Scalar.divsi v929 c16_i32_369
  let c1_i32_375 : BitVec 32 := 1#32
  let v945 : BitVec 32 := Scalar.subi v930 c1_i32_375
  let v946 : BitVec 32 := Scalar.select v944 v945 v930
  let c16_i32_376 : BitVec 32 := 16#32
  let v947 : BitVec 32 := Scalar.muli v946 c16_i32_376
  let c880_i32_377 : BitVec 32 := 880#32
  let v948 : BitVec 32 := Scalar.minsi v947 c880_i32_377
  let v949 : BitVec 32 := v948
  let v962 : Index := Scalar.indexCast v949
  let c0_381 : Index := 0#32
  ![0, 5, v962.toNat, 0]

def k0_chk22 (v929 : BitVec 32) : Prop :=
  (16 ∣ (k0_mult22 v929).toNat) ∧
  (∀ a, (k0_off44 v929) a + S1x1x144x1024.size a ≤ S1x16x1024x1024.size a)
theorem k0_mult22_dvd : ∀ (v929 : BitVec 32) (k0_hw22 : k0_chk22 v929), 16 ∣ (k0_mult22 v929).toNat := fun v929 k0_hw22 => k0_hw22.1
theorem k0_off44_inb : ∀ (v929 : BitVec 32) (k0_hw22 : k0_chk22 v929), ∀ a, (k0_off44 v929) a + S1x1x144x1024.size a ≤ S1x16x1024x1024.size a := fun v929 k0_hw22 => k0_hw22.2

def k0_off45 (i : grid0.Coords) : Fin 3 → Nat :=
  let arg0 : BitVec 32 := BitVec.ofNat 32 (i 0).val
  let v969 : Index := Scalar.indexCast arg0
  let c6_385 : Index := 6#32
  let arg1 : BitVec 32 := BitVec.ofNat 32 (i 1).val
  let c4_i32_383 : BitVec 32 := 4#32
  let v967 : BitVec 32 := Scalar.muli arg1 c4_i32_383
  let c1_i32_384 : BitVec 32 := 1#32
  let v968 : BitVec 32 := Scalar.addi v967 c1_i32_384
  let v970 : Index := Scalar.indexCast v968
  ![v969.toNat, 6, v970.toNat]
def k0_mult23 (v971 : BitVec 32) : BitVec 32 :=
  let c0_i32_387 : BitVec 32 := 0#32
  let v973 : BitVec 1 := Scalar.cmpi .sgt v971 c0_i32_387
  let v974 : BitVec 32 := Scalar.extui v973
  let c0_i32_388 : BitVec 32 := 0#32
  let v975 : BitVec 1 := Scalar.cmpi .slt v971 c0_i32_388
  let v976 : BitVec 32 := Scalar.extui v975
  let v977 : BitVec 32 := Scalar.subi v974 v976
  let c16_i32_386 : BitVec 32 := 16#32
  let c0_i32_389 : BitVec 32 := 0#32
  let v978 : BitVec 1 := Scalar.cmpi .sgt c16_i32_386 c0_i32_389
  let v979 : BitVec 32 := Scalar.extui v978
  let c0_i32_390 : BitVec 32 := 0#32
  let v980 : BitVec 1 := Scalar.cmpi .slt c16_i32_386 c0_i32_390
  let v981 : BitVec 32 := Scalar.extui v980
  let v982 : BitVec 32 := Scalar.subi v979 v981
  let v983 : BitVec 1 := Scalar.cmpi .ne v977 v982
  let v984 : BitVec 32 := Scalar.remsi v971 c16_i32_386
  let c0_i32_391 : BitVec 32 := 0#32
  let v985 : BitVec 1 := Scalar.cmpi .ne v984 c0_i32_391
  let v986 : BitVec 1 := Scalar.andi v983 v985
  let v972 : BitVec 32 := Scalar.divsi v971 c16_i32_386
  let c1_i32_392 : BitVec 32 := 1#32
  let v987 : BitVec 32 := Scalar.subi v972 c1_i32_392
  let v988 : BitVec 32 := Scalar.select v986 v987 v972
  let c16_i32_393 : BitVec 32 := 16#32
  let v989 : BitVec 32 := Scalar.muli v988 c16_i32_393
  let c880_i32_394 : BitVec 32 := 880#32
  let v990 : BitVec 32 := Scalar.minsi v989 c880_i32_394
  v990

def k0_off46 (v971 : BitVec 32) : Fin 4 → Nat :=
  let c0_396 : Index := 0#32
  let c6_397 : Index := 6#32
  let c0_i32_387 : BitVec 32 := 0#32
  let v973 : BitVec 1 := Scalar.cmpi .sgt v971 c0_i32_387
  let v974 : BitVec 32 := Scalar.extui v973
  let c0_i32_388 : BitVec 32 := 0#32
  let v975 : BitVec 1 := Scalar.cmpi .slt v971 c0_i32_388
  let v976 : BitVec 32 := Scalar.extui v975
  let v977 : BitVec 32 := Scalar.subi v974 v976
  let c16_i32_386 : BitVec 32 := 16#32
  let c0_i32_389 : BitVec 32 := 0#32
  let v978 : BitVec 1 := Scalar.cmpi .sgt c16_i32_386 c0_i32_389
  let v979 : BitVec 32 := Scalar.extui v978
  let c0_i32_390 : BitVec 32 := 0#32
  let v980 : BitVec 1 := Scalar.cmpi .slt c16_i32_386 c0_i32_390
  let v981 : BitVec 32 := Scalar.extui v980
  let v982 : BitVec 32 := Scalar.subi v979 v981
  let v983 : BitVec 1 := Scalar.cmpi .ne v977 v982
  let v984 : BitVec 32 := Scalar.remsi v971 c16_i32_386
  let c0_i32_391 : BitVec 32 := 0#32
  let v985 : BitVec 1 := Scalar.cmpi .ne v984 c0_i32_391
  let v986 : BitVec 1 := Scalar.andi v983 v985
  let v972 : BitVec 32 := Scalar.divsi v971 c16_i32_386
  let c1_i32_392 : BitVec 32 := 1#32
  let v987 : BitVec 32 := Scalar.subi v972 c1_i32_392
  let v988 : BitVec 32 := Scalar.select v986 v987 v972
  let c16_i32_393 : BitVec 32 := 16#32
  let v989 : BitVec 32 := Scalar.muli v988 c16_i32_393
  let c880_i32_394 : BitVec 32 := 880#32
  let v990 : BitVec 32 := Scalar.minsi v989 c880_i32_394
  let v991 : BitVec 32 := v990
  let v1004 : Index := Scalar.indexCast v991
  let c0_398 : Index := 0#32
  ![0, 6, v1004.toNat, 0]

def k0_chk23 (v971 : BitVec 32) : Prop :=
  (16 ∣ (k0_mult23 v971).toNat) ∧
  (∀ a, (k0_off46 v971) a + S1x1x144x1024.size a ≤ S1x16x1024x1024.size a)
theorem k0_mult23_dvd : ∀ (v971 : BitVec 32) (k0_hw23 : k0_chk23 v971), 16 ∣ (k0_mult23 v971).toNat := fun v971 k0_hw23 => k0_hw23.1
theorem k0_off46_inb : ∀ (v971 : BitVec 32) (k0_hw23 : k0_chk23 v971), ∀ a, (k0_off46 v971) a + S1x1x144x1024.size a ≤ S1x16x1024x1024.size a := fun v971 k0_hw23 => k0_hw23.2

def k0_off47 (i : grid0.Coords) : Fin 3 → Nat :=
  let arg0 : BitVec 32 := BitVec.ofNat 32 (i 0).val
  let v1011 : Index := Scalar.indexCast arg0
  let c7_402 : Index := 7#32
  let arg1 : BitVec 32 := BitVec.ofNat 32 (i 1).val
  let c4_i32_400 : BitVec 32 := 4#32
  let v1009 : BitVec 32 := Scalar.muli arg1 c4_i32_400
  let c1_i32_401 : BitVec 32 := 1#32
  let v1010 : BitVec 32 := Scalar.addi v1009 c1_i32_401
  let v1012 : Index := Scalar.indexCast v1010
  ![v1011.toNat, 7, v1012.toNat]
def k0_mult24 (v1013 : BitVec 32) : BitVec 32 :=
  let c0_i32_404 : BitVec 32 := 0#32
  let v1015 : BitVec 1 := Scalar.cmpi .sgt v1013 c0_i32_404
  let v1016 : BitVec 32 := Scalar.extui v1015
  let c0_i32_405 : BitVec 32 := 0#32
  let v1017 : BitVec 1 := Scalar.cmpi .slt v1013 c0_i32_405
  let v1018 : BitVec 32 := Scalar.extui v1017
  let v1019 : BitVec 32 := Scalar.subi v1016 v1018
  let c16_i32_403 : BitVec 32 := 16#32
  let c0_i32_406 : BitVec 32 := 0#32
  let v1020 : BitVec 1 := Scalar.cmpi .sgt c16_i32_403 c0_i32_406
  let v1021 : BitVec 32 := Scalar.extui v1020
  let c0_i32_407 : BitVec 32 := 0#32
  let v1022 : BitVec 1 := Scalar.cmpi .slt c16_i32_403 c0_i32_407
  let v1023 : BitVec 32 := Scalar.extui v1022
  let v1024 : BitVec 32 := Scalar.subi v1021 v1023
  let v1025 : BitVec 1 := Scalar.cmpi .ne v1019 v1024
  let v1026 : BitVec 32 := Scalar.remsi v1013 c16_i32_403
  let c0_i32_408 : BitVec 32 := 0#32
  let v1027 : BitVec 1 := Scalar.cmpi .ne v1026 c0_i32_408
  let v1028 : BitVec 1 := Scalar.andi v1025 v1027
  let v1014 : BitVec 32 := Scalar.divsi v1013 c16_i32_403
  let c1_i32_409 : BitVec 32 := 1#32
  let v1029 : BitVec 32 := Scalar.subi v1014 c1_i32_409
  let v1030 : BitVec 32 := Scalar.select v1028 v1029 v1014
  let c16_i32_410 : BitVec 32 := 16#32
  let v1031 : BitVec 32 := Scalar.muli v1030 c16_i32_410
  let c880_i32_411 : BitVec 32 := 880#32
  let v1032 : BitVec 32 := Scalar.minsi v1031 c880_i32_411
  v1032

def k0_off48 (v1013 : BitVec 32) : Fin 4 → Nat :=
  let c0_413 : Index := 0#32
  let c7_414 : Index := 7#32
  let c0_i32_404 : BitVec 32 := 0#32
  let v1015 : BitVec 1 := Scalar.cmpi .sgt v1013 c0_i32_404
  let v1016 : BitVec 32 := Scalar.extui v1015
  let c0_i32_405 : BitVec 32 := 0#32
  let v1017 : BitVec 1 := Scalar.cmpi .slt v1013 c0_i32_405
  let v1018 : BitVec 32 := Scalar.extui v1017
  let v1019 : BitVec 32 := Scalar.subi v1016 v1018
  let c16_i32_403 : BitVec 32 := 16#32
  let c0_i32_406 : BitVec 32 := 0#32
  let v1020 : BitVec 1 := Scalar.cmpi .sgt c16_i32_403 c0_i32_406
  let v1021 : BitVec 32 := Scalar.extui v1020
  let c0_i32_407 : BitVec 32 := 0#32
  let v1022 : BitVec 1 := Scalar.cmpi .slt c16_i32_403 c0_i32_407
  let v1023 : BitVec 32 := Scalar.extui v1022
  let v1024 : BitVec 32 := Scalar.subi v1021 v1023
  let v1025 : BitVec 1 := Scalar.cmpi .ne v1019 v1024
  let v1026 : BitVec 32 := Scalar.remsi v1013 c16_i32_403
  let c0_i32_408 : BitVec 32 := 0#32
  let v1027 : BitVec 1 := Scalar.cmpi .ne v1026 c0_i32_408
  let v1028 : BitVec 1 := Scalar.andi v1025 v1027
  let v1014 : BitVec 32 := Scalar.divsi v1013 c16_i32_403
  let c1_i32_409 : BitVec 32 := 1#32
  let v1029 : BitVec 32 := Scalar.subi v1014 c1_i32_409
  let v1030 : BitVec 32 := Scalar.select v1028 v1029 v1014
  let c16_i32_410 : BitVec 32 := 16#32
  let v1031 : BitVec 32 := Scalar.muli v1030 c16_i32_410
  let c880_i32_411 : BitVec 32 := 880#32
  let v1032 : BitVec 32 := Scalar.minsi v1031 c880_i32_411
  let v1033 : BitVec 32 := v1032
  let v1046 : Index := Scalar.indexCast v1033
  let c0_415 : Index := 0#32
  ![0, 7, v1046.toNat, 0]

def k0_chk24 (v1013 : BitVec 32) : Prop :=
  (16 ∣ (k0_mult24 v1013).toNat) ∧
  (∀ a, (k0_off48 v1013) a + S1x1x144x1024.size a ≤ S1x16x1024x1024.size a)
theorem k0_mult24_dvd : ∀ (v1013 : BitVec 32) (k0_hw24 : k0_chk24 v1013), 16 ∣ (k0_mult24 v1013).toNat := fun v1013 k0_hw24 => k0_hw24.1
theorem k0_off48_inb : ∀ (v1013 : BitVec 32) (k0_hw24 : k0_chk24 v1013), ∀ a, (k0_off48 v1013) a + S1x1x144x1024.size a ≤ S1x16x1024x1024.size a := fun v1013 k0_hw24 => k0_hw24.2

def k0_off49 (i : grid0.Coords) : Fin 3 → Nat :=
  let arg0 : BitVec 32 := BitVec.ofNat 32 (i 0).val
  let v1053 : Index := Scalar.indexCast arg0
  let c8_419 : Index := 8#32
  let arg1 : BitVec 32 := BitVec.ofNat 32 (i 1).val
  let c4_i32_417 : BitVec 32 := 4#32
  let v1051 : BitVec 32 := Scalar.muli arg1 c4_i32_417
  let c1_i32_418 : BitVec 32 := 1#32
  let v1052 : BitVec 32 := Scalar.addi v1051 c1_i32_418
  let v1054 : Index := Scalar.indexCast v1052
  ![v1053.toNat, 8, v1054.toNat]
def k0_mult25 (v1055 : BitVec 32) : BitVec 32 :=
  let c0_i32_421 : BitVec 32 := 0#32
  let v1057 : BitVec 1 := Scalar.cmpi .sgt v1055 c0_i32_421
  let v1058 : BitVec 32 := Scalar.extui v1057
  let c0_i32_422 : BitVec 32 := 0#32
  let v1059 : BitVec 1 := Scalar.cmpi .slt v1055 c0_i32_422
  let v1060 : BitVec 32 := Scalar.extui v1059
  let v1061 : BitVec 32 := Scalar.subi v1058 v1060
  let c16_i32_420 : BitVec 32 := 16#32
  let c0_i32_423 : BitVec 32 := 0#32
  let v1062 : BitVec 1 := Scalar.cmpi .sgt c16_i32_420 c0_i32_423
  let v1063 : BitVec 32 := Scalar.extui v1062
  let c0_i32_424 : BitVec 32 := 0#32
  let v1064 : BitVec 1 := Scalar.cmpi .slt c16_i32_420 c0_i32_424
  let v1065 : BitVec 32 := Scalar.extui v1064
  let v1066 : BitVec 32 := Scalar.subi v1063 v1065
  let v1067 : BitVec 1 := Scalar.cmpi .ne v1061 v1066
  let v1068 : BitVec 32 := Scalar.remsi v1055 c16_i32_420
  let c0_i32_425 : BitVec 32 := 0#32
  let v1069 : BitVec 1 := Scalar.cmpi .ne v1068 c0_i32_425
  let v1070 : BitVec 1 := Scalar.andi v1067 v1069
  let v1056 : BitVec 32 := Scalar.divsi v1055 c16_i32_420
  let c1_i32_426 : BitVec 32 := 1#32
  let v1071 : BitVec 32 := Scalar.subi v1056 c1_i32_426
  let v1072 : BitVec 32 := Scalar.select v1070 v1071 v1056
  let c16_i32_427 : BitVec 32 := 16#32
  let v1073 : BitVec 32 := Scalar.muli v1072 c16_i32_427
  let c880_i32_428 : BitVec 32 := 880#32
  let v1074 : BitVec 32 := Scalar.minsi v1073 c880_i32_428
  v1074

def k0_off50 (v1055 : BitVec 32) : Fin 4 → Nat :=
  let c0_430 : Index := 0#32
  let c8_431 : Index := 8#32
  let c0_i32_421 : BitVec 32 := 0#32
  let v1057 : BitVec 1 := Scalar.cmpi .sgt v1055 c0_i32_421
  let v1058 : BitVec 32 := Scalar.extui v1057
  let c0_i32_422 : BitVec 32 := 0#32
  let v1059 : BitVec 1 := Scalar.cmpi .slt v1055 c0_i32_422
  let v1060 : BitVec 32 := Scalar.extui v1059
  let v1061 : BitVec 32 := Scalar.subi v1058 v1060
  let c16_i32_420 : BitVec 32 := 16#32
  let c0_i32_423 : BitVec 32 := 0#32
  let v1062 : BitVec 1 := Scalar.cmpi .sgt c16_i32_420 c0_i32_423
  let v1063 : BitVec 32 := Scalar.extui v1062
  let c0_i32_424 : BitVec 32 := 0#32
  let v1064 : BitVec 1 := Scalar.cmpi .slt c16_i32_420 c0_i32_424
  let v1065 : BitVec 32 := Scalar.extui v1064
  let v1066 : BitVec 32 := Scalar.subi v1063 v1065
  let v1067 : BitVec 1 := Scalar.cmpi .ne v1061 v1066
  let v1068 : BitVec 32 := Scalar.remsi v1055 c16_i32_420
  let c0_i32_425 : BitVec 32 := 0#32
  let v1069 : BitVec 1 := Scalar.cmpi .ne v1068 c0_i32_425
  let v1070 : BitVec 1 := Scalar.andi v1067 v1069
  let v1056 : BitVec 32 := Scalar.divsi v1055 c16_i32_420
  let c1_i32_426 : BitVec 32 := 1#32
  let v1071 : BitVec 32 := Scalar.subi v1056 c1_i32_426
  let v1072 : BitVec 32 := Scalar.select v1070 v1071 v1056
  let c16_i32_427 : BitVec 32 := 16#32
  let v1073 : BitVec 32 := Scalar.muli v1072 c16_i32_427
  let c880_i32_428 : BitVec 32 := 880#32
  let v1074 : BitVec 32 := Scalar.minsi v1073 c880_i32_428
  let v1075 : BitVec 32 := v1074
  let v1088 : Index := Scalar.indexCast v1075
  let c0_432 : Index := 0#32
  ![0, 8, v1088.toNat, 0]

def k0_chk25 (v1055 : BitVec 32) : Prop :=
  (16 ∣ (k0_mult25 v1055).toNat) ∧
  (∀ a, (k0_off50 v1055) a + S1x1x144x1024.size a ≤ S1x16x1024x1024.size a)
theorem k0_mult25_dvd : ∀ (v1055 : BitVec 32) (k0_hw25 : k0_chk25 v1055), 16 ∣ (k0_mult25 v1055).toNat := fun v1055 k0_hw25 => k0_hw25.1
theorem k0_off50_inb : ∀ (v1055 : BitVec 32) (k0_hw25 : k0_chk25 v1055), ∀ a, (k0_off50 v1055) a + S1x1x144x1024.size a ≤ S1x16x1024x1024.size a := fun v1055 k0_hw25 => k0_hw25.2

def k0_off51 (i : grid0.Coords) : Fin 3 → Nat :=
  let arg0 : BitVec 32 := BitVec.ofNat 32 (i 0).val
  let v1095 : Index := Scalar.indexCast arg0
  let c9_436 : Index := 9#32
  let arg1 : BitVec 32 := BitVec.ofNat 32 (i 1).val
  let c4_i32_434 : BitVec 32 := 4#32
  let v1093 : BitVec 32 := Scalar.muli arg1 c4_i32_434
  let c1_i32_435 : BitVec 32 := 1#32
  let v1094 : BitVec 32 := Scalar.addi v1093 c1_i32_435
  let v1096 : Index := Scalar.indexCast v1094
  ![v1095.toNat, 9, v1096.toNat]
def k0_mult26 (v1097 : BitVec 32) : BitVec 32 :=
  let c0_i32_438 : BitVec 32 := 0#32
  let v1099 : BitVec 1 := Scalar.cmpi .sgt v1097 c0_i32_438
  let v1100 : BitVec 32 := Scalar.extui v1099
  let c0_i32_439 : BitVec 32 := 0#32
  let v1101 : BitVec 1 := Scalar.cmpi .slt v1097 c0_i32_439
  let v1102 : BitVec 32 := Scalar.extui v1101
  let v1103 : BitVec 32 := Scalar.subi v1100 v1102
  let c16_i32_437 : BitVec 32 := 16#32
  let c0_i32_440 : BitVec 32 := 0#32
  let v1104 : BitVec 1 := Scalar.cmpi .sgt c16_i32_437 c0_i32_440
  let v1105 : BitVec 32 := Scalar.extui v1104
  let c0_i32_441 : BitVec 32 := 0#32
  let v1106 : BitVec 1 := Scalar.cmpi .slt c16_i32_437 c0_i32_441
  let v1107 : BitVec 32 := Scalar.extui v1106
  let v1108 : BitVec 32 := Scalar.subi v1105 v1107
  let v1109 : BitVec 1 := Scalar.cmpi .ne v1103 v1108
  let v1110 : BitVec 32 := Scalar.remsi v1097 c16_i32_437
  let c0_i32_442 : BitVec 32 := 0#32
  let v1111 : BitVec 1 := Scalar.cmpi .ne v1110 c0_i32_442
  let v1112 : BitVec 1 := Scalar.andi v1109 v1111
  let v1098 : BitVec 32 := Scalar.divsi v1097 c16_i32_437
  let c1_i32_443 : BitVec 32 := 1#32
  let v1113 : BitVec 32 := Scalar.subi v1098 c1_i32_443
  let v1114 : BitVec 32 := Scalar.select v1112 v1113 v1098
  let c16_i32_444 : BitVec 32 := 16#32
  let v1115 : BitVec 32 := Scalar.muli v1114 c16_i32_444
  let c880_i32_445 : BitVec 32 := 880#32
  let v1116 : BitVec 32 := Scalar.minsi v1115 c880_i32_445
  v1116

def k0_off52 (v1097 : BitVec 32) : Fin 4 → Nat :=
  let c0_447 : Index := 0#32
  let c9_448 : Index := 9#32
  let c0_i32_438 : BitVec 32 := 0#32
  let v1099 : BitVec 1 := Scalar.cmpi .sgt v1097 c0_i32_438
  let v1100 : BitVec 32 := Scalar.extui v1099
  let c0_i32_439 : BitVec 32 := 0#32
  let v1101 : BitVec 1 := Scalar.cmpi .slt v1097 c0_i32_439
  let v1102 : BitVec 32 := Scalar.extui v1101
  let v1103 : BitVec 32 := Scalar.subi v1100 v1102
  let c16_i32_437 : BitVec 32 := 16#32
  let c0_i32_440 : BitVec 32 := 0#32
  let v1104 : BitVec 1 := Scalar.cmpi .sgt c16_i32_437 c0_i32_440
  let v1105 : BitVec 32 := Scalar.extui v1104
  let c0_i32_441 : BitVec 32 := 0#32
  let v1106 : BitVec 1 := Scalar.cmpi .slt c16_i32_437 c0_i32_441
  let v1107 : BitVec 32 := Scalar.extui v1106
  let v1108 : BitVec 32 := Scalar.subi v1105 v1107
  let v1109 : BitVec 1 := Scalar.cmpi .ne v1103 v1108
  let v1110 : BitVec 32 := Scalar.remsi v1097 c16_i32_437
  let c0_i32_442 : BitVec 32 := 0#32
  let v1111 : BitVec 1 := Scalar.cmpi .ne v1110 c0_i32_442
  let v1112 : BitVec 1 := Scalar.andi v1109 v1111
  let v1098 : BitVec 32 := Scalar.divsi v1097 c16_i32_437
  let c1_i32_443 : BitVec 32 := 1#32
  let v1113 : BitVec 32 := Scalar.subi v1098 c1_i32_443
  let v1114 : BitVec 32 := Scalar.select v1112 v1113 v1098
  let c16_i32_444 : BitVec 32 := 16#32
  let v1115 : BitVec 32 := Scalar.muli v1114 c16_i32_444
  let c880_i32_445 : BitVec 32 := 880#32
  let v1116 : BitVec 32 := Scalar.minsi v1115 c880_i32_445
  let v1117 : BitVec 32 := v1116
  let v1130 : Index := Scalar.indexCast v1117
  let c0_449 : Index := 0#32
  ![0, 9, v1130.toNat, 0]

def k0_chk26 (v1097 : BitVec 32) : Prop :=
  (16 ∣ (k0_mult26 v1097).toNat) ∧
  (∀ a, (k0_off52 v1097) a + S1x1x144x1024.size a ≤ S1x16x1024x1024.size a)
theorem k0_mult26_dvd : ∀ (v1097 : BitVec 32) (k0_hw26 : k0_chk26 v1097), 16 ∣ (k0_mult26 v1097).toNat := fun v1097 k0_hw26 => k0_hw26.1
theorem k0_off52_inb : ∀ (v1097 : BitVec 32) (k0_hw26 : k0_chk26 v1097), ∀ a, (k0_off52 v1097) a + S1x1x144x1024.size a ≤ S1x16x1024x1024.size a := fun v1097 k0_hw26 => k0_hw26.2

def k0_off53 (i : grid0.Coords) : Fin 3 → Nat :=
  let arg0 : BitVec 32 := BitVec.ofNat 32 (i 0).val
  let v1137 : Index := Scalar.indexCast arg0
  let c10_453 : Index := 10#32
  let arg1 : BitVec 32 := BitVec.ofNat 32 (i 1).val
  let c4_i32_451 : BitVec 32 := 4#32
  let v1135 : BitVec 32 := Scalar.muli arg1 c4_i32_451
  let c1_i32_452 : BitVec 32 := 1#32
  let v1136 : BitVec 32 := Scalar.addi v1135 c1_i32_452
  let v1138 : Index := Scalar.indexCast v1136
  ![v1137.toNat, 10, v1138.toNat]
def k0_mult27 (v1139 : BitVec 32) : BitVec 32 :=
  let c0_i32_455 : BitVec 32 := 0#32
  let v1141 : BitVec 1 := Scalar.cmpi .sgt v1139 c0_i32_455
  let v1142 : BitVec 32 := Scalar.extui v1141
  let c0_i32_456 : BitVec 32 := 0#32
  let v1143 : BitVec 1 := Scalar.cmpi .slt v1139 c0_i32_456
  let v1144 : BitVec 32 := Scalar.extui v1143
  let v1145 : BitVec 32 := Scalar.subi v1142 v1144
  let c16_i32_454 : BitVec 32 := 16#32
  let c0_i32_457 : BitVec 32 := 0#32
  let v1146 : BitVec 1 := Scalar.cmpi .sgt c16_i32_454 c0_i32_457
  let v1147 : BitVec 32 := Scalar.extui v1146
  let c0_i32_458 : BitVec 32 := 0#32
  let v1148 : BitVec 1 := Scalar.cmpi .slt c16_i32_454 c0_i32_458
  let v1149 : BitVec 32 := Scalar.extui v1148
  let v1150 : BitVec 32 := Scalar.subi v1147 v1149
  let v1151 : BitVec 1 := Scalar.cmpi .ne v1145 v1150
  let v1152 : BitVec 32 := Scalar.remsi v1139 c16_i32_454
  let c0_i32_459 : BitVec 32 := 0#32
  let v1153 : BitVec 1 := Scalar.cmpi .ne v1152 c0_i32_459
  let v1154 : BitVec 1 := Scalar.andi v1151 v1153
  let v1140 : BitVec 32 := Scalar.divsi v1139 c16_i32_454
  let c1_i32_460 : BitVec 32 := 1#32
  let v1155 : BitVec 32 := Scalar.subi v1140 c1_i32_460
  let v1156 : BitVec 32 := Scalar.select v1154 v1155 v1140
  let c16_i32_461 : BitVec 32 := 16#32
  let v1157 : BitVec 32 := Scalar.muli v1156 c16_i32_461
  let c880_i32_462 : BitVec 32 := 880#32
  let v1158 : BitVec 32 := Scalar.minsi v1157 c880_i32_462
  v1158

def k0_off54 (v1139 : BitVec 32) : Fin 4 → Nat :=
  let c0_464 : Index := 0#32
  let c10_465 : Index := 10#32
  let c0_i32_455 : BitVec 32 := 0#32
  let v1141 : BitVec 1 := Scalar.cmpi .sgt v1139 c0_i32_455
  let v1142 : BitVec 32 := Scalar.extui v1141
  let c0_i32_456 : BitVec 32 := 0#32
  let v1143 : BitVec 1 := Scalar.cmpi .slt v1139 c0_i32_456
  let v1144 : BitVec 32 := Scalar.extui v1143
  let v1145 : BitVec 32 := Scalar.subi v1142 v1144
  let c16_i32_454 : BitVec 32 := 16#32
  let c0_i32_457 : BitVec 32 := 0#32
  let v1146 : BitVec 1 := Scalar.cmpi .sgt c16_i32_454 c0_i32_457
  let v1147 : BitVec 32 := Scalar.extui v1146
  let c0_i32_458 : BitVec 32 := 0#32
  let v1148 : BitVec 1 := Scalar.cmpi .slt c16_i32_454 c0_i32_458
  let v1149 : BitVec 32 := Scalar.extui v1148
  let v1150 : BitVec 32 := Scalar.subi v1147 v1149
  let v1151 : BitVec 1 := Scalar.cmpi .ne v1145 v1150
  let v1152 : BitVec 32 := Scalar.remsi v1139 c16_i32_454
  let c0_i32_459 : BitVec 32 := 0#32
  let v1153 : BitVec 1 := Scalar.cmpi .ne v1152 c0_i32_459
  let v1154 : BitVec 1 := Scalar.andi v1151 v1153
  let v1140 : BitVec 32 := Scalar.divsi v1139 c16_i32_454
  let c1_i32_460 : BitVec 32 := 1#32
  let v1155 : BitVec 32 := Scalar.subi v1140 c1_i32_460
  let v1156 : BitVec 32 := Scalar.select v1154 v1155 v1140
  let c16_i32_461 : BitVec 32 := 16#32
  let v1157 : BitVec 32 := Scalar.muli v1156 c16_i32_461
  let c880_i32_462 : BitVec 32 := 880#32
  let v1158 : BitVec 32 := Scalar.minsi v1157 c880_i32_462
  let v1159 : BitVec 32 := v1158
  let v1172 : Index := Scalar.indexCast v1159
  let c0_466 : Index := 0#32
  ![0, 10, v1172.toNat, 0]

def k0_chk27 (v1139 : BitVec 32) : Prop :=
  (16 ∣ (k0_mult27 v1139).toNat) ∧
  (∀ a, (k0_off54 v1139) a + S1x1x144x1024.size a ≤ S1x16x1024x1024.size a)
theorem k0_mult27_dvd : ∀ (v1139 : BitVec 32) (k0_hw27 : k0_chk27 v1139), 16 ∣ (k0_mult27 v1139).toNat := fun v1139 k0_hw27 => k0_hw27.1
theorem k0_off54_inb : ∀ (v1139 : BitVec 32) (k0_hw27 : k0_chk27 v1139), ∀ a, (k0_off54 v1139) a + S1x1x144x1024.size a ≤ S1x16x1024x1024.size a := fun v1139 k0_hw27 => k0_hw27.2

def k0_off55 (i : grid0.Coords) : Fin 3 → Nat :=
  let arg0 : BitVec 32 := BitVec.ofNat 32 (i 0).val
  let v1179 : Index := Scalar.indexCast arg0
  let c11_470 : Index := 11#32
  let arg1 : BitVec 32 := BitVec.ofNat 32 (i 1).val
  let c4_i32_468 : BitVec 32 := 4#32
  let v1177 : BitVec 32 := Scalar.muli arg1 c4_i32_468
  let c1_i32_469 : BitVec 32 := 1#32
  let v1178 : BitVec 32 := Scalar.addi v1177 c1_i32_469
  let v1180 : Index := Scalar.indexCast v1178
  ![v1179.toNat, 11, v1180.toNat]
def k0_mult28 (v1181 : BitVec 32) : BitVec 32 :=
  let c0_i32_472 : BitVec 32 := 0#32
  let v1183 : BitVec 1 := Scalar.cmpi .sgt v1181 c0_i32_472
  let v1184 : BitVec 32 := Scalar.extui v1183
  let c0_i32_473 : BitVec 32 := 0#32
  let v1185 : BitVec 1 := Scalar.cmpi .slt v1181 c0_i32_473
  let v1186 : BitVec 32 := Scalar.extui v1185
  let v1187 : BitVec 32 := Scalar.subi v1184 v1186
  let c16_i32_471 : BitVec 32 := 16#32
  let c0_i32_474 : BitVec 32 := 0#32
  let v1188 : BitVec 1 := Scalar.cmpi .sgt c16_i32_471 c0_i32_474
  let v1189 : BitVec 32 := Scalar.extui v1188
  let c0_i32_475 : BitVec 32 := 0#32
  let v1190 : BitVec 1 := Scalar.cmpi .slt c16_i32_471 c0_i32_475
  let v1191 : BitVec 32 := Scalar.extui v1190
  let v1192 : BitVec 32 := Scalar.subi v1189 v1191
  let v1193 : BitVec 1 := Scalar.cmpi .ne v1187 v1192
  let v1194 : BitVec 32 := Scalar.remsi v1181 c16_i32_471
  let c0_i32_476 : BitVec 32 := 0#32
  let v1195 : BitVec 1 := Scalar.cmpi .ne v1194 c0_i32_476
  let v1196 : BitVec 1 := Scalar.andi v1193 v1195
  let v1182 : BitVec 32 := Scalar.divsi v1181 c16_i32_471
  let c1_i32_477 : BitVec 32 := 1#32
  let v1197 : BitVec 32 := Scalar.subi v1182 c1_i32_477
  let v1198 : BitVec 32 := Scalar.select v1196 v1197 v1182
  let c16_i32_478 : BitVec 32 := 16#32
  let v1199 : BitVec 32 := Scalar.muli v1198 c16_i32_478
  let c880_i32_479 : BitVec 32 := 880#32
  let v1200 : BitVec 32 := Scalar.minsi v1199 c880_i32_479
  v1200

def k0_off56 (v1181 : BitVec 32) : Fin 4 → Nat :=
  let c0_481 : Index := 0#32
  let c11_482 : Index := 11#32
  let c0_i32_472 : BitVec 32 := 0#32
  let v1183 : BitVec 1 := Scalar.cmpi .sgt v1181 c0_i32_472
  let v1184 : BitVec 32 := Scalar.extui v1183
  let c0_i32_473 : BitVec 32 := 0#32
  let v1185 : BitVec 1 := Scalar.cmpi .slt v1181 c0_i32_473
  let v1186 : BitVec 32 := Scalar.extui v1185
  let v1187 : BitVec 32 := Scalar.subi v1184 v1186
  let c16_i32_471 : BitVec 32 := 16#32
  let c0_i32_474 : BitVec 32 := 0#32
  let v1188 : BitVec 1 := Scalar.cmpi .sgt c16_i32_471 c0_i32_474
  let v1189 : BitVec 32 := Scalar.extui v1188
  let c0_i32_475 : BitVec 32 := 0#32
  let v1190 : BitVec 1 := Scalar.cmpi .slt c16_i32_471 c0_i32_475
  let v1191 : BitVec 32 := Scalar.extui v1190
  let v1192 : BitVec 32 := Scalar.subi v1189 v1191
  let v1193 : BitVec 1 := Scalar.cmpi .ne v1187 v1192
  let v1194 : BitVec 32 := Scalar.remsi v1181 c16_i32_471
  let c0_i32_476 : BitVec 32 := 0#32
  let v1195 : BitVec 1 := Scalar.cmpi .ne v1194 c0_i32_476
  let v1196 : BitVec 1 := Scalar.andi v1193 v1195
  let v1182 : BitVec 32 := Scalar.divsi v1181 c16_i32_471
  let c1_i32_477 : BitVec 32 := 1#32
  let v1197 : BitVec 32 := Scalar.subi v1182 c1_i32_477
  let v1198 : BitVec 32 := Scalar.select v1196 v1197 v1182
  let c16_i32_478 : BitVec 32 := 16#32
  let v1199 : BitVec 32 := Scalar.muli v1198 c16_i32_478
  let c880_i32_479 : BitVec 32 := 880#32
  let v1200 : BitVec 32 := Scalar.minsi v1199 c880_i32_479
  let v1201 : BitVec 32 := v1200
  let v1214 : Index := Scalar.indexCast v1201
  let c0_483 : Index := 0#32
  ![0, 11, v1214.toNat, 0]

def k0_chk28 (v1181 : BitVec 32) : Prop :=
  (16 ∣ (k0_mult28 v1181).toNat) ∧
  (∀ a, (k0_off56 v1181) a + S1x1x144x1024.size a ≤ S1x16x1024x1024.size a)
theorem k0_mult28_dvd : ∀ (v1181 : BitVec 32) (k0_hw28 : k0_chk28 v1181), 16 ∣ (k0_mult28 v1181).toNat := fun v1181 k0_hw28 => k0_hw28.1
theorem k0_off56_inb : ∀ (v1181 : BitVec 32) (k0_hw28 : k0_chk28 v1181), ∀ a, (k0_off56 v1181) a + S1x1x144x1024.size a ≤ S1x16x1024x1024.size a := fun v1181 k0_hw28 => k0_hw28.2

def k0_off57 (i : grid0.Coords) : Fin 3 → Nat :=
  let arg0 : BitVec 32 := BitVec.ofNat 32 (i 0).val
  let v1221 : Index := Scalar.indexCast arg0
  let c12_487 : Index := 12#32
  let arg1 : BitVec 32 := BitVec.ofNat 32 (i 1).val
  let c4_i32_485 : BitVec 32 := 4#32
  let v1219 : BitVec 32 := Scalar.muli arg1 c4_i32_485
  let c1_i32_486 : BitVec 32 := 1#32
  let v1220 : BitVec 32 := Scalar.addi v1219 c1_i32_486
  let v1222 : Index := Scalar.indexCast v1220
  ![v1221.toNat, 12, v1222.toNat]
def k0_mult29 (v1223 : BitVec 32) : BitVec 32 :=
  let c0_i32_489 : BitVec 32 := 0#32
  let v1225 : BitVec 1 := Scalar.cmpi .sgt v1223 c0_i32_489
  let v1226 : BitVec 32 := Scalar.extui v1225
  let c0_i32_490 : BitVec 32 := 0#32
  let v1227 : BitVec 1 := Scalar.cmpi .slt v1223 c0_i32_490
  let v1228 : BitVec 32 := Scalar.extui v1227
  let v1229 : BitVec 32 := Scalar.subi v1226 v1228
  let c16_i32_488 : BitVec 32 := 16#32
  let c0_i32_491 : BitVec 32 := 0#32
  let v1230 : BitVec 1 := Scalar.cmpi .sgt c16_i32_488 c0_i32_491
  let v1231 : BitVec 32 := Scalar.extui v1230
  let c0_i32_492 : BitVec 32 := 0#32
  let v1232 : BitVec 1 := Scalar.cmpi .slt c16_i32_488 c0_i32_492
  let v1233 : BitVec 32 := Scalar.extui v1232
  let v1234 : BitVec 32 := Scalar.subi v1231 v1233
  let v1235 : BitVec 1 := Scalar.cmpi .ne v1229 v1234
  let v1236 : BitVec 32 := Scalar.remsi v1223 c16_i32_488
  let c0_i32_493 : BitVec 32 := 0#32
  let v1237 : BitVec 1 := Scalar.cmpi .ne v1236 c0_i32_493
  let v1238 : BitVec 1 := Scalar.andi v1235 v1237
  let v1224 : BitVec 32 := Scalar.divsi v1223 c16_i32_488
  let c1_i32_494 : BitVec 32 := 1#32
  let v1239 : BitVec 32 := Scalar.subi v1224 c1_i32_494
  let v1240 : BitVec 32 := Scalar.select v1238 v1239 v1224
  let c16_i32_495 : BitVec 32 := 16#32
  let v1241 : BitVec 32 := Scalar.muli v1240 c16_i32_495
  let c880_i32_496 : BitVec 32 := 880#32
  let v1242 : BitVec 32 := Scalar.minsi v1241 c880_i32_496
  v1242

def k0_off58 (v1223 : BitVec 32) : Fin 4 → Nat :=
  let c0_498 : Index := 0#32
  let c12_499 : Index := 12#32
  let c0_i32_489 : BitVec 32 := 0#32
  let v1225 : BitVec 1 := Scalar.cmpi .sgt v1223 c0_i32_489
  let v1226 : BitVec 32 := Scalar.extui v1225
  let c0_i32_490 : BitVec 32 := 0#32
  let v1227 : BitVec 1 := Scalar.cmpi .slt v1223 c0_i32_490
  let v1228 : BitVec 32 := Scalar.extui v1227
  let v1229 : BitVec 32 := Scalar.subi v1226 v1228
  let c16_i32_488 : BitVec 32 := 16#32
  let c0_i32_491 : BitVec 32 := 0#32
  let v1230 : BitVec 1 := Scalar.cmpi .sgt c16_i32_488 c0_i32_491
  let v1231 : BitVec 32 := Scalar.extui v1230
  let c0_i32_492 : BitVec 32 := 0#32
  let v1232 : BitVec 1 := Scalar.cmpi .slt c16_i32_488 c0_i32_492
  let v1233 : BitVec 32 := Scalar.extui v1232
  let v1234 : BitVec 32 := Scalar.subi v1231 v1233
  let v1235 : BitVec 1 := Scalar.cmpi .ne v1229 v1234
  let v1236 : BitVec 32 := Scalar.remsi v1223 c16_i32_488
  let c0_i32_493 : BitVec 32 := 0#32
  let v1237 : BitVec 1 := Scalar.cmpi .ne v1236 c0_i32_493
  let v1238 : BitVec 1 := Scalar.andi v1235 v1237
  let v1224 : BitVec 32 := Scalar.divsi v1223 c16_i32_488
  let c1_i32_494 : BitVec 32 := 1#32
  let v1239 : BitVec 32 := Scalar.subi v1224 c1_i32_494
  let v1240 : BitVec 32 := Scalar.select v1238 v1239 v1224
  let c16_i32_495 : BitVec 32 := 16#32
  let v1241 : BitVec 32 := Scalar.muli v1240 c16_i32_495
  let c880_i32_496 : BitVec 32 := 880#32
  let v1242 : BitVec 32 := Scalar.minsi v1241 c880_i32_496
  let v1243 : BitVec 32 := v1242
  let v1256 : Index := Scalar.indexCast v1243
  let c0_500 : Index := 0#32
  ![0, 12, v1256.toNat, 0]

def k0_chk29 (v1223 : BitVec 32) : Prop :=
  (16 ∣ (k0_mult29 v1223).toNat) ∧
  (∀ a, (k0_off58 v1223) a + S1x1x144x1024.size a ≤ S1x16x1024x1024.size a)
theorem k0_mult29_dvd : ∀ (v1223 : BitVec 32) (k0_hw29 : k0_chk29 v1223), 16 ∣ (k0_mult29 v1223).toNat := fun v1223 k0_hw29 => k0_hw29.1
theorem k0_off58_inb : ∀ (v1223 : BitVec 32) (k0_hw29 : k0_chk29 v1223), ∀ a, (k0_off58 v1223) a + S1x1x144x1024.size a ≤ S1x16x1024x1024.size a := fun v1223 k0_hw29 => k0_hw29.2

def k0_off59 (i : grid0.Coords) : Fin 3 → Nat :=
  let arg0 : BitVec 32 := BitVec.ofNat 32 (i 0).val
  let v1263 : Index := Scalar.indexCast arg0
  let c13_504 : Index := 13#32
  let arg1 : BitVec 32 := BitVec.ofNat 32 (i 1).val
  let c4_i32_502 : BitVec 32 := 4#32
  let v1261 : BitVec 32 := Scalar.muli arg1 c4_i32_502
  let c1_i32_503 : BitVec 32 := 1#32
  let v1262 : BitVec 32 := Scalar.addi v1261 c1_i32_503
  let v1264 : Index := Scalar.indexCast v1262
  ![v1263.toNat, 13, v1264.toNat]
def k0_mult30 (v1265 : BitVec 32) : BitVec 32 :=
  let c0_i32_506 : BitVec 32 := 0#32
  let v1267 : BitVec 1 := Scalar.cmpi .sgt v1265 c0_i32_506
  let v1268 : BitVec 32 := Scalar.extui v1267
  let c0_i32_507 : BitVec 32 := 0#32
  let v1269 : BitVec 1 := Scalar.cmpi .slt v1265 c0_i32_507
  let v1270 : BitVec 32 := Scalar.extui v1269
  let v1271 : BitVec 32 := Scalar.subi v1268 v1270
  let c16_i32_505 : BitVec 32 := 16#32
  let c0_i32_508 : BitVec 32 := 0#32
  let v1272 : BitVec 1 := Scalar.cmpi .sgt c16_i32_505 c0_i32_508
  let v1273 : BitVec 32 := Scalar.extui v1272
  let c0_i32_509 : BitVec 32 := 0#32
  let v1274 : BitVec 1 := Scalar.cmpi .slt c16_i32_505 c0_i32_509
  let v1275 : BitVec 32 := Scalar.extui v1274
  let v1276 : BitVec 32 := Scalar.subi v1273 v1275
  let v1277 : BitVec 1 := Scalar.cmpi .ne v1271 v1276
  let v1278 : BitVec 32 := Scalar.remsi v1265 c16_i32_505
  let c0_i32_510 : BitVec 32 := 0#32
  let v1279 : BitVec 1 := Scalar.cmpi .ne v1278 c0_i32_510
  let v1280 : BitVec 1 := Scalar.andi v1277 v1279
  let v1266 : BitVec 32 := Scalar.divsi v1265 c16_i32_505
  let c1_i32_511 : BitVec 32 := 1#32
  let v1281 : BitVec 32 := Scalar.subi v1266 c1_i32_511
  let v1282 : BitVec 32 := Scalar.select v1280 v1281 v1266
  let c16_i32_512 : BitVec 32 := 16#32
  let v1283 : BitVec 32 := Scalar.muli v1282 c16_i32_512
  let c880_i32_513 : BitVec 32 := 880#32
  let v1284 : BitVec 32 := Scalar.minsi v1283 c880_i32_513
  v1284

def k0_off60 (v1265 : BitVec 32) : Fin 4 → Nat :=
  let c0_515 : Index := 0#32
  let c13_516 : Index := 13#32
  let c0_i32_506 : BitVec 32 := 0#32
  let v1267 : BitVec 1 := Scalar.cmpi .sgt v1265 c0_i32_506
  let v1268 : BitVec 32 := Scalar.extui v1267
  let c0_i32_507 : BitVec 32 := 0#32
  let v1269 : BitVec 1 := Scalar.cmpi .slt v1265 c0_i32_507
  let v1270 : BitVec 32 := Scalar.extui v1269
  let v1271 : BitVec 32 := Scalar.subi v1268 v1270
  let c16_i32_505 : BitVec 32 := 16#32
  let c0_i32_508 : BitVec 32 := 0#32
  let v1272 : BitVec 1 := Scalar.cmpi .sgt c16_i32_505 c0_i32_508
  let v1273 : BitVec 32 := Scalar.extui v1272
  let c0_i32_509 : BitVec 32 := 0#32
  let v1274 : BitVec 1 := Scalar.cmpi .slt c16_i32_505 c0_i32_509
  let v1275 : BitVec 32 := Scalar.extui v1274
  let v1276 : BitVec 32 := Scalar.subi v1273 v1275
  let v1277 : BitVec 1 := Scalar.cmpi .ne v1271 v1276
  let v1278 : BitVec 32 := Scalar.remsi v1265 c16_i32_505
  let c0_i32_510 : BitVec 32 := 0#32
  let v1279 : BitVec 1 := Scalar.cmpi .ne v1278 c0_i32_510
  let v1280 : BitVec 1 := Scalar.andi v1277 v1279
  let v1266 : BitVec 32 := Scalar.divsi v1265 c16_i32_505
  let c1_i32_511 : BitVec 32 := 1#32
  let v1281 : BitVec 32 := Scalar.subi v1266 c1_i32_511
  let v1282 : BitVec 32 := Scalar.select v1280 v1281 v1266
  let c16_i32_512 : BitVec 32 := 16#32
  let v1283 : BitVec 32 := Scalar.muli v1282 c16_i32_512
  let c880_i32_513 : BitVec 32 := 880#32
  let v1284 : BitVec 32 := Scalar.minsi v1283 c880_i32_513
  let v1285 : BitVec 32 := v1284
  let v1298 : Index := Scalar.indexCast v1285
  let c0_517 : Index := 0#32
  ![0, 13, v1298.toNat, 0]

def k0_chk30 (v1265 : BitVec 32) : Prop :=
  (16 ∣ (k0_mult30 v1265).toNat) ∧
  (∀ a, (k0_off60 v1265) a + S1x1x144x1024.size a ≤ S1x16x1024x1024.size a)
theorem k0_mult30_dvd : ∀ (v1265 : BitVec 32) (k0_hw30 : k0_chk30 v1265), 16 ∣ (k0_mult30 v1265).toNat := fun v1265 k0_hw30 => k0_hw30.1
theorem k0_off60_inb : ∀ (v1265 : BitVec 32) (k0_hw30 : k0_chk30 v1265), ∀ a, (k0_off60 v1265) a + S1x1x144x1024.size a ≤ S1x16x1024x1024.size a := fun v1265 k0_hw30 => k0_hw30.2

def k0_off61 (i : grid0.Coords) : Fin 3 → Nat :=
  let arg0 : BitVec 32 := BitVec.ofNat 32 (i 0).val
  let v1305 : Index := Scalar.indexCast arg0
  let c14_521 : Index := 14#32
  let arg1 : BitVec 32 := BitVec.ofNat 32 (i 1).val
  let c4_i32_519 : BitVec 32 := 4#32
  let v1303 : BitVec 32 := Scalar.muli arg1 c4_i32_519
  let c1_i32_520 : BitVec 32 := 1#32
  let v1304 : BitVec 32 := Scalar.addi v1303 c1_i32_520
  let v1306 : Index := Scalar.indexCast v1304
  ![v1305.toNat, 14, v1306.toNat]
def k0_mult31 (v1307 : BitVec 32) : BitVec 32 :=
  let c0_i32_523 : BitVec 32 := 0#32
  let v1309 : BitVec 1 := Scalar.cmpi .sgt v1307 c0_i32_523
  let v1310 : BitVec 32 := Scalar.extui v1309
  let c0_i32_524 : BitVec 32 := 0#32
  let v1311 : BitVec 1 := Scalar.cmpi .slt v1307 c0_i32_524
  let v1312 : BitVec 32 := Scalar.extui v1311
  let v1313 : BitVec 32 := Scalar.subi v1310 v1312
  let c16_i32_522 : BitVec 32 := 16#32
  let c0_i32_525 : BitVec 32 := 0#32
  let v1314 : BitVec 1 := Scalar.cmpi .sgt c16_i32_522 c0_i32_525
  let v1315 : BitVec 32 := Scalar.extui v1314
  let c0_i32_526 : BitVec 32 := 0#32
  let v1316 : BitVec 1 := Scalar.cmpi .slt c16_i32_522 c0_i32_526
  let v1317 : BitVec 32 := Scalar.extui v1316
  let v1318 : BitVec 32 := Scalar.subi v1315 v1317
  let v1319 : BitVec 1 := Scalar.cmpi .ne v1313 v1318
  let v1320 : BitVec 32 := Scalar.remsi v1307 c16_i32_522
  let c0_i32_527 : BitVec 32 := 0#32
  let v1321 : BitVec 1 := Scalar.cmpi .ne v1320 c0_i32_527
  let v1322 : BitVec 1 := Scalar.andi v1319 v1321
  let v1308 : BitVec 32 := Scalar.divsi v1307 c16_i32_522
  let c1_i32_528 : BitVec 32 := 1#32
  let v1323 : BitVec 32 := Scalar.subi v1308 c1_i32_528
  let v1324 : BitVec 32 := Scalar.select v1322 v1323 v1308
  let c16_i32_529 : BitVec 32 := 16#32
  let v1325 : BitVec 32 := Scalar.muli v1324 c16_i32_529
  let c880_i32_530 : BitVec 32 := 880#32
  let v1326 : BitVec 32 := Scalar.minsi v1325 c880_i32_530
  v1326

def k0_off62 (v1307 : BitVec 32) : Fin 4 → Nat :=
  let c0_532 : Index := 0#32
  let c14_533 : Index := 14#32
  let c0_i32_523 : BitVec 32 := 0#32
  let v1309 : BitVec 1 := Scalar.cmpi .sgt v1307 c0_i32_523
  let v1310 : BitVec 32 := Scalar.extui v1309
  let c0_i32_524 : BitVec 32 := 0#32
  let v1311 : BitVec 1 := Scalar.cmpi .slt v1307 c0_i32_524
  let v1312 : BitVec 32 := Scalar.extui v1311
  let v1313 : BitVec 32 := Scalar.subi v1310 v1312
  let c16_i32_522 : BitVec 32 := 16#32
  let c0_i32_525 : BitVec 32 := 0#32
  let v1314 : BitVec 1 := Scalar.cmpi .sgt c16_i32_522 c0_i32_525
  let v1315 : BitVec 32 := Scalar.extui v1314
  let c0_i32_526 : BitVec 32 := 0#32
  let v1316 : BitVec 1 := Scalar.cmpi .slt c16_i32_522 c0_i32_526
  let v1317 : BitVec 32 := Scalar.extui v1316
  let v1318 : BitVec 32 := Scalar.subi v1315 v1317
  let v1319 : BitVec 1 := Scalar.cmpi .ne v1313 v1318
  let v1320 : BitVec 32 := Scalar.remsi v1307 c16_i32_522
  let c0_i32_527 : BitVec 32 := 0#32
  let v1321 : BitVec 1 := Scalar.cmpi .ne v1320 c0_i32_527
  let v1322 : BitVec 1 := Scalar.andi v1319 v1321
  let v1308 : BitVec 32 := Scalar.divsi v1307 c16_i32_522
  let c1_i32_528 : BitVec 32 := 1#32
  let v1323 : BitVec 32 := Scalar.subi v1308 c1_i32_528
  let v1324 : BitVec 32 := Scalar.select v1322 v1323 v1308
  let c16_i32_529 : BitVec 32 := 16#32
  let v1325 : BitVec 32 := Scalar.muli v1324 c16_i32_529
  let c880_i32_530 : BitVec 32 := 880#32
  let v1326 : BitVec 32 := Scalar.minsi v1325 c880_i32_530
  let v1327 : BitVec 32 := v1326
  let v1340 : Index := Scalar.indexCast v1327
  let c0_534 : Index := 0#32
  ![0, 14, v1340.toNat, 0]

def k0_chk31 (v1307 : BitVec 32) : Prop :=
  (16 ∣ (k0_mult31 v1307).toNat) ∧
  (∀ a, (k0_off62 v1307) a + S1x1x144x1024.size a ≤ S1x16x1024x1024.size a)
theorem k0_mult31_dvd : ∀ (v1307 : BitVec 32) (k0_hw31 : k0_chk31 v1307), 16 ∣ (k0_mult31 v1307).toNat := fun v1307 k0_hw31 => k0_hw31.1
theorem k0_off62_inb : ∀ (v1307 : BitVec 32) (k0_hw31 : k0_chk31 v1307), ∀ a, (k0_off62 v1307) a + S1x1x144x1024.size a ≤ S1x16x1024x1024.size a := fun v1307 k0_hw31 => k0_hw31.2

def k0_off63 (i : grid0.Coords) : Fin 3 → Nat :=
  let arg0 : BitVec 32 := BitVec.ofNat 32 (i 0).val
  let v1347 : Index := Scalar.indexCast arg0
  let c15_538 : Index := 15#32
  let arg1 : BitVec 32 := BitVec.ofNat 32 (i 1).val
  let c4_i32_536 : BitVec 32 := 4#32
  let v1345 : BitVec 32 := Scalar.muli arg1 c4_i32_536
  let c1_i32_537 : BitVec 32 := 1#32
  let v1346 : BitVec 32 := Scalar.addi v1345 c1_i32_537
  let v1348 : Index := Scalar.indexCast v1346
  ![v1347.toNat, 15, v1348.toNat]
def k0_mult32 (v1349 : BitVec 32) : BitVec 32 :=
  let c0_i32_540 : BitVec 32 := 0#32
  let v1351 : BitVec 1 := Scalar.cmpi .sgt v1349 c0_i32_540
  let v1352 : BitVec 32 := Scalar.extui v1351
  let c0_i32_541 : BitVec 32 := 0#32
  let v1353 : BitVec 1 := Scalar.cmpi .slt v1349 c0_i32_541
  let v1354 : BitVec 32 := Scalar.extui v1353
  let v1355 : BitVec 32 := Scalar.subi v1352 v1354
  let c16_i32_539 : BitVec 32 := 16#32
  let c0_i32_542 : BitVec 32 := 0#32
  let v1356 : BitVec 1 := Scalar.cmpi .sgt c16_i32_539 c0_i32_542
  let v1357 : BitVec 32 := Scalar.extui v1356
  let c0_i32_543 : BitVec 32 := 0#32
  let v1358 : BitVec 1 := Scalar.cmpi .slt c16_i32_539 c0_i32_543
  let v1359 : BitVec 32 := Scalar.extui v1358
  let v1360 : BitVec 32 := Scalar.subi v1357 v1359
  let v1361 : BitVec 1 := Scalar.cmpi .ne v1355 v1360
  let v1362 : BitVec 32 := Scalar.remsi v1349 c16_i32_539
  let c0_i32_544 : BitVec 32 := 0#32
  let v1363 : BitVec 1 := Scalar.cmpi .ne v1362 c0_i32_544
  let v1364 : BitVec 1 := Scalar.andi v1361 v1363
  let v1350 : BitVec 32 := Scalar.divsi v1349 c16_i32_539
  let c1_i32_545 : BitVec 32 := 1#32
  let v1365 : BitVec 32 := Scalar.subi v1350 c1_i32_545
  let v1366 : BitVec 32 := Scalar.select v1364 v1365 v1350
  let c16_i32_546 : BitVec 32 := 16#32
  let v1367 : BitVec 32 := Scalar.muli v1366 c16_i32_546
  let c880_i32_547 : BitVec 32 := 880#32
  let v1368 : BitVec 32 := Scalar.minsi v1367 c880_i32_547
  v1368

def k0_off64 (v1349 : BitVec 32) : Fin 4 → Nat :=
  let c0_549 : Index := 0#32
  let c15_550 : Index := 15#32
  let c0_i32_540 : BitVec 32 := 0#32
  let v1351 : BitVec 1 := Scalar.cmpi .sgt v1349 c0_i32_540
  let v1352 : BitVec 32 := Scalar.extui v1351
  let c0_i32_541 : BitVec 32 := 0#32
  let v1353 : BitVec 1 := Scalar.cmpi .slt v1349 c0_i32_541
  let v1354 : BitVec 32 := Scalar.extui v1353
  let v1355 : BitVec 32 := Scalar.subi v1352 v1354
  let c16_i32_539 : BitVec 32 := 16#32
  let c0_i32_542 : BitVec 32 := 0#32
  let v1356 : BitVec 1 := Scalar.cmpi .sgt c16_i32_539 c0_i32_542
  let v1357 : BitVec 32 := Scalar.extui v1356
  let c0_i32_543 : BitVec 32 := 0#32
  let v1358 : BitVec 1 := Scalar.cmpi .slt c16_i32_539 c0_i32_543
  let v1359 : BitVec 32 := Scalar.extui v1358
  let v1360 : BitVec 32 := Scalar.subi v1357 v1359
  let v1361 : BitVec 1 := Scalar.cmpi .ne v1355 v1360
  let v1362 : BitVec 32 := Scalar.remsi v1349 c16_i32_539
  let c0_i32_544 : BitVec 32 := 0#32
  let v1363 : BitVec 1 := Scalar.cmpi .ne v1362 c0_i32_544
  let v1364 : BitVec 1 := Scalar.andi v1361 v1363
  let v1350 : BitVec 32 := Scalar.divsi v1349 c16_i32_539
  let c1_i32_545 : BitVec 32 := 1#32
  let v1365 : BitVec 32 := Scalar.subi v1350 c1_i32_545
  let v1366 : BitVec 32 := Scalar.select v1364 v1365 v1350
  let c16_i32_546 : BitVec 32 := 16#32
  let v1367 : BitVec 32 := Scalar.muli v1366 c16_i32_546
  let c880_i32_547 : BitVec 32 := 880#32
  let v1368 : BitVec 32 := Scalar.minsi v1367 c880_i32_547
  let v1369 : BitVec 32 := v1368
  let v1382 : Index := Scalar.indexCast v1369
  let c0_551 : Index := 0#32
  ![0, 15, v1382.toNat, 0]

def k0_chk32 (v1349 : BitVec 32) : Prop :=
  (16 ∣ (k0_mult32 v1349).toNat) ∧
  (∀ a, (k0_off64 v1349) a + S1x1x144x1024.size a ≤ S1x16x1024x1024.size a)
theorem k0_mult32_dvd : ∀ (v1349 : BitVec 32) (k0_hw32 : k0_chk32 v1349), 16 ∣ (k0_mult32 v1349).toNat := fun v1349 k0_hw32 => k0_hw32.1
theorem k0_off64_inb : ∀ (v1349 : BitVec 32) (k0_hw32 : k0_chk32 v1349), ∀ a, (k0_off64 v1349) a + S1x1x144x1024.size a ≤ S1x16x1024x1024.size a := fun v1349 k0_hw32 => k0_hw32.2

def k0_off65 (i : grid0.Coords) : Fin 3 → Nat :=
  let arg0 : BitVec 32 := BitVec.ofNat 32 (i 0).val
  let v1424 : Index := Scalar.indexCast arg0
  let c0_575 : Index := 0#32
  let arg1 : BitVec 32 := BitVec.ofNat 32 (i 1).val
  let c4_i32_574 : BitVec 32 := 4#32
  let v1422 : BitVec 32 := Scalar.muli arg1 c4_i32_574
  let c2_i32 : BitVec 32 := 2#32
  let v1423 : BitVec 32 := Scalar.addi v1422 c2_i32
  let v1425 : Index := Scalar.indexCast v1423
  ![v1424.toNat, 0, v1425.toNat]
def k0_mult33 (v1426 : BitVec 32) : BitVec 32 :=
  let c0_i32_577 : BitVec 32 := 0#32
  let v1428 : BitVec 1 := Scalar.cmpi .sgt v1426 c0_i32_577
  let v1429 : BitVec 32 := Scalar.extui v1428
  let c0_i32_578 : BitVec 32 := 0#32
  let v1430 : BitVec 1 := Scalar.cmpi .slt v1426 c0_i32_578
  let v1431 : BitVec 32 := Scalar.extui v1430
  let v1432 : BitVec 32 := Scalar.subi v1429 v1431
  let c16_i32_576 : BitVec 32 := 16#32
  let c0_i32_579 : BitVec 32 := 0#32
  let v1433 : BitVec 1 := Scalar.cmpi .sgt c16_i32_576 c0_i32_579
  let v1434 : BitVec 32 := Scalar.extui v1433
  let c0_i32_580 : BitVec 32 := 0#32
  let v1435 : BitVec 1 := Scalar.cmpi .slt c16_i32_576 c0_i32_580
  let v1436 : BitVec 32 := Scalar.extui v1435
  let v1437 : BitVec 32 := Scalar.subi v1434 v1436
  let v1438 : BitVec 1 := Scalar.cmpi .ne v1432 v1437
  let v1439 : BitVec 32 := Scalar.remsi v1426 c16_i32_576
  let c0_i32_581 : BitVec 32 := 0#32
  let v1440 : BitVec 1 := Scalar.cmpi .ne v1439 c0_i32_581
  let v1441 : BitVec 1 := Scalar.andi v1438 v1440
  let v1427 : BitVec 32 := Scalar.divsi v1426 c16_i32_576
  let c1_i32_582 : BitVec 32 := 1#32
  let v1442 : BitVec 32 := Scalar.subi v1427 c1_i32_582
  let v1443 : BitVec 32 := Scalar.select v1441 v1442 v1427
  let c16_i32_583 : BitVec 32 := 16#32
  let v1444 : BitVec 32 := Scalar.muli v1443 c16_i32_583
  let c880_i32_584 : BitVec 32 := 880#32
  let v1445 : BitVec 32 := Scalar.minsi v1444 c880_i32_584
  v1445

def k0_off66 (v1426 : BitVec 32) : Fin 4 → Nat :=
  let c0_586 : Index := 0#32
  let c0_587 : Index := 0#32
  let c0_i32_577 : BitVec 32 := 0#32
  let v1428 : BitVec 1 := Scalar.cmpi .sgt v1426 c0_i32_577
  let v1429 : BitVec 32 := Scalar.extui v1428
  let c0_i32_578 : BitVec 32 := 0#32
  let v1430 : BitVec 1 := Scalar.cmpi .slt v1426 c0_i32_578
  let v1431 : BitVec 32 := Scalar.extui v1430
  let v1432 : BitVec 32 := Scalar.subi v1429 v1431
  let c16_i32_576 : BitVec 32 := 16#32
  let c0_i32_579 : BitVec 32 := 0#32
  let v1433 : BitVec 1 := Scalar.cmpi .sgt c16_i32_576 c0_i32_579
  let v1434 : BitVec 32 := Scalar.extui v1433
  let c0_i32_580 : BitVec 32 := 0#32
  let v1435 : BitVec 1 := Scalar.cmpi .slt c16_i32_576 c0_i32_580
  let v1436 : BitVec 32 := Scalar.extui v1435
  let v1437 : BitVec 32 := Scalar.subi v1434 v1436
  let v1438 : BitVec 1 := Scalar.cmpi .ne v1432 v1437
  let v1439 : BitVec 32 := Scalar.remsi v1426 c16_i32_576
  let c0_i32_581 : BitVec 32 := 0#32
  let v1440 : BitVec 1 := Scalar.cmpi .ne v1439 c0_i32_581
  let v1441 : BitVec 1 := Scalar.andi v1438 v1440
  let v1427 : BitVec 32 := Scalar.divsi v1426 c16_i32_576
  let c1_i32_582 : BitVec 32 := 1#32
  let v1442 : BitVec 32 := Scalar.subi v1427 c1_i32_582
  let v1443 : BitVec 32 := Scalar.select v1441 v1442 v1427
  let c16_i32_583 : BitVec 32 := 16#32
  let v1444 : BitVec 32 := Scalar.muli v1443 c16_i32_583
  let c880_i32_584 : BitVec 32 := 880#32
  let v1445 : BitVec 32 := Scalar.minsi v1444 c880_i32_584
  let v1446 : BitVec 32 := v1445
  let v1459 : Index := Scalar.indexCast v1446
  let c0_588 : Index := 0#32
  ![0, 0, v1459.toNat, 0]

def k0_chk33 (v1426 : BitVec 32) : Prop :=
  (16 ∣ (k0_mult33 v1426).toNat) ∧
  (∀ a, (k0_off66 v1426) a + S1x1x144x1024.size a ≤ S1x16x1024x1024.size a)
theorem k0_mult33_dvd : ∀ (v1426 : BitVec 32) (k0_hw33 : k0_chk33 v1426), 16 ∣ (k0_mult33 v1426).toNat := fun v1426 k0_hw33 => k0_hw33.1
theorem k0_off66_inb : ∀ (v1426 : BitVec 32) (k0_hw33 : k0_chk33 v1426), ∀ a, (k0_off66 v1426) a + S1x1x144x1024.size a ≤ S1x16x1024x1024.size a := fun v1426 k0_hw33 => k0_hw33.2

def k0_off67 (i : grid0.Coords) : Fin 3 → Nat :=
  let arg0 : BitVec 32 := BitVec.ofNat 32 (i 0).val
  let v1466 : Index := Scalar.indexCast arg0
  let c1_592 : Index := 1#32
  let arg1 : BitVec 32 := BitVec.ofNat 32 (i 1).val
  let c4_i32_590 : BitVec 32 := 4#32
  let v1464 : BitVec 32 := Scalar.muli arg1 c4_i32_590
  let c2_i32_591 : BitVec 32 := 2#32
  let v1465 : BitVec 32 := Scalar.addi v1464 c2_i32_591
  let v1467 : Index := Scalar.indexCast v1465
  ![v1466.toNat, 1, v1467.toNat]
def k0_mult34 (v1468 : BitVec 32) : BitVec 32 :=
  let c0_i32_594 : BitVec 32 := 0#32
  let v1470 : BitVec 1 := Scalar.cmpi .sgt v1468 c0_i32_594
  let v1471 : BitVec 32 := Scalar.extui v1470
  let c0_i32_595 : BitVec 32 := 0#32
  let v1472 : BitVec 1 := Scalar.cmpi .slt v1468 c0_i32_595
  let v1473 : BitVec 32 := Scalar.extui v1472
  let v1474 : BitVec 32 := Scalar.subi v1471 v1473
  let c16_i32_593 : BitVec 32 := 16#32
  let c0_i32_596 : BitVec 32 := 0#32
  let v1475 : BitVec 1 := Scalar.cmpi .sgt c16_i32_593 c0_i32_596
  let v1476 : BitVec 32 := Scalar.extui v1475
  let c0_i32_597 : BitVec 32 := 0#32
  let v1477 : BitVec 1 := Scalar.cmpi .slt c16_i32_593 c0_i32_597
  let v1478 : BitVec 32 := Scalar.extui v1477
  let v1479 : BitVec 32 := Scalar.subi v1476 v1478
  let v1480 : BitVec 1 := Scalar.cmpi .ne v1474 v1479
  let v1481 : BitVec 32 := Scalar.remsi v1468 c16_i32_593
  let c0_i32_598 : BitVec 32 := 0#32
  let v1482 : BitVec 1 := Scalar.cmpi .ne v1481 c0_i32_598
  let v1483 : BitVec 1 := Scalar.andi v1480 v1482
  let v1469 : BitVec 32 := Scalar.divsi v1468 c16_i32_593
  let c1_i32_599 : BitVec 32 := 1#32
  let v1484 : BitVec 32 := Scalar.subi v1469 c1_i32_599
  let v1485 : BitVec 32 := Scalar.select v1483 v1484 v1469
  let c16_i32_600 : BitVec 32 := 16#32
  let v1486 : BitVec 32 := Scalar.muli v1485 c16_i32_600
  let c880_i32_601 : BitVec 32 := 880#32
  let v1487 : BitVec 32 := Scalar.minsi v1486 c880_i32_601
  v1487

def k0_off68 (v1468 : BitVec 32) : Fin 4 → Nat :=
  let c0_603 : Index := 0#32
  let c1_604 : Index := 1#32
  let c0_i32_594 : BitVec 32 := 0#32
  let v1470 : BitVec 1 := Scalar.cmpi .sgt v1468 c0_i32_594
  let v1471 : BitVec 32 := Scalar.extui v1470
  let c0_i32_595 : BitVec 32 := 0#32
  let v1472 : BitVec 1 := Scalar.cmpi .slt v1468 c0_i32_595
  let v1473 : BitVec 32 := Scalar.extui v1472
  let v1474 : BitVec 32 := Scalar.subi v1471 v1473
  let c16_i32_593 : BitVec 32 := 16#32
  let c0_i32_596 : BitVec 32 := 0#32
  let v1475 : BitVec 1 := Scalar.cmpi .sgt c16_i32_593 c0_i32_596
  let v1476 : BitVec 32 := Scalar.extui v1475
  let c0_i32_597 : BitVec 32 := 0#32
  let v1477 : BitVec 1 := Scalar.cmpi .slt c16_i32_593 c0_i32_597
  let v1478 : BitVec 32 := Scalar.extui v1477
  let v1479 : BitVec 32 := Scalar.subi v1476 v1478
  let v1480 : BitVec 1 := Scalar.cmpi .ne v1474 v1479
  let v1481 : BitVec 32 := Scalar.remsi v1468 c16_i32_593
  let c0_i32_598 : BitVec 32 := 0#32
  let v1482 : BitVec 1 := Scalar.cmpi .ne v1481 c0_i32_598
  let v1483 : BitVec 1 := Scalar.andi v1480 v1482
  let v1469 : BitVec 32 := Scalar.divsi v1468 c16_i32_593
  let c1_i32_599 : BitVec 32 := 1#32
  let v1484 : BitVec 32 := Scalar.subi v1469 c1_i32_599
  let v1485 : BitVec 32 := Scalar.select v1483 v1484 v1469
  let c16_i32_600 : BitVec 32 := 16#32
  let v1486 : BitVec 32 := Scalar.muli v1485 c16_i32_600
  let c880_i32_601 : BitVec 32 := 880#32
  let v1487 : BitVec 32 := Scalar.minsi v1486 c880_i32_601
  let v1488 : BitVec 32 := v1487
  let v1501 : Index := Scalar.indexCast v1488
  let c0_605 : Index := 0#32
  ![0, 1, v1501.toNat, 0]

def k0_chk34 (v1468 : BitVec 32) : Prop :=
  (16 ∣ (k0_mult34 v1468).toNat) ∧
  (∀ a, (k0_off68 v1468) a + S1x1x144x1024.size a ≤ S1x16x1024x1024.size a)
theorem k0_mult34_dvd : ∀ (v1468 : BitVec 32) (k0_hw34 : k0_chk34 v1468), 16 ∣ (k0_mult34 v1468).toNat := fun v1468 k0_hw34 => k0_hw34.1
theorem k0_off68_inb : ∀ (v1468 : BitVec 32) (k0_hw34 : k0_chk34 v1468), ∀ a, (k0_off68 v1468) a + S1x1x144x1024.size a ≤ S1x16x1024x1024.size a := fun v1468 k0_hw34 => k0_hw34.2

def k0_off69 (i : grid0.Coords) : Fin 3 → Nat :=
  let arg0 : BitVec 32 := BitVec.ofNat 32 (i 0).val
  let v1508 : Index := Scalar.indexCast arg0
  let c2_609 : Index := 2#32
  let arg1 : BitVec 32 := BitVec.ofNat 32 (i 1).val
  let c4_i32_607 : BitVec 32 := 4#32
  let v1506 : BitVec 32 := Scalar.muli arg1 c4_i32_607
  let c2_i32_608 : BitVec 32 := 2#32
  let v1507 : BitVec 32 := Scalar.addi v1506 c2_i32_608
  let v1509 : Index := Scalar.indexCast v1507
  ![v1508.toNat, 2, v1509.toNat]
def k0_mult35 (v1510 : BitVec 32) : BitVec 32 :=
  let c0_i32_611 : BitVec 32 := 0#32
  let v1512 : BitVec 1 := Scalar.cmpi .sgt v1510 c0_i32_611
  let v1513 : BitVec 32 := Scalar.extui v1512
  let c0_i32_612 : BitVec 32 := 0#32
  let v1514 : BitVec 1 := Scalar.cmpi .slt v1510 c0_i32_612
  let v1515 : BitVec 32 := Scalar.extui v1514
  let v1516 : BitVec 32 := Scalar.subi v1513 v1515
  let c16_i32_610 : BitVec 32 := 16#32
  let c0_i32_613 : BitVec 32 := 0#32
  let v1517 : BitVec 1 := Scalar.cmpi .sgt c16_i32_610 c0_i32_613
  let v1518 : BitVec 32 := Scalar.extui v1517
  let c0_i32_614 : BitVec 32 := 0#32
  let v1519 : BitVec 1 := Scalar.cmpi .slt c16_i32_610 c0_i32_614
  let v1520 : BitVec 32 := Scalar.extui v1519
  let v1521 : BitVec 32 := Scalar.subi v1518 v1520
  let v1522 : BitVec 1 := Scalar.cmpi .ne v1516 v1521
  let v1523 : BitVec 32 := Scalar.remsi v1510 c16_i32_610
  let c0_i32_615 : BitVec 32 := 0#32
  let v1524 : BitVec 1 := Scalar.cmpi .ne v1523 c0_i32_615
  let v1525 : BitVec 1 := Scalar.andi v1522 v1524
  let v1511 : BitVec 32 := Scalar.divsi v1510 c16_i32_610
  let c1_i32_616 : BitVec 32 := 1#32
  let v1526 : BitVec 32 := Scalar.subi v1511 c1_i32_616
  let v1527 : BitVec 32 := Scalar.select v1525 v1526 v1511
  let c16_i32_617 : BitVec 32 := 16#32
  let v1528 : BitVec 32 := Scalar.muli v1527 c16_i32_617
  let c880_i32_618 : BitVec 32 := 880#32
  let v1529 : BitVec 32 := Scalar.minsi v1528 c880_i32_618
  v1529

def k0_off70 (v1510 : BitVec 32) : Fin 4 → Nat :=
  let c0_620 : Index := 0#32
  let c2_621 : Index := 2#32
  let c0_i32_611 : BitVec 32 := 0#32
  let v1512 : BitVec 1 := Scalar.cmpi .sgt v1510 c0_i32_611
  let v1513 : BitVec 32 := Scalar.extui v1512
  let c0_i32_612 : BitVec 32 := 0#32
  let v1514 : BitVec 1 := Scalar.cmpi .slt v1510 c0_i32_612
  let v1515 : BitVec 32 := Scalar.extui v1514
  let v1516 : BitVec 32 := Scalar.subi v1513 v1515
  let c16_i32_610 : BitVec 32 := 16#32
  let c0_i32_613 : BitVec 32 := 0#32
  let v1517 : BitVec 1 := Scalar.cmpi .sgt c16_i32_610 c0_i32_613
  let v1518 : BitVec 32 := Scalar.extui v1517
  let c0_i32_614 : BitVec 32 := 0#32
  let v1519 : BitVec 1 := Scalar.cmpi .slt c16_i32_610 c0_i32_614
  let v1520 : BitVec 32 := Scalar.extui v1519
  let v1521 : BitVec 32 := Scalar.subi v1518 v1520
  let v1522 : BitVec 1 := Scalar.cmpi .ne v1516 v1521
  let v1523 : BitVec 32 := Scalar.remsi v1510 c16_i32_610
  let c0_i32_615 : BitVec 32 := 0#32
  let v1524 : BitVec 1 := Scalar.cmpi .ne v1523 c0_i32_615
  let v1525 : BitVec 1 := Scalar.andi v1522 v1524
  let v1511 : BitVec 32 := Scalar.divsi v1510 c16_i32_610
  let c1_i32_616 : BitVec 32 := 1#32
  let v1526 : BitVec 32 := Scalar.subi v1511 c1_i32_616
  let v1527 : BitVec 32 := Scalar.select v1525 v1526 v1511
  let c16_i32_617 : BitVec 32 := 16#32
  let v1528 : BitVec 32 := Scalar.muli v1527 c16_i32_617
  let c880_i32_618 : BitVec 32 := 880#32
  let v1529 : BitVec 32 := Scalar.minsi v1528 c880_i32_618
  let v1530 : BitVec 32 := v1529
  let v1543 : Index := Scalar.indexCast v1530
  let c0_622 : Index := 0#32
  ![0, 2, v1543.toNat, 0]

def k0_chk35 (v1510 : BitVec 32) : Prop :=
  (16 ∣ (k0_mult35 v1510).toNat) ∧
  (∀ a, (k0_off70 v1510) a + S1x1x144x1024.size a ≤ S1x16x1024x1024.size a)
theorem k0_mult35_dvd : ∀ (v1510 : BitVec 32) (k0_hw35 : k0_chk35 v1510), 16 ∣ (k0_mult35 v1510).toNat := fun v1510 k0_hw35 => k0_hw35.1
theorem k0_off70_inb : ∀ (v1510 : BitVec 32) (k0_hw35 : k0_chk35 v1510), ∀ a, (k0_off70 v1510) a + S1x1x144x1024.size a ≤ S1x16x1024x1024.size a := fun v1510 k0_hw35 => k0_hw35.2

def k0_off71 (i : grid0.Coords) : Fin 3 → Nat :=
  let arg0 : BitVec 32 := BitVec.ofNat 32 (i 0).val
  let v1550 : Index := Scalar.indexCast arg0
  let c3_626 : Index := 3#32
  let arg1 : BitVec 32 := BitVec.ofNat 32 (i 1).val
  let c4_i32_624 : BitVec 32 := 4#32
  let v1548 : BitVec 32 := Scalar.muli arg1 c4_i32_624
  let c2_i32_625 : BitVec 32 := 2#32
  let v1549 : BitVec 32 := Scalar.addi v1548 c2_i32_625
  let v1551 : Index := Scalar.indexCast v1549
  ![v1550.toNat, 3, v1551.toNat]
def k0_mult36 (v1552 : BitVec 32) : BitVec 32 :=
  let c0_i32_628 : BitVec 32 := 0#32
  let v1554 : BitVec 1 := Scalar.cmpi .sgt v1552 c0_i32_628
  let v1555 : BitVec 32 := Scalar.extui v1554
  let c0_i32_629 : BitVec 32 := 0#32
  let v1556 : BitVec 1 := Scalar.cmpi .slt v1552 c0_i32_629
  let v1557 : BitVec 32 := Scalar.extui v1556
  let v1558 : BitVec 32 := Scalar.subi v1555 v1557
  let c16_i32_627 : BitVec 32 := 16#32
  let c0_i32_630 : BitVec 32 := 0#32
  let v1559 : BitVec 1 := Scalar.cmpi .sgt c16_i32_627 c0_i32_630
  let v1560 : BitVec 32 := Scalar.extui v1559
  let c0_i32_631 : BitVec 32 := 0#32
  let v1561 : BitVec 1 := Scalar.cmpi .slt c16_i32_627 c0_i32_631
  let v1562 : BitVec 32 := Scalar.extui v1561
  let v1563 : BitVec 32 := Scalar.subi v1560 v1562
  let v1564 : BitVec 1 := Scalar.cmpi .ne v1558 v1563
  let v1565 : BitVec 32 := Scalar.remsi v1552 c16_i32_627
  let c0_i32_632 : BitVec 32 := 0#32
  let v1566 : BitVec 1 := Scalar.cmpi .ne v1565 c0_i32_632
  let v1567 : BitVec 1 := Scalar.andi v1564 v1566
  let v1553 : BitVec 32 := Scalar.divsi v1552 c16_i32_627
  let c1_i32_633 : BitVec 32 := 1#32
  let v1568 : BitVec 32 := Scalar.subi v1553 c1_i32_633
  let v1569 : BitVec 32 := Scalar.select v1567 v1568 v1553
  let c16_i32_634 : BitVec 32 := 16#32
  let v1570 : BitVec 32 := Scalar.muli v1569 c16_i32_634
  let c880_i32_635 : BitVec 32 := 880#32
  let v1571 : BitVec 32 := Scalar.minsi v1570 c880_i32_635
  v1571

def k0_off72 (v1552 : BitVec 32) : Fin 4 → Nat :=
  let c0_637 : Index := 0#32
  let c3_638 : Index := 3#32
  let c0_i32_628 : BitVec 32 := 0#32
  let v1554 : BitVec 1 := Scalar.cmpi .sgt v1552 c0_i32_628
  let v1555 : BitVec 32 := Scalar.extui v1554
  let c0_i32_629 : BitVec 32 := 0#32
  let v1556 : BitVec 1 := Scalar.cmpi .slt v1552 c0_i32_629
  let v1557 : BitVec 32 := Scalar.extui v1556
  let v1558 : BitVec 32 := Scalar.subi v1555 v1557
  let c16_i32_627 : BitVec 32 := 16#32
  let c0_i32_630 : BitVec 32 := 0#32
  let v1559 : BitVec 1 := Scalar.cmpi .sgt c16_i32_627 c0_i32_630
  let v1560 : BitVec 32 := Scalar.extui v1559
  let c0_i32_631 : BitVec 32 := 0#32
  let v1561 : BitVec 1 := Scalar.cmpi .slt c16_i32_627 c0_i32_631
  let v1562 : BitVec 32 := Scalar.extui v1561
  let v1563 : BitVec 32 := Scalar.subi v1560 v1562
  let v1564 : BitVec 1 := Scalar.cmpi .ne v1558 v1563
  let v1565 : BitVec 32 := Scalar.remsi v1552 c16_i32_627
  let c0_i32_632 : BitVec 32 := 0#32
  let v1566 : BitVec 1 := Scalar.cmpi .ne v1565 c0_i32_632
  let v1567 : BitVec 1 := Scalar.andi v1564 v1566
  let v1553 : BitVec 32 := Scalar.divsi v1552 c16_i32_627
  let c1_i32_633 : BitVec 32 := 1#32
  let v1568 : BitVec 32 := Scalar.subi v1553 c1_i32_633
  let v1569 : BitVec 32 := Scalar.select v1567 v1568 v1553
  let c16_i32_634 : BitVec 32 := 16#32
  let v1570 : BitVec 32 := Scalar.muli v1569 c16_i32_634
  let c880_i32_635 : BitVec 32 := 880#32
  let v1571 : BitVec 32 := Scalar.minsi v1570 c880_i32_635
  let v1572 : BitVec 32 := v1571
  let v1585 : Index := Scalar.indexCast v1572
  let c0_639 : Index := 0#32
  ![0, 3, v1585.toNat, 0]

def k0_chk36 (v1552 : BitVec 32) : Prop :=
  (16 ∣ (k0_mult36 v1552).toNat) ∧
  (∀ a, (k0_off72 v1552) a + S1x1x144x1024.size a ≤ S1x16x1024x1024.size a)
theorem k0_mult36_dvd : ∀ (v1552 : BitVec 32) (k0_hw36 : k0_chk36 v1552), 16 ∣ (k0_mult36 v1552).toNat := fun v1552 k0_hw36 => k0_hw36.1
theorem k0_off72_inb : ∀ (v1552 : BitVec 32) (k0_hw36 : k0_chk36 v1552), ∀ a, (k0_off72 v1552) a + S1x1x144x1024.size a ≤ S1x16x1024x1024.size a := fun v1552 k0_hw36 => k0_hw36.2

def k0_off73 (i : grid0.Coords) : Fin 3 → Nat :=
  let arg0 : BitVec 32 := BitVec.ofNat 32 (i 0).val
  let v1592 : Index := Scalar.indexCast arg0
  let c4_643 : Index := 4#32
  let arg1 : BitVec 32 := BitVec.ofNat 32 (i 1).val
  let c4_i32_641 : BitVec 32 := 4#32
  let v1590 : BitVec 32 := Scalar.muli arg1 c4_i32_641
  let c2_i32_642 : BitVec 32 := 2#32
  let v1591 : BitVec 32 := Scalar.addi v1590 c2_i32_642
  let v1593 : Index := Scalar.indexCast v1591
  ![v1592.toNat, 4, v1593.toNat]
def k0_mult37 (v1594 : BitVec 32) : BitVec 32 :=
  let c0_i32_645 : BitVec 32 := 0#32
  let v1596 : BitVec 1 := Scalar.cmpi .sgt v1594 c0_i32_645
  let v1597 : BitVec 32 := Scalar.extui v1596
  let c0_i32_646 : BitVec 32 := 0#32
  let v1598 : BitVec 1 := Scalar.cmpi .slt v1594 c0_i32_646
  let v1599 : BitVec 32 := Scalar.extui v1598
  let v1600 : BitVec 32 := Scalar.subi v1597 v1599
  let c16_i32_644 : BitVec 32 := 16#32
  let c0_i32_647 : BitVec 32 := 0#32
  let v1601 : BitVec 1 := Scalar.cmpi .sgt c16_i32_644 c0_i32_647
  let v1602 : BitVec 32 := Scalar.extui v1601
  let c0_i32_648 : BitVec 32 := 0#32
  let v1603 : BitVec 1 := Scalar.cmpi .slt c16_i32_644 c0_i32_648
  let v1604 : BitVec 32 := Scalar.extui v1603
  let v1605 : BitVec 32 := Scalar.subi v1602 v1604
  let v1606 : BitVec 1 := Scalar.cmpi .ne v1600 v1605
  let v1607 : BitVec 32 := Scalar.remsi v1594 c16_i32_644
  let c0_i32_649 : BitVec 32 := 0#32
  let v1608 : BitVec 1 := Scalar.cmpi .ne v1607 c0_i32_649
  let v1609 : BitVec 1 := Scalar.andi v1606 v1608
  let v1595 : BitVec 32 := Scalar.divsi v1594 c16_i32_644
  let c1_i32_650 : BitVec 32 := 1#32
  let v1610 : BitVec 32 := Scalar.subi v1595 c1_i32_650
  let v1611 : BitVec 32 := Scalar.select v1609 v1610 v1595
  let c16_i32_651 : BitVec 32 := 16#32
  let v1612 : BitVec 32 := Scalar.muli v1611 c16_i32_651
  let c880_i32_652 : BitVec 32 := 880#32
  let v1613 : BitVec 32 := Scalar.minsi v1612 c880_i32_652
  v1613

def k0_off74 (v1594 : BitVec 32) : Fin 4 → Nat :=
  let c0_654 : Index := 0#32
  let c4_655 : Index := 4#32
  let c0_i32_645 : BitVec 32 := 0#32
  let v1596 : BitVec 1 := Scalar.cmpi .sgt v1594 c0_i32_645
  let v1597 : BitVec 32 := Scalar.extui v1596
  let c0_i32_646 : BitVec 32 := 0#32
  let v1598 : BitVec 1 := Scalar.cmpi .slt v1594 c0_i32_646
  let v1599 : BitVec 32 := Scalar.extui v1598
  let v1600 : BitVec 32 := Scalar.subi v1597 v1599
  let c16_i32_644 : BitVec 32 := 16#32
  let c0_i32_647 : BitVec 32 := 0#32
  let v1601 : BitVec 1 := Scalar.cmpi .sgt c16_i32_644 c0_i32_647
  let v1602 : BitVec 32 := Scalar.extui v1601
  let c0_i32_648 : BitVec 32 := 0#32
  let v1603 : BitVec 1 := Scalar.cmpi .slt c16_i32_644 c0_i32_648
  let v1604 : BitVec 32 := Scalar.extui v1603
  let v1605 : BitVec 32 := Scalar.subi v1602 v1604
  let v1606 : BitVec 1 := Scalar.cmpi .ne v1600 v1605
  let v1607 : BitVec 32 := Scalar.remsi v1594 c16_i32_644
  let c0_i32_649 : BitVec 32 := 0#32
  let v1608 : BitVec 1 := Scalar.cmpi .ne v1607 c0_i32_649
  let v1609 : BitVec 1 := Scalar.andi v1606 v1608
  let v1595 : BitVec 32 := Scalar.divsi v1594 c16_i32_644
  let c1_i32_650 : BitVec 32 := 1#32
  let v1610 : BitVec 32 := Scalar.subi v1595 c1_i32_650
  let v1611 : BitVec 32 := Scalar.select v1609 v1610 v1595
  let c16_i32_651 : BitVec 32 := 16#32
  let v1612 : BitVec 32 := Scalar.muli v1611 c16_i32_651
  let c880_i32_652 : BitVec 32 := 880#32
  let v1613 : BitVec 32 := Scalar.minsi v1612 c880_i32_652
  let v1614 : BitVec 32 := v1613
  let v1627 : Index := Scalar.indexCast v1614
  let c0_656 : Index := 0#32
  ![0, 4, v1627.toNat, 0]

def k0_chk37 (v1594 : BitVec 32) : Prop :=
  (16 ∣ (k0_mult37 v1594).toNat) ∧
  (∀ a, (k0_off74 v1594) a + S1x1x144x1024.size a ≤ S1x16x1024x1024.size a)
theorem k0_mult37_dvd : ∀ (v1594 : BitVec 32) (k0_hw37 : k0_chk37 v1594), 16 ∣ (k0_mult37 v1594).toNat := fun v1594 k0_hw37 => k0_hw37.1
theorem k0_off74_inb : ∀ (v1594 : BitVec 32) (k0_hw37 : k0_chk37 v1594), ∀ a, (k0_off74 v1594) a + S1x1x144x1024.size a ≤ S1x16x1024x1024.size a := fun v1594 k0_hw37 => k0_hw37.2

def k0_off75 (i : grid0.Coords) : Fin 3 → Nat :=
  let arg0 : BitVec 32 := BitVec.ofNat 32 (i 0).val
  let v1634 : Index := Scalar.indexCast arg0
  let c5_660 : Index := 5#32
  let arg1 : BitVec 32 := BitVec.ofNat 32 (i 1).val
  let c4_i32_658 : BitVec 32 := 4#32
  let v1632 : BitVec 32 := Scalar.muli arg1 c4_i32_658
  let c2_i32_659 : BitVec 32 := 2#32
  let v1633 : BitVec 32 := Scalar.addi v1632 c2_i32_659
  let v1635 : Index := Scalar.indexCast v1633
  ![v1634.toNat, 5, v1635.toNat]
def k0_mult38 (v1636 : BitVec 32) : BitVec 32 :=
  let c0_i32_662 : BitVec 32 := 0#32
  let v1638 : BitVec 1 := Scalar.cmpi .sgt v1636 c0_i32_662
  let v1639 : BitVec 32 := Scalar.extui v1638
  let c0_i32_663 : BitVec 32 := 0#32
  let v1640 : BitVec 1 := Scalar.cmpi .slt v1636 c0_i32_663
  let v1641 : BitVec 32 := Scalar.extui v1640
  let v1642 : BitVec 32 := Scalar.subi v1639 v1641
  let c16_i32_661 : BitVec 32 := 16#32
  let c0_i32_664 : BitVec 32 := 0#32
  let v1643 : BitVec 1 := Scalar.cmpi .sgt c16_i32_661 c0_i32_664
  let v1644 : BitVec 32 := Scalar.extui v1643
  let c0_i32_665 : BitVec 32 := 0#32
  let v1645 : BitVec 1 := Scalar.cmpi .slt c16_i32_661 c0_i32_665
  let v1646 : BitVec 32 := Scalar.extui v1645
  let v1647 : BitVec 32 := Scalar.subi v1644 v1646
  let v1648 : BitVec 1 := Scalar.cmpi .ne v1642 v1647
  let v1649 : BitVec 32 := Scalar.remsi v1636 c16_i32_661
  let c0_i32_666 : BitVec 32 := 0#32
  let v1650 : BitVec 1 := Scalar.cmpi .ne v1649 c0_i32_666
  let v1651 : BitVec 1 := Scalar.andi v1648 v1650
  let v1637 : BitVec 32 := Scalar.divsi v1636 c16_i32_661
  let c1_i32_667 : BitVec 32 := 1#32
  let v1652 : BitVec 32 := Scalar.subi v1637 c1_i32_667
  let v1653 : BitVec 32 := Scalar.select v1651 v1652 v1637
  let c16_i32_668 : BitVec 32 := 16#32
  let v1654 : BitVec 32 := Scalar.muli v1653 c16_i32_668
  let c880_i32_669 : BitVec 32 := 880#32
  let v1655 : BitVec 32 := Scalar.minsi v1654 c880_i32_669
  v1655

def k0_off76 (v1636 : BitVec 32) : Fin 4 → Nat :=
  let c0_671 : Index := 0#32
  let c5_672 : Index := 5#32
  let c0_i32_662 : BitVec 32 := 0#32
  let v1638 : BitVec 1 := Scalar.cmpi .sgt v1636 c0_i32_662
  let v1639 : BitVec 32 := Scalar.extui v1638
  let c0_i32_663 : BitVec 32 := 0#32
  let v1640 : BitVec 1 := Scalar.cmpi .slt v1636 c0_i32_663
  let v1641 : BitVec 32 := Scalar.extui v1640
  let v1642 : BitVec 32 := Scalar.subi v1639 v1641
  let c16_i32_661 : BitVec 32 := 16#32
  let c0_i32_664 : BitVec 32 := 0#32
  let v1643 : BitVec 1 := Scalar.cmpi .sgt c16_i32_661 c0_i32_664
  let v1644 : BitVec 32 := Scalar.extui v1643
  let c0_i32_665 : BitVec 32 := 0#32
  let v1645 : BitVec 1 := Scalar.cmpi .slt c16_i32_661 c0_i32_665
  let v1646 : BitVec 32 := Scalar.extui v1645
  let v1647 : BitVec 32 := Scalar.subi v1644 v1646
  let v1648 : BitVec 1 := Scalar.cmpi .ne v1642 v1647
  let v1649 : BitVec 32 := Scalar.remsi v1636 c16_i32_661
  let c0_i32_666 : BitVec 32 := 0#32
  let v1650 : BitVec 1 := Scalar.cmpi .ne v1649 c0_i32_666
  let v1651 : BitVec 1 := Scalar.andi v1648 v1650
  let v1637 : BitVec 32 := Scalar.divsi v1636 c16_i32_661
  let c1_i32_667 : BitVec 32 := 1#32
  let v1652 : BitVec 32 := Scalar.subi v1637 c1_i32_667
  let v1653 : BitVec 32 := Scalar.select v1651 v1652 v1637
  let c16_i32_668 : BitVec 32 := 16#32
  let v1654 : BitVec 32 := Scalar.muli v1653 c16_i32_668
  let c880_i32_669 : BitVec 32 := 880#32
  let v1655 : BitVec 32 := Scalar.minsi v1654 c880_i32_669
  let v1656 : BitVec 32 := v1655
  let v1669 : Index := Scalar.indexCast v1656
  let c0_673 : Index := 0#32
  ![0, 5, v1669.toNat, 0]

def k0_chk38 (v1636 : BitVec 32) : Prop :=
  (16 ∣ (k0_mult38 v1636).toNat) ∧
  (∀ a, (k0_off76 v1636) a + S1x1x144x1024.size a ≤ S1x16x1024x1024.size a)
theorem k0_mult38_dvd : ∀ (v1636 : BitVec 32) (k0_hw38 : k0_chk38 v1636), 16 ∣ (k0_mult38 v1636).toNat := fun v1636 k0_hw38 => k0_hw38.1
theorem k0_off76_inb : ∀ (v1636 : BitVec 32) (k0_hw38 : k0_chk38 v1636), ∀ a, (k0_off76 v1636) a + S1x1x144x1024.size a ≤ S1x16x1024x1024.size a := fun v1636 k0_hw38 => k0_hw38.2

def k0_off77 (i : grid0.Coords) : Fin 3 → Nat :=
  let arg0 : BitVec 32 := BitVec.ofNat 32 (i 0).val
  let v1676 : Index := Scalar.indexCast arg0
  let c6_677 : Index := 6#32
  let arg1 : BitVec 32 := BitVec.ofNat 32 (i 1).val
  let c4_i32_675 : BitVec 32 := 4#32
  let v1674 : BitVec 32 := Scalar.muli arg1 c4_i32_675
  let c2_i32_676 : BitVec 32 := 2#32
  let v1675 : BitVec 32 := Scalar.addi v1674 c2_i32_676
  let v1677 : Index := Scalar.indexCast v1675
  ![v1676.toNat, 6, v1677.toNat]
def k0_mult39 (v1678 : BitVec 32) : BitVec 32 :=
  let c0_i32_679 : BitVec 32 := 0#32
  let v1680 : BitVec 1 := Scalar.cmpi .sgt v1678 c0_i32_679
  let v1681 : BitVec 32 := Scalar.extui v1680
  let c0_i32_680 : BitVec 32 := 0#32
  let v1682 : BitVec 1 := Scalar.cmpi .slt v1678 c0_i32_680
  let v1683 : BitVec 32 := Scalar.extui v1682
  let v1684 : BitVec 32 := Scalar.subi v1681 v1683
  let c16_i32_678 : BitVec 32 := 16#32
  let c0_i32_681 : BitVec 32 := 0#32
  let v1685 : BitVec 1 := Scalar.cmpi .sgt c16_i32_678 c0_i32_681
  let v1686 : BitVec 32 := Scalar.extui v1685
  let c0_i32_682 : BitVec 32 := 0#32
  let v1687 : BitVec 1 := Scalar.cmpi .slt c16_i32_678 c0_i32_682
  let v1688 : BitVec 32 := Scalar.extui v1687
  let v1689 : BitVec 32 := Scalar.subi v1686 v1688
  let v1690 : BitVec 1 := Scalar.cmpi .ne v1684 v1689
  let v1691 : BitVec 32 := Scalar.remsi v1678 c16_i32_678
  let c0_i32_683 : BitVec 32 := 0#32
  let v1692 : BitVec 1 := Scalar.cmpi .ne v1691 c0_i32_683
  let v1693 : BitVec 1 := Scalar.andi v1690 v1692
  let v1679 : BitVec 32 := Scalar.divsi v1678 c16_i32_678
  let c1_i32_684 : BitVec 32 := 1#32
  let v1694 : BitVec 32 := Scalar.subi v1679 c1_i32_684
  let v1695 : BitVec 32 := Scalar.select v1693 v1694 v1679
  let c16_i32_685 : BitVec 32 := 16#32
  let v1696 : BitVec 32 := Scalar.muli v1695 c16_i32_685
  let c880_i32_686 : BitVec 32 := 880#32
  let v1697 : BitVec 32 := Scalar.minsi v1696 c880_i32_686
  v1697

def k0_off78 (v1678 : BitVec 32) : Fin 4 → Nat :=
  let c0_688 : Index := 0#32
  let c6_689 : Index := 6#32
  let c0_i32_679 : BitVec 32 := 0#32
  let v1680 : BitVec 1 := Scalar.cmpi .sgt v1678 c0_i32_679
  let v1681 : BitVec 32 := Scalar.extui v1680
  let c0_i32_680 : BitVec 32 := 0#32
  let v1682 : BitVec 1 := Scalar.cmpi .slt v1678 c0_i32_680
  let v1683 : BitVec 32 := Scalar.extui v1682
  let v1684 : BitVec 32 := Scalar.subi v1681 v1683
  let c16_i32_678 : BitVec 32 := 16#32
  let c0_i32_681 : BitVec 32 := 0#32
  let v1685 : BitVec 1 := Scalar.cmpi .sgt c16_i32_678 c0_i32_681
  let v1686 : BitVec 32 := Scalar.extui v1685
  let c0_i32_682 : BitVec 32 := 0#32
  let v1687 : BitVec 1 := Scalar.cmpi .slt c16_i32_678 c0_i32_682
  let v1688 : BitVec 32 := Scalar.extui v1687
  let v1689 : BitVec 32 := Scalar.subi v1686 v1688
  let v1690 : BitVec 1 := Scalar.cmpi .ne v1684 v1689
  let v1691 : BitVec 32 := Scalar.remsi v1678 c16_i32_678
  let c0_i32_683 : BitVec 32 := 0#32
  let v1692 : BitVec 1 := Scalar.cmpi .ne v1691 c0_i32_683
  let v1693 : BitVec 1 := Scalar.andi v1690 v1692
  let v1679 : BitVec 32 := Scalar.divsi v1678 c16_i32_678
  let c1_i32_684 : BitVec 32 := 1#32
  let v1694 : BitVec 32 := Scalar.subi v1679 c1_i32_684
  let v1695 : BitVec 32 := Scalar.select v1693 v1694 v1679
  let c16_i32_685 : BitVec 32 := 16#32
  let v1696 : BitVec 32 := Scalar.muli v1695 c16_i32_685
  let c880_i32_686 : BitVec 32 := 880#32
  let v1697 : BitVec 32 := Scalar.minsi v1696 c880_i32_686
  let v1698 : BitVec 32 := v1697
  let v1711 : Index := Scalar.indexCast v1698
  let c0_690 : Index := 0#32
  ![0, 6, v1711.toNat, 0]

def k0_chk39 (v1678 : BitVec 32) : Prop :=
  (16 ∣ (k0_mult39 v1678).toNat) ∧
  (∀ a, (k0_off78 v1678) a + S1x1x144x1024.size a ≤ S1x16x1024x1024.size a)
theorem k0_mult39_dvd : ∀ (v1678 : BitVec 32) (k0_hw39 : k0_chk39 v1678), 16 ∣ (k0_mult39 v1678).toNat := fun v1678 k0_hw39 => k0_hw39.1
theorem k0_off78_inb : ∀ (v1678 : BitVec 32) (k0_hw39 : k0_chk39 v1678), ∀ a, (k0_off78 v1678) a + S1x1x144x1024.size a ≤ S1x16x1024x1024.size a := fun v1678 k0_hw39 => k0_hw39.2

def k0_off79 (i : grid0.Coords) : Fin 3 → Nat :=
  let arg0 : BitVec 32 := BitVec.ofNat 32 (i 0).val
  let v1718 : Index := Scalar.indexCast arg0
  let c7_694 : Index := 7#32
  let arg1 : BitVec 32 := BitVec.ofNat 32 (i 1).val
  let c4_i32_692 : BitVec 32 := 4#32
  let v1716 : BitVec 32 := Scalar.muli arg1 c4_i32_692
  let c2_i32_693 : BitVec 32 := 2#32
  let v1717 : BitVec 32 := Scalar.addi v1716 c2_i32_693
  let v1719 : Index := Scalar.indexCast v1717
  ![v1718.toNat, 7, v1719.toNat]
def k0_mult40 (v1720 : BitVec 32) : BitVec 32 :=
  let c0_i32_696 : BitVec 32 := 0#32
  let v1722 : BitVec 1 := Scalar.cmpi .sgt v1720 c0_i32_696
  let v1723 : BitVec 32 := Scalar.extui v1722
  let c0_i32_697 : BitVec 32 := 0#32
  let v1724 : BitVec 1 := Scalar.cmpi .slt v1720 c0_i32_697
  let v1725 : BitVec 32 := Scalar.extui v1724
  let v1726 : BitVec 32 := Scalar.subi v1723 v1725
  let c16_i32_695 : BitVec 32 := 16#32
  let c0_i32_698 : BitVec 32 := 0#32
  let v1727 : BitVec 1 := Scalar.cmpi .sgt c16_i32_695 c0_i32_698
  let v1728 : BitVec 32 := Scalar.extui v1727
  let c0_i32_699 : BitVec 32 := 0#32
  let v1729 : BitVec 1 := Scalar.cmpi .slt c16_i32_695 c0_i32_699
  let v1730 : BitVec 32 := Scalar.extui v1729
  let v1731 : BitVec 32 := Scalar.subi v1728 v1730
  let v1732 : BitVec 1 := Scalar.cmpi .ne v1726 v1731
  let v1733 : BitVec 32 := Scalar.remsi v1720 c16_i32_695
  let c0_i32_700 : BitVec 32 := 0#32
  let v1734 : BitVec 1 := Scalar.cmpi .ne v1733 c0_i32_700
  let v1735 : BitVec 1 := Scalar.andi v1732 v1734
  let v1721 : BitVec 32 := Scalar.divsi v1720 c16_i32_695
  let c1_i32_701 : BitVec 32 := 1#32
  let v1736 : BitVec 32 := Scalar.subi v1721 c1_i32_701
  let v1737 : BitVec 32 := Scalar.select v1735 v1736 v1721
  let c16_i32_702 : BitVec 32 := 16#32
  let v1738 : BitVec 32 := Scalar.muli v1737 c16_i32_702
  let c880_i32_703 : BitVec 32 := 880#32
  let v1739 : BitVec 32 := Scalar.minsi v1738 c880_i32_703
  v1739

def k0_off80 (v1720 : BitVec 32) : Fin 4 → Nat :=
  let c0_705 : Index := 0#32
  let c7_706 : Index := 7#32
  let c0_i32_696 : BitVec 32 := 0#32
  let v1722 : BitVec 1 := Scalar.cmpi .sgt v1720 c0_i32_696
  let v1723 : BitVec 32 := Scalar.extui v1722
  let c0_i32_697 : BitVec 32 := 0#32
  let v1724 : BitVec 1 := Scalar.cmpi .slt v1720 c0_i32_697
  let v1725 : BitVec 32 := Scalar.extui v1724
  let v1726 : BitVec 32 := Scalar.subi v1723 v1725
  let c16_i32_695 : BitVec 32 := 16#32
  let c0_i32_698 : BitVec 32 := 0#32
  let v1727 : BitVec 1 := Scalar.cmpi .sgt c16_i32_695 c0_i32_698
  let v1728 : BitVec 32 := Scalar.extui v1727
  let c0_i32_699 : BitVec 32 := 0#32
  let v1729 : BitVec 1 := Scalar.cmpi .slt c16_i32_695 c0_i32_699
  let v1730 : BitVec 32 := Scalar.extui v1729
  let v1731 : BitVec 32 := Scalar.subi v1728 v1730
  let v1732 : BitVec 1 := Scalar.cmpi .ne v1726 v1731
  let v1733 : BitVec 32 := Scalar.remsi v1720 c16_i32_695
  let c0_i32_700 : BitVec 32 := 0#32
  let v1734 : BitVec 1 := Scalar.cmpi .ne v1733 c0_i32_700
  let v1735 : BitVec 1 := Scalar.andi v1732 v1734
  let v1721 : BitVec 32 := Scalar.divsi v1720 c16_i32_695
  let c1_i32_701 : BitVec 32 := 1#32
  let v1736 : BitVec 32 := Scalar.subi v1721 c1_i32_701
  let v1737 : BitVec 32 := Scalar.select v1735 v1736 v1721
  let c16_i32_702 : BitVec 32 := 16#32
  let v1738 : BitVec 32 := Scalar.muli v1737 c16_i32_702
  let c880_i32_703 : BitVec 32 := 880#32
  let v1739 : BitVec 32 := Scalar.minsi v1738 c880_i32_703
  let v1740 : BitVec 32 := v1739
  let v1753 : Index := Scalar.indexCast v1740
  let c0_707 : Index := 0#32
  ![0, 7, v1753.toNat, 0]

def k0_chk40 (v1720 : BitVec 32) : Prop :=
  (16 ∣ (k0_mult40 v1720).toNat) ∧
  (∀ a, (k0_off80 v1720) a + S1x1x144x1024.size a ≤ S1x16x1024x1024.size a)
theorem k0_mult40_dvd : ∀ (v1720 : BitVec 32) (k0_hw40 : k0_chk40 v1720), 16 ∣ (k0_mult40 v1720).toNat := fun v1720 k0_hw40 => k0_hw40.1
theorem k0_off80_inb : ∀ (v1720 : BitVec 32) (k0_hw40 : k0_chk40 v1720), ∀ a, (k0_off80 v1720) a + S1x1x144x1024.size a ≤ S1x16x1024x1024.size a := fun v1720 k0_hw40 => k0_hw40.2

def k0_off81 (i : grid0.Coords) : Fin 3 → Nat :=
  let arg0 : BitVec 32 := BitVec.ofNat 32 (i 0).val
  let v1760 : Index := Scalar.indexCast arg0
  let c8_711 : Index := 8#32
  let arg1 : BitVec 32 := BitVec.ofNat 32 (i 1).val
  let c4_i32_709 : BitVec 32 := 4#32
  let v1758 : BitVec 32 := Scalar.muli arg1 c4_i32_709
  let c2_i32_710 : BitVec 32 := 2#32
  let v1759 : BitVec 32 := Scalar.addi v1758 c2_i32_710
  let v1761 : Index := Scalar.indexCast v1759
  ![v1760.toNat, 8, v1761.toNat]
def k0_mult41 (v1762 : BitVec 32) : BitVec 32 :=
  let c0_i32_713 : BitVec 32 := 0#32
  let v1764 : BitVec 1 := Scalar.cmpi .sgt v1762 c0_i32_713
  let v1765 : BitVec 32 := Scalar.extui v1764
  let c0_i32_714 : BitVec 32 := 0#32
  let v1766 : BitVec 1 := Scalar.cmpi .slt v1762 c0_i32_714
  let v1767 : BitVec 32 := Scalar.extui v1766
  let v1768 : BitVec 32 := Scalar.subi v1765 v1767
  let c16_i32_712 : BitVec 32 := 16#32
  let c0_i32_715 : BitVec 32 := 0#32
  let v1769 : BitVec 1 := Scalar.cmpi .sgt c16_i32_712 c0_i32_715
  let v1770 : BitVec 32 := Scalar.extui v1769
  let c0_i32_716 : BitVec 32 := 0#32
  let v1771 : BitVec 1 := Scalar.cmpi .slt c16_i32_712 c0_i32_716
  let v1772 : BitVec 32 := Scalar.extui v1771
  let v1773 : BitVec 32 := Scalar.subi v1770 v1772
  let v1774 : BitVec 1 := Scalar.cmpi .ne v1768 v1773
  let v1775 : BitVec 32 := Scalar.remsi v1762 c16_i32_712
  let c0_i32_717 : BitVec 32 := 0#32
  let v1776 : BitVec 1 := Scalar.cmpi .ne v1775 c0_i32_717
  let v1777 : BitVec 1 := Scalar.andi v1774 v1776
  let v1763 : BitVec 32 := Scalar.divsi v1762 c16_i32_712
  let c1_i32_718 : BitVec 32 := 1#32
  let v1778 : BitVec 32 := Scalar.subi v1763 c1_i32_718
  let v1779 : BitVec 32 := Scalar.select v1777 v1778 v1763
  let c16_i32_719 : BitVec 32 := 16#32
  let v1780 : BitVec 32 := Scalar.muli v1779 c16_i32_719
  let c880_i32_720 : BitVec 32 := 880#32
  let v1781 : BitVec 32 := Scalar.minsi v1780 c880_i32_720
  v1781

def k0_off82 (v1762 : BitVec 32) : Fin 4 → Nat :=
  let c0_722 : Index := 0#32
  let c8_723 : Index := 8#32
  let c0_i32_713 : BitVec 32 := 0#32
  let v1764 : BitVec 1 := Scalar.cmpi .sgt v1762 c0_i32_713
  let v1765 : BitVec 32 := Scalar.extui v1764
  let c0_i32_714 : BitVec 32 := 0#32
  let v1766 : BitVec 1 := Scalar.cmpi .slt v1762 c0_i32_714
  let v1767 : BitVec 32 := Scalar.extui v1766
  let v1768 : BitVec 32 := Scalar.subi v1765 v1767
  let c16_i32_712 : BitVec 32 := 16#32
  let c0_i32_715 : BitVec 32 := 0#32
  let v1769 : BitVec 1 := Scalar.cmpi .sgt c16_i32_712 c0_i32_715
  let v1770 : BitVec 32 := Scalar.extui v1769
  let c0_i32_716 : BitVec 32 := 0#32
  let v1771 : BitVec 1 := Scalar.cmpi .slt c16_i32_712 c0_i32_716
  let v1772 : BitVec 32 := Scalar.extui v1771
  let v1773 : BitVec 32 := Scalar.subi v1770 v1772
  let v1774 : BitVec 1 := Scalar.cmpi .ne v1768 v1773
  let v1775 : BitVec 32 := Scalar.remsi v1762 c16_i32_712
  let c0_i32_717 : BitVec 32 := 0#32
  let v1776 : BitVec 1 := Scalar.cmpi .ne v1775 c0_i32_717
  let v1777 : BitVec 1 := Scalar.andi v1774 v1776
  let v1763 : BitVec 32 := Scalar.divsi v1762 c16_i32_712
  let c1_i32_718 : BitVec 32 := 1#32
  let v1778 : BitVec 32 := Scalar.subi v1763 c1_i32_718
  let v1779 : BitVec 32 := Scalar.select v1777 v1778 v1763
  let c16_i32_719 : BitVec 32 := 16#32
  let v1780 : BitVec 32 := Scalar.muli v1779 c16_i32_719
  let c880_i32_720 : BitVec 32 := 880#32
  let v1781 : BitVec 32 := Scalar.minsi v1780 c880_i32_720
  let v1782 : BitVec 32 := v1781
  let v1795 : Index := Scalar.indexCast v1782
  let c0_724 : Index := 0#32
  ![0, 8, v1795.toNat, 0]

def k0_chk41 (v1762 : BitVec 32) : Prop :=
  (16 ∣ (k0_mult41 v1762).toNat) ∧
  (∀ a, (k0_off82 v1762) a + S1x1x144x1024.size a ≤ S1x16x1024x1024.size a)
theorem k0_mult41_dvd : ∀ (v1762 : BitVec 32) (k0_hw41 : k0_chk41 v1762), 16 ∣ (k0_mult41 v1762).toNat := fun v1762 k0_hw41 => k0_hw41.1
theorem k0_off82_inb : ∀ (v1762 : BitVec 32) (k0_hw41 : k0_chk41 v1762), ∀ a, (k0_off82 v1762) a + S1x1x144x1024.size a ≤ S1x16x1024x1024.size a := fun v1762 k0_hw41 => k0_hw41.2

def k0_off83 (i : grid0.Coords) : Fin 3 → Nat :=
  let arg0 : BitVec 32 := BitVec.ofNat 32 (i 0).val
  let v1802 : Index := Scalar.indexCast arg0
  let c9_728 : Index := 9#32
  let arg1 : BitVec 32 := BitVec.ofNat 32 (i 1).val
  let c4_i32_726 : BitVec 32 := 4#32
  let v1800 : BitVec 32 := Scalar.muli arg1 c4_i32_726
  let c2_i32_727 : BitVec 32 := 2#32
  let v1801 : BitVec 32 := Scalar.addi v1800 c2_i32_727
  let v1803 : Index := Scalar.indexCast v1801
  ![v1802.toNat, 9, v1803.toNat]
def k0_mult42 (v1804 : BitVec 32) : BitVec 32 :=
  let c0_i32_730 : BitVec 32 := 0#32
  let v1806 : BitVec 1 := Scalar.cmpi .sgt v1804 c0_i32_730
  let v1807 : BitVec 32 := Scalar.extui v1806
  let c0_i32_731 : BitVec 32 := 0#32
  let v1808 : BitVec 1 := Scalar.cmpi .slt v1804 c0_i32_731
  let v1809 : BitVec 32 := Scalar.extui v1808
  let v1810 : BitVec 32 := Scalar.subi v1807 v1809
  let c16_i32_729 : BitVec 32 := 16#32
  let c0_i32_732 : BitVec 32 := 0#32
  let v1811 : BitVec 1 := Scalar.cmpi .sgt c16_i32_729 c0_i32_732
  let v1812 : BitVec 32 := Scalar.extui v1811
  let c0_i32_733 : BitVec 32 := 0#32
  let v1813 : BitVec 1 := Scalar.cmpi .slt c16_i32_729 c0_i32_733
  let v1814 : BitVec 32 := Scalar.extui v1813
  let v1815 : BitVec 32 := Scalar.subi v1812 v1814
  let v1816 : BitVec 1 := Scalar.cmpi .ne v1810 v1815
  let v1817 : BitVec 32 := Scalar.remsi v1804 c16_i32_729
  let c0_i32_734 : BitVec 32 := 0#32
  let v1818 : BitVec 1 := Scalar.cmpi .ne v1817 c0_i32_734
  let v1819 : BitVec 1 := Scalar.andi v1816 v1818
  let v1805 : BitVec 32 := Scalar.divsi v1804 c16_i32_729
  let c1_i32_735 : BitVec 32 := 1#32
  let v1820 : BitVec 32 := Scalar.subi v1805 c1_i32_735
  let v1821 : BitVec 32 := Scalar.select v1819 v1820 v1805
  let c16_i32_736 : BitVec 32 := 16#32
  let v1822 : BitVec 32 := Scalar.muli v1821 c16_i32_736
  let c880_i32_737 : BitVec 32 := 880#32
  let v1823 : BitVec 32 := Scalar.minsi v1822 c880_i32_737
  v1823

def k0_off84 (v1804 : BitVec 32) : Fin 4 → Nat :=
  let c0_739 : Index := 0#32
  let c9_740 : Index := 9#32
  let c0_i32_730 : BitVec 32 := 0#32
  let v1806 : BitVec 1 := Scalar.cmpi .sgt v1804 c0_i32_730
  let v1807 : BitVec 32 := Scalar.extui v1806
  let c0_i32_731 : BitVec 32 := 0#32
  let v1808 : BitVec 1 := Scalar.cmpi .slt v1804 c0_i32_731
  let v1809 : BitVec 32 := Scalar.extui v1808
  let v1810 : BitVec 32 := Scalar.subi v1807 v1809
  let c16_i32_729 : BitVec 32 := 16#32
  let c0_i32_732 : BitVec 32 := 0#32
  let v1811 : BitVec 1 := Scalar.cmpi .sgt c16_i32_729 c0_i32_732
  let v1812 : BitVec 32 := Scalar.extui v1811
  let c0_i32_733 : BitVec 32 := 0#32
  let v1813 : BitVec 1 := Scalar.cmpi .slt c16_i32_729 c0_i32_733
  let v1814 : BitVec 32 := Scalar.extui v1813
  let v1815 : BitVec 32 := Scalar.subi v1812 v1814
  let v1816 : BitVec 1 := Scalar.cmpi .ne v1810 v1815
  let v1817 : BitVec 32 := Scalar.remsi v1804 c16_i32_729
  let c0_i32_734 : BitVec 32 := 0#32
  let v1818 : BitVec 1 := Scalar.cmpi .ne v1817 c0_i32_734
  let v1819 : BitVec 1 := Scalar.andi v1816 v1818
  let v1805 : BitVec 32 := Scalar.divsi v1804 c16_i32_729
  let c1_i32_735 : BitVec 32 := 1#32
  let v1820 : BitVec 32 := Scalar.subi v1805 c1_i32_735
  let v1821 : BitVec 32 := Scalar.select v1819 v1820 v1805
  let c16_i32_736 : BitVec 32 := 16#32
  let v1822 : BitVec 32 := Scalar.muli v1821 c16_i32_736
  let c880_i32_737 : BitVec 32 := 880#32
  let v1823 : BitVec 32 := Scalar.minsi v1822 c880_i32_737
  let v1824 : BitVec 32 := v1823
  let v1837 : Index := Scalar.indexCast v1824
  let c0_741 : Index := 0#32
  ![0, 9, v1837.toNat, 0]

def k0_chk42 (v1804 : BitVec 32) : Prop :=
  (16 ∣ (k0_mult42 v1804).toNat) ∧
  (∀ a, (k0_off84 v1804) a + S1x1x144x1024.size a ≤ S1x16x1024x1024.size a)
theorem k0_mult42_dvd : ∀ (v1804 : BitVec 32) (k0_hw42 : k0_chk42 v1804), 16 ∣ (k0_mult42 v1804).toNat := fun v1804 k0_hw42 => k0_hw42.1
theorem k0_off84_inb : ∀ (v1804 : BitVec 32) (k0_hw42 : k0_chk42 v1804), ∀ a, (k0_off84 v1804) a + S1x1x144x1024.size a ≤ S1x16x1024x1024.size a := fun v1804 k0_hw42 => k0_hw42.2

def k0_off85 (i : grid0.Coords) : Fin 3 → Nat :=
  let arg0 : BitVec 32 := BitVec.ofNat 32 (i 0).val
  let v1844 : Index := Scalar.indexCast arg0
  let c10_745 : Index := 10#32
  let arg1 : BitVec 32 := BitVec.ofNat 32 (i 1).val
  let c4_i32_743 : BitVec 32 := 4#32
  let v1842 : BitVec 32 := Scalar.muli arg1 c4_i32_743
  let c2_i32_744 : BitVec 32 := 2#32
  let v1843 : BitVec 32 := Scalar.addi v1842 c2_i32_744
  let v1845 : Index := Scalar.indexCast v1843
  ![v1844.toNat, 10, v1845.toNat]
def k0_mult43 (v1846 : BitVec 32) : BitVec 32 :=
  let c0_i32_747 : BitVec 32 := 0#32
  let v1848 : BitVec 1 := Scalar.cmpi .sgt v1846 c0_i32_747
  let v1849 : BitVec 32 := Scalar.extui v1848
  let c0_i32_748 : BitVec 32 := 0#32
  let v1850 : BitVec 1 := Scalar.cmpi .slt v1846 c0_i32_748
  let v1851 : BitVec 32 := Scalar.extui v1850
  let v1852 : BitVec 32 := Scalar.subi v1849 v1851
  let c16_i32_746 : BitVec 32 := 16#32
  let c0_i32_749 : BitVec 32 := 0#32
  let v1853 : BitVec 1 := Scalar.cmpi .sgt c16_i32_746 c0_i32_749
  let v1854 : BitVec 32 := Scalar.extui v1853
  let c0_i32_750 : BitVec 32 := 0#32
  let v1855 : BitVec 1 := Scalar.cmpi .slt c16_i32_746 c0_i32_750
  let v1856 : BitVec 32 := Scalar.extui v1855
  let v1857 : BitVec 32 := Scalar.subi v1854 v1856
  let v1858 : BitVec 1 := Scalar.cmpi .ne v1852 v1857
  let v1859 : BitVec 32 := Scalar.remsi v1846 c16_i32_746
  let c0_i32_751 : BitVec 32 := 0#32
  let v1860 : BitVec 1 := Scalar.cmpi .ne v1859 c0_i32_751
  let v1861 : BitVec 1 := Scalar.andi v1858 v1860
  let v1847 : BitVec 32 := Scalar.divsi v1846 c16_i32_746
  let c1_i32_752 : BitVec 32 := 1#32
  let v1862 : BitVec 32 := Scalar.subi v1847 c1_i32_752
  let v1863 : BitVec 32 := Scalar.select v1861 v1862 v1847
  let c16_i32_753 : BitVec 32 := 16#32
  let v1864 : BitVec 32 := Scalar.muli v1863 c16_i32_753
  let c880_i32_754 : BitVec 32 := 880#32
  let v1865 : BitVec 32 := Scalar.minsi v1864 c880_i32_754
  v1865

def k0_off86 (v1846 : BitVec 32) : Fin 4 → Nat :=
  let c0_756 : Index := 0#32
  let c10_757 : Index := 10#32
  let c0_i32_747 : BitVec 32 := 0#32
  let v1848 : BitVec 1 := Scalar.cmpi .sgt v1846 c0_i32_747
  let v1849 : BitVec 32 := Scalar.extui v1848
  let c0_i32_748 : BitVec 32 := 0#32
  let v1850 : BitVec 1 := Scalar.cmpi .slt v1846 c0_i32_748
  let v1851 : BitVec 32 := Scalar.extui v1850
  let v1852 : BitVec 32 := Scalar.subi v1849 v1851
  let c16_i32_746 : BitVec 32 := 16#32
  let c0_i32_749 : BitVec 32 := 0#32
  let v1853 : BitVec 1 := Scalar.cmpi .sgt c16_i32_746 c0_i32_749
  let v1854 : BitVec 32 := Scalar.extui v1853
  let c0_i32_750 : BitVec 32 := 0#32
  let v1855 : BitVec 1 := Scalar.cmpi .slt c16_i32_746 c0_i32_750
  let v1856 : BitVec 32 := Scalar.extui v1855
  let v1857 : BitVec 32 := Scalar.subi v1854 v1856
  let v1858 : BitVec 1 := Scalar.cmpi .ne v1852 v1857
  let v1859 : BitVec 32 := Scalar.remsi v1846 c16_i32_746
  let c0_i32_751 : BitVec 32 := 0#32
  let v1860 : BitVec 1 := Scalar.cmpi .ne v1859 c0_i32_751
  let v1861 : BitVec 1 := Scalar.andi v1858 v1860
  let v1847 : BitVec 32 := Scalar.divsi v1846 c16_i32_746
  let c1_i32_752 : BitVec 32 := 1#32
  let v1862 : BitVec 32 := Scalar.subi v1847 c1_i32_752
  let v1863 : BitVec 32 := Scalar.select v1861 v1862 v1847
  let c16_i32_753 : BitVec 32 := 16#32
  let v1864 : BitVec 32 := Scalar.muli v1863 c16_i32_753
  let c880_i32_754 : BitVec 32 := 880#32
  let v1865 : BitVec 32 := Scalar.minsi v1864 c880_i32_754
  let v1866 : BitVec 32 := v1865
  let v1879 : Index := Scalar.indexCast v1866
  let c0_758 : Index := 0#32
  ![0, 10, v1879.toNat, 0]

def k0_chk43 (v1846 : BitVec 32) : Prop :=
  (16 ∣ (k0_mult43 v1846).toNat) ∧
  (∀ a, (k0_off86 v1846) a + S1x1x144x1024.size a ≤ S1x16x1024x1024.size a)
theorem k0_mult43_dvd : ∀ (v1846 : BitVec 32) (k0_hw43 : k0_chk43 v1846), 16 ∣ (k0_mult43 v1846).toNat := fun v1846 k0_hw43 => k0_hw43.1
theorem k0_off86_inb : ∀ (v1846 : BitVec 32) (k0_hw43 : k0_chk43 v1846), ∀ a, (k0_off86 v1846) a + S1x1x144x1024.size a ≤ S1x16x1024x1024.size a := fun v1846 k0_hw43 => k0_hw43.2

def k0_off87 (i : grid0.Coords) : Fin 3 → Nat :=
  let arg0 : BitVec 32 := BitVec.ofNat 32 (i 0).val
  let v1886 : Index := Scalar.indexCast arg0
  let c11_762 : Index := 11#32
  let arg1 : BitVec 32 := BitVec.ofNat 32 (i 1).val
  let c4_i32_760 : BitVec 32 := 4#32
  let v1884 : BitVec 32 := Scalar.muli arg1 c4_i32_760
  let c2_i32_761 : BitVec 32 := 2#32
  let v1885 : BitVec 32 := Scalar.addi v1884 c2_i32_761
  let v1887 : Index := Scalar.indexCast v1885
  ![v1886.toNat, 11, v1887.toNat]
def k0_mult44 (v1888 : BitVec 32) : BitVec 32 :=
  let c0_i32_764 : BitVec 32 := 0#32
  let v1890 : BitVec 1 := Scalar.cmpi .sgt v1888 c0_i32_764
  let v1891 : BitVec 32 := Scalar.extui v1890
  let c0_i32_765 : BitVec 32 := 0#32
  let v1892 : BitVec 1 := Scalar.cmpi .slt v1888 c0_i32_765
  let v1893 : BitVec 32 := Scalar.extui v1892
  let v1894 : BitVec 32 := Scalar.subi v1891 v1893
  let c16_i32_763 : BitVec 32 := 16#32
  let c0_i32_766 : BitVec 32 := 0#32
  let v1895 : BitVec 1 := Scalar.cmpi .sgt c16_i32_763 c0_i32_766
  let v1896 : BitVec 32 := Scalar.extui v1895
  let c0_i32_767 : BitVec 32 := 0#32
  let v1897 : BitVec 1 := Scalar.cmpi .slt c16_i32_763 c0_i32_767
  let v1898 : BitVec 32 := Scalar.extui v1897
  let v1899 : BitVec 32 := Scalar.subi v1896 v1898
  let v1900 : BitVec 1 := Scalar.cmpi .ne v1894 v1899
  let v1901 : BitVec 32 := Scalar.remsi v1888 c16_i32_763
  let c0_i32_768 : BitVec 32 := 0#32
  let v1902 : BitVec 1 := Scalar.cmpi .ne v1901 c0_i32_768
  let v1903 : BitVec 1 := Scalar.andi v1900 v1902
  let v1889 : BitVec 32 := Scalar.divsi v1888 c16_i32_763
  let c1_i32_769 : BitVec 32 := 1#32
  let v1904 : BitVec 32 := Scalar.subi v1889 c1_i32_769
  let v1905 : BitVec 32 := Scalar.select v1903 v1904 v1889
  let c16_i32_770 : BitVec 32 := 16#32
  let v1906 : BitVec 32 := Scalar.muli v1905 c16_i32_770
  let c880_i32_771 : BitVec 32 := 880#32
  let v1907 : BitVec 32 := Scalar.minsi v1906 c880_i32_771
  v1907

def k0_off88 (v1888 : BitVec 32) : Fin 4 → Nat :=
  let c0_773 : Index := 0#32
  let c11_774 : Index := 11#32
  let c0_i32_764 : BitVec 32 := 0#32
  let v1890 : BitVec 1 := Scalar.cmpi .sgt v1888 c0_i32_764
  let v1891 : BitVec 32 := Scalar.extui v1890
  let c0_i32_765 : BitVec 32 := 0#32
  let v1892 : BitVec 1 := Scalar.cmpi .slt v1888 c0_i32_765
  let v1893 : BitVec 32 := Scalar.extui v1892
  let v1894 : BitVec 32 := Scalar.subi v1891 v1893
  let c16_i32_763 : BitVec 32 := 16#32
  let c0_i32_766 : BitVec 32 := 0#32
  let v1895 : BitVec 1 := Scalar.cmpi .sgt c16_i32_763 c0_i32_766
  let v1896 : BitVec 32 := Scalar.extui v1895
  let c0_i32_767 : BitVec 32 := 0#32
  let v1897 : BitVec 1 := Scalar.cmpi .slt c16_i32_763 c0_i32_767
  let v1898 : BitVec 32 := Scalar.extui v1897
  let v1899 : BitVec 32 := Scalar.subi v1896 v1898
  let v1900 : BitVec 1 := Scalar.cmpi .ne v1894 v1899
  let v1901 : BitVec 32 := Scalar.remsi v1888 c16_i32_763
  let c0_i32_768 : BitVec 32 := 0#32
  let v1902 : BitVec 1 := Scalar.cmpi .ne v1901 c0_i32_768
  let v1903 : BitVec 1 := Scalar.andi v1900 v1902
  let v1889 : BitVec 32 := Scalar.divsi v1888 c16_i32_763
  let c1_i32_769 : BitVec 32 := 1#32
  let v1904 : BitVec 32 := Scalar.subi v1889 c1_i32_769
  let v1905 : BitVec 32 := Scalar.select v1903 v1904 v1889
  let c16_i32_770 : BitVec 32 := 16#32
  let v1906 : BitVec 32 := Scalar.muli v1905 c16_i32_770
  let c880_i32_771 : BitVec 32 := 880#32
  let v1907 : BitVec 32 := Scalar.minsi v1906 c880_i32_771
  let v1908 : BitVec 32 := v1907
  let v1921 : Index := Scalar.indexCast v1908
  let c0_775 : Index := 0#32
  ![0, 11, v1921.toNat, 0]

def k0_chk44 (v1888 : BitVec 32) : Prop :=
  (16 ∣ (k0_mult44 v1888).toNat) ∧
  (∀ a, (k0_off88 v1888) a + S1x1x144x1024.size a ≤ S1x16x1024x1024.size a)
theorem k0_mult44_dvd : ∀ (v1888 : BitVec 32) (k0_hw44 : k0_chk44 v1888), 16 ∣ (k0_mult44 v1888).toNat := fun v1888 k0_hw44 => k0_hw44.1
theorem k0_off88_inb : ∀ (v1888 : BitVec 32) (k0_hw44 : k0_chk44 v1888), ∀ a, (k0_off88 v1888) a + S1x1x144x1024.size a ≤ S1x16x1024x1024.size a := fun v1888 k0_hw44 => k0_hw44.2

def k0_off89 (i : grid0.Coords) : Fin 3 → Nat :=
  let arg0 : BitVec 32 := BitVec.ofNat 32 (i 0).val
  let v1928 : Index := Scalar.indexCast arg0
  let c12_779 : Index := 12#32
  let arg1 : BitVec 32 := BitVec.ofNat 32 (i 1).val
  let c4_i32_777 : BitVec 32 := 4#32
  let v1926 : BitVec 32 := Scalar.muli arg1 c4_i32_777
  let c2_i32_778 : BitVec 32 := 2#32
  let v1927 : BitVec 32 := Scalar.addi v1926 c2_i32_778
  let v1929 : Index := Scalar.indexCast v1927
  ![v1928.toNat, 12, v1929.toNat]
def k0_mult45 (v1930 : BitVec 32) : BitVec 32 :=
  let c0_i32_781 : BitVec 32 := 0#32
  let v1932 : BitVec 1 := Scalar.cmpi .sgt v1930 c0_i32_781
  let v1933 : BitVec 32 := Scalar.extui v1932
  let c0_i32_782 : BitVec 32 := 0#32
  let v1934 : BitVec 1 := Scalar.cmpi .slt v1930 c0_i32_782
  let v1935 : BitVec 32 := Scalar.extui v1934
  let v1936 : BitVec 32 := Scalar.subi v1933 v1935
  let c16_i32_780 : BitVec 32 := 16#32
  let c0_i32_783 : BitVec 32 := 0#32
  let v1937 : BitVec 1 := Scalar.cmpi .sgt c16_i32_780 c0_i32_783
  let v1938 : BitVec 32 := Scalar.extui v1937
  let c0_i32_784 : BitVec 32 := 0#32
  let v1939 : BitVec 1 := Scalar.cmpi .slt c16_i32_780 c0_i32_784
  let v1940 : BitVec 32 := Scalar.extui v1939
  let v1941 : BitVec 32 := Scalar.subi v1938 v1940
  let v1942 : BitVec 1 := Scalar.cmpi .ne v1936 v1941
  let v1943 : BitVec 32 := Scalar.remsi v1930 c16_i32_780
  let c0_i32_785 : BitVec 32 := 0#32
  let v1944 : BitVec 1 := Scalar.cmpi .ne v1943 c0_i32_785
  let v1945 : BitVec 1 := Scalar.andi v1942 v1944
  let v1931 : BitVec 32 := Scalar.divsi v1930 c16_i32_780
  let c1_i32_786 : BitVec 32 := 1#32
  let v1946 : BitVec 32 := Scalar.subi v1931 c1_i32_786
  let v1947 : BitVec 32 := Scalar.select v1945 v1946 v1931
  let c16_i32_787 : BitVec 32 := 16#32
  let v1948 : BitVec 32 := Scalar.muli v1947 c16_i32_787
  let c880_i32_788 : BitVec 32 := 880#32
  let v1949 : BitVec 32 := Scalar.minsi v1948 c880_i32_788
  v1949

def k0_off90 (v1930 : BitVec 32) : Fin 4 → Nat :=
  let c0_790 : Index := 0#32
  let c12_791 : Index := 12#32
  let c0_i32_781 : BitVec 32 := 0#32
  let v1932 : BitVec 1 := Scalar.cmpi .sgt v1930 c0_i32_781
  let v1933 : BitVec 32 := Scalar.extui v1932
  let c0_i32_782 : BitVec 32 := 0#32
  let v1934 : BitVec 1 := Scalar.cmpi .slt v1930 c0_i32_782
  let v1935 : BitVec 32 := Scalar.extui v1934
  let v1936 : BitVec 32 := Scalar.subi v1933 v1935
  let c16_i32_780 : BitVec 32 := 16#32
  let c0_i32_783 : BitVec 32 := 0#32
  let v1937 : BitVec 1 := Scalar.cmpi .sgt c16_i32_780 c0_i32_783
  let v1938 : BitVec 32 := Scalar.extui v1937
  let c0_i32_784 : BitVec 32 := 0#32
  let v1939 : BitVec 1 := Scalar.cmpi .slt c16_i32_780 c0_i32_784
  let v1940 : BitVec 32 := Scalar.extui v1939
  let v1941 : BitVec 32 := Scalar.subi v1938 v1940
  let v1942 : BitVec 1 := Scalar.cmpi .ne v1936 v1941
  let v1943 : BitVec 32 := Scalar.remsi v1930 c16_i32_780
  let c0_i32_785 : BitVec 32 := 0#32
  let v1944 : BitVec 1 := Scalar.cmpi .ne v1943 c0_i32_785
  let v1945 : BitVec 1 := Scalar.andi v1942 v1944
  let v1931 : BitVec 32 := Scalar.divsi v1930 c16_i32_780
  let c1_i32_786 : BitVec 32 := 1#32
  let v1946 : BitVec 32 := Scalar.subi v1931 c1_i32_786
  let v1947 : BitVec 32 := Scalar.select v1945 v1946 v1931
  let c16_i32_787 : BitVec 32 := 16#32
  let v1948 : BitVec 32 := Scalar.muli v1947 c16_i32_787
  let c880_i32_788 : BitVec 32 := 880#32
  let v1949 : BitVec 32 := Scalar.minsi v1948 c880_i32_788
  let v1950 : BitVec 32 := v1949
  let v1963 : Index := Scalar.indexCast v1950
  let c0_792 : Index := 0#32
  ![0, 12, v1963.toNat, 0]

def k0_chk45 (v1930 : BitVec 32) : Prop :=
  (16 ∣ (k0_mult45 v1930).toNat) ∧
  (∀ a, (k0_off90 v1930) a + S1x1x144x1024.size a ≤ S1x16x1024x1024.size a)
theorem k0_mult45_dvd : ∀ (v1930 : BitVec 32) (k0_hw45 : k0_chk45 v1930), 16 ∣ (k0_mult45 v1930).toNat := fun v1930 k0_hw45 => k0_hw45.1
theorem k0_off90_inb : ∀ (v1930 : BitVec 32) (k0_hw45 : k0_chk45 v1930), ∀ a, (k0_off90 v1930) a + S1x1x144x1024.size a ≤ S1x16x1024x1024.size a := fun v1930 k0_hw45 => k0_hw45.2

def k0_off91 (i : grid0.Coords) : Fin 3 → Nat :=
  let arg0 : BitVec 32 := BitVec.ofNat 32 (i 0).val
  let v1970 : Index := Scalar.indexCast arg0
  let c13_796 : Index := 13#32
  let arg1 : BitVec 32 := BitVec.ofNat 32 (i 1).val
  let c4_i32_794 : BitVec 32 := 4#32
  let v1968 : BitVec 32 := Scalar.muli arg1 c4_i32_794
  let c2_i32_795 : BitVec 32 := 2#32
  let v1969 : BitVec 32 := Scalar.addi v1968 c2_i32_795
  let v1971 : Index := Scalar.indexCast v1969
  ![v1970.toNat, 13, v1971.toNat]
def k0_mult46 (v1972 : BitVec 32) : BitVec 32 :=
  let c0_i32_798 : BitVec 32 := 0#32
  let v1974 : BitVec 1 := Scalar.cmpi .sgt v1972 c0_i32_798
  let v1975 : BitVec 32 := Scalar.extui v1974
  let c0_i32_799 : BitVec 32 := 0#32
  let v1976 : BitVec 1 := Scalar.cmpi .slt v1972 c0_i32_799
  let v1977 : BitVec 32 := Scalar.extui v1976
  let v1978 : BitVec 32 := Scalar.subi v1975 v1977
  let c16_i32_797 : BitVec 32 := 16#32
  let c0_i32_800 : BitVec 32 := 0#32
  let v1979 : BitVec 1 := Scalar.cmpi .sgt c16_i32_797 c0_i32_800
  let v1980 : BitVec 32 := Scalar.extui v1979
  let c0_i32_801 : BitVec 32 := 0#32
  let v1981 : BitVec 1 := Scalar.cmpi .slt c16_i32_797 c0_i32_801
  let v1982 : BitVec 32 := Scalar.extui v1981
  let v1983 : BitVec 32 := Scalar.subi v1980 v1982
  let v1984 : BitVec 1 := Scalar.cmpi .ne v1978 v1983
  let v1985 : BitVec 32 := Scalar.remsi v1972 c16_i32_797
  let c0_i32_802 : BitVec 32 := 0#32
  let v1986 : BitVec 1 := Scalar.cmpi .ne v1985 c0_i32_802
  let v1987 : BitVec 1 := Scalar.andi v1984 v1986
  let v1973 : BitVec 32 := Scalar.divsi v1972 c16_i32_797
  let c1_i32_803 : BitVec 32 := 1#32
  let v1988 : BitVec 32 := Scalar.subi v1973 c1_i32_803
  let v1989 : BitVec 32 := Scalar.select v1987 v1988 v1973
  let c16_i32_804 : BitVec 32 := 16#32
  let v1990 : BitVec 32 := Scalar.muli v1989 c16_i32_804
  let c880_i32_805 : BitVec 32 := 880#32
  let v1991 : BitVec 32 := Scalar.minsi v1990 c880_i32_805
  v1991

def k0_off92 (v1972 : BitVec 32) : Fin 4 → Nat :=
  let c0_807 : Index := 0#32
  let c13_808 : Index := 13#32
  let c0_i32_798 : BitVec 32 := 0#32
  let v1974 : BitVec 1 := Scalar.cmpi .sgt v1972 c0_i32_798
  let v1975 : BitVec 32 := Scalar.extui v1974
  let c0_i32_799 : BitVec 32 := 0#32
  let v1976 : BitVec 1 := Scalar.cmpi .slt v1972 c0_i32_799
  let v1977 : BitVec 32 := Scalar.extui v1976
  let v1978 : BitVec 32 := Scalar.subi v1975 v1977
  let c16_i32_797 : BitVec 32 := 16#32
  let c0_i32_800 : BitVec 32 := 0#32
  let v1979 : BitVec 1 := Scalar.cmpi .sgt c16_i32_797 c0_i32_800
  let v1980 : BitVec 32 := Scalar.extui v1979
  let c0_i32_801 : BitVec 32 := 0#32
  let v1981 : BitVec 1 := Scalar.cmpi .slt c16_i32_797 c0_i32_801
  let v1982 : BitVec 32 := Scalar.extui v1981
  let v1983 : BitVec 32 := Scalar.subi v1980 v1982
  let v1984 : BitVec 1 := Scalar.cmpi .ne v1978 v1983
  let v1985 : BitVec 32 := Scalar.remsi v1972 c16_i32_797
  let c0_i32_802 : BitVec 32 := 0#32
  let v1986 : BitVec 1 := Scalar.cmpi .ne v1985 c0_i32_802
  let v1987 : BitVec 1 := Scalar.andi v1984 v1986
  let v1973 : BitVec 32 := Scalar.divsi v1972 c16_i32_797
  let c1_i32_803 : BitVec 32 := 1#32
  let v1988 : BitVec 32 := Scalar.subi v1973 c1_i32_803
  let v1989 : BitVec 32 := Scalar.select v1987 v1988 v1973
  let c16_i32_804 : BitVec 32 := 16#32
  let v1990 : BitVec 32 := Scalar.muli v1989 c16_i32_804
  let c880_i32_805 : BitVec 32 := 880#32
  let v1991 : BitVec 32 := Scalar.minsi v1990 c880_i32_805
  let v1992 : BitVec 32 := v1991
  let v2005 : Index := Scalar.indexCast v1992
  let c0_809 : Index := 0#32
  ![0, 13, v2005.toNat, 0]

def k0_chk46 (v1972 : BitVec 32) : Prop :=
  (16 ∣ (k0_mult46 v1972).toNat) ∧
  (∀ a, (k0_off92 v1972) a + S1x1x144x1024.size a ≤ S1x16x1024x1024.size a)
theorem k0_mult46_dvd : ∀ (v1972 : BitVec 32) (k0_hw46 : k0_chk46 v1972), 16 ∣ (k0_mult46 v1972).toNat := fun v1972 k0_hw46 => k0_hw46.1
theorem k0_off92_inb : ∀ (v1972 : BitVec 32) (k0_hw46 : k0_chk46 v1972), ∀ a, (k0_off92 v1972) a + S1x1x144x1024.size a ≤ S1x16x1024x1024.size a := fun v1972 k0_hw46 => k0_hw46.2

def k0_off93 (i : grid0.Coords) : Fin 3 → Nat :=
  let arg0 : BitVec 32 := BitVec.ofNat 32 (i 0).val
  let v2012 : Index := Scalar.indexCast arg0
  let c14_813 : Index := 14#32
  let arg1 : BitVec 32 := BitVec.ofNat 32 (i 1).val
  let c4_i32_811 : BitVec 32 := 4#32
  let v2010 : BitVec 32 := Scalar.muli arg1 c4_i32_811
  let c2_i32_812 : BitVec 32 := 2#32
  let v2011 : BitVec 32 := Scalar.addi v2010 c2_i32_812
  let v2013 : Index := Scalar.indexCast v2011
  ![v2012.toNat, 14, v2013.toNat]
def k0_mult47 (v2014 : BitVec 32) : BitVec 32 :=
  let c0_i32_815 : BitVec 32 := 0#32
  let v2016 : BitVec 1 := Scalar.cmpi .sgt v2014 c0_i32_815
  let v2017 : BitVec 32 := Scalar.extui v2016
  let c0_i32_816 : BitVec 32 := 0#32
  let v2018 : BitVec 1 := Scalar.cmpi .slt v2014 c0_i32_816
  let v2019 : BitVec 32 := Scalar.extui v2018
  let v2020 : BitVec 32 := Scalar.subi v2017 v2019
  let c16_i32_814 : BitVec 32 := 16#32
  let c0_i32_817 : BitVec 32 := 0#32
  let v2021 : BitVec 1 := Scalar.cmpi .sgt c16_i32_814 c0_i32_817
  let v2022 : BitVec 32 := Scalar.extui v2021
  let c0_i32_818 : BitVec 32 := 0#32
  let v2023 : BitVec 1 := Scalar.cmpi .slt c16_i32_814 c0_i32_818
  let v2024 : BitVec 32 := Scalar.extui v2023
  let v2025 : BitVec 32 := Scalar.subi v2022 v2024
  let v2026 : BitVec 1 := Scalar.cmpi .ne v2020 v2025
  let v2027 : BitVec 32 := Scalar.remsi v2014 c16_i32_814
  let c0_i32_819 : BitVec 32 := 0#32
  let v2028 : BitVec 1 := Scalar.cmpi .ne v2027 c0_i32_819
  let v2029 : BitVec 1 := Scalar.andi v2026 v2028
  let v2015 : BitVec 32 := Scalar.divsi v2014 c16_i32_814
  let c1_i32_820 : BitVec 32 := 1#32
  let v2030 : BitVec 32 := Scalar.subi v2015 c1_i32_820
  let v2031 : BitVec 32 := Scalar.select v2029 v2030 v2015
  let c16_i32_821 : BitVec 32 := 16#32
  let v2032 : BitVec 32 := Scalar.muli v2031 c16_i32_821
  let c880_i32_822 : BitVec 32 := 880#32
  let v2033 : BitVec 32 := Scalar.minsi v2032 c880_i32_822
  v2033

def k0_off94 (v2014 : BitVec 32) : Fin 4 → Nat :=
  let c0_824 : Index := 0#32
  let c14_825 : Index := 14#32
  let c0_i32_815 : BitVec 32 := 0#32
  let v2016 : BitVec 1 := Scalar.cmpi .sgt v2014 c0_i32_815
  let v2017 : BitVec 32 := Scalar.extui v2016
  let c0_i32_816 : BitVec 32 := 0#32
  let v2018 : BitVec 1 := Scalar.cmpi .slt v2014 c0_i32_816
  let v2019 : BitVec 32 := Scalar.extui v2018
  let v2020 : BitVec 32 := Scalar.subi v2017 v2019
  let c16_i32_814 : BitVec 32 := 16#32
  let c0_i32_817 : BitVec 32 := 0#32
  let v2021 : BitVec 1 := Scalar.cmpi .sgt c16_i32_814 c0_i32_817
  let v2022 : BitVec 32 := Scalar.extui v2021
  let c0_i32_818 : BitVec 32 := 0#32
  let v2023 : BitVec 1 := Scalar.cmpi .slt c16_i32_814 c0_i32_818
  let v2024 : BitVec 32 := Scalar.extui v2023
  let v2025 : BitVec 32 := Scalar.subi v2022 v2024
  let v2026 : BitVec 1 := Scalar.cmpi .ne v2020 v2025
  let v2027 : BitVec 32 := Scalar.remsi v2014 c16_i32_814
  let c0_i32_819 : BitVec 32 := 0#32
  let v2028 : BitVec 1 := Scalar.cmpi .ne v2027 c0_i32_819
  let v2029 : BitVec 1 := Scalar.andi v2026 v2028
  let v2015 : BitVec 32 := Scalar.divsi v2014 c16_i32_814
  let c1_i32_820 : BitVec 32 := 1#32
  let v2030 : BitVec 32 := Scalar.subi v2015 c1_i32_820
  let v2031 : BitVec 32 := Scalar.select v2029 v2030 v2015
  let c16_i32_821 : BitVec 32 := 16#32
  let v2032 : BitVec 32 := Scalar.muli v2031 c16_i32_821
  let c880_i32_822 : BitVec 32 := 880#32
  let v2033 : BitVec 32 := Scalar.minsi v2032 c880_i32_822
  let v2034 : BitVec 32 := v2033
  let v2047 : Index := Scalar.indexCast v2034
  let c0_826 : Index := 0#32
  ![0, 14, v2047.toNat, 0]

def k0_chk47 (v2014 : BitVec 32) : Prop :=
  (16 ∣ (k0_mult47 v2014).toNat) ∧
  (∀ a, (k0_off94 v2014) a + S1x1x144x1024.size a ≤ S1x16x1024x1024.size a)
theorem k0_mult47_dvd : ∀ (v2014 : BitVec 32) (k0_hw47 : k0_chk47 v2014), 16 ∣ (k0_mult47 v2014).toNat := fun v2014 k0_hw47 => k0_hw47.1
theorem k0_off94_inb : ∀ (v2014 : BitVec 32) (k0_hw47 : k0_chk47 v2014), ∀ a, (k0_off94 v2014) a + S1x1x144x1024.size a ≤ S1x16x1024x1024.size a := fun v2014 k0_hw47 => k0_hw47.2

def k0_off95 (i : grid0.Coords) : Fin 3 → Nat :=
  let arg0 : BitVec 32 := BitVec.ofNat 32 (i 0).val
  let v2054 : Index := Scalar.indexCast arg0
  let c15_830 : Index := 15#32
  let arg1 : BitVec 32 := BitVec.ofNat 32 (i 1).val
  let c4_i32_828 : BitVec 32 := 4#32
  let v2052 : BitVec 32 := Scalar.muli arg1 c4_i32_828
  let c2_i32_829 : BitVec 32 := 2#32
  let v2053 : BitVec 32 := Scalar.addi v2052 c2_i32_829
  let v2055 : Index := Scalar.indexCast v2053
  ![v2054.toNat, 15, v2055.toNat]
def k0_mult48 (v2056 : BitVec 32) : BitVec 32 :=
  let c0_i32_832 : BitVec 32 := 0#32
  let v2058 : BitVec 1 := Scalar.cmpi .sgt v2056 c0_i32_832
  let v2059 : BitVec 32 := Scalar.extui v2058
  let c0_i32_833 : BitVec 32 := 0#32
  let v2060 : BitVec 1 := Scalar.cmpi .slt v2056 c0_i32_833
  let v2061 : BitVec 32 := Scalar.extui v2060
  let v2062 : BitVec 32 := Scalar.subi v2059 v2061
  let c16_i32_831 : BitVec 32 := 16#32
  let c0_i32_834 : BitVec 32 := 0#32
  let v2063 : BitVec 1 := Scalar.cmpi .sgt c16_i32_831 c0_i32_834
  let v2064 : BitVec 32 := Scalar.extui v2063
  let c0_i32_835 : BitVec 32 := 0#32
  let v2065 : BitVec 1 := Scalar.cmpi .slt c16_i32_831 c0_i32_835
  let v2066 : BitVec 32 := Scalar.extui v2065
  let v2067 : BitVec 32 := Scalar.subi v2064 v2066
  let v2068 : BitVec 1 := Scalar.cmpi .ne v2062 v2067
  let v2069 : BitVec 32 := Scalar.remsi v2056 c16_i32_831
  let c0_i32_836 : BitVec 32 := 0#32
  let v2070 : BitVec 1 := Scalar.cmpi .ne v2069 c0_i32_836
  let v2071 : BitVec 1 := Scalar.andi v2068 v2070
  let v2057 : BitVec 32 := Scalar.divsi v2056 c16_i32_831
  let c1_i32_837 : BitVec 32 := 1#32
  let v2072 : BitVec 32 := Scalar.subi v2057 c1_i32_837
  let v2073 : BitVec 32 := Scalar.select v2071 v2072 v2057
  let c16_i32_838 : BitVec 32 := 16#32
  let v2074 : BitVec 32 := Scalar.muli v2073 c16_i32_838
  let c880_i32_839 : BitVec 32 := 880#32
  let v2075 : BitVec 32 := Scalar.minsi v2074 c880_i32_839
  v2075

def k0_off96 (v2056 : BitVec 32) : Fin 4 → Nat :=
  let c0_841 : Index := 0#32
  let c15_842 : Index := 15#32
  let c0_i32_832 : BitVec 32 := 0#32
  let v2058 : BitVec 1 := Scalar.cmpi .sgt v2056 c0_i32_832
  let v2059 : BitVec 32 := Scalar.extui v2058
  let c0_i32_833 : BitVec 32 := 0#32
  let v2060 : BitVec 1 := Scalar.cmpi .slt v2056 c0_i32_833
  let v2061 : BitVec 32 := Scalar.extui v2060
  let v2062 : BitVec 32 := Scalar.subi v2059 v2061
  let c16_i32_831 : BitVec 32 := 16#32
  let c0_i32_834 : BitVec 32 := 0#32
  let v2063 : BitVec 1 := Scalar.cmpi .sgt c16_i32_831 c0_i32_834
  let v2064 : BitVec 32 := Scalar.extui v2063
  let c0_i32_835 : BitVec 32 := 0#32
  let v2065 : BitVec 1 := Scalar.cmpi .slt c16_i32_831 c0_i32_835
  let v2066 : BitVec 32 := Scalar.extui v2065
  let v2067 : BitVec 32 := Scalar.subi v2064 v2066
  let v2068 : BitVec 1 := Scalar.cmpi .ne v2062 v2067
  let v2069 : BitVec 32 := Scalar.remsi v2056 c16_i32_831
  let c0_i32_836 : BitVec 32 := 0#32
  let v2070 : BitVec 1 := Scalar.cmpi .ne v2069 c0_i32_836
  let v2071 : BitVec 1 := Scalar.andi v2068 v2070
  let v2057 : BitVec 32 := Scalar.divsi v2056 c16_i32_831
  let c1_i32_837 : BitVec 32 := 1#32
  let v2072 : BitVec 32 := Scalar.subi v2057 c1_i32_837
  let v2073 : BitVec 32 := Scalar.select v2071 v2072 v2057
  let c16_i32_838 : BitVec 32 := 16#32
  let v2074 : BitVec 32 := Scalar.muli v2073 c16_i32_838
  let c880_i32_839 : BitVec 32 := 880#32
  let v2075 : BitVec 32 := Scalar.minsi v2074 c880_i32_839
  let v2076 : BitVec 32 := v2075
  let v2089 : Index := Scalar.indexCast v2076
  let c0_843 : Index := 0#32
  ![0, 15, v2089.toNat, 0]

def k0_chk48 (v2056 : BitVec 32) : Prop :=
  (16 ∣ (k0_mult48 v2056).toNat) ∧
  (∀ a, (k0_off96 v2056) a + S1x1x144x1024.size a ≤ S1x16x1024x1024.size a)
theorem k0_mult48_dvd : ∀ (v2056 : BitVec 32) (k0_hw48 : k0_chk48 v2056), 16 ∣ (k0_mult48 v2056).toNat := fun v2056 k0_hw48 => k0_hw48.1
theorem k0_off96_inb : ∀ (v2056 : BitVec 32) (k0_hw48 : k0_chk48 v2056), ∀ a, (k0_off96 v2056) a + S1x1x144x1024.size a ≤ S1x16x1024x1024.size a := fun v2056 k0_hw48 => k0_hw48.2

def k0_off97 (i : grid0.Coords) : Fin 3 → Nat :=
  let arg0 : BitVec 32 := BitVec.ofNat 32 (i 0).val
  let v2131 : Index := Scalar.indexCast arg0
  let c0_867 : Index := 0#32
  let arg1 : BitVec 32 := BitVec.ofNat 32 (i 1).val
  let c4_i32_866 : BitVec 32 := 4#32
  let v2129 : BitVec 32 := Scalar.muli arg1 c4_i32_866
  let c3_i32 : BitVec 32 := 3#32
  let v2130 : BitVec 32 := Scalar.addi v2129 c3_i32
  let v2132 : Index := Scalar.indexCast v2130
  ![v2131.toNat, 0, v2132.toNat]
def k0_mult49 (v2133 : BitVec 32) : BitVec 32 :=
  let c0_i32_869 : BitVec 32 := 0#32
  let v2135 : BitVec 1 := Scalar.cmpi .sgt v2133 c0_i32_869
  let v2136 : BitVec 32 := Scalar.extui v2135
  let c0_i32_870 : BitVec 32 := 0#32
  let v2137 : BitVec 1 := Scalar.cmpi .slt v2133 c0_i32_870
  let v2138 : BitVec 32 := Scalar.extui v2137
  let v2139 : BitVec 32 := Scalar.subi v2136 v2138
  let c16_i32_868 : BitVec 32 := 16#32
  let c0_i32_871 : BitVec 32 := 0#32
  let v2140 : BitVec 1 := Scalar.cmpi .sgt c16_i32_868 c0_i32_871
  let v2141 : BitVec 32 := Scalar.extui v2140
  let c0_i32_872 : BitVec 32 := 0#32
  let v2142 : BitVec 1 := Scalar.cmpi .slt c16_i32_868 c0_i32_872
  let v2143 : BitVec 32 := Scalar.extui v2142
  let v2144 : BitVec 32 := Scalar.subi v2141 v2143
  let v2145 : BitVec 1 := Scalar.cmpi .ne v2139 v2144
  let v2146 : BitVec 32 := Scalar.remsi v2133 c16_i32_868
  let c0_i32_873 : BitVec 32 := 0#32
  let v2147 : BitVec 1 := Scalar.cmpi .ne v2146 c0_i32_873
  let v2148 : BitVec 1 := Scalar.andi v2145 v2147
  let v2134 : BitVec 32 := Scalar.divsi v2133 c16_i32_868
  let c1_i32_874 : BitVec 32 := 1#32
  let v2149 : BitVec 32 := Scalar.subi v2134 c1_i32_874
  let v2150 : BitVec 32 := Scalar.select v2148 v2149 v2134
  let c16_i32_875 : BitVec 32 := 16#32
  let v2151 : BitVec 32 := Scalar.muli v2150 c16_i32_875
  let c880_i32_876 : BitVec 32 := 880#32
  let v2152 : BitVec 32 := Scalar.minsi v2151 c880_i32_876
  v2152

def k0_off98 (v2133 : BitVec 32) : Fin 4 → Nat :=
  let c0_878 : Index := 0#32
  let c0_879 : Index := 0#32
  let c0_i32_869 : BitVec 32 := 0#32
  let v2135 : BitVec 1 := Scalar.cmpi .sgt v2133 c0_i32_869
  let v2136 : BitVec 32 := Scalar.extui v2135
  let c0_i32_870 : BitVec 32 := 0#32
  let v2137 : BitVec 1 := Scalar.cmpi .slt v2133 c0_i32_870
  let v2138 : BitVec 32 := Scalar.extui v2137
  let v2139 : BitVec 32 := Scalar.subi v2136 v2138
  let c16_i32_868 : BitVec 32 := 16#32
  let c0_i32_871 : BitVec 32 := 0#32
  let v2140 : BitVec 1 := Scalar.cmpi .sgt c16_i32_868 c0_i32_871
  let v2141 : BitVec 32 := Scalar.extui v2140
  let c0_i32_872 : BitVec 32 := 0#32
  let v2142 : BitVec 1 := Scalar.cmpi .slt c16_i32_868 c0_i32_872
  let v2143 : BitVec 32 := Scalar.extui v2142
  let v2144 : BitVec 32 := Scalar.subi v2141 v2143
  let v2145 : BitVec 1 := Scalar.cmpi .ne v2139 v2144
  let v2146 : BitVec 32 := Scalar.remsi v2133 c16_i32_868
  let c0_i32_873 : BitVec 32 := 0#32
  let v2147 : BitVec 1 := Scalar.cmpi .ne v2146 c0_i32_873
  let v2148 : BitVec 1 := Scalar.andi v2145 v2147
  let v2134 : BitVec 32 := Scalar.divsi v2133 c16_i32_868
  let c1_i32_874 : BitVec 32 := 1#32
  let v2149 : BitVec 32 := Scalar.subi v2134 c1_i32_874
  let v2150 : BitVec 32 := Scalar.select v2148 v2149 v2134
  let c16_i32_875 : BitVec 32 := 16#32
  let v2151 : BitVec 32 := Scalar.muli v2150 c16_i32_875
  let c880_i32_876 : BitVec 32 := 880#32
  let v2152 : BitVec 32 := Scalar.minsi v2151 c880_i32_876
  let v2153 : BitVec 32 := v2152
  let v2166 : Index := Scalar.indexCast v2153
  let c0_880 : Index := 0#32
  ![0, 0, v2166.toNat, 0]

def k0_chk49 (v2133 : BitVec 32) : Prop :=
  (16 ∣ (k0_mult49 v2133).toNat) ∧
  (∀ a, (k0_off98 v2133) a + S1x1x144x1024.size a ≤ S1x16x1024x1024.size a)
theorem k0_mult49_dvd : ∀ (v2133 : BitVec 32) (k0_hw49 : k0_chk49 v2133), 16 ∣ (k0_mult49 v2133).toNat := fun v2133 k0_hw49 => k0_hw49.1
theorem k0_off98_inb : ∀ (v2133 : BitVec 32) (k0_hw49 : k0_chk49 v2133), ∀ a, (k0_off98 v2133) a + S1x1x144x1024.size a ≤ S1x16x1024x1024.size a := fun v2133 k0_hw49 => k0_hw49.2

def k0_off99 (i : grid0.Coords) : Fin 3 → Nat :=
  let arg0 : BitVec 32 := BitVec.ofNat 32 (i 0).val
  let v2173 : Index := Scalar.indexCast arg0
  let c1_884 : Index := 1#32
  let arg1 : BitVec 32 := BitVec.ofNat 32 (i 1).val
  let c4_i32_882 : BitVec 32 := 4#32
  let v2171 : BitVec 32 := Scalar.muli arg1 c4_i32_882
  let c3_i32_883 : BitVec 32 := 3#32
  let v2172 : BitVec 32 := Scalar.addi v2171 c3_i32_883
  let v2174 : Index := Scalar.indexCast v2172
  ![v2173.toNat, 1, v2174.toNat]
def k0_mult50 (v2175 : BitVec 32) : BitVec 32 :=
  let c0_i32_886 : BitVec 32 := 0#32
  let v2177 : BitVec 1 := Scalar.cmpi .sgt v2175 c0_i32_886
  let v2178 : BitVec 32 := Scalar.extui v2177
  let c0_i32_887 : BitVec 32 := 0#32
  let v2179 : BitVec 1 := Scalar.cmpi .slt v2175 c0_i32_887
  let v2180 : BitVec 32 := Scalar.extui v2179
  let v2181 : BitVec 32 := Scalar.subi v2178 v2180
  let c16_i32_885 : BitVec 32 := 16#32
  let c0_i32_888 : BitVec 32 := 0#32
  let v2182 : BitVec 1 := Scalar.cmpi .sgt c16_i32_885 c0_i32_888
  let v2183 : BitVec 32 := Scalar.extui v2182
  let c0_i32_889 : BitVec 32 := 0#32
  let v2184 : BitVec 1 := Scalar.cmpi .slt c16_i32_885 c0_i32_889
  let v2185 : BitVec 32 := Scalar.extui v2184
  let v2186 : BitVec 32 := Scalar.subi v2183 v2185
  let v2187 : BitVec 1 := Scalar.cmpi .ne v2181 v2186
  let v2188 : BitVec 32 := Scalar.remsi v2175 c16_i32_885
  let c0_i32_890 : BitVec 32 := 0#32
  let v2189 : BitVec 1 := Scalar.cmpi .ne v2188 c0_i32_890
  let v2190 : BitVec 1 := Scalar.andi v2187 v2189
  let v2176 : BitVec 32 := Scalar.divsi v2175 c16_i32_885
  let c1_i32_891 : BitVec 32 := 1#32
  let v2191 : BitVec 32 := Scalar.subi v2176 c1_i32_891
  let v2192 : BitVec 32 := Scalar.select v2190 v2191 v2176
  let c16_i32_892 : BitVec 32 := 16#32
  let v2193 : BitVec 32 := Scalar.muli v2192 c16_i32_892
  let c880_i32_893 : BitVec 32 := 880#32
  let v2194 : BitVec 32 := Scalar.minsi v2193 c880_i32_893
  v2194

def k0_off100 (v2175 : BitVec 32) : Fin 4 → Nat :=
  let c0_895 : Index := 0#32
  let c1_896 : Index := 1#32
  let c0_i32_886 : BitVec 32 := 0#32
  let v2177 : BitVec 1 := Scalar.cmpi .sgt v2175 c0_i32_886
  let v2178 : BitVec 32 := Scalar.extui v2177
  let c0_i32_887 : BitVec 32 := 0#32
  let v2179 : BitVec 1 := Scalar.cmpi .slt v2175 c0_i32_887
  let v2180 : BitVec 32 := Scalar.extui v2179
  let v2181 : BitVec 32 := Scalar.subi v2178 v2180
  let c16_i32_885 : BitVec 32 := 16#32
  let c0_i32_888 : BitVec 32 := 0#32
  let v2182 : BitVec 1 := Scalar.cmpi .sgt c16_i32_885 c0_i32_888
  let v2183 : BitVec 32 := Scalar.extui v2182
  let c0_i32_889 : BitVec 32 := 0#32
  let v2184 : BitVec 1 := Scalar.cmpi .slt c16_i32_885 c0_i32_889
  let v2185 : BitVec 32 := Scalar.extui v2184
  let v2186 : BitVec 32 := Scalar.subi v2183 v2185
  let v2187 : BitVec 1 := Scalar.cmpi .ne v2181 v2186
  let v2188 : BitVec 32 := Scalar.remsi v2175 c16_i32_885
  let c0_i32_890 : BitVec 32 := 0#32
  let v2189 : BitVec 1 := Scalar.cmpi .ne v2188 c0_i32_890
  let v2190 : BitVec 1 := Scalar.andi v2187 v2189
  let v2176 : BitVec 32 := Scalar.divsi v2175 c16_i32_885
  let c1_i32_891 : BitVec 32 := 1#32
  let v2191 : BitVec 32 := Scalar.subi v2176 c1_i32_891
  let v2192 : BitVec 32 := Scalar.select v2190 v2191 v2176
  let c16_i32_892 : BitVec 32 := 16#32
  let v2193 : BitVec 32 := Scalar.muli v2192 c16_i32_892
  let c880_i32_893 : BitVec 32 := 880#32
  let v2194 : BitVec 32 := Scalar.minsi v2193 c880_i32_893
  let v2195 : BitVec 32 := v2194
  let v2208 : Index := Scalar.indexCast v2195
  let c0_897 : Index := 0#32
  ![0, 1, v2208.toNat, 0]

def k0_chk50 (v2175 : BitVec 32) : Prop :=
  (16 ∣ (k0_mult50 v2175).toNat) ∧
  (∀ a, (k0_off100 v2175) a + S1x1x144x1024.size a ≤ S1x16x1024x1024.size a)
theorem k0_mult50_dvd : ∀ (v2175 : BitVec 32) (k0_hw50 : k0_chk50 v2175), 16 ∣ (k0_mult50 v2175).toNat := fun v2175 k0_hw50 => k0_hw50.1
theorem k0_off100_inb : ∀ (v2175 : BitVec 32) (k0_hw50 : k0_chk50 v2175), ∀ a, (k0_off100 v2175) a + S1x1x144x1024.size a ≤ S1x16x1024x1024.size a := fun v2175 k0_hw50 => k0_hw50.2

def k0_off101 (i : grid0.Coords) : Fin 3 → Nat :=
  let arg0 : BitVec 32 := BitVec.ofNat 32 (i 0).val
  let v2215 : Index := Scalar.indexCast arg0
  let c2_901 : Index := 2#32
  let arg1 : BitVec 32 := BitVec.ofNat 32 (i 1).val
  let c4_i32_899 : BitVec 32 := 4#32
  let v2213 : BitVec 32 := Scalar.muli arg1 c4_i32_899
  let c3_i32_900 : BitVec 32 := 3#32
  let v2214 : BitVec 32 := Scalar.addi v2213 c3_i32_900
  let v2216 : Index := Scalar.indexCast v2214
  ![v2215.toNat, 2, v2216.toNat]
def k0_mult51 (v2217 : BitVec 32) : BitVec 32 :=
  let c0_i32_903 : BitVec 32 := 0#32
  let v2219 : BitVec 1 := Scalar.cmpi .sgt v2217 c0_i32_903
  let v2220 : BitVec 32 := Scalar.extui v2219
  let c0_i32_904 : BitVec 32 := 0#32
  let v2221 : BitVec 1 := Scalar.cmpi .slt v2217 c0_i32_904
  let v2222 : BitVec 32 := Scalar.extui v2221
  let v2223 : BitVec 32 := Scalar.subi v2220 v2222
  let c16_i32_902 : BitVec 32 := 16#32
  let c0_i32_905 : BitVec 32 := 0#32
  let v2224 : BitVec 1 := Scalar.cmpi .sgt c16_i32_902 c0_i32_905
  let v2225 : BitVec 32 := Scalar.extui v2224
  let c0_i32_906 : BitVec 32 := 0#32
  let v2226 : BitVec 1 := Scalar.cmpi .slt c16_i32_902 c0_i32_906
  let v2227 : BitVec 32 := Scalar.extui v2226
  let v2228 : BitVec 32 := Scalar.subi v2225 v2227
  let v2229 : BitVec 1 := Scalar.cmpi .ne v2223 v2228
  let v2230 : BitVec 32 := Scalar.remsi v2217 c16_i32_902
  let c0_i32_907 : BitVec 32 := 0#32
  let v2231 : BitVec 1 := Scalar.cmpi .ne v2230 c0_i32_907
  let v2232 : BitVec 1 := Scalar.andi v2229 v2231
  let v2218 : BitVec 32 := Scalar.divsi v2217 c16_i32_902
  let c1_i32_908 : BitVec 32 := 1#32
  let v2233 : BitVec 32 := Scalar.subi v2218 c1_i32_908
  let v2234 : BitVec 32 := Scalar.select v2232 v2233 v2218
  let c16_i32_909 : BitVec 32 := 16#32
  let v2235 : BitVec 32 := Scalar.muli v2234 c16_i32_909
  let c880_i32_910 : BitVec 32 := 880#32
  let v2236 : BitVec 32 := Scalar.minsi v2235 c880_i32_910
  v2236

def k0_off102 (v2217 : BitVec 32) : Fin 4 → Nat :=
  let c0_912 : Index := 0#32
  let c2_913 : Index := 2#32
  let c0_i32_903 : BitVec 32 := 0#32
  let v2219 : BitVec 1 := Scalar.cmpi .sgt v2217 c0_i32_903
  let v2220 : BitVec 32 := Scalar.extui v2219
  let c0_i32_904 : BitVec 32 := 0#32
  let v2221 : BitVec 1 := Scalar.cmpi .slt v2217 c0_i32_904
  let v2222 : BitVec 32 := Scalar.extui v2221
  let v2223 : BitVec 32 := Scalar.subi v2220 v2222
  let c16_i32_902 : BitVec 32 := 16#32
  let c0_i32_905 : BitVec 32 := 0#32
  let v2224 : BitVec 1 := Scalar.cmpi .sgt c16_i32_902 c0_i32_905
  let v2225 : BitVec 32 := Scalar.extui v2224
  let c0_i32_906 : BitVec 32 := 0#32
  let v2226 : BitVec 1 := Scalar.cmpi .slt c16_i32_902 c0_i32_906
  let v2227 : BitVec 32 := Scalar.extui v2226
  let v2228 : BitVec 32 := Scalar.subi v2225 v2227
  let v2229 : BitVec 1 := Scalar.cmpi .ne v2223 v2228
  let v2230 : BitVec 32 := Scalar.remsi v2217 c16_i32_902
  let c0_i32_907 : BitVec 32 := 0#32
  let v2231 : BitVec 1 := Scalar.cmpi .ne v2230 c0_i32_907
  let v2232 : BitVec 1 := Scalar.andi v2229 v2231
  let v2218 : BitVec 32 := Scalar.divsi v2217 c16_i32_902
  let c1_i32_908 : BitVec 32 := 1#32
  let v2233 : BitVec 32 := Scalar.subi v2218 c1_i32_908
  let v2234 : BitVec 32 := Scalar.select v2232 v2233 v2218
  let c16_i32_909 : BitVec 32 := 16#32
  let v2235 : BitVec 32 := Scalar.muli v2234 c16_i32_909
  let c880_i32_910 : BitVec 32 := 880#32
  let v2236 : BitVec 32 := Scalar.minsi v2235 c880_i32_910
  let v2237 : BitVec 32 := v2236
  let v2250 : Index := Scalar.indexCast v2237
  let c0_914 : Index := 0#32
  ![0, 2, v2250.toNat, 0]

def k0_chk51 (v2217 : BitVec 32) : Prop :=
  (16 ∣ (k0_mult51 v2217).toNat) ∧
  (∀ a, (k0_off102 v2217) a + S1x1x144x1024.size a ≤ S1x16x1024x1024.size a)
theorem k0_mult51_dvd : ∀ (v2217 : BitVec 32) (k0_hw51 : k0_chk51 v2217), 16 ∣ (k0_mult51 v2217).toNat := fun v2217 k0_hw51 => k0_hw51.1
theorem k0_off102_inb : ∀ (v2217 : BitVec 32) (k0_hw51 : k0_chk51 v2217), ∀ a, (k0_off102 v2217) a + S1x1x144x1024.size a ≤ S1x16x1024x1024.size a := fun v2217 k0_hw51 => k0_hw51.2

def k0_off103 (i : grid0.Coords) : Fin 3 → Nat :=
  let arg0 : BitVec 32 := BitVec.ofNat 32 (i 0).val
  let v2257 : Index := Scalar.indexCast arg0
  let c3_918 : Index := 3#32
  let arg1 : BitVec 32 := BitVec.ofNat 32 (i 1).val
  let c4_i32_916 : BitVec 32 := 4#32
  let v2255 : BitVec 32 := Scalar.muli arg1 c4_i32_916
  let c3_i32_917 : BitVec 32 := 3#32
  let v2256 : BitVec 32 := Scalar.addi v2255 c3_i32_917
  let v2258 : Index := Scalar.indexCast v2256
  ![v2257.toNat, 3, v2258.toNat]
def k0_mult52 (v2259 : BitVec 32) : BitVec 32 :=
  let c0_i32_920 : BitVec 32 := 0#32
  let v2261 : BitVec 1 := Scalar.cmpi .sgt v2259 c0_i32_920
  let v2262 : BitVec 32 := Scalar.extui v2261
  let c0_i32_921 : BitVec 32 := 0#32
  let v2263 : BitVec 1 := Scalar.cmpi .slt v2259 c0_i32_921
  let v2264 : BitVec 32 := Scalar.extui v2263
  let v2265 : BitVec 32 := Scalar.subi v2262 v2264
  let c16_i32_919 : BitVec 32 := 16#32
  let c0_i32_922 : BitVec 32 := 0#32
  let v2266 : BitVec 1 := Scalar.cmpi .sgt c16_i32_919 c0_i32_922
  let v2267 : BitVec 32 := Scalar.extui v2266
  let c0_i32_923 : BitVec 32 := 0#32
  let v2268 : BitVec 1 := Scalar.cmpi .slt c16_i32_919 c0_i32_923
  let v2269 : BitVec 32 := Scalar.extui v2268
  let v2270 : BitVec 32 := Scalar.subi v2267 v2269
  let v2271 : BitVec 1 := Scalar.cmpi .ne v2265 v2270
  let v2272 : BitVec 32 := Scalar.remsi v2259 c16_i32_919
  let c0_i32_924 : BitVec 32 := 0#32
  let v2273 : BitVec 1 := Scalar.cmpi .ne v2272 c0_i32_924
  let v2274 : BitVec 1 := Scalar.andi v2271 v2273
  let v2260 : BitVec 32 := Scalar.divsi v2259 c16_i32_919
  let c1_i32_925 : BitVec 32 := 1#32
  let v2275 : BitVec 32 := Scalar.subi v2260 c1_i32_925
  let v2276 : BitVec 32 := Scalar.select v2274 v2275 v2260
  let c16_i32_926 : BitVec 32 := 16#32
  let v2277 : BitVec 32 := Scalar.muli v2276 c16_i32_926
  let c880_i32_927 : BitVec 32 := 880#32
  let v2278 : BitVec 32 := Scalar.minsi v2277 c880_i32_927
  v2278

def k0_off104 (v2259 : BitVec 32) : Fin 4 → Nat :=
  let c0_929 : Index := 0#32
  let c3_930 : Index := 3#32
  let c0_i32_920 : BitVec 32 := 0#32
  let v2261 : BitVec 1 := Scalar.cmpi .sgt v2259 c0_i32_920
  let v2262 : BitVec 32 := Scalar.extui v2261
  let c0_i32_921 : BitVec 32 := 0#32
  let v2263 : BitVec 1 := Scalar.cmpi .slt v2259 c0_i32_921
  let v2264 : BitVec 32 := Scalar.extui v2263
  let v2265 : BitVec 32 := Scalar.subi v2262 v2264
  let c16_i32_919 : BitVec 32 := 16#32
  let c0_i32_922 : BitVec 32 := 0#32
  let v2266 : BitVec 1 := Scalar.cmpi .sgt c16_i32_919 c0_i32_922
  let v2267 : BitVec 32 := Scalar.extui v2266
  let c0_i32_923 : BitVec 32 := 0#32
  let v2268 : BitVec 1 := Scalar.cmpi .slt c16_i32_919 c0_i32_923
  let v2269 : BitVec 32 := Scalar.extui v2268
  let v2270 : BitVec 32 := Scalar.subi v2267 v2269
  let v2271 : BitVec 1 := Scalar.cmpi .ne v2265 v2270
  let v2272 : BitVec 32 := Scalar.remsi v2259 c16_i32_919
  let c0_i32_924 : BitVec 32 := 0#32
  let v2273 : BitVec 1 := Scalar.cmpi .ne v2272 c0_i32_924
  let v2274 : BitVec 1 := Scalar.andi v2271 v2273
  let v2260 : BitVec 32 := Scalar.divsi v2259 c16_i32_919
  let c1_i32_925 : BitVec 32 := 1#32
  let v2275 : BitVec 32 := Scalar.subi v2260 c1_i32_925
  let v2276 : BitVec 32 := Scalar.select v2274 v2275 v2260
  let c16_i32_926 : BitVec 32 := 16#32
  let v2277 : BitVec 32 := Scalar.muli v2276 c16_i32_926
  let c880_i32_927 : BitVec 32 := 880#32
  let v2278 : BitVec 32 := Scalar.minsi v2277 c880_i32_927
  let v2279 : BitVec 32 := v2278
  let v2292 : Index := Scalar.indexCast v2279
  let c0_931 : Index := 0#32
  ![0, 3, v2292.toNat, 0]

def k0_chk52 (v2259 : BitVec 32) : Prop :=
  (16 ∣ (k0_mult52 v2259).toNat) ∧
  (∀ a, (k0_off104 v2259) a + S1x1x144x1024.size a ≤ S1x16x1024x1024.size a)
theorem k0_mult52_dvd : ∀ (v2259 : BitVec 32) (k0_hw52 : k0_chk52 v2259), 16 ∣ (k0_mult52 v2259).toNat := fun v2259 k0_hw52 => k0_hw52.1
theorem k0_off104_inb : ∀ (v2259 : BitVec 32) (k0_hw52 : k0_chk52 v2259), ∀ a, (k0_off104 v2259) a + S1x1x144x1024.size a ≤ S1x16x1024x1024.size a := fun v2259 k0_hw52 => k0_hw52.2

def k0_off105 (i : grid0.Coords) : Fin 3 → Nat :=
  let arg0 : BitVec 32 := BitVec.ofNat 32 (i 0).val
  let v2299 : Index := Scalar.indexCast arg0
  let c4_935 : Index := 4#32
  let arg1 : BitVec 32 := BitVec.ofNat 32 (i 1).val
  let c4_i32_933 : BitVec 32 := 4#32
  let v2297 : BitVec 32 := Scalar.muli arg1 c4_i32_933
  let c3_i32_934 : BitVec 32 := 3#32
  let v2298 : BitVec 32 := Scalar.addi v2297 c3_i32_934
  let v2300 : Index := Scalar.indexCast v2298
  ![v2299.toNat, 4, v2300.toNat]
def k0_mult53 (v2301 : BitVec 32) : BitVec 32 :=
  let c0_i32_937 : BitVec 32 := 0#32
  let v2303 : BitVec 1 := Scalar.cmpi .sgt v2301 c0_i32_937
  let v2304 : BitVec 32 := Scalar.extui v2303
  let c0_i32_938 : BitVec 32 := 0#32
  let v2305 : BitVec 1 := Scalar.cmpi .slt v2301 c0_i32_938
  let v2306 : BitVec 32 := Scalar.extui v2305
  let v2307 : BitVec 32 := Scalar.subi v2304 v2306
  let c16_i32_936 : BitVec 32 := 16#32
  let c0_i32_939 : BitVec 32 := 0#32
  let v2308 : BitVec 1 := Scalar.cmpi .sgt c16_i32_936 c0_i32_939
  let v2309 : BitVec 32 := Scalar.extui v2308
  let c0_i32_940 : BitVec 32 := 0#32
  let v2310 : BitVec 1 := Scalar.cmpi .slt c16_i32_936 c0_i32_940
  let v2311 : BitVec 32 := Scalar.extui v2310
  let v2312 : BitVec 32 := Scalar.subi v2309 v2311
  let v2313 : BitVec 1 := Scalar.cmpi .ne v2307 v2312
  let v2314 : BitVec 32 := Scalar.remsi v2301 c16_i32_936
  let c0_i32_941 : BitVec 32 := 0#32
  let v2315 : BitVec 1 := Scalar.cmpi .ne v2314 c0_i32_941
  let v2316 : BitVec 1 := Scalar.andi v2313 v2315
  let v2302 : BitVec 32 := Scalar.divsi v2301 c16_i32_936
  let c1_i32_942 : BitVec 32 := 1#32
  let v2317 : BitVec 32 := Scalar.subi v2302 c1_i32_942
  let v2318 : BitVec 32 := Scalar.select v2316 v2317 v2302
  let c16_i32_943 : BitVec 32 := 16#32
  let v2319 : BitVec 32 := Scalar.muli v2318 c16_i32_943
  let c880_i32_944 : BitVec 32 := 880#32
  let v2320 : BitVec 32 := Scalar.minsi v2319 c880_i32_944
  v2320

def k0_off106 (v2301 : BitVec 32) : Fin 4 → Nat :=
  let c0_946 : Index := 0#32
  let c4_947 : Index := 4#32
  let c0_i32_937 : BitVec 32 := 0#32
  let v2303 : BitVec 1 := Scalar.cmpi .sgt v2301 c0_i32_937
  let v2304 : BitVec 32 := Scalar.extui v2303
  let c0_i32_938 : BitVec 32 := 0#32
  let v2305 : BitVec 1 := Scalar.cmpi .slt v2301 c0_i32_938
  let v2306 : BitVec 32 := Scalar.extui v2305
  let v2307 : BitVec 32 := Scalar.subi v2304 v2306
  let c16_i32_936 : BitVec 32 := 16#32
  let c0_i32_939 : BitVec 32 := 0#32
  let v2308 : BitVec 1 := Scalar.cmpi .sgt c16_i32_936 c0_i32_939
  let v2309 : BitVec 32 := Scalar.extui v2308
  let c0_i32_940 : BitVec 32 := 0#32
  let v2310 : BitVec 1 := Scalar.cmpi .slt c16_i32_936 c0_i32_940
  let v2311 : BitVec 32 := Scalar.extui v2310
  let v2312 : BitVec 32 := Scalar.subi v2309 v2311
  let v2313 : BitVec 1 := Scalar.cmpi .ne v2307 v2312
  let v2314 : BitVec 32 := Scalar.remsi v2301 c16_i32_936
  let c0_i32_941 : BitVec 32 := 0#32
  let v2315 : BitVec 1 := Scalar.cmpi .ne v2314 c0_i32_941
  let v2316 : BitVec 1 := Scalar.andi v2313 v2315
  let v2302 : BitVec 32 := Scalar.divsi v2301 c16_i32_936
  let c1_i32_942 : BitVec 32 := 1#32
  let v2317 : BitVec 32 := Scalar.subi v2302 c1_i32_942
  let v2318 : BitVec 32 := Scalar.select v2316 v2317 v2302
  let c16_i32_943 : BitVec 32 := 16#32
  let v2319 : BitVec 32 := Scalar.muli v2318 c16_i32_943
  let c880_i32_944 : BitVec 32 := 880#32
  let v2320 : BitVec 32 := Scalar.minsi v2319 c880_i32_944
  let v2321 : BitVec 32 := v2320
  let v2334 : Index := Scalar.indexCast v2321
  let c0_948 : Index := 0#32
  ![0, 4, v2334.toNat, 0]

def k0_chk53 (v2301 : BitVec 32) : Prop :=
  (16 ∣ (k0_mult53 v2301).toNat) ∧
  (∀ a, (k0_off106 v2301) a + S1x1x144x1024.size a ≤ S1x16x1024x1024.size a)
theorem k0_mult53_dvd : ∀ (v2301 : BitVec 32) (k0_hw53 : k0_chk53 v2301), 16 ∣ (k0_mult53 v2301).toNat := fun v2301 k0_hw53 => k0_hw53.1
theorem k0_off106_inb : ∀ (v2301 : BitVec 32) (k0_hw53 : k0_chk53 v2301), ∀ a, (k0_off106 v2301) a + S1x1x144x1024.size a ≤ S1x16x1024x1024.size a := fun v2301 k0_hw53 => k0_hw53.2

def k0_off107 (i : grid0.Coords) : Fin 3 → Nat :=
  let arg0 : BitVec 32 := BitVec.ofNat 32 (i 0).val
  let v2341 : Index := Scalar.indexCast arg0
  let c5_952 : Index := 5#32
  let arg1 : BitVec 32 := BitVec.ofNat 32 (i 1).val
  let c4_i32_950 : BitVec 32 := 4#32
  let v2339 : BitVec 32 := Scalar.muli arg1 c4_i32_950
  let c3_i32_951 : BitVec 32 := 3#32
  let v2340 : BitVec 32 := Scalar.addi v2339 c3_i32_951
  let v2342 : Index := Scalar.indexCast v2340
  ![v2341.toNat, 5, v2342.toNat]
def k0_mult54 (v2343 : BitVec 32) : BitVec 32 :=
  let c0_i32_954 : BitVec 32 := 0#32
  let v2345 : BitVec 1 := Scalar.cmpi .sgt v2343 c0_i32_954
  let v2346 : BitVec 32 := Scalar.extui v2345
  let c0_i32_955 : BitVec 32 := 0#32
  let v2347 : BitVec 1 := Scalar.cmpi .slt v2343 c0_i32_955
  let v2348 : BitVec 32 := Scalar.extui v2347
  let v2349 : BitVec 32 := Scalar.subi v2346 v2348
  let c16_i32_953 : BitVec 32 := 16#32
  let c0_i32_956 : BitVec 32 := 0#32
  let v2350 : BitVec 1 := Scalar.cmpi .sgt c16_i32_953 c0_i32_956
  let v2351 : BitVec 32 := Scalar.extui v2350
  let c0_i32_957 : BitVec 32 := 0#32
  let v2352 : BitVec 1 := Scalar.cmpi .slt c16_i32_953 c0_i32_957
  let v2353 : BitVec 32 := Scalar.extui v2352
  let v2354 : BitVec 32 := Scalar.subi v2351 v2353
  let v2355 : BitVec 1 := Scalar.cmpi .ne v2349 v2354
  let v2356 : BitVec 32 := Scalar.remsi v2343 c16_i32_953
  let c0_i32_958 : BitVec 32 := 0#32
  let v2357 : BitVec 1 := Scalar.cmpi .ne v2356 c0_i32_958
  let v2358 : BitVec 1 := Scalar.andi v2355 v2357
  let v2344 : BitVec 32 := Scalar.divsi v2343 c16_i32_953
  let c1_i32_959 : BitVec 32 := 1#32
  let v2359 : BitVec 32 := Scalar.subi v2344 c1_i32_959
  let v2360 : BitVec 32 := Scalar.select v2358 v2359 v2344
  let c16_i32_960 : BitVec 32 := 16#32
  let v2361 : BitVec 32 := Scalar.muli v2360 c16_i32_960
  let c880_i32_961 : BitVec 32 := 880#32
  let v2362 : BitVec 32 := Scalar.minsi v2361 c880_i32_961
  v2362

def k0_off108 (v2343 : BitVec 32) : Fin 4 → Nat :=
  let c0_963 : Index := 0#32
  let c5_964 : Index := 5#32
  let c0_i32_954 : BitVec 32 := 0#32
  let v2345 : BitVec 1 := Scalar.cmpi .sgt v2343 c0_i32_954
  let v2346 : BitVec 32 := Scalar.extui v2345
  let c0_i32_955 : BitVec 32 := 0#32
  let v2347 : BitVec 1 := Scalar.cmpi .slt v2343 c0_i32_955
  let v2348 : BitVec 32 := Scalar.extui v2347
  let v2349 : BitVec 32 := Scalar.subi v2346 v2348
  let c16_i32_953 : BitVec 32 := 16#32
  let c0_i32_956 : BitVec 32 := 0#32
  let v2350 : BitVec 1 := Scalar.cmpi .sgt c16_i32_953 c0_i32_956
  let v2351 : BitVec 32 := Scalar.extui v2350
  let c0_i32_957 : BitVec 32 := 0#32
  let v2352 : BitVec 1 := Scalar.cmpi .slt c16_i32_953 c0_i32_957
  let v2353 : BitVec 32 := Scalar.extui v2352
  let v2354 : BitVec 32 := Scalar.subi v2351 v2353
  let v2355 : BitVec 1 := Scalar.cmpi .ne v2349 v2354
  let v2356 : BitVec 32 := Scalar.remsi v2343 c16_i32_953
  let c0_i32_958 : BitVec 32 := 0#32
  let v2357 : BitVec 1 := Scalar.cmpi .ne v2356 c0_i32_958
  let v2358 : BitVec 1 := Scalar.andi v2355 v2357
  let v2344 : BitVec 32 := Scalar.divsi v2343 c16_i32_953
  let c1_i32_959 : BitVec 32 := 1#32
  let v2359 : BitVec 32 := Scalar.subi v2344 c1_i32_959
  let v2360 : BitVec 32 := Scalar.select v2358 v2359 v2344
  let c16_i32_960 : BitVec 32 := 16#32
  let v2361 : BitVec 32 := Scalar.muli v2360 c16_i32_960
  let c880_i32_961 : BitVec 32 := 880#32
  let v2362 : BitVec 32 := Scalar.minsi v2361 c880_i32_961
  let v2363 : BitVec 32 := v2362
  let v2376 : Index := Scalar.indexCast v2363
  let c0_965 : Index := 0#32
  ![0, 5, v2376.toNat, 0]

def k0_chk54 (v2343 : BitVec 32) : Prop :=
  (16 ∣ (k0_mult54 v2343).toNat) ∧
  (∀ a, (k0_off108 v2343) a + S1x1x144x1024.size a ≤ S1x16x1024x1024.size a)
theorem k0_mult54_dvd : ∀ (v2343 : BitVec 32) (k0_hw54 : k0_chk54 v2343), 16 ∣ (k0_mult54 v2343).toNat := fun v2343 k0_hw54 => k0_hw54.1
theorem k0_off108_inb : ∀ (v2343 : BitVec 32) (k0_hw54 : k0_chk54 v2343), ∀ a, (k0_off108 v2343) a + S1x1x144x1024.size a ≤ S1x16x1024x1024.size a := fun v2343 k0_hw54 => k0_hw54.2

def k0_off109 (i : grid0.Coords) : Fin 3 → Nat :=
  let arg0 : BitVec 32 := BitVec.ofNat 32 (i 0).val
  let v2383 : Index := Scalar.indexCast arg0
  let c6_969 : Index := 6#32
  let arg1 : BitVec 32 := BitVec.ofNat 32 (i 1).val
  let c4_i32_967 : BitVec 32 := 4#32
  let v2381 : BitVec 32 := Scalar.muli arg1 c4_i32_967
  let c3_i32_968 : BitVec 32 := 3#32
  let v2382 : BitVec 32 := Scalar.addi v2381 c3_i32_968
  let v2384 : Index := Scalar.indexCast v2382
  ![v2383.toNat, 6, v2384.toNat]
def k0_mult55 (v2385 : BitVec 32) : BitVec 32 :=
  let c0_i32_971 : BitVec 32 := 0#32
  let v2387 : BitVec 1 := Scalar.cmpi .sgt v2385 c0_i32_971
  let v2388 : BitVec 32 := Scalar.extui v2387
  let c0_i32_972 : BitVec 32 := 0#32
  let v2389 : BitVec 1 := Scalar.cmpi .slt v2385 c0_i32_972
  let v2390 : BitVec 32 := Scalar.extui v2389
  let v2391 : BitVec 32 := Scalar.subi v2388 v2390
  let c16_i32_970 : BitVec 32 := 16#32
  let c0_i32_973 : BitVec 32 := 0#32
  let v2392 : BitVec 1 := Scalar.cmpi .sgt c16_i32_970 c0_i32_973
  let v2393 : BitVec 32 := Scalar.extui v2392
  let c0_i32_974 : BitVec 32 := 0#32
  let v2394 : BitVec 1 := Scalar.cmpi .slt c16_i32_970 c0_i32_974
  let v2395 : BitVec 32 := Scalar.extui v2394
  let v2396 : BitVec 32 := Scalar.subi v2393 v2395
  let v2397 : BitVec 1 := Scalar.cmpi .ne v2391 v2396
  let v2398 : BitVec 32 := Scalar.remsi v2385 c16_i32_970
  let c0_i32_975 : BitVec 32 := 0#32
  let v2399 : BitVec 1 := Scalar.cmpi .ne v2398 c0_i32_975
  let v2400 : BitVec 1 := Scalar.andi v2397 v2399
  let v2386 : BitVec 32 := Scalar.divsi v2385 c16_i32_970
  let c1_i32_976 : BitVec 32 := 1#32
  let v2401 : BitVec 32 := Scalar.subi v2386 c1_i32_976
  let v2402 : BitVec 32 := Scalar.select v2400 v2401 v2386
  let c16_i32_977 : BitVec 32 := 16#32
  let v2403 : BitVec 32 := Scalar.muli v2402 c16_i32_977
  let c880_i32_978 : BitVec 32 := 880#32
  let v2404 : BitVec 32 := Scalar.minsi v2403 c880_i32_978
  v2404

def k0_off110 (v2385 : BitVec 32) : Fin 4 → Nat :=
  let c0_980 : Index := 0#32
  let c6_981 : Index := 6#32
  let c0_i32_971 : BitVec 32 := 0#32
  let v2387 : BitVec 1 := Scalar.cmpi .sgt v2385 c0_i32_971
  let v2388 : BitVec 32 := Scalar.extui v2387
  let c0_i32_972 : BitVec 32 := 0#32
  let v2389 : BitVec 1 := Scalar.cmpi .slt v2385 c0_i32_972
  let v2390 : BitVec 32 := Scalar.extui v2389
  let v2391 : BitVec 32 := Scalar.subi v2388 v2390
  let c16_i32_970 : BitVec 32 := 16#32
  let c0_i32_973 : BitVec 32 := 0#32
  let v2392 : BitVec 1 := Scalar.cmpi .sgt c16_i32_970 c0_i32_973
  let v2393 : BitVec 32 := Scalar.extui v2392
  let c0_i32_974 : BitVec 32 := 0#32
  let v2394 : BitVec 1 := Scalar.cmpi .slt c16_i32_970 c0_i32_974
  let v2395 : BitVec 32 := Scalar.extui v2394
  let v2396 : BitVec 32 := Scalar.subi v2393 v2395
  let v2397 : BitVec 1 := Scalar.cmpi .ne v2391 v2396
  let v2398 : BitVec 32 := Scalar.remsi v2385 c16_i32_970
  let c0_i32_975 : BitVec 32 := 0#32
  let v2399 : BitVec 1 := Scalar.cmpi .ne v2398 c0_i32_975
  let v2400 : BitVec 1 := Scalar.andi v2397 v2399
  let v2386 : BitVec 32 := Scalar.divsi v2385 c16_i32_970
  let c1_i32_976 : BitVec 32 := 1#32
  let v2401 : BitVec 32 := Scalar.subi v2386 c1_i32_976
  let v2402 : BitVec 32 := Scalar.select v2400 v2401 v2386
  let c16_i32_977 : BitVec 32 := 16#32
  let v2403 : BitVec 32 := Scalar.muli v2402 c16_i32_977
  let c880_i32_978 : BitVec 32 := 880#32
  let v2404 : BitVec 32 := Scalar.minsi v2403 c880_i32_978
  let v2405 : BitVec 32 := v2404
  let v2418 : Index := Scalar.indexCast v2405
  let c0_982 : Index := 0#32
  ![0, 6, v2418.toNat, 0]

def k0_chk55 (v2385 : BitVec 32) : Prop :=
  (16 ∣ (k0_mult55 v2385).toNat) ∧
  (∀ a, (k0_off110 v2385) a + S1x1x144x1024.size a ≤ S1x16x1024x1024.size a)
theorem k0_mult55_dvd : ∀ (v2385 : BitVec 32) (k0_hw55 : k0_chk55 v2385), 16 ∣ (k0_mult55 v2385).toNat := fun v2385 k0_hw55 => k0_hw55.1
theorem k0_off110_inb : ∀ (v2385 : BitVec 32) (k0_hw55 : k0_chk55 v2385), ∀ a, (k0_off110 v2385) a + S1x1x144x1024.size a ≤ S1x16x1024x1024.size a := fun v2385 k0_hw55 => k0_hw55.2

def k0_off111 (i : grid0.Coords) : Fin 3 → Nat :=
  let arg0 : BitVec 32 := BitVec.ofNat 32 (i 0).val
  let v2425 : Index := Scalar.indexCast arg0
  let c7_986 : Index := 7#32
  let arg1 : BitVec 32 := BitVec.ofNat 32 (i 1).val
  let c4_i32_984 : BitVec 32 := 4#32
  let v2423 : BitVec 32 := Scalar.muli arg1 c4_i32_984
  let c3_i32_985 : BitVec 32 := 3#32
  let v2424 : BitVec 32 := Scalar.addi v2423 c3_i32_985
  let v2426 : Index := Scalar.indexCast v2424
  ![v2425.toNat, 7, v2426.toNat]
def k0_mult56 (v2427 : BitVec 32) : BitVec 32 :=
  let c0_i32_988 : BitVec 32 := 0#32
  let v2429 : BitVec 1 := Scalar.cmpi .sgt v2427 c0_i32_988
  let v2430 : BitVec 32 := Scalar.extui v2429
  let c0_i32_989 : BitVec 32 := 0#32
  let v2431 : BitVec 1 := Scalar.cmpi .slt v2427 c0_i32_989
  let v2432 : BitVec 32 := Scalar.extui v2431
  let v2433 : BitVec 32 := Scalar.subi v2430 v2432
  let c16_i32_987 : BitVec 32 := 16#32
  let c0_i32_990 : BitVec 32 := 0#32
  let v2434 : BitVec 1 := Scalar.cmpi .sgt c16_i32_987 c0_i32_990
  let v2435 : BitVec 32 := Scalar.extui v2434
  let c0_i32_991 : BitVec 32 := 0#32
  let v2436 : BitVec 1 := Scalar.cmpi .slt c16_i32_987 c0_i32_991
  let v2437 : BitVec 32 := Scalar.extui v2436
  let v2438 : BitVec 32 := Scalar.subi v2435 v2437
  let v2439 : BitVec 1 := Scalar.cmpi .ne v2433 v2438
  let v2440 : BitVec 32 := Scalar.remsi v2427 c16_i32_987
  let c0_i32_992 : BitVec 32 := 0#32
  let v2441 : BitVec 1 := Scalar.cmpi .ne v2440 c0_i32_992
  let v2442 : BitVec 1 := Scalar.andi v2439 v2441
  let v2428 : BitVec 32 := Scalar.divsi v2427 c16_i32_987
  let c1_i32_993 : BitVec 32 := 1#32
  let v2443 : BitVec 32 := Scalar.subi v2428 c1_i32_993
  let v2444 : BitVec 32 := Scalar.select v2442 v2443 v2428
  let c16_i32_994 : BitVec 32 := 16#32
  let v2445 : BitVec 32 := Scalar.muli v2444 c16_i32_994
  let c880_i32_995 : BitVec 32 := 880#32
  let v2446 : BitVec 32 := Scalar.minsi v2445 c880_i32_995
  v2446

def k0_off112 (v2427 : BitVec 32) : Fin 4 → Nat :=
  let c0_997 : Index := 0#32
  let c7_998 : Index := 7#32
  let c0_i32_988 : BitVec 32 := 0#32
  let v2429 : BitVec 1 := Scalar.cmpi .sgt v2427 c0_i32_988
  let v2430 : BitVec 32 := Scalar.extui v2429
  let c0_i32_989 : BitVec 32 := 0#32
  let v2431 : BitVec 1 := Scalar.cmpi .slt v2427 c0_i32_989
  let v2432 : BitVec 32 := Scalar.extui v2431
  let v2433 : BitVec 32 := Scalar.subi v2430 v2432
  let c16_i32_987 : BitVec 32 := 16#32
  let c0_i32_990 : BitVec 32 := 0#32
  let v2434 : BitVec 1 := Scalar.cmpi .sgt c16_i32_987 c0_i32_990
  let v2435 : BitVec 32 := Scalar.extui v2434
  let c0_i32_991 : BitVec 32 := 0#32
  let v2436 : BitVec 1 := Scalar.cmpi .slt c16_i32_987 c0_i32_991
  let v2437 : BitVec 32 := Scalar.extui v2436
  let v2438 : BitVec 32 := Scalar.subi v2435 v2437
  let v2439 : BitVec 1 := Scalar.cmpi .ne v2433 v2438
  let v2440 : BitVec 32 := Scalar.remsi v2427 c16_i32_987
  let c0_i32_992 : BitVec 32 := 0#32
  let v2441 : BitVec 1 := Scalar.cmpi .ne v2440 c0_i32_992
  let v2442 : BitVec 1 := Scalar.andi v2439 v2441
  let v2428 : BitVec 32 := Scalar.divsi v2427 c16_i32_987
  let c1_i32_993 : BitVec 32 := 1#32
  let v2443 : BitVec 32 := Scalar.subi v2428 c1_i32_993
  let v2444 : BitVec 32 := Scalar.select v2442 v2443 v2428
  let c16_i32_994 : BitVec 32 := 16#32
  let v2445 : BitVec 32 := Scalar.muli v2444 c16_i32_994
  let c880_i32_995 : BitVec 32 := 880#32
  let v2446 : BitVec 32 := Scalar.minsi v2445 c880_i32_995
  let v2447 : BitVec 32 := v2446
  let v2460 : Index := Scalar.indexCast v2447
  let c0_999 : Index := 0#32
  ![0, 7, v2460.toNat, 0]

def k0_chk56 (v2427 : BitVec 32) : Prop :=
  (16 ∣ (k0_mult56 v2427).toNat) ∧
  (∀ a, (k0_off112 v2427) a + S1x1x144x1024.size a ≤ S1x16x1024x1024.size a)
theorem k0_mult56_dvd : ∀ (v2427 : BitVec 32) (k0_hw56 : k0_chk56 v2427), 16 ∣ (k0_mult56 v2427).toNat := fun v2427 k0_hw56 => k0_hw56.1
theorem k0_off112_inb : ∀ (v2427 : BitVec 32) (k0_hw56 : k0_chk56 v2427), ∀ a, (k0_off112 v2427) a + S1x1x144x1024.size a ≤ S1x16x1024x1024.size a := fun v2427 k0_hw56 => k0_hw56.2

def k0_off113 (i : grid0.Coords) : Fin 3 → Nat :=
  let arg0 : BitVec 32 := BitVec.ofNat 32 (i 0).val
  let v2467 : Index := Scalar.indexCast arg0
  let c8_1003 : Index := 8#32
  let arg1 : BitVec 32 := BitVec.ofNat 32 (i 1).val
  let c4_i32_1001 : BitVec 32 := 4#32
  let v2465 : BitVec 32 := Scalar.muli arg1 c4_i32_1001
  let c3_i32_1002 : BitVec 32 := 3#32
  let v2466 : BitVec 32 := Scalar.addi v2465 c3_i32_1002
  let v2468 : Index := Scalar.indexCast v2466
  ![v2467.toNat, 8, v2468.toNat]
def k0_mult57 (v2469 : BitVec 32) : BitVec 32 :=
  let c0_i32_1005 : BitVec 32 := 0#32
  let v2471 : BitVec 1 := Scalar.cmpi .sgt v2469 c0_i32_1005
  let v2472 : BitVec 32 := Scalar.extui v2471
  let c0_i32_1006 : BitVec 32 := 0#32
  let v2473 : BitVec 1 := Scalar.cmpi .slt v2469 c0_i32_1006
  let v2474 : BitVec 32 := Scalar.extui v2473
  let v2475 : BitVec 32 := Scalar.subi v2472 v2474
  let c16_i32_1004 : BitVec 32 := 16#32
  let c0_i32_1007 : BitVec 32 := 0#32
  let v2476 : BitVec 1 := Scalar.cmpi .sgt c16_i32_1004 c0_i32_1007
  let v2477 : BitVec 32 := Scalar.extui v2476
  let c0_i32_1008 : BitVec 32 := 0#32
  let v2478 : BitVec 1 := Scalar.cmpi .slt c16_i32_1004 c0_i32_1008
  let v2479 : BitVec 32 := Scalar.extui v2478
  let v2480 : BitVec 32 := Scalar.subi v2477 v2479
  let v2481 : BitVec 1 := Scalar.cmpi .ne v2475 v2480
  let v2482 : BitVec 32 := Scalar.remsi v2469 c16_i32_1004
  let c0_i32_1009 : BitVec 32 := 0#32
  let v2483 : BitVec 1 := Scalar.cmpi .ne v2482 c0_i32_1009
  let v2484 : BitVec 1 := Scalar.andi v2481 v2483
  let v2470 : BitVec 32 := Scalar.divsi v2469 c16_i32_1004
  let c1_i32_1010 : BitVec 32 := 1#32
  let v2485 : BitVec 32 := Scalar.subi v2470 c1_i32_1010
  let v2486 : BitVec 32 := Scalar.select v2484 v2485 v2470
  let c16_i32_1011 : BitVec 32 := 16#32
  let v2487 : BitVec 32 := Scalar.muli v2486 c16_i32_1011
  let c880_i32_1012 : BitVec 32 := 880#32
  let v2488 : BitVec 32 := Scalar.minsi v2487 c880_i32_1012
  v2488

def k0_off114 (v2469 : BitVec 32) : Fin 4 → Nat :=
  let c0_1014 : Index := 0#32
  let c8_1015 : Index := 8#32
  let c0_i32_1005 : BitVec 32 := 0#32
  let v2471 : BitVec 1 := Scalar.cmpi .sgt v2469 c0_i32_1005
  let v2472 : BitVec 32 := Scalar.extui v2471
  let c0_i32_1006 : BitVec 32 := 0#32
  let v2473 : BitVec 1 := Scalar.cmpi .slt v2469 c0_i32_1006
  let v2474 : BitVec 32 := Scalar.extui v2473
  let v2475 : BitVec 32 := Scalar.subi v2472 v2474
  let c16_i32_1004 : BitVec 32 := 16#32
  let c0_i32_1007 : BitVec 32 := 0#32
  let v2476 : BitVec 1 := Scalar.cmpi .sgt c16_i32_1004 c0_i32_1007
  let v2477 : BitVec 32 := Scalar.extui v2476
  let c0_i32_1008 : BitVec 32 := 0#32
  let v2478 : BitVec 1 := Scalar.cmpi .slt c16_i32_1004 c0_i32_1008
  let v2479 : BitVec 32 := Scalar.extui v2478
  let v2480 : BitVec 32 := Scalar.subi v2477 v2479
  let v2481 : BitVec 1 := Scalar.cmpi .ne v2475 v2480
  let v2482 : BitVec 32 := Scalar.remsi v2469 c16_i32_1004
  let c0_i32_1009 : BitVec 32 := 0#32
  let v2483 : BitVec 1 := Scalar.cmpi .ne v2482 c0_i32_1009
  let v2484 : BitVec 1 := Scalar.andi v2481 v2483
  let v2470 : BitVec 32 := Scalar.divsi v2469 c16_i32_1004
  let c1_i32_1010 : BitVec 32 := 1#32
  let v2485 : BitVec 32 := Scalar.subi v2470 c1_i32_1010
  let v2486 : BitVec 32 := Scalar.select v2484 v2485 v2470
  let c16_i32_1011 : BitVec 32 := 16#32
  let v2487 : BitVec 32 := Scalar.muli v2486 c16_i32_1011
  let c880_i32_1012 : BitVec 32 := 880#32
  let v2488 : BitVec 32 := Scalar.minsi v2487 c880_i32_1012
  let v2489 : BitVec 32 := v2488
  let v2502 : Index := Scalar.indexCast v2489
  let c0_1016 : Index := 0#32
  ![0, 8, v2502.toNat, 0]

def k0_chk57 (v2469 : BitVec 32) : Prop :=
  (16 ∣ (k0_mult57 v2469).toNat) ∧
  (∀ a, (k0_off114 v2469) a + S1x1x144x1024.size a ≤ S1x16x1024x1024.size a)
theorem k0_mult57_dvd : ∀ (v2469 : BitVec 32) (k0_hw57 : k0_chk57 v2469), 16 ∣ (k0_mult57 v2469).toNat := fun v2469 k0_hw57 => k0_hw57.1
theorem k0_off114_inb : ∀ (v2469 : BitVec 32) (k0_hw57 : k0_chk57 v2469), ∀ a, (k0_off114 v2469) a + S1x1x144x1024.size a ≤ S1x16x1024x1024.size a := fun v2469 k0_hw57 => k0_hw57.2

def k0_off115 (i : grid0.Coords) : Fin 3 → Nat :=
  let arg0 : BitVec 32 := BitVec.ofNat 32 (i 0).val
  let v2509 : Index := Scalar.indexCast arg0
  let c9_1020 : Index := 9#32
  let arg1 : BitVec 32 := BitVec.ofNat 32 (i 1).val
  let c4_i32_1018 : BitVec 32 := 4#32
  let v2507 : BitVec 32 := Scalar.muli arg1 c4_i32_1018
  let c3_i32_1019 : BitVec 32 := 3#32
  let v2508 : BitVec 32 := Scalar.addi v2507 c3_i32_1019
  let v2510 : Index := Scalar.indexCast v2508
  ![v2509.toNat, 9, v2510.toNat]
def k0_mult58 (v2511 : BitVec 32) : BitVec 32 :=
  let c0_i32_1022 : BitVec 32 := 0#32
  let v2513 : BitVec 1 := Scalar.cmpi .sgt v2511 c0_i32_1022
  let v2514 : BitVec 32 := Scalar.extui v2513
  let c0_i32_1023 : BitVec 32 := 0#32
  let v2515 : BitVec 1 := Scalar.cmpi .slt v2511 c0_i32_1023
  let v2516 : BitVec 32 := Scalar.extui v2515
  let v2517 : BitVec 32 := Scalar.subi v2514 v2516
  let c16_i32_1021 : BitVec 32 := 16#32
  let c0_i32_1024 : BitVec 32 := 0#32
  let v2518 : BitVec 1 := Scalar.cmpi .sgt c16_i32_1021 c0_i32_1024
  let v2519 : BitVec 32 := Scalar.extui v2518
  let c0_i32_1025 : BitVec 32 := 0#32
  let v2520 : BitVec 1 := Scalar.cmpi .slt c16_i32_1021 c0_i32_1025
  let v2521 : BitVec 32 := Scalar.extui v2520
  let v2522 : BitVec 32 := Scalar.subi v2519 v2521
  let v2523 : BitVec 1 := Scalar.cmpi .ne v2517 v2522
  let v2524 : BitVec 32 := Scalar.remsi v2511 c16_i32_1021
  let c0_i32_1026 : BitVec 32 := 0#32
  let v2525 : BitVec 1 := Scalar.cmpi .ne v2524 c0_i32_1026
  let v2526 : BitVec 1 := Scalar.andi v2523 v2525
  let v2512 : BitVec 32 := Scalar.divsi v2511 c16_i32_1021
  let c1_i32_1027 : BitVec 32 := 1#32
  let v2527 : BitVec 32 := Scalar.subi v2512 c1_i32_1027
  let v2528 : BitVec 32 := Scalar.select v2526 v2527 v2512
  let c16_i32_1028 : BitVec 32 := 16#32
  let v2529 : BitVec 32 := Scalar.muli v2528 c16_i32_1028
  let c880_i32_1029 : BitVec 32 := 880#32
  let v2530 : BitVec 32 := Scalar.minsi v2529 c880_i32_1029
  v2530

def k0_off116 (v2511 : BitVec 32) : Fin 4 → Nat :=
  let c0_1031 : Index := 0#32
  let c9_1032 : Index := 9#32
  let c0_i32_1022 : BitVec 32 := 0#32
  let v2513 : BitVec 1 := Scalar.cmpi .sgt v2511 c0_i32_1022
  let v2514 : BitVec 32 := Scalar.extui v2513
  let c0_i32_1023 : BitVec 32 := 0#32
  let v2515 : BitVec 1 := Scalar.cmpi .slt v2511 c0_i32_1023
  let v2516 : BitVec 32 := Scalar.extui v2515
  let v2517 : BitVec 32 := Scalar.subi v2514 v2516
  let c16_i32_1021 : BitVec 32 := 16#32
  let c0_i32_1024 : BitVec 32 := 0#32
  let v2518 : BitVec 1 := Scalar.cmpi .sgt c16_i32_1021 c0_i32_1024
  let v2519 : BitVec 32 := Scalar.extui v2518
  let c0_i32_1025 : BitVec 32 := 0#32
  let v2520 : BitVec 1 := Scalar.cmpi .slt c16_i32_1021 c0_i32_1025
  let v2521 : BitVec 32 := Scalar.extui v2520
  let v2522 : BitVec 32 := Scalar.subi v2519 v2521
  let v2523 : BitVec 1 := Scalar.cmpi .ne v2517 v2522
  let v2524 : BitVec 32 := Scalar.remsi v2511 c16_i32_1021
  let c0_i32_1026 : BitVec 32 := 0#32
  let v2525 : BitVec 1 := Scalar.cmpi .ne v2524 c0_i32_1026
  let v2526 : BitVec 1 := Scalar.andi v2523 v2525
  let v2512 : BitVec 32 := Scalar.divsi v2511 c16_i32_1021
  let c1_i32_1027 : BitVec 32 := 1#32
  let v2527 : BitVec 32 := Scalar.subi v2512 c1_i32_1027
  let v2528 : BitVec 32 := Scalar.select v2526 v2527 v2512
  let c16_i32_1028 : BitVec 32 := 16#32
  let v2529 : BitVec 32 := Scalar.muli v2528 c16_i32_1028
  let c880_i32_1029 : BitVec 32 := 880#32
  let v2530 : BitVec 32 := Scalar.minsi v2529 c880_i32_1029
  let v2531 : BitVec 32 := v2530
  let v2544 : Index := Scalar.indexCast v2531
  let c0_1033 : Index := 0#32
  ![0, 9, v2544.toNat, 0]

def k0_chk58 (v2511 : BitVec 32) : Prop :=
  (16 ∣ (k0_mult58 v2511).toNat) ∧
  (∀ a, (k0_off116 v2511) a + S1x1x144x1024.size a ≤ S1x16x1024x1024.size a)
theorem k0_mult58_dvd : ∀ (v2511 : BitVec 32) (k0_hw58 : k0_chk58 v2511), 16 ∣ (k0_mult58 v2511).toNat := fun v2511 k0_hw58 => k0_hw58.1
theorem k0_off116_inb : ∀ (v2511 : BitVec 32) (k0_hw58 : k0_chk58 v2511), ∀ a, (k0_off116 v2511) a + S1x1x144x1024.size a ≤ S1x16x1024x1024.size a := fun v2511 k0_hw58 => k0_hw58.2

def k0_off117 (i : grid0.Coords) : Fin 3 → Nat :=
  let arg0 : BitVec 32 := BitVec.ofNat 32 (i 0).val
  let v2551 : Index := Scalar.indexCast arg0
  let c10_1037 : Index := 10#32
  let arg1 : BitVec 32 := BitVec.ofNat 32 (i 1).val
  let c4_i32_1035 : BitVec 32 := 4#32
  let v2549 : BitVec 32 := Scalar.muli arg1 c4_i32_1035
  let c3_i32_1036 : BitVec 32 := 3#32
  let v2550 : BitVec 32 := Scalar.addi v2549 c3_i32_1036
  let v2552 : Index := Scalar.indexCast v2550
  ![v2551.toNat, 10, v2552.toNat]
def k0_mult59 (v2553 : BitVec 32) : BitVec 32 :=
  let c0_i32_1039 : BitVec 32 := 0#32
  let v2555 : BitVec 1 := Scalar.cmpi .sgt v2553 c0_i32_1039
  let v2556 : BitVec 32 := Scalar.extui v2555
  let c0_i32_1040 : BitVec 32 := 0#32
  let v2557 : BitVec 1 := Scalar.cmpi .slt v2553 c0_i32_1040
  let v2558 : BitVec 32 := Scalar.extui v2557
  let v2559 : BitVec 32 := Scalar.subi v2556 v2558
  let c16_i32_1038 : BitVec 32 := 16#32
  let c0_i32_1041 : BitVec 32 := 0#32
  let v2560 : BitVec 1 := Scalar.cmpi .sgt c16_i32_1038 c0_i32_1041
  let v2561 : BitVec 32 := Scalar.extui v2560
  let c0_i32_1042 : BitVec 32 := 0#32
  let v2562 : BitVec 1 := Scalar.cmpi .slt c16_i32_1038 c0_i32_1042
  let v2563 : BitVec 32 := Scalar.extui v2562
  let v2564 : BitVec 32 := Scalar.subi v2561 v2563
  let v2565 : BitVec 1 := Scalar.cmpi .ne v2559 v2564
  let v2566 : BitVec 32 := Scalar.remsi v2553 c16_i32_1038
  let c0_i32_1043 : BitVec 32 := 0#32
  let v2567 : BitVec 1 := Scalar.cmpi .ne v2566 c0_i32_1043
  let v2568 : BitVec 1 := Scalar.andi v2565 v2567
  let v2554 : BitVec 32 := Scalar.divsi v2553 c16_i32_1038
  let c1_i32_1044 : BitVec 32 := 1#32
  let v2569 : BitVec 32 := Scalar.subi v2554 c1_i32_1044
  let v2570 : BitVec 32 := Scalar.select v2568 v2569 v2554
  let c16_i32_1045 : BitVec 32 := 16#32
  let v2571 : BitVec 32 := Scalar.muli v2570 c16_i32_1045
  let c880_i32_1046 : BitVec 32 := 880#32
  let v2572 : BitVec 32 := Scalar.minsi v2571 c880_i32_1046
  v2572

def k0_off118 (v2553 : BitVec 32) : Fin 4 → Nat :=
  let c0_1048 : Index := 0#32
  let c10_1049 : Index := 10#32
  let c0_i32_1039 : BitVec 32 := 0#32
  let v2555 : BitVec 1 := Scalar.cmpi .sgt v2553 c0_i32_1039
  let v2556 : BitVec 32 := Scalar.extui v2555
  let c0_i32_1040 : BitVec 32 := 0#32
  let v2557 : BitVec 1 := Scalar.cmpi .slt v2553 c0_i32_1040
  let v2558 : BitVec 32 := Scalar.extui v2557
  let v2559 : BitVec 32 := Scalar.subi v2556 v2558
  let c16_i32_1038 : BitVec 32 := 16#32
  let c0_i32_1041 : BitVec 32 := 0#32
  let v2560 : BitVec 1 := Scalar.cmpi .sgt c16_i32_1038 c0_i32_1041
  let v2561 : BitVec 32 := Scalar.extui v2560
  let c0_i32_1042 : BitVec 32 := 0#32
  let v2562 : BitVec 1 := Scalar.cmpi .slt c16_i32_1038 c0_i32_1042
  let v2563 : BitVec 32 := Scalar.extui v2562
  let v2564 : BitVec 32 := Scalar.subi v2561 v2563
  let v2565 : BitVec 1 := Scalar.cmpi .ne v2559 v2564
  let v2566 : BitVec 32 := Scalar.remsi v2553 c16_i32_1038
  let c0_i32_1043 : BitVec 32 := 0#32
  let v2567 : BitVec 1 := Scalar.cmpi .ne v2566 c0_i32_1043
  let v2568 : BitVec 1 := Scalar.andi v2565 v2567
  let v2554 : BitVec 32 := Scalar.divsi v2553 c16_i32_1038
  let c1_i32_1044 : BitVec 32 := 1#32
  let v2569 : BitVec 32 := Scalar.subi v2554 c1_i32_1044
  let v2570 : BitVec 32 := Scalar.select v2568 v2569 v2554
  let c16_i32_1045 : BitVec 32 := 16#32
  let v2571 : BitVec 32 := Scalar.muli v2570 c16_i32_1045
  let c880_i32_1046 : BitVec 32 := 880#32
  let v2572 : BitVec 32 := Scalar.minsi v2571 c880_i32_1046
  let v2573 : BitVec 32 := v2572
  let v2586 : Index := Scalar.indexCast v2573
  let c0_1050 : Index := 0#32
  ![0, 10, v2586.toNat, 0]

def k0_chk59 (v2553 : BitVec 32) : Prop :=
  (16 ∣ (k0_mult59 v2553).toNat) ∧
  (∀ a, (k0_off118 v2553) a + S1x1x144x1024.size a ≤ S1x16x1024x1024.size a)
theorem k0_mult59_dvd : ∀ (v2553 : BitVec 32) (k0_hw59 : k0_chk59 v2553), 16 ∣ (k0_mult59 v2553).toNat := fun v2553 k0_hw59 => k0_hw59.1
theorem k0_off118_inb : ∀ (v2553 : BitVec 32) (k0_hw59 : k0_chk59 v2553), ∀ a, (k0_off118 v2553) a + S1x1x144x1024.size a ≤ S1x16x1024x1024.size a := fun v2553 k0_hw59 => k0_hw59.2

def k0_off119 (i : grid0.Coords) : Fin 3 → Nat :=
  let arg0 : BitVec 32 := BitVec.ofNat 32 (i 0).val
  let v2593 : Index := Scalar.indexCast arg0
  let c11_1054 : Index := 11#32
  let arg1 : BitVec 32 := BitVec.ofNat 32 (i 1).val
  let c4_i32_1052 : BitVec 32 := 4#32
  let v2591 : BitVec 32 := Scalar.muli arg1 c4_i32_1052
  let c3_i32_1053 : BitVec 32 := 3#32
  let v2592 : BitVec 32 := Scalar.addi v2591 c3_i32_1053
  let v2594 : Index := Scalar.indexCast v2592
  ![v2593.toNat, 11, v2594.toNat]
def k0_mult60 (v2595 : BitVec 32) : BitVec 32 :=
  let c0_i32_1056 : BitVec 32 := 0#32
  let v2597 : BitVec 1 := Scalar.cmpi .sgt v2595 c0_i32_1056
  let v2598 : BitVec 32 := Scalar.extui v2597
  let c0_i32_1057 : BitVec 32 := 0#32
  let v2599 : BitVec 1 := Scalar.cmpi .slt v2595 c0_i32_1057
  let v2600 : BitVec 32 := Scalar.extui v2599
  let v2601 : BitVec 32 := Scalar.subi v2598 v2600
  let c16_i32_1055 : BitVec 32 := 16#32
  let c0_i32_1058 : BitVec 32 := 0#32
  let v2602 : BitVec 1 := Scalar.cmpi .sgt c16_i32_1055 c0_i32_1058
  let v2603 : BitVec 32 := Scalar.extui v2602
  let c0_i32_1059 : BitVec 32 := 0#32
  let v2604 : BitVec 1 := Scalar.cmpi .slt c16_i32_1055 c0_i32_1059
  let v2605 : BitVec 32 := Scalar.extui v2604
  let v2606 : BitVec 32 := Scalar.subi v2603 v2605
  let v2607 : BitVec 1 := Scalar.cmpi .ne v2601 v2606
  let v2608 : BitVec 32 := Scalar.remsi v2595 c16_i32_1055
  let c0_i32_1060 : BitVec 32 := 0#32
  let v2609 : BitVec 1 := Scalar.cmpi .ne v2608 c0_i32_1060
  let v2610 : BitVec 1 := Scalar.andi v2607 v2609
  let v2596 : BitVec 32 := Scalar.divsi v2595 c16_i32_1055
  let c1_i32_1061 : BitVec 32 := 1#32
  let v2611 : BitVec 32 := Scalar.subi v2596 c1_i32_1061
  let v2612 : BitVec 32 := Scalar.select v2610 v2611 v2596
  let c16_i32_1062 : BitVec 32 := 16#32
  let v2613 : BitVec 32 := Scalar.muli v2612 c16_i32_1062
  let c880_i32_1063 : BitVec 32 := 880#32
  let v2614 : BitVec 32 := Scalar.minsi v2613 c880_i32_1063
  v2614

def k0_off120 (v2595 : BitVec 32) : Fin 4 → Nat :=
  let c0_1065 : Index := 0#32
  let c11_1066 : Index := 11#32
  let c0_i32_1056 : BitVec 32 := 0#32
  let v2597 : BitVec 1 := Scalar.cmpi .sgt v2595 c0_i32_1056
  let v2598 : BitVec 32 := Scalar.extui v2597
  let c0_i32_1057 : BitVec 32 := 0#32
  let v2599 : BitVec 1 := Scalar.cmpi .slt v2595 c0_i32_1057
  let v2600 : BitVec 32 := Scalar.extui v2599
  let v2601 : BitVec 32 := Scalar.subi v2598 v2600
  let c16_i32_1055 : BitVec 32 := 16#32
  let c0_i32_1058 : BitVec 32 := 0#32
  let v2602 : BitVec 1 := Scalar.cmpi .sgt c16_i32_1055 c0_i32_1058
  let v2603 : BitVec 32 := Scalar.extui v2602
  let c0_i32_1059 : BitVec 32 := 0#32
  let v2604 : BitVec 1 := Scalar.cmpi .slt c16_i32_1055 c0_i32_1059
  let v2605 : BitVec 32 := Scalar.extui v2604
  let v2606 : BitVec 32 := Scalar.subi v2603 v2605
  let v2607 : BitVec 1 := Scalar.cmpi .ne v2601 v2606
  let v2608 : BitVec 32 := Scalar.remsi v2595 c16_i32_1055
  let c0_i32_1060 : BitVec 32 := 0#32
  let v2609 : BitVec 1 := Scalar.cmpi .ne v2608 c0_i32_1060
  let v2610 : BitVec 1 := Scalar.andi v2607 v2609
  let v2596 : BitVec 32 := Scalar.divsi v2595 c16_i32_1055
  let c1_i32_1061 : BitVec 32 := 1#32
  let v2611 : BitVec 32 := Scalar.subi v2596 c1_i32_1061
  let v2612 : BitVec 32 := Scalar.select v2610 v2611 v2596
  let c16_i32_1062 : BitVec 32 := 16#32
  let v2613 : BitVec 32 := Scalar.muli v2612 c16_i32_1062
  let c880_i32_1063 : BitVec 32 := 880#32
  let v2614 : BitVec 32 := Scalar.minsi v2613 c880_i32_1063
  let v2615 : BitVec 32 := v2614
  let v2628 : Index := Scalar.indexCast v2615
  let c0_1067 : Index := 0#32
  ![0, 11, v2628.toNat, 0]

def k0_chk60 (v2595 : BitVec 32) : Prop :=
  (16 ∣ (k0_mult60 v2595).toNat) ∧
  (∀ a, (k0_off120 v2595) a + S1x1x144x1024.size a ≤ S1x16x1024x1024.size a)
theorem k0_mult60_dvd : ∀ (v2595 : BitVec 32) (k0_hw60 : k0_chk60 v2595), 16 ∣ (k0_mult60 v2595).toNat := fun v2595 k0_hw60 => k0_hw60.1
theorem k0_off120_inb : ∀ (v2595 : BitVec 32) (k0_hw60 : k0_chk60 v2595), ∀ a, (k0_off120 v2595) a + S1x1x144x1024.size a ≤ S1x16x1024x1024.size a := fun v2595 k0_hw60 => k0_hw60.2

def k0_off121 (i : grid0.Coords) : Fin 3 → Nat :=
  let arg0 : BitVec 32 := BitVec.ofNat 32 (i 0).val
  let v2635 : Index := Scalar.indexCast arg0
  let c12_1071 : Index := 12#32
  let arg1 : BitVec 32 := BitVec.ofNat 32 (i 1).val
  let c4_i32_1069 : BitVec 32 := 4#32
  let v2633 : BitVec 32 := Scalar.muli arg1 c4_i32_1069
  let c3_i32_1070 : BitVec 32 := 3#32
  let v2634 : BitVec 32 := Scalar.addi v2633 c3_i32_1070
  let v2636 : Index := Scalar.indexCast v2634
  ![v2635.toNat, 12, v2636.toNat]
def k0_mult61 (v2637 : BitVec 32) : BitVec 32 :=
  let c0_i32_1073 : BitVec 32 := 0#32
  let v2639 : BitVec 1 := Scalar.cmpi .sgt v2637 c0_i32_1073
  let v2640 : BitVec 32 := Scalar.extui v2639
  let c0_i32_1074 : BitVec 32 := 0#32
  let v2641 : BitVec 1 := Scalar.cmpi .slt v2637 c0_i32_1074
  let v2642 : BitVec 32 := Scalar.extui v2641
  let v2643 : BitVec 32 := Scalar.subi v2640 v2642
  let c16_i32_1072 : BitVec 32 := 16#32
  let c0_i32_1075 : BitVec 32 := 0#32
  let v2644 : BitVec 1 := Scalar.cmpi .sgt c16_i32_1072 c0_i32_1075
  let v2645 : BitVec 32 := Scalar.extui v2644
  let c0_i32_1076 : BitVec 32 := 0#32
  let v2646 : BitVec 1 := Scalar.cmpi .slt c16_i32_1072 c0_i32_1076
  let v2647 : BitVec 32 := Scalar.extui v2646
  let v2648 : BitVec 32 := Scalar.subi v2645 v2647
  let v2649 : BitVec 1 := Scalar.cmpi .ne v2643 v2648
  let v2650 : BitVec 32 := Scalar.remsi v2637 c16_i32_1072
  let c0_i32_1077 : BitVec 32 := 0#32
  let v2651 : BitVec 1 := Scalar.cmpi .ne v2650 c0_i32_1077
  let v2652 : BitVec 1 := Scalar.andi v2649 v2651
  let v2638 : BitVec 32 := Scalar.divsi v2637 c16_i32_1072
  let c1_i32_1078 : BitVec 32 := 1#32
  let v2653 : BitVec 32 := Scalar.subi v2638 c1_i32_1078
  let v2654 : BitVec 32 := Scalar.select v2652 v2653 v2638
  let c16_i32_1079 : BitVec 32 := 16#32
  let v2655 : BitVec 32 := Scalar.muli v2654 c16_i32_1079
  let c880_i32_1080 : BitVec 32 := 880#32
  let v2656 : BitVec 32 := Scalar.minsi v2655 c880_i32_1080
  v2656

def k0_off122 (v2637 : BitVec 32) : Fin 4 → Nat :=
  let c0_1082 : Index := 0#32
  let c12_1083 : Index := 12#32
  let c0_i32_1073 : BitVec 32 := 0#32
  let v2639 : BitVec 1 := Scalar.cmpi .sgt v2637 c0_i32_1073
  let v2640 : BitVec 32 := Scalar.extui v2639
  let c0_i32_1074 : BitVec 32 := 0#32
  let v2641 : BitVec 1 := Scalar.cmpi .slt v2637 c0_i32_1074
  let v2642 : BitVec 32 := Scalar.extui v2641
  let v2643 : BitVec 32 := Scalar.subi v2640 v2642
  let c16_i32_1072 : BitVec 32 := 16#32
  let c0_i32_1075 : BitVec 32 := 0#32
  let v2644 : BitVec 1 := Scalar.cmpi .sgt c16_i32_1072 c0_i32_1075
  let v2645 : BitVec 32 := Scalar.extui v2644
  let c0_i32_1076 : BitVec 32 := 0#32
  let v2646 : BitVec 1 := Scalar.cmpi .slt c16_i32_1072 c0_i32_1076
  let v2647 : BitVec 32 := Scalar.extui v2646
  let v2648 : BitVec 32 := Scalar.subi v2645 v2647
  let v2649 : BitVec 1 := Scalar.cmpi .ne v2643 v2648
  let v2650 : BitVec 32 := Scalar.remsi v2637 c16_i32_1072
  let c0_i32_1077 : BitVec 32 := 0#32
  let v2651 : BitVec 1 := Scalar.cmpi .ne v2650 c0_i32_1077
  let v2652 : BitVec 1 := Scalar.andi v2649 v2651
  let v2638 : BitVec 32 := Scalar.divsi v2637 c16_i32_1072
  let c1_i32_1078 : BitVec 32 := 1#32
  let v2653 : BitVec 32 := Scalar.subi v2638 c1_i32_1078
  let v2654 : BitVec 32 := Scalar.select v2652 v2653 v2638
  let c16_i32_1079 : BitVec 32 := 16#32
  let v2655 : BitVec 32 := Scalar.muli v2654 c16_i32_1079
  let c880_i32_1080 : BitVec 32 := 880#32
  let v2656 : BitVec 32 := Scalar.minsi v2655 c880_i32_1080
  let v2657 : BitVec 32 := v2656
  let v2670 : Index := Scalar.indexCast v2657
  let c0_1084 : Index := 0#32
  ![0, 12, v2670.toNat, 0]

def k0_chk61 (v2637 : BitVec 32) : Prop :=
  (16 ∣ (k0_mult61 v2637).toNat) ∧
  (∀ a, (k0_off122 v2637) a + S1x1x144x1024.size a ≤ S1x16x1024x1024.size a)
theorem k0_mult61_dvd : ∀ (v2637 : BitVec 32) (k0_hw61 : k0_chk61 v2637), 16 ∣ (k0_mult61 v2637).toNat := fun v2637 k0_hw61 => k0_hw61.1
theorem k0_off122_inb : ∀ (v2637 : BitVec 32) (k0_hw61 : k0_chk61 v2637), ∀ a, (k0_off122 v2637) a + S1x1x144x1024.size a ≤ S1x16x1024x1024.size a := fun v2637 k0_hw61 => k0_hw61.2

def k0_off123 (i : grid0.Coords) : Fin 3 → Nat :=
  let arg0 : BitVec 32 := BitVec.ofNat 32 (i 0).val
  let v2677 : Index := Scalar.indexCast arg0
  let c13_1088 : Index := 13#32
  let arg1 : BitVec 32 := BitVec.ofNat 32 (i 1).val
  let c4_i32_1086 : BitVec 32 := 4#32
  let v2675 : BitVec 32 := Scalar.muli arg1 c4_i32_1086
  let c3_i32_1087 : BitVec 32 := 3#32
  let v2676 : BitVec 32 := Scalar.addi v2675 c3_i32_1087
  let v2678 : Index := Scalar.indexCast v2676
  ![v2677.toNat, 13, v2678.toNat]
def k0_mult62 (v2679 : BitVec 32) : BitVec 32 :=
  let c0_i32_1090 : BitVec 32 := 0#32
  let v2681 : BitVec 1 := Scalar.cmpi .sgt v2679 c0_i32_1090
  let v2682 : BitVec 32 := Scalar.extui v2681
  let c0_i32_1091 : BitVec 32 := 0#32
  let v2683 : BitVec 1 := Scalar.cmpi .slt v2679 c0_i32_1091
  let v2684 : BitVec 32 := Scalar.extui v2683
  let v2685 : BitVec 32 := Scalar.subi v2682 v2684
  let c16_i32_1089 : BitVec 32 := 16#32
  let c0_i32_1092 : BitVec 32 := 0#32
  let v2686 : BitVec 1 := Scalar.cmpi .sgt c16_i32_1089 c0_i32_1092
  let v2687 : BitVec 32 := Scalar.extui v2686
  let c0_i32_1093 : BitVec 32 := 0#32
  let v2688 : BitVec 1 := Scalar.cmpi .slt c16_i32_1089 c0_i32_1093
  let v2689 : BitVec 32 := Scalar.extui v2688
  let v2690 : BitVec 32 := Scalar.subi v2687 v2689
  let v2691 : BitVec 1 := Scalar.cmpi .ne v2685 v2690
  let v2692 : BitVec 32 := Scalar.remsi v2679 c16_i32_1089
  let c0_i32_1094 : BitVec 32 := 0#32
  let v2693 : BitVec 1 := Scalar.cmpi .ne v2692 c0_i32_1094
  let v2694 : BitVec 1 := Scalar.andi v2691 v2693
  let v2680 : BitVec 32 := Scalar.divsi v2679 c16_i32_1089
  let c1_i32_1095 : BitVec 32 := 1#32
  let v2695 : BitVec 32 := Scalar.subi v2680 c1_i32_1095
  let v2696 : BitVec 32 := Scalar.select v2694 v2695 v2680
  let c16_i32_1096 : BitVec 32 := 16#32
  let v2697 : BitVec 32 := Scalar.muli v2696 c16_i32_1096
  let c880_i32_1097 : BitVec 32 := 880#32
  let v2698 : BitVec 32 := Scalar.minsi v2697 c880_i32_1097
  v2698

def k0_off124 (v2679 : BitVec 32) : Fin 4 → Nat :=
  let c0_1099 : Index := 0#32
  let c13_1100 : Index := 13#32
  let c0_i32_1090 : BitVec 32 := 0#32
  let v2681 : BitVec 1 := Scalar.cmpi .sgt v2679 c0_i32_1090
  let v2682 : BitVec 32 := Scalar.extui v2681
  let c0_i32_1091 : BitVec 32 := 0#32
  let v2683 : BitVec 1 := Scalar.cmpi .slt v2679 c0_i32_1091
  let v2684 : BitVec 32 := Scalar.extui v2683
  let v2685 : BitVec 32 := Scalar.subi v2682 v2684
  let c16_i32_1089 : BitVec 32 := 16#32
  let c0_i32_1092 : BitVec 32 := 0#32
  let v2686 : BitVec 1 := Scalar.cmpi .sgt c16_i32_1089 c0_i32_1092
  let v2687 : BitVec 32 := Scalar.extui v2686
  let c0_i32_1093 : BitVec 32 := 0#32
  let v2688 : BitVec 1 := Scalar.cmpi .slt c16_i32_1089 c0_i32_1093
  let v2689 : BitVec 32 := Scalar.extui v2688
  let v2690 : BitVec 32 := Scalar.subi v2687 v2689
  let v2691 : BitVec 1 := Scalar.cmpi .ne v2685 v2690
  let v2692 : BitVec 32 := Scalar.remsi v2679 c16_i32_1089
  let c0_i32_1094 : BitVec 32 := 0#32
  let v2693 : BitVec 1 := Scalar.cmpi .ne v2692 c0_i32_1094
  let v2694 : BitVec 1 := Scalar.andi v2691 v2693
  let v2680 : BitVec 32 := Scalar.divsi v2679 c16_i32_1089
  let c1_i32_1095 : BitVec 32 := 1#32
  let v2695 : BitVec 32 := Scalar.subi v2680 c1_i32_1095
  let v2696 : BitVec 32 := Scalar.select v2694 v2695 v2680
  let c16_i32_1096 : BitVec 32 := 16#32
  let v2697 : BitVec 32 := Scalar.muli v2696 c16_i32_1096
  let c880_i32_1097 : BitVec 32 := 880#32
  let v2698 : BitVec 32 := Scalar.minsi v2697 c880_i32_1097
  let v2699 : BitVec 32 := v2698
  let v2712 : Index := Scalar.indexCast v2699
  let c0_1101 : Index := 0#32
  ![0, 13, v2712.toNat, 0]

def k0_chk62 (v2679 : BitVec 32) : Prop :=
  (16 ∣ (k0_mult62 v2679).toNat) ∧
  (∀ a, (k0_off124 v2679) a + S1x1x144x1024.size a ≤ S1x16x1024x1024.size a)
theorem k0_mult62_dvd : ∀ (v2679 : BitVec 32) (k0_hw62 : k0_chk62 v2679), 16 ∣ (k0_mult62 v2679).toNat := fun v2679 k0_hw62 => k0_hw62.1
theorem k0_off124_inb : ∀ (v2679 : BitVec 32) (k0_hw62 : k0_chk62 v2679), ∀ a, (k0_off124 v2679) a + S1x1x144x1024.size a ≤ S1x16x1024x1024.size a := fun v2679 k0_hw62 => k0_hw62.2

def k0_off125 (i : grid0.Coords) : Fin 3 → Nat :=
  let arg0 : BitVec 32 := BitVec.ofNat 32 (i 0).val
  let v2719 : Index := Scalar.indexCast arg0
  let c14_1105 : Index := 14#32
  let arg1 : BitVec 32 := BitVec.ofNat 32 (i 1).val
  let c4_i32_1103 : BitVec 32 := 4#32
  let v2717 : BitVec 32 := Scalar.muli arg1 c4_i32_1103
  let c3_i32_1104 : BitVec 32 := 3#32
  let v2718 : BitVec 32 := Scalar.addi v2717 c3_i32_1104
  let v2720 : Index := Scalar.indexCast v2718
  ![v2719.toNat, 14, v2720.toNat]
def k0_mult63 (v2721 : BitVec 32) : BitVec 32 :=
  let c0_i32_1107 : BitVec 32 := 0#32
  let v2723 : BitVec 1 := Scalar.cmpi .sgt v2721 c0_i32_1107
  let v2724 : BitVec 32 := Scalar.extui v2723
  let c0_i32_1108 : BitVec 32 := 0#32
  let v2725 : BitVec 1 := Scalar.cmpi .slt v2721 c0_i32_1108
  let v2726 : BitVec 32 := Scalar.extui v2725
  let v2727 : BitVec 32 := Scalar.subi v2724 v2726
  let c16_i32_1106 : BitVec 32 := 16#32
  let c0_i32_1109 : BitVec 32 := 0#32
  let v2728 : BitVec 1 := Scalar.cmpi .sgt c16_i32_1106 c0_i32_1109
  let v2729 : BitVec 32 := Scalar.extui v2728
  let c0_i32_1110 : BitVec 32 := 0#32
  let v2730 : BitVec 1 := Scalar.cmpi .slt c16_i32_1106 c0_i32_1110
  let v2731 : BitVec 32 := Scalar.extui v2730
  let v2732 : BitVec 32 := Scalar.subi v2729 v2731
  let v2733 : BitVec 1 := Scalar.cmpi .ne v2727 v2732
  let v2734 : BitVec 32 := Scalar.remsi v2721 c16_i32_1106
  let c0_i32_1111 : BitVec 32 := 0#32
  let v2735 : BitVec 1 := Scalar.cmpi .ne v2734 c0_i32_1111
  let v2736 : BitVec 1 := Scalar.andi v2733 v2735
  let v2722 : BitVec 32 := Scalar.divsi v2721 c16_i32_1106
  let c1_i32_1112 : BitVec 32 := 1#32
  let v2737 : BitVec 32 := Scalar.subi v2722 c1_i32_1112
  let v2738 : BitVec 32 := Scalar.select v2736 v2737 v2722
  let c16_i32_1113 : BitVec 32 := 16#32
  let v2739 : BitVec 32 := Scalar.muli v2738 c16_i32_1113
  let c880_i32_1114 : BitVec 32 := 880#32
  let v2740 : BitVec 32 := Scalar.minsi v2739 c880_i32_1114
  v2740

def k0_off126 (v2721 : BitVec 32) : Fin 4 → Nat :=
  let c0_1116 : Index := 0#32
  let c14_1117 : Index := 14#32
  let c0_i32_1107 : BitVec 32 := 0#32
  let v2723 : BitVec 1 := Scalar.cmpi .sgt v2721 c0_i32_1107
  let v2724 : BitVec 32 := Scalar.extui v2723
  let c0_i32_1108 : BitVec 32 := 0#32
  let v2725 : BitVec 1 := Scalar.cmpi .slt v2721 c0_i32_1108
  let v2726 : BitVec 32 := Scalar.extui v2725
  let v2727 : BitVec 32 := Scalar.subi v2724 v2726
  let c16_i32_1106 : BitVec 32 := 16#32
  let c0_i32_1109 : BitVec 32 := 0#32
  let v2728 : BitVec 1 := Scalar.cmpi .sgt c16_i32_1106 c0_i32_1109
  let v2729 : BitVec 32 := Scalar.extui v2728
  let c0_i32_1110 : BitVec 32 := 0#32
  let v2730 : BitVec 1 := Scalar.cmpi .slt c16_i32_1106 c0_i32_1110
  let v2731 : BitVec 32 := Scalar.extui v2730
  let v2732 : BitVec 32 := Scalar.subi v2729 v2731
  let v2733 : BitVec 1 := Scalar.cmpi .ne v2727 v2732
  let v2734 : BitVec 32 := Scalar.remsi v2721 c16_i32_1106
  let c0_i32_1111 : BitVec 32 := 0#32
  let v2735 : BitVec 1 := Scalar.cmpi .ne v2734 c0_i32_1111
  let v2736 : BitVec 1 := Scalar.andi v2733 v2735
  let v2722 : BitVec 32 := Scalar.divsi v2721 c16_i32_1106
  let c1_i32_1112 : BitVec 32 := 1#32
  let v2737 : BitVec 32 := Scalar.subi v2722 c1_i32_1112
  let v2738 : BitVec 32 := Scalar.select v2736 v2737 v2722
  let c16_i32_1113 : BitVec 32 := 16#32
  let v2739 : BitVec 32 := Scalar.muli v2738 c16_i32_1113
  let c880_i32_1114 : BitVec 32 := 880#32
  let v2740 : BitVec 32 := Scalar.minsi v2739 c880_i32_1114
  let v2741 : BitVec 32 := v2740
  let v2754 : Index := Scalar.indexCast v2741
  let c0_1118 : Index := 0#32
  ![0, 14, v2754.toNat, 0]

def k0_chk63 (v2721 : BitVec 32) : Prop :=
  (16 ∣ (k0_mult63 v2721).toNat) ∧
  (∀ a, (k0_off126 v2721) a + S1x1x144x1024.size a ≤ S1x16x1024x1024.size a)
theorem k0_mult63_dvd : ∀ (v2721 : BitVec 32) (k0_hw63 : k0_chk63 v2721), 16 ∣ (k0_mult63 v2721).toNat := fun v2721 k0_hw63 => k0_hw63.1
theorem k0_off126_inb : ∀ (v2721 : BitVec 32) (k0_hw63 : k0_chk63 v2721), ∀ a, (k0_off126 v2721) a + S1x1x144x1024.size a ≤ S1x16x1024x1024.size a := fun v2721 k0_hw63 => k0_hw63.2

def k0_off127 (i : grid0.Coords) : Fin 3 → Nat :=
  let arg0 : BitVec 32 := BitVec.ofNat 32 (i 0).val
  let v2761 : Index := Scalar.indexCast arg0
  let c15_1122 : Index := 15#32
  let arg1 : BitVec 32 := BitVec.ofNat 32 (i 1).val
  let c4_i32_1120 : BitVec 32 := 4#32
  let v2759 : BitVec 32 := Scalar.muli arg1 c4_i32_1120
  let c3_i32_1121 : BitVec 32 := 3#32
  let v2760 : BitVec 32 := Scalar.addi v2759 c3_i32_1121
  let v2762 : Index := Scalar.indexCast v2760
  ![v2761.toNat, 15, v2762.toNat]
def k0_mult64 (v2763 : BitVec 32) : BitVec 32 :=
  let c0_i32_1124 : BitVec 32 := 0#32
  let v2765 : BitVec 1 := Scalar.cmpi .sgt v2763 c0_i32_1124
  let v2766 : BitVec 32 := Scalar.extui v2765
  let c0_i32_1125 : BitVec 32 := 0#32
  let v2767 : BitVec 1 := Scalar.cmpi .slt v2763 c0_i32_1125
  let v2768 : BitVec 32 := Scalar.extui v2767
  let v2769 : BitVec 32 := Scalar.subi v2766 v2768
  let c16_i32_1123 : BitVec 32 := 16#32
  let c0_i32_1126 : BitVec 32 := 0#32
  let v2770 : BitVec 1 := Scalar.cmpi .sgt c16_i32_1123 c0_i32_1126
  let v2771 : BitVec 32 := Scalar.extui v2770
  let c0_i32_1127 : BitVec 32 := 0#32
  let v2772 : BitVec 1 := Scalar.cmpi .slt c16_i32_1123 c0_i32_1127
  let v2773 : BitVec 32 := Scalar.extui v2772
  let v2774 : BitVec 32 := Scalar.subi v2771 v2773
  let v2775 : BitVec 1 := Scalar.cmpi .ne v2769 v2774
  let v2776 : BitVec 32 := Scalar.remsi v2763 c16_i32_1123
  let c0_i32_1128 : BitVec 32 := 0#32
  let v2777 : BitVec 1 := Scalar.cmpi .ne v2776 c0_i32_1128
  let v2778 : BitVec 1 := Scalar.andi v2775 v2777
  let v2764 : BitVec 32 := Scalar.divsi v2763 c16_i32_1123
  let c1_i32_1129 : BitVec 32 := 1#32
  let v2779 : BitVec 32 := Scalar.subi v2764 c1_i32_1129
  let v2780 : BitVec 32 := Scalar.select v2778 v2779 v2764
  let c16_i32_1130 : BitVec 32 := 16#32
  let v2781 : BitVec 32 := Scalar.muli v2780 c16_i32_1130
  let c880_i32_1131 : BitVec 32 := 880#32
  let v2782 : BitVec 32 := Scalar.minsi v2781 c880_i32_1131
  v2782

def k0_off128 (v2763 : BitVec 32) : Fin 4 → Nat :=
  let c0_1133 : Index := 0#32
  let c15_1134 : Index := 15#32
  let c0_i32_1124 : BitVec 32 := 0#32
  let v2765 : BitVec 1 := Scalar.cmpi .sgt v2763 c0_i32_1124
  let v2766 : BitVec 32 := Scalar.extui v2765
  let c0_i32_1125 : BitVec 32 := 0#32
  let v2767 : BitVec 1 := Scalar.cmpi .slt v2763 c0_i32_1125
  let v2768 : BitVec 32 := Scalar.extui v2767
  let v2769 : BitVec 32 := Scalar.subi v2766 v2768
  let c16_i32_1123 : BitVec 32 := 16#32
  let c0_i32_1126 : BitVec 32 := 0#32
  let v2770 : BitVec 1 := Scalar.cmpi .sgt c16_i32_1123 c0_i32_1126
  let v2771 : BitVec 32 := Scalar.extui v2770
  let c0_i32_1127 : BitVec 32 := 0#32
  let v2772 : BitVec 1 := Scalar.cmpi .slt c16_i32_1123 c0_i32_1127
  let v2773 : BitVec 32 := Scalar.extui v2772
  let v2774 : BitVec 32 := Scalar.subi v2771 v2773
  let v2775 : BitVec 1 := Scalar.cmpi .ne v2769 v2774
  let v2776 : BitVec 32 := Scalar.remsi v2763 c16_i32_1123
  let c0_i32_1128 : BitVec 32 := 0#32
  let v2777 : BitVec 1 := Scalar.cmpi .ne v2776 c0_i32_1128
  let v2778 : BitVec 1 := Scalar.andi v2775 v2777
  let v2764 : BitVec 32 := Scalar.divsi v2763 c16_i32_1123
  let c1_i32_1129 : BitVec 32 := 1#32
  let v2779 : BitVec 32 := Scalar.subi v2764 c1_i32_1129
  let v2780 : BitVec 32 := Scalar.select v2778 v2779 v2764
  let c16_i32_1130 : BitVec 32 := 16#32
  let v2781 : BitVec 32 := Scalar.muli v2780 c16_i32_1130
  let c880_i32_1131 : BitVec 32 := 880#32
  let v2782 : BitVec 32 := Scalar.minsi v2781 c880_i32_1131
  let v2783 : BitVec 32 := v2782
  let v2796 : Index := Scalar.indexCast v2783
  let c0_1135 : Index := 0#32
  ![0, 15, v2796.toNat, 0]

def k0_chk64 (v2763 : BitVec 32) : Prop :=
  (16 ∣ (k0_mult64 v2763).toNat) ∧
  (∀ a, (k0_off128 v2763) a + S1x1x144x1024.size a ≤ S1x16x1024x1024.size a)
theorem k0_mult64_dvd : ∀ (v2763 : BitVec 32) (k0_hw64 : k0_chk64 v2763), 16 ∣ (k0_mult64 v2763).toNat := fun v2763 k0_hw64 => k0_hw64.1
theorem k0_off128_inb : ∀ (v2763 : BitVec 32) (k0_hw64 : k0_chk64 v2763), ∀ a, (k0_off128 v2763) a + S1x1x144x1024.size a ≤ S1x16x1024x1024.size a := fun v2763 k0_hw64 => k0_hw64.2

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x16 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x16x1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, false]

abbrev stage0_6 : Fin 2 → Memref sig .tc .vmem S1x512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference5Ideal.lean ====
abbrev S4x16x64 : Shape := ⟨3, ![4, 16, 64]⟩
abbrev S4x8192x1024 : Shape := ⟨3, ![4, 8192, 1024]⟩
abbrev S4x8192x16 : Shape := ⟨3, ![4, 8192, 16]⟩
abbrev S1024 : Shape := ⟨1, ![1024]⟩
abbrev S4x16x1024x1024 : Shape := ⟨4, ![4, 16, 1024, 1024]⟩
abbrev S4x8192x16x1 : Shape := ⟨4, ![4, 8192, 16, 1]⟩
abbrev S1x1x1x1024 : Shape := ⟨4, ![1, 1, 1, 1024]⟩
abbrev S4x8192x16x1024 : Shape := ⟨4, ![4, 8192, 16, 1024]⟩
abbrev S_ : Shape := ⟨0, ![]⟩
abbrev S4x8192 : Shape := ⟨2, ![4, 8192]⟩
abbrev S4x8192x1 : Shape := ⟨3, ![4, 8192, 1]⟩
abbrev S1x1x1024 : Shape := ⟨3, ![1, 1, 1024]⟩

abbrev nBuf : Space → Nat
  | .hbm => 50
  | .vmem => 0
  | .smem => 0
  | _ => 0

abbrev bufTy : (tb : Table) → Fin (tcTables nBuf tb) → BufTy
  | .hbm, ⟨0, _⟩ => ⟨S4x16x64, .i32⟩
  | .hbm, ⟨1, _⟩ => ⟨S4x8192x1024, .f32⟩
  | .hbm, ⟨2, _⟩ => ⟨S4x8192x16, .i32⟩
  | .hbm, ⟨3, _⟩ => ⟨S4x8192x16, .f32⟩
  | .hbm, ⟨4, _⟩ => ⟨S1024, .f32⟩
  | .hbm, ⟨5, _⟩ => ⟨S1024, .f32⟩
  | .hbm, ⟨6, _⟩ => ⟨S4x16x1024x1024, .f32⟩
  | .hbm, ⟨7, _⟩ => ⟨S4x8192x16x1, .i32⟩
  | .hbm, ⟨8, _⟩ => ⟨S1x1x1x1024, .i32⟩
  | .hbm, ⟨9, _⟩ => ⟨S4x8192x16x1024, .i32⟩
  | .hbm, ⟨10, _⟩ => ⟨S4x8192x16x1024, .i32⟩
  | .hbm, ⟨11, _⟩ => ⟨S4x8192x16x1024, .i1⟩
  | .hbm, ⟨12, _⟩ => ⟨S4x8192x16x1024, .f32⟩
  | .hbm, ⟨13, _⟩ => ⟨S4x8192x16x1, .f32⟩
  | .hbm, ⟨14, _⟩ => ⟨S4x8192x16x1024, .f32⟩
  | .hbm, ⟨15, _⟩ => ⟨S4x8192x16x1024, .f32⟩
  | .hbm, ⟨16, _⟩ => ⟨S4x8192x1024, .f32⟩
  | .hbm, ⟨17, _⟩ => ⟨S_, .f32⟩
  | .hbm, ⟨18, _⟩ => ⟨S4x8192x1024, .f32⟩
  | .hbm, ⟨19, _⟩ => ⟨S4x8192x1024, .f32⟩
  | .hbm, ⟨20, _⟩ => ⟨S4x8192x1024, .f32⟩
  | .hbm, ⟨21, _⟩ => ⟨S_, .f32⟩
  | .hbm, ⟨22, _⟩ => ⟨S4x8192, .f32⟩
  | .hbm, ⟨23, _⟩ => ⟨S4x8192x1, .f32⟩
  | .hbm, ⟨24, _⟩ => ⟨S_, .f32⟩
  | .hbm, ⟨25, _⟩ => ⟨S4x8192x1, .f32⟩
  | .hbm, ⟨26, _⟩ => ⟨S4x8192x1, .f32⟩
  | .hbm, ⟨27, _⟩ => ⟨S4x8192x1024, .f32⟩
  | .hbm, ⟨28, _⟩ => ⟨S4x8192x1024, .f32⟩
  | .hbm, ⟨29, _⟩ => ⟨S4x8192x1024, .f32⟩
  | .hbm, ⟨30, _⟩ => ⟨S_, .f32⟩
  | .hbm, ⟨31, _⟩ => ⟨S4x8192, .f32⟩
  | .hbm, ⟨32, _⟩ => ⟨S4x8192x1, .f32⟩
  | .hbm, ⟨33, _⟩ => ⟨S_, .f32⟩
  | .hbm, ⟨34, _⟩ => ⟨S4x8192x1, .f32⟩
  | .hbm, ⟨35, _⟩ => ⟨S4x8192x1, .f32⟩
  | .hbm, ⟨36, _⟩ => ⟨S4x8192x1024, .f32⟩
  | .hbm, ⟨37, _⟩ => ⟨S4x8192x1024, .f32⟩
  | .hbm, ⟨38, _⟩ => ⟨S_, .f32⟩
  | .hbm, ⟨39, _⟩ => ⟨S4x8192x1, .f32⟩
  | .hbm, ⟨40, _⟩ => ⟨S4x8192x1, .f32⟩
  | .hbm, ⟨41, _⟩ => ⟨S4x8192x1, .f32⟩
  | .hbm, ⟨42, _⟩ => ⟨S4x8192x1024, .f32⟩
  | .hbm, ⟨43, _⟩ => ⟨S4x8192x1024, .f32⟩
  | .hbm, ⟨44, _⟩ => ⟨S1x1x1024, .f32⟩
  | .hbm, ⟨45, _⟩ => ⟨S4x8192x1024, .f32⟩
  | .hbm, ⟨46, _⟩ => ⟨S4x8192x1024, .f32⟩
  | .hbm, ⟨47, _⟩ => ⟨S1x1x1024, .f32⟩
  | .hbm, ⟨48, _⟩ => ⟨S4x8192x1024, .f32⟩
  | .hbm, ⟨49, _⟩ => ⟨S4x8192x1024, .f32⟩
  | _, _ => ⟨S4x16x64, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_cst : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst_0 : Ref sig .tc := ⟨.hbm, 21, rfl⟩
abbrev main_v8 : Ref sig .tc := ⟨.hbm, 22, rfl⟩
abbrev main_v9 : Ref sig .tc := ⟨.hbm, 23, rfl⟩
abbrev main_cst_1 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_cst_2 : Ref sig .tc := ⟨.hbm, 30, rfl⟩
abbrev main_v15 : Ref sig .tc := ⟨.hbm, 31, rfl⟩
abbrev main_v16 : Ref sig .tc := ⟨.hbm, 32, rfl⟩
abbrev main_cst_3 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_cst_4 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩

abbrev nD : Nat := 1
abbrev τ : Topo := Topo.v7x

variable {F : FTy → Type} [FloatOps F]
-- ==== Kernel4.lean ====
abbrev S4x8192x512 : Shape := ⟨3, ![4, 8192, 512]⟩
abbrev S4x8192x2048 : Shape := ⟨3, ![4, 8192, 2048]⟩
abbrev S4x8192x1024 : Shape := ⟨3, ![4, 8192, 1024]⟩
abbrev S512x1024 : Shape := ⟨2, ![512, 1024]⟩
abbrev S1024x1024 : Shape := ⟨2, ![1024, 1024]⟩
abbrev S1024 : Shape := ⟨1, ![1024]⟩
abbrev S4x512x8192 : Shape := ⟨3, ![4, 512, 8192]⟩
abbrev S4x512x64x128 : Shape := ⟨4, ![4, 512, 64, 128]⟩
abbrev S1x1024 : Shape := ⟨2, ![1, 1024]⟩
abbrev S1x1024x512 : Shape := ⟨3, ![1, 1024, 512]⟩
abbrev S1x512x8x128 : Shape := ⟨4, ![1, 512, 8, 128]⟩
abbrev S1x1024x2048 : Shape := ⟨3, ![1, 1024, 2048]⟩
abbrev S1x1024x1024 : Shape := ⟨3, ![1, 1024, 1024]⟩
abbrev S1x512x512 : Shape := ⟨3, ![1, 512, 512]⟩
abbrev S512x512 : Shape := ⟨2, ![512, 512]⟩
abbrev S1x512x1x128 : Shape := ⟨4, ![1, 512, 1, 128]⟩
abbrev S512x128 : Shape := ⟨2, ![512, 128]⟩
abbrev S1x512x2048 : Shape := ⟨3, ![1, 512, 2048]⟩
abbrev S512x2048 : Shape := ⟨2, ![512, 2048]⟩
abbrev S1x512x1024 : Shape := ⟨3, ![1, 512, 1024]⟩
abbrev S512 : Shape := ⟨1, ![512]⟩
abbrev S512x1 : Shape := ⟨2, ![512, 1]⟩

abbrev nBuf : Space → Nat
  | .hbm => 19
  | .vmem => 15
  | .smem => 0
  | _ => 0

abbrev bufTy : (tb : Table) → Fin (tcTables nBuf tb) → BufTy
  | .hbm, ⟨0, _⟩ => ⟨S4x8192x512, .f32⟩
  | .hbm, ⟨1, _⟩ => ⟨S4x8192x512, .f32⟩
  | .hbm, ⟨2, _⟩ => ⟨S4x8192x2048, .f32⟩
  | .hbm, ⟨3, _⟩ => ⟨S4x8192x1024, .f32⟩
  | .hbm, ⟨4, _⟩ => ⟨S512x1024, .f32⟩
  | .hbm, ⟨5, _⟩ => ⟨S512x1024, .f32⟩
  | .hbm, ⟨6, _⟩ => ⟨S1024x1024, .f32⟩
  | .hbm, ⟨7, _⟩ => ⟨S1024, .f32⟩
  | .hbm, ⟨8, _⟩ => ⟨S1024, .f32⟩
  | .hbm, ⟨9, _⟩ => ⟨S4x512x8192, .f32⟩
  | .hbm, ⟨10, _⟩ => ⟨S4x512x64x128, .f32⟩
  | .hbm, ⟨11, _⟩ => ⟨S4x8192x512, .bf16⟩
  | .hbm, ⟨12, _⟩ => ⟨S4x8192x2048, .bf16⟩
  | .hbm, ⟨13, _⟩ => ⟨S512x1024, .bf16⟩
  | .hbm, ⟨14, _⟩ => ⟨S512x1024, .bf16⟩
  | .hbm, ⟨15, _⟩ => ⟨S1024x1024, .bf16⟩
  | .hbm, ⟨16, _⟩ => ⟨S1x1024, .f32⟩
  | .hbm, ⟨17, _⟩ => ⟨S1x1024, .f32⟩
  | .hbm, ⟨18, _⟩ => ⟨S4x8192x1024, .f32⟩
  | .local _ .vmem, ⟨0, _⟩ => ⟨S1x1024x512, .bf16⟩
  | .local _ .vmem, ⟨1, _⟩ => ⟨S1x1024x512, .bf16⟩
  | .local _ .vmem, ⟨2, _⟩ => ⟨S1x512x8x128, .f32⟩
  | .local _ .vmem, ⟨3, _⟩ => ⟨S1x512x8x128, .f32⟩
  | .local _ .vmem, ⟨4, _⟩ => ⟨S1x1024x2048, .bf16⟩
  | .local _ .vmem, ⟨5, _⟩ => ⟨S1x1024x2048, .bf16⟩
  | .local _ .vmem, ⟨6, _⟩ => ⟨S1x1024x1024, .f32⟩
  | .local _ .vmem, ⟨7, _⟩ => ⟨S1x1024x1024, .f32⟩
  | .local _ .vmem, ⟨8, _⟩ => ⟨S512x1024, .bf16⟩
  | .local _ .vmem, ⟨9, _⟩ => ⟨S512x1024, .bf16⟩
  | .local _ .vmem, ⟨10, _⟩ => ⟨S1024x1024, .bf16⟩
  | .local _ .vmem, ⟨11, _⟩ => ⟨S1x1024, .f32⟩
  | .local _ .vmem, ⟨12, _⟩ => ⟨S1x1024, .f32⟩
  | .local _ .vmem, ⟨13, _⟩ => ⟨S1x1024x1024, .f32⟩
  | .local _ .vmem, ⟨14, _⟩ => ⟨S1x1024x1024, .f32⟩
  | _, _ => ⟨S4x8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem9_1 : DmaSem sig := 14

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x8x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x1024x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== Reference4Ideal.lean ====
abbrev S4x8192x512 : Shape := ⟨3, ![4, 8192, 512]⟩
abbrev S4x8192x2048 : Shape := ⟨3, ![4, 8192, 2048]⟩
abbrev S4x8192x1024 : Shape := ⟨3, ![4, 8192, 1024]⟩
abbrev S512x1024 : Shape := ⟨2, ![512, 1024]⟩
abbrev S1024x1024 : Shape := ⟨2, ![1024, 1024]⟩
abbrev S1024 : Shape := ⟨1, ![1024]⟩
abbrev S_ : Shape := ⟨0, ![]⟩
abbrev S4x8192 : Shape := ⟨2, ![4, 8192]⟩
abbrev S4x8192x1 : Shape := ⟨3, ![4, 8192, 1]⟩
abbrev S1x1x1024 : Shape := ⟨3, ![1, 1, 1024]⟩

abbrev nBuf : Space → Nat
  | .hbm => 50
  | .vmem => 0
  | .smem => 0
  | _ => 0

abbrev bufTy : (tb : Table) → Fin (tcTables nBuf tb) → BufTy
  | .hbm, ⟨0, _⟩ => ⟨S4x8192x512, .f32⟩
  | .hbm, ⟨1, _⟩ => ⟨S4x8192x512, .f32⟩
  | .hbm, ⟨2, _⟩ => ⟨S4x8192x2048, .f32⟩
  | .hbm, ⟨3, _⟩ => ⟨S4x8192x1024, .f32⟩
  | .hbm, ⟨4, _⟩ => ⟨S512x1024, .f32⟩
  | .hbm, ⟨5, _⟩ => ⟨S512x1024, .f32⟩
  | .hbm, ⟨6, _⟩ => ⟨S1024x1024, .f32⟩
  | .hbm, ⟨7, _⟩ => ⟨S1024, .f32⟩
  | .hbm, ⟨8, _⟩ => ⟨S1024, .f32⟩
  | .hbm, ⟨9, _⟩ => ⟨S4x8192x1024, .f32⟩
  | .hbm, ⟨10, _⟩ => ⟨S4x8192x1024, .f32⟩
  | .hbm, ⟨11, _⟩ => ⟨S4x8192x1024, .f32⟩
  | .hbm, ⟨12, _⟩ => ⟨S4x8192x1024, .f32⟩
  | .hbm, ⟨13, _⟩ => ⟨S4x8192x1024, .f32⟩
  | .hbm, ⟨14, _⟩ => ⟨S4x8192x1024, .f32⟩
  | .hbm, ⟨15, _⟩ => ⟨S4x8192x1024, .f32⟩
  | .hbm, ⟨16, _⟩ => ⟨S4x8192x1024, .f32⟩
  | .hbm, ⟨17, _⟩ => ⟨S_, .f32⟩
  | .hbm, ⟨18, _⟩ => ⟨S4x8192x1024, .f32⟩
  | .hbm, ⟨19, _⟩ => ⟨S4x8192x1024, .f32⟩
  | .hbm, ⟨20, _⟩ => ⟨S4x8192x1024, .f32⟩
  | .hbm, ⟨21, _⟩ => ⟨S_, .f32⟩
  | .hbm, ⟨22, _⟩ => ⟨S4x8192, .f32⟩
  | .hbm, ⟨23, _⟩ => ⟨S4x8192x1, .f32⟩
  | .hbm, ⟨24, _⟩ => ⟨S_, .f32⟩
  | .hbm, ⟨25, _⟩ => ⟨S4x8192x1, .f32⟩
  | .hbm, ⟨26, _⟩ => ⟨S4x8192x1, .f32⟩
  | .hbm, ⟨27, _⟩ => ⟨S4x8192x1024, .f32⟩
  | .hbm, ⟨28, _⟩ => ⟨S4x8192x1024, .f32⟩
  | .hbm, ⟨29, _⟩ => ⟨S4x8192x1024, .f32⟩
  | .hbm, ⟨30, _⟩ => ⟨S_, .f32⟩
  | .hbm, ⟨31, _⟩ => ⟨S4x8192, .f32⟩
  | .hbm, ⟨32, _⟩ => ⟨S4x8192x1, .f32⟩
  | .hbm, ⟨33, _⟩ => ⟨S_, .f32⟩
  | .hbm, ⟨34, _⟩ => ⟨S4x8192x1, .f32⟩
  | .hbm, ⟨35, _⟩ => ⟨S4x8192x1, .f32⟩
  | .hbm, ⟨36, _⟩ => ⟨S4x8192x1024, .f32⟩
  | .hbm, ⟨37, _⟩ => ⟨S4x8192x1024, .f32⟩
  | .hbm, ⟨38, _⟩ => ⟨S_, .f32⟩
  | .hbm, ⟨39, _⟩ => ⟨S4x8192x1, .f32⟩
  | .hbm, ⟨40, _⟩ => ⟨S4x8192x1, .f32⟩
  | .hbm, ⟨41, _⟩ => ⟨S4x8192x1, .f32⟩
  | .hbm, ⟨42, _⟩ => ⟨S4x8192x1024, .f32⟩
  | .hbm, ⟨43, _⟩ => ⟨S4x8192x1024, .f32⟩
  | .hbm, ⟨44, _⟩ => ⟨S1x1x1024, .f32⟩
  | .hbm, ⟨45, _⟩ => ⟨S4x8192x1024, .f32⟩
  | .hbm, ⟨46, _⟩ => ⟨S4x8192x1024, .f32⟩
  | .hbm, ⟨47, _⟩ => ⟨S1x1x1024, .f32⟩
  | .hbm, ⟨48, _⟩ => ⟨S4x8192x1024, .f32⟩
  | .hbm, ⟨49, _⟩ => ⟨S4x8192x1024, .f32⟩
  | _, _ => ⟨S4x8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_0 : Ref sig .tc := ⟨.hbm, 21, rfl⟩
abbrev main_v11 : Ref sig .tc := ⟨.hbm, 22, rfl⟩
abbrev main_v12 : Ref sig .tc := ⟨.hbm, 23, rfl⟩
abbrev main_cst_1 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_2 : Ref sig .tc := ⟨.hbm, 30, rfl⟩
abbrev main_v18 : Ref sig .tc := ⟨.hbm, 31, rfl⟩
abbrev main_v19 : Ref sig .tc := ⟨.hbm, 32, rfl⟩
abbrev main_cst_3 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_4 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩

abbrev nD : Nat := 1
abbrev τ : Topo := Topo.v7x

variable {F : FTy → Type} [FloatOps F]
-- ==== Proof.ExpertValue.lean ====
module

public import proofs.«01_k».proof.Proof.Gen.Kernel2Ideal.Value
public import proofs.«01_k».proof.Proof.Gen.Reference2Ideal.Run
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem
open Idealize.ShloMosaic.Pipeline (Dat)
open scoped BigOperators

namespace Cert.Kernel2Ideal.Value

open Cert.Kernel2Ideal Cert.Kernel2Ideal.Gen

variable (m : (ℓ : Loc nD τ sig) → Buf (Elt Ideal) ℓ)

/-- Every window's block index at every grid point. -/
theorem idx : ∀ t : Fin cfg0.N, win0_0.index t = ![t.val / 4 % 2, t.val / 8, 0, 0]
    ∧ win0_1.index t = ![t.val / 8, 0, t.val % 4]
    ∧ win0_2.index t = ![t.val / 8, 0, t.val % 4]
    ∧ win0_3.index t = ![t.val / 8, t.val % 4, 0]
    ∧ win0_4.index t = ![t.val / 4 % 2, t.val / 8, 0, 0] :=
  (by decide +kernel : ∀ t : Fin grid0.N, _)

/-- One expert's gated product at a row and a hidden channel: the row's dot product with the gate's column, times its
    logistic, times the row's dot product with the up-projection's column. -/
def hid (x : Fin 1024 → EReal) (g u : Fin 1024 → EReal) : EReal :=
  (∑ q, x q * g q) * Ideal.div 1 (1 + Ideal.exp (0 - ∑ q, x q * g q)) * ∑ q, x q * u q

/-- One chunk's contribution to the down-projected output: the sum over the chunk's 512 hidden channels. -/
def part (x0 : FVec Ideal S2x1x1024x1024 .bf16) (x1 x2 : FVec Ideal S1x1024x512 .f32) (x3 : FVec Ideal S1x512x1024 .f32)
    (j : S2x1024x1024.Idx) : EReal :=
  ∑ k : Fin 512, hid (fun q => x0 (ix4 (j 0) 0 (j 1) q)) (fun q => x1 (ix3 0 q k)) (fun q => x2 (ix3 0 q k)) * x3 (ix3 0 k (j 2))

/-- What one grid point adds for the first of the two sequences, at an entry: the partial product over its 512 hidden columns. -/
theorem pay8_apply (x0 : FVec Ideal S1x1x1024x1024 .bf16) (x1 x2 : FVec Ideal S1x1024x512 .f32) (x3 : FVec Ideal S1x512x1024 .f32)
    (acc : FVec Ideal S1x1024x1024 .f32) (z : Fin 1) (r d : Fin 1024) :
    k0_pay1 (k0_pay8 x1 x2 x3 x0 acc) (ix3 z r d)
      = acc (ix3 0 r d) + ∑ k : Fin 512, hid (fun q => x0 (ix4 0 0 r q)) (fun q => x1 (ix3 0 q k)) (fun q => x2 (ix3 0 q k)) * x3 (ix3 0 k d) := by
  pointwise [k0_pay1, k0_pay8, k0_pay4, k0_pay5, k0_pay6, hid]

/-- What one grid point adds for the second of the two sequences, at an entry. -/
theorem pay2_apply (x0 : FVec Ideal S1x1x1024x1024 .bf16) (x1 x2 : FVec Ideal S1x1024x512 .f32) (x3 : FVec Ideal S1x512x1024 .f32)
    (acc : FVec Ideal S1x1024x1024 .f32) (z : Fin 1) (r d : Fin 1024) :
    k0_pay2 (k0_pay4 x1) (k0_pay5 x2) (k0_pay6 x3) x0 acc (ix3 z r d)
      = acc (ix3 0 r d) + ∑ k : Fin 512, hid (fun q => x0 (ix4 0 0 r q)) (fun q => x1 (ix3 0 q k)) (fun q => x2 (ix3 0 q k)) * x3 (ix3 0 k d) := by
  pointwise [k0_pay2, k0_pay4, k0_pay5, k0_pay6, hid]

/-- The two stores of a point, one per batch row of the block, over whatever was stored before: at every index the
    accumulator the point loaded plus the chunk's contribution. -/
theorem two_stores (x0 : FVec Ideal S2x1x1024x1024 .bf16) (x1 x2 : FVec Ideal S1x1024x512 .f32) (x3 : FVec Ideal S1x512x1024 .f32)
    (P : FVec Ideal S2x1024x1024 .f32) (A0 A1 : FVec Ideal S1x1024x1024 .f32)
    (h0 : ∀ r d : Fin 1024, A0 (ix3 0 r d) = P (ix3 0 r d)) (h1 : ∀ r d : Fin 1024, A1 (ix3 0 r d) = P (ix3 1 r d))
    (Z : List (View.Piece (Elt Ideal) S2x1024x1024 .f32)) (j : S2x1024x1024.Idx) :
    View.canon ([⟨Rect.unit ![1, 0, 0] ![1, 1024, 1024] inb_S2x1024x1024_S1x1024x1024_1_0_0,
          k0_pay2 (F := Ideal) (k0_pay4 (F := Ideal) x1) (k0_pay5 (F := Ideal) x2) (k0_pay6 (F := Ideal) x3)
            (View.ld (Val := Elt Ideal) (S := S2x1x1024x1024) (e' := .bf16) x0 (Rect.unit ![1, 0, 0, 0] ![1, 1, 1024, 1024] inb_S2x1x1024x1024_S1x1x1024x1024_1_0_0_0)) A1⟩,
        ⟨Rect.unit ![0, 0, 0] ![1, 1024, 1024] inb_S2x1024x1024_S1x1024x1024_0_0_0,
          k0_pay1 (F := Ideal) (k0_pay8 (F := Ideal) x1 x2 x3
            (View.ld (Val := Elt Ideal) (S := S2x1x1024x1024) (e' := .bf16) x0 (Rect.unit ![0, 0, 0, 0] ![1, 1, 1024, 1024] inb_S2x1x1024x1024_S1x1x1024x1024_0_0_0_0)) A0)⟩] ++ Z) j
      = (fun j => (P j + part x0 x1 x2 x3 j : EReal)) j := by
  refine View.canon_append_of_piecesOf (s := S2x1024x1024) (Val := Elt Ideal) (e := .f32) (fun j => (P j + part x0 x1 x2 x3 j : EReal)) Z [_, _] ⟨fun x => ?_, fun x => ?_, trivial⟩ j
    (View.cover_of_tiledL _ ![1, 1024, 1024] ?_ j)
  · obtain ⟨z, r, d, rfl⟩ : ∃ (z : Fin 1) (r d : Fin 1024), x = ix3 z r d := ⟨x 0, x 1, x 2, eq_ix3 x⟩
    refine (pay2_apply _ x1 x2 x3 A1 z r d).trans ?_
    rw [h1]
    rw [show (Rect.unit ![1, 0, 0] ![1, 1024, 1024] inb_S2x1024x1024_S1x1024x1024_1_0_0).emb (ix3 z r d) = ix3 1 r d from by blk_ext]
    pointwise [part]
  · obtain ⟨z, r, d, rfl⟩ : ∃ (z : Fin 1) (r d : Fin 1024), x = ix3 z r d := ⟨x 0, x 1, x 2, eq_ix3 x⟩
    refine (pay8_apply _ x1 x2 x3 A0 z r d).trans ?_
    rw [h0]
    rw [show (Rect.unit ![0, 0, 0] ![1, 1024, 1024] inb_S2x1024x1024_S1x1024x1024_0_0_0).emb (ix3 z r d) = ix3 0 r d from by blk_ext]
    pointwise [part]
  · rfl

/-- At the first of the four hidden blocks the accumulator is left holding that block's partial product. -/
theorem stepA (c : Dev nD) (t : Fin cfg0.N) (h0 : t.val % 4 = 0) (j : S2x1024x1024.Idx) :
    (outsAt0 m c t.val t.isLt).2 j = 0 + part (iblk m c 0 t) (iblk m c 1 t) (iblk m c 2 t) (iblk m c 3 t) j := by
  rw [outsAt0_A m c t h0 (by omega)]
  frame_out
  simp (disch := decide) only [View.readCov_skip, View.readCov_fill]
  refine two_stores (iblk m c 0 t) (iblk m c 1 t) (iblk m c 2 t) (iblk m c 3 t) (fun _ => (0 : EReal)) _ _ (fun r d => ?_) (fun r d => ?_) [_] j
  · pointwise [k0_pay7]
  · pointwise [k0_pay7]

/-- At a later hidden block the partial product is added to the accumulator. -/
theorem stepB (c : Dev nD) (t : Fin cfg0.N) (h0 : ¬ t.val % 4 = 0) (j : S2x1024x1024.Idx) :
    (outsAt0 m c t.val t.isLt).2 j = (outsAt0 m c (t.val - 1) (Nat.lt_of_le_of_lt (Nat.sub_le _ _) t.isLt)).2 j
      + part (iblk m c 0 t) (iblk m c 1 t) (iblk m c 2 t) (iblk m c 3 t) j := by
  generalize hp : (outsAt0 m c (t.val - 1) (Nat.lt_of_le_of_lt (Nat.sub_le _ _) t.isLt)).2 = P
  by_cases h1 : t.val % 4 = 3
  · rw [outsAt0_C m c t h0 h1, hp]
    frame_out
    simp only [read_unread_whole]
    refine two_stores (iblk m c 0 t) (iblk m c 1 t) (iblk m c 2 t) (iblk m c 3 t) P _ _ (fun r d => ?_) (fun r d => ?_) [] j
    · pointwise
    · pointwise
  · rw [outsAt0_B m c t h0 h1, hp]
    frame_out
    simp only [read_unread_whole]
    refine two_stores (iblk m c 0 t) (iblk m c 1 t) (iblk m c 2 t) (iblk m c 3 t) P _ _ (fun r d => ?_) (fun r d => ?_) [] j
    · pointwise
    · pointwise

/-- At the last hidden block the result's block is the accumulator. -/
theorem stepC (c : Dev nD) (t : Fin cfg0.N) (h0 : ¬ t.val % 4 = 0) (h1 : t.val % 4 = 3) (j : S2x1x1024x1024.Idx) :
    (outsAt0 m c t.val t.isLt).1 j = (outsAt0 m c t.val t.isLt).2 (ix3 (j 0) (j 2) (j 3)) := by
  rw [outsAt0_C m c t h0 h1]
  frame_out
  rw [View.readCov_eq_canon']
  generalize View.canon (Val := Elt Ideal) _ = X
  pointwise [k0_pay3]

/-- The reference's result as one composed term of its four arguments. -/
abbrev REF (X : FVec Ideal Cert.Reference2Ideal.S4x16x1024x1024 .f32) (G U : FVec Ideal Cert.Reference2Ideal.S16x1024x2048 .f32)
    (D : FVec Ideal Cert.Reference2Ideal.S16x2048x1024 .f32) : FVec Ideal Cert.Reference2Ideal.S4x16x1024x1024 .bf16 :=
  truncf .bf16 (transpose Cert.Reference2Ideal.S4x16x1024x1024 [2, 0, 3, 1] (Host.dotGeneral Cert.Reference2Ideal.dot_S16x2048x1024_S4x16x1024x2048_S16x1024x4x1024_1_3_2_02_0_1 none D (mulf (mulf (transpose Cert.Reference2Ideal.S4x16x1024x2048 [2, 0, 3, 1] (Host.dotGeneral Cert.Reference2Ideal.dot_S16x1024x2048_S4x16x1024x1024_S16x2048x4x1024_1_3_2_02_0_1 none G X) Cert.Reference2Ideal.Gen.transposes_S16x2048x4x1024_S4x16x1024x2048_2_0_3_1) (Host.divf (broadcastInDim Cert.Reference2Ideal.S4x16x1024x2048 ![] Cert.Reference2Ideal.Gen.bcast_S_S4x16x1024x2048 (constant Cert.Reference2Ideal.S_ .f32 0x3F800000#32)) (addf (broadcastInDim Cert.Reference2Ideal.S4x16x1024x2048 ![] Cert.Reference2Ideal.Gen.bcast_S_S4x16x1024x2048 (constant Cert.Reference2Ideal.S_ .f32 0x3F800000#32)) (Host.exp (Host.negf (transpose Cert.Reference2Ideal.S4x16x1024x2048 [2, 0, 3, 1] (Host.dotGeneral Cert.Reference2Ideal.dot_S16x1024x2048_S4x16x1024x1024_S16x2048x4x1024_1_3_2_02_0_1 none G X) Cert.Reference2Ideal.Gen.transposes_S16x2048x4x1024_S4x16x1024x2048_2_0_3_1)))))) (transpose Cert.Reference2Ideal.S4x16x1024x2048 [2, 0, 3, 1] (Host.dotGeneral Cert.Reference2Ideal.dot_S16x1024x2048_S4x16x1024x1024_S16x2048x4x1024_1_3_2_02_0_1 none U X) Cert.Reference2Ideal.Gen.transposes_S16x2048x4x1024_S4x16x1024x2048_2_0_3_1))) Cert.Reference2Ideal.Gen.transposes_S16x1024x4x1024_S4x16x1024x1024_2_0_3_1) Cert.Reference2Ideal.Gen.bitsLt_bf16_f32

/-- The reference, at an entry: the sum over all hidden columns. -/
theorem ref_apply (X : FVec Ideal Cert.Reference2Ideal.S4x16x1024x1024 .f32) (G U : FVec Ideal Cert.Reference2Ideal.S16x1024x2048 .f32)
    (D : FVec Ideal Cert.Reference2Ideal.S16x2048x1024 .f32) (b : Fin 4) (e : Fin 16) (r d : Fin 1024) :
    REF X G U D (ix4 b e r d)
      = ∑ k : Fin 2048, hid (fun q => X (ix4 b e r q)) (fun q => G (ix3 e q k)) (fun q => U (ix3 e q k)) * D (ix3 e k d) := by
  pointwise [REF, hid]
  have hG : ∀ k : Fin 2048, ∑ q, G (ix3 e q k) * X (ix4 b e r q) = ∑ q, X (ix4 b e r q) * G (ix3 e q k) :=
    fun k => Finset.sum_congr rfl fun q _ => mul_comm _ _
  have hU : ∀ k : Fin 2048, ∑ q, U (ix3 e q k) * X (ix4 b e r q) = ∑ q, X (ix4 b e r q) * U (ix3 e q k) :=
    fun k => Finset.sum_congr rfl fun q _ => mul_comm _ _
  refine Finset.sum_congr rfl fun k _ => ?_
  rw [hG, hU, zero_sub, mul_comm]

/-- The kernel's result, after the run, is the reference's result. -/
theorem final (c : Dev nD) : (dats m 0 c).arrAt 4 cfg0.N
    = REF (m ((c : Thread nD τ).loc main_arg0)) (m ((c : Thread nD τ).loc main_arg1)) (m ((c : Thread nD τ).loc main_arg2))
        (m ((c : Thread nD τ).loc main_arg3)) := by
  refine (dats m 0 c).arrAt_eq_of_covers 4 _ (by decide +kernel) fun t hf y => ?_
  blk_simp
  have hf3 : t.val % 4 = 3 := (flush0_4 t).mp hf
  rw [after0_4, stepC m c t (by omega) hf3,
    Pipeline.eq_sum_fin_of_reset_step_apply_of_flush (fun n h => (outsAt0 m c n h).2) 4 (fun _ => (0 : EReal))
      (fun p j => part (iblk m c 0 p) (iblk m c 1 p) (iblk m c 2 p) (iblk m c 3 p) j)
      (fun t h j => stepA m c t h j) (fun t h j => stepB m c t h j) t hf3 _, zero_add,
    eq_ix4 (((cfg0.win 4).blk t).view.emb y)]
  refine Eq.trans ?_ (ref_apply _ _ _ _ _ _ _ _).symm
  simp only [part, hid]
  refine Fin.sum_mul_add_congr fun s k hl => ?_
  blk_point [iblk, V, idx t, idx ⟨_, Pipeline.run_point_lt_of_flush t hf3 s⟩]

end Cert.Kernel2Ideal.Value
-- ==== Proof.AttnFn.lean ====
module

public import Idealize.ShloMosaic.Lib.Pointwise

@[expose] public section

noncomputable section

open Idealize.ShloMosaic
open scoped BigOperators

namespace Cert.Attn

/-- The greatest entry of a finite row, the search begun at minus infinity. -/
def top {n : ℕ} (f : Fin n → EReal) : EReal := Finset.univ.fold max (Ideal.ofBits .f32 4286578688#32) f

/-- The soft maximum of a finite row: each entry less the greatest is exponentiated and divided by the sum of all. -/
def soft {n : ℕ} (f : Fin n → EReal) (s : Fin n) : EReal :=
  Ideal.div (Ideal.exp (f s - top f)) (∑ i, Ideal.exp (f i - top f))

/-- The mean of a row of 1024 entries. -/
def mean (y : Fin 1024 → EReal) : EReal := Ideal.div (∑ x, y x) (Ideal.ofBits .f32 1149239296#32)

/-- The row shifted to mean zero and scaled to variance one (the variance made larger by the small constant). -/
def lnRow (y : Fin 1024 → EReal) (d : Fin 1024) : EReal :=
  (y d - mean y) *
    Ideal.rsqrt (Ideal.div (∑ x, (y x - mean y) * (y x - mean y)) (Ideal.ofBits .f32 1149239296#32) + Ideal.ofBits .f32 925353388#32)

/-- Column `i` of head `h` among the 1024 columns of four heads. -/
def col (h : Fin 4) (i : Fin 256) : Fin 1024 := ⟨h.val * 256 + i.val, by omega⟩

/-- The head a column lies in. -/
def hd (x : Fin 1024) : Fin 4 := ⟨x.val / 256, by omega⟩

/-- Minus infinity is the least number, so a greatest entry begun there is no less. -/
theorem max_top {n : ℕ} (f : Fin n → EReal) : max (Ideal.ofBits .f32 4286578688#32) (top f) = top f := by
  have h : Ideal.ofBits .f32 4286578688#32 = ⊥ := by simp [Ideal.ofBits, Ideal.ieee]
  rw [h]; exact max_eq_right bot_le

end Cert.Attn
-- ==== Proof.AttnPoint.lean ====
module

public import proofs.«01_k».proof.Proof.Gen.KernelIdeal.Value
public import proofs.«01_k».proof.Proof.Gen.ReferenceIdeal.Run
public import Idealize.ShloMosaic.Lib.Pipeline.ValueKit
public import Idealize.ShloMosaic.Lib.Pipeline.ReadBack
public import Idealize.ShloMosaic.Lib.Pointwise
public import proofs.«01_k».proof.Proof.AttnFn

@[expose] public section

set_option maxRecDepth 16384

noncomputable section

open Idealize.ShloMosaic Idealize.ShloMosaic.TcCoe Idealize.SL.Sem
open Idealize.ShloMosaic.Pipeline (Dat)
open scoped BigOperators

namespace Cert.KernelIdeal.Value

open Cert.KernelIdeal Cert.KernelIdeal.Gen

open Cert.Attn

variable (X : Vec Ideal S1x1024x1024 .f32) (Wq Wo : Vec Ideal S1024x1024 .bf16) (K V : Vec Ideal S256x1024 .bf16) (k v : Vec Ideal S256x256 .bf16)

/-- The scaled query at an index. -/
theorem pay9_apply (r d : Fin 1024) :
    k0_pay9 (F := Ideal) X Wq (ix2 r d) = (∑ c : Fin 1024, X (ix3 0 r c) * Wq (ix2 c d)) * Ideal.ofBits .f32 1031798784#32 := by
  pointwise [k0_pay9, k0_pay8]

/-- One head's context of a row: its scores' soft maximum times the values. -/
def headOut (q : Fin 256 → EReal) (r : Fin 1024) (d : Fin 256) : EReal :=
  ∑ s : Fin 256, soft (fun s : Fin 256 => ∑ i : Fin 256, q i * k (ix2 s i)) s * v (ix2 s d)

/-- The first head at an index. -/
theorem pay10_apply (r : Fin 1024) (d : Fin 256) :
    k0_pay10 (F := Ideal) X Wq k v (ix2 r d) = headOut k v (fun i => k0_pay9 (F := Ideal) X Wq (ix2 r (col 0 i))) r d := by
  simp only [headOut, soft, top, col]
  pointwise [k0_pay10]

/-- The second head at an index. -/
theorem pay12_apply (r : Fin 1024) (d : Fin 256) :
    k0_pay12 (F := Ideal) (k0_pay11 X Wq) k (constant S1024x256 .f32 0#32) v (ix2 r d)
      = headOut k v (fun i => k0_pay9 (F := Ideal) X Wq (ix2 r (col 1 i))) r d := by
  simp only [headOut, soft, top, col]
  pointwise [k0_pay12, k0_pay11]

/-- The third head at an index. -/
theorem pay13_apply (q : FVec Ideal S1024x1024 .bf16) (r : Fin 1024) (d : Fin 256) :
    k0_pay13 (F := Ideal) q k v (ix2 r d) = headOut k v (fun i => q (ix2 r (col 2 i))) r d := by
  simp only [headOut, soft, top, col]
  pointwise [k0_pay13]

/-- The fourth head's attention weights at an index. -/
theorem pay14_apply (q : FVec Ideal S1024x1024 .bf16) (r : Fin 1024) (s : Fin 256) :
    k0_pay14 (F := Ideal) q k (ix2 r s) = soft (fun s : Fin 256 => ∑ i : Fin 256, q (ix2 r (col 3 i)) * k (ix2 s i)) s := by
  simp only [soft, top, col]
  pointwise [k0_pay14]

end Cert.KernelIdeal.Value
-- ==== Proof.AttnRow.lean ====
module

public import proofs.«01_k».proof.Proof.Gen.KernelIdeal.Value
public import proofs.«01_k».proof.Proof.Gen.ReferenceIdeal.Run
public import Idealize.ShloMosaic.Lib.Pipeline.ValueKit
public import Idealize.ShloMosaic.Lib.Pipeline.ReadBack
public import Idealize.ShloMosaic.Lib.Pointwise
public import proofs.«01_k».proof.Proof.AttnPoint

@[expose] public section

set_option maxRecDepth 16384

noncomputable section

open Idealize.ShloMosaic Idealize.ShloMosaic.TcCoe Idealize.SL.Sem
open Idealize.ShloMosaic.Pipeline (Dat)
open scoped BigOperators

namespace Cert.KernelIdeal.Value

open Cert.KernelIdeal Cert.KernelIdeal.Gen

open Cert.Attn

variable (X : Vec Ideal S1x1024x1024 .f32) (Wq Wo : Vec Ideal S1024x1024 .bf16) (K V : Vec Ideal S256x1024 .bf16)
  (g b : Vec Ideal S1x1024 .f32)

/-- A block of 256 columns of the keys or the values, one head's. -/
def part (K : Vec Ideal S256x1024 .bf16) (o : Fin 2 → ℕ) (h : ∀ i, o i + S256x256.size i ≤ S256x1024.size i) : Vec Ideal S256x256 .bf16 :=
  View.ld (Val := Elt Ideal) (S := S256x1024) (e' := .bf16) K (Rect.unit o S256x256.size h)

/-- A head's columns of an array are the array's columns from 256 times the head on. -/
theorem part_apply (h : Fin 4) (o) (hi) (ho : o = ![0, h.val * 256]) (s i : Fin 256) : part K o hi (ix2 s i) = K (ix2 s (col h i)) := by
  subst ho
  show K ((Rect.unit _ _ _).emb _) = _
  congr 1
  blk_ext
  rfl

/-- The attention's context of a row with query `q`, at a column. -/
def ctx (q : Fin 1024 → EReal) (K V : Vec Ideal S256x1024 .bf16) (x : Fin 1024) : EReal :=
  ∑ s : Fin 256, soft (fun s : Fin 256 => ∑ i : Fin 256, q (col (hd x) i) * K (ix2 s (col (hd x) i))) s * V (ix2 s x)

/-- The row before its normalisation: the weighted input plus the projected context. -/
def rowY (r d : Fin 1024) : EReal :=
  Ideal.ofBits .f32 1066940400#32 * X (ix3 0 r d)
    + ∑ x : Fin 1024, ctx (fun c => k0_pay9 (F := Ideal) X Wq (ix2 r c)) K V x * Wo (ix2 x d)

/-- The block before its normalisation, from the four heads' parts. -/
def preY (x : FVec Ideal S1024x1024 .f32) (v30 v45 v60 : FVec Ideal S1024x256 .f32) (v73 : FVec Ideal S1024x256 .bf16)
    (v74 : Vec Ideal S256x256 .bf16) (Wo : Vec Ideal S1024x1024 .bf16) : FVec Ideal S1024x1024 .f32 :=
  addf (mulf (broadcast S1024x1024 (FloatOps.ofBits FTy.f32 1066940400#32)) x)
    (matmul (φ₁ := .bf16) (φ₂ := .bf16) dot_S1024x1024_S1024x1024_S1024x1024_1_0_0_1_n_n none
      (truncf FTy.bf16
        (concatenate S1024x1024 1
          [⟨S1024x256, v30⟩, ⟨S1024x256, v45⟩, ⟨S1024x256, v60⟩,
            ⟨S1024x256, matmul (φ₁ := .bf16) (φ₂ := .bf16) dot_S1024x256_S256x256_S1024x256_1_0_0_1_n_n none v73 v74 (constant S1024x256 FTy.f32 0#32)⟩]
          concatenates_S1024x256_S1024x256_S1024x256_S1024x256_S1024x1024_d1)
        bitsLt_bf16_f32)
      (shapeCast S1024x1024 Wo shapeCasts_S1024x1024_S1024x1024)
      (constant S1024x1024 FTy.f32 0#32))

/-- A block normalised row by row, scaled by the gains and shifted by the biases. -/
def lnB (y : FVec Ideal S1024x1024 .f32) (g b : Vec Ideal S1x1024 .f32) : FVec Ideal S1024x1024 .f32 :=
  have mu : FVec Ideal S1024x1 .f32 := divf (shapeCast S1024x1 (multiReduction FKind.add [1] S1024 y 0#32 reduces_S1024x1024_S1024 (.inl rfl) rfl) shapeCasts_S1024_S1024x1)
    (broadcast S1024x1 (FloatOps.ofBits FTy.f32 1149239296#32))
  have e : FVec Ideal S1024x1024 .f32 := subf y (broadcastTo S1024x1024 mu broadcasts_S1024x1_S1024x1024)
  have va : FVec Ideal S1024x1 .f32 := divf (shapeCast S1024x1 (multiReduction FKind.add [1] S1024 (mulf e e) 0#32 reduces_S1024x1024_S1024 (.inl rfl) rfl) shapeCasts_S1024_S1024x1)
    (broadcast S1024x1 (FloatOps.ofBits FTy.f32 1149239296#32))
  addf (mulf (mulf e (broadcastTo S1024x1024 (rsqrt (addf va (broadcast S1024x1 (FloatOps.ofBits FTy.f32 925353388#32)))) broadcasts_S1024x1_S1024x1024))
      (broadcastTo S1024x1024 (shapeCast S1x1024 g shapeCasts_S1x1024_S1x1024) broadcasts_S1x1024_S1024x1024))
    (broadcastTo S1024x1024 (shapeCast S1x1024 b shapeCasts_S1x1024_S1x1024) broadcasts_S1x1024_S1024x1024)

/-- The rows that the kernel stores are the normalisation of the rows it has put together. -/
theorem pay15_eq (x : FVec Ideal S1024x1024 .f32) (v30 v45 v60 : FVec Ideal S1024x256 .f32) (v73 : FVec Ideal S1024x256 .bf16)
    (v74 : Vec Ideal S256x256 .bf16) : k0_pay15 (F := Ideal) x v30 v45 v60 v73 v74 Wo g b = lnB (preY x v30 v45 v60 v73 v74 Wo) g b := by
  unfold k0_pay15 lnB preY
  rfl

/-- The kernel's normalisation, at an entry, is the normalised row times the gain plus the bias. -/
theorem lnB_apply (y : FVec Ideal S1024x1024 .f32) (r d : Fin 1024) :
    lnB y g b (ix2 r d) = lnRow (fun d => y (ix2 r d)) d * g (ix2 0 d) + b (ix2 0 d) := by
  simp only [lnRow, mean]
  pointwise [lnB]

/-- The block of the first result, of the input block, the weights, the keys and the values. -/
def attnY : FVec Ideal S1024x1024 .f32 :=
  k0_pay15 (F := Ideal) (k0_pay8 X)
    (k0_pay10 X Wq (part K ![0, 0] inb_S256x1024_S256x256_0_0) (part V ![0, 0] inb_S256x1024_S256x256_0_0))
    (k0_pay12 (k0_pay11 X Wq) (part K ![0, 256] inb_S256x1024_S256x256_0_256) (constant S1024x256 FTy.f32 0#32) (part V ![0, 256] inb_S256x1024_S256x256_0_256))
    (k0_pay13 (k0_pay9 X Wq) (part K ![0, 512] inb_S256x1024_S256x256_0_512) (part V ![0, 512] inb_S256x1024_S256x256_0_512))
    (k0_pay14 (k0_pay9 X Wq) (part K ![0, 768] inb_S256x1024_S256x256_0_768))
    (part V ![0, 768] inb_S256x1024_S256x256_0_768) Wo g b

/-- One head's output from the head's columns of keys and values, as an expression of the whole arrays. -/
theorem headOut_part (h : Fin 4) (o) (hi) (ho : o = ![0, h.val * 256]) (q : Fin 1024 → EReal) (r : Fin 1024) (d : Fin 256) :
    headOut (part K o hi) (part V o hi) (fun i => q (col h i)) r d = ctx q K V (col h d) := by
  have hh : hd (col h d) = h := Fin.ext (by simp only [hd, col]; omega)
  simp only [headOut, ctx, hh, part_apply K h o hi ho, part_apply V h o hi ho]

/-- The rows before the normalisation, at an entry. -/
theorem preY_apply (r d : Fin 1024) :
    preY (k0_pay8 X)
    (k0_pay10 X Wq (part K ![0, 0] inb_S256x1024_S256x256_0_0) (part V ![0, 0] inb_S256x1024_S256x256_0_0))
    (k0_pay12 (k0_pay11 X Wq) (part K ![0, 256] inb_S256x1024_S256x256_0_256) (constant S1024x256 FTy.f32 0#32) (part V ![0, 256] inb_S256x1024_S256x256_0_256))
    (k0_pay13 (k0_pay9 X Wq) (part K ![0, 512] inb_S256x1024_S256x256_0_512) (part V ![0, 512] inb_S256x1024_S256x256_0_512))
    (k0_pay14 (k0_pay9 X Wq) (part K ![0, 768] inb_S256x1024_S256x256_0_768))
    (part V ![0, 768] inb_S256x1024_S256x256_0_768) Wo (ix2 r d) = rowY X Wq Wo K V r d := by
  have h0 := fun d : Fin 256 => (pay10_apply X Wq (part K ![0, 0] inb_S256x1024_S256x256_0_0) (part V ![0, 0] inb_S256x1024_S256x256_0_0) r d).trans
    (headOut_part K V 0 ![0, 0] inb_S256x1024_S256x256_0_0 rfl (fun c => k0_pay9 (F := Ideal) X Wq (ix2 r c)) r d)
  have h1 := fun d : Fin 256 => (pay12_apply X Wq (part K ![0, 256] inb_S256x1024_S256x256_0_256) (part V ![0, 256] inb_S256x1024_S256x256_0_256) r d).trans
    (headOut_part K V 1 ![0, 256] inb_S256x1024_S256x256_0_256 rfl (fun c => k0_pay9 (F := Ideal) X Wq (ix2 r c)) r d)
  have h2 := fun d : Fin 256 => (pay13_apply (part K ![0, 512] inb_S256x1024_S256x256_0_512) (part V ![0, 512] inb_S256x1024_S256x256_0_512) (k0_pay9 X Wq) r d).trans
    (headOut_part K V 2 ![0, 512] inb_S256x1024_S256x256_0_512 rfl (fun c => k0_pay9 (F := Ideal) X Wq (ix2 r c)) r d)
  have h3 : ∀ d : Fin 256, ∑ s : Fin 256, k0_pay14 (F := Ideal) (k0_pay9 X Wq) (part K ![0, 768] inb_S256x1024_S256x256_0_768) (ix2 r s) * part V ![0, 768] inb_S256x1024_S256x256_0_768 (ix2 s d)
      = ctx (fun c => k0_pay9 (F := Ideal) X Wq (ix2 r c)) K V (col 3 d) := fun d => by
    refine Eq.trans ?_ (headOut_part K V 3 ![0, 768] inb_S256x1024_S256x256_0_768 rfl (fun c => k0_pay9 (F := Ideal) X Wq (ix2 r c)) r d)
    simp only [headOut, pay14_apply]
  revert h0 h1 h2 h3
  generalize k0_pay10 (F := Ideal) X Wq (part K ![0, 0] inb_S256x1024_S256x256_0_0) (part V ![0, 0] inb_S256x1024_S256x256_0_0) = v30
  generalize k0_pay12 (F := Ideal) (k0_pay11 X Wq) (part K ![0, 256] inb_S256x1024_S256x256_0_256) (constant S1024x256 FTy.f32 0#32) (part V ![0, 256] inb_S256x1024_S256x256_0_256) = v45
  generalize k0_pay13 (F := Ideal) (k0_pay9 X Wq) (part K ![0, 512] inb_S256x1024_S256x256_0_512) (part V ![0, 512] inb_S256x1024_S256x256_0_512) = v60
  generalize k0_pay14 (F := Ideal) (k0_pay9 X Wq) (part K ![0, 768] inb_S256x1024_S256x256_0_768) = v73
  generalize part V ![0, 768] inb_S256x1024_S256x256_0_768 = v74
  intro h0 h1 h2 h3
  unfold rowY
  generalize ctx (fun c => k0_pay9 (F := Ideal) X Wq (ix2 r c)) K V = C at *
  pointwise [preY, k0_pay8]
  congr 1
  refine Finset.sum_congr rfl fun x _ => ?_
  congr 1
  simp only [h0, h1, h2, h3]
  have hx := x.isLt
  split_ifs <;> congr 1 <;> apply Fin.ext <;> simp only [col] <;> simp <;> omega

/-- The rows that the kernel stores, at an entry: the normalised row times the gain plus the bias. -/
theorem attnY_apply (r d : Fin 1024) :
    attnY X Wq Wo K V g b (ix2 r d) = lnRow (fun d => rowY X Wq Wo K V r d) d * g (ix2 0 d) + b (ix2 0 d) := by
  unfold attnY
  rw [pay15_eq, lnB_apply]
  simp only [preY_apply]

/-- The affinities that the kernel stores, at an entry: the softmax over the experts of the three products of the split router. -/
theorem pay2_apply (wh wl : FVec Ideal S16x1024 .bf16) (x2 x2l : FVec Ideal S1024x1024 .bf16) (z : Fin 1) (e : Fin 16) (r : Fin 1024) :
    k0_pay2 (F := Ideal) wh wl x2 x2l (ix3 z e r) =
      soft (fun e : Fin 16 => ∑ x, wh (ix2 e x) * x2 (ix2 r x) + (∑ x, wh (ix2 e x) * x2l (ix2 r x) + ∑ x, wl (ix2 e x) * x2 (ix2 r x))) e := by
  simp only [soft, top]
  pointwise [k0_pay2]

end Cert.KernelIdeal.Value
-- ==== Proof.AttnBlocks.lean ====
module

public import proofs.«01_k».proof.Proof.Gen.KernelIdeal.Value
public import proofs.«01_k».proof.Proof.Gen.ReferenceIdeal.Run
public import Idealize.ShloMosaic.Lib.Pipeline.ValueKit
public import Idealize.ShloMosaic.Lib.Pipeline.ReadBack
public import Idealize.ShloMosaic.Lib.Pointwise
public import proofs.«01_k».proof.Proof.AttnRow
public import Idealize.ShloMosaic.Lib.Pipeline.ValueKit.Held

@[expose] public section

set_option maxRecDepth 16384

noncomputable section

open Idealize.ShloMosaic Idealize.ShloMosaic.TcCoe Idealize.SL.Sem
open Idealize.ShloMosaic.Pipeline (Dat)
open scoped BigOperators

namespace Cert.KernelIdeal.Value

open Cert.KernelIdeal Cert.KernelIdeal.Gen

open Cert.Attn

variable (m : (ℓ : Loc nD τ sig) → Buf (Elt Ideal) ℓ)

/-- The keys a point writes when it is the first of its batch. -/
def keysOf (c : Dev nD) (t : Fin cfg0.N) : Vec Ideal S256x1024 .bf16 := k0_pay6 (iblk m c 1 t) (iblk m c 2 t)

/-- The values a point writes when it is the first of its batch. -/
def valsOf (c : Dev nD) (t : Fin cfg0.N) : Vec Ideal S256x1024 .bf16 := k0_pay7 (iblk m c 1 t) (iblk m c 3 t)

/-- At a sequence's first block the key buffer is left holding that sequence's keys. -/
theorem keysA (c : Dev nD) (t : Fin cfg0.N) (h0 : t.val % 8 = 0) : (outsAt0 m c t.val t.isLt).2.2.2.1 = keysOf m c t := by
  funext j
  rw [outsAt0_A m c t h0]
  frame_out
  rfl

/-- At a sequence's first block the value buffer is left holding that sequence's values. -/
theorem valsA (c : Dev nD) (t : Fin cfg0.N) (h0 : t.val % 8 = 0) : (outsAt0 m c t.val t.isLt).2.2.2.2 = valsOf m c t := by
  funext j
  rw [outsAt0_A m c t h0]
  frame_out
  rfl

/-- At a later block of a sequence the key buffer is left as it was. -/
theorem keysB (c : Dev nD) (t : Fin cfg0.N) (h0 : ¬t.val % 8 = 0) :
    (outsAt0 m c t.val t.isLt).2.2.2.1 = (outsAt0 m c (t.val - 1) (by omega)).2.2.2.1 := by
  funext j
  rw [outsAt0_B m c t h0]
  frame_out
  rfl

/-- At a later block of a sequence the value buffer is left as it was. -/
theorem valsB (c : Dev nD) (t : Fin cfg0.N) (h0 : ¬t.val % 8 = 0) :
    (outsAt0 m c t.val t.isLt).2.2.2.2 = (outsAt0 m c (t.val - 1) (by omega)).2.2.2.2 := by
  funext j
  rw [outsAt0_B m c t h0]
  frame_out
  rfl

/-- At every block the key buffer holds the keys made at the first block of the sequence. -/
theorem keys_at (c : Dev nD) (t : Fin cfg0.N) :
    (outsAt0 m c t.val t.isLt).2.2.2.1 = keysOf m c ⟨8 * (t.val / 8), Pipeline.run_start_lt t⟩ :=
  Pipeline.eq_of_write_hold (fun n hn => (outsAt0 m c n hn).2.2.2.1) 8 (keysOf m c) (fun t h => keysA m c t h) (fun t h => keysB m c t h) t

/-- At every block the value buffer holds the values made at the first block of the sequence. -/
theorem vals_at (c : Dev nD) (t : Fin cfg0.N) :
    (outsAt0 m c t.val t.isLt).2.2.2.2 = valsOf m c ⟨8 * (t.val / 8), Pipeline.run_start_lt t⟩ :=
  Pipeline.eq_of_write_hold (fun n hn => (outsAt0 m c n hn).2.2.2.2) 8 (valsOf m c) (fun t h => valsA m c t h) (fun t h => valsB m c t h) t

/-- The block of the layer-normalised rows at a point. -/
def blockY (c : Dev nD) (t : Fin cfg0.N) : FVec Ideal S1024x1024 .f32 :=
  attnY (iblk m c 0 t) (iblk m c 4 t) (iblk m c 5 t) (outsAt0 m c t.val t.isLt).2.2.2.1 (outsAt0 m c t.val t.isLt).2.2.2.2
    (iblk m c 6 t) (iblk m c 7 t)

/-- At a sequence's first block the first result's block is the block's normalised rows. -/
theorem out10A (c : Dev nD) (t : Fin cfg0.N) (h0 : t.val % 8 = 0) (j : S1x1024x1024.Idx) :
    (outsAt0 m c t.val t.isLt).1 j = shapeCast S1x1024x1024 (blockY m c t) shapeCasts_S1024x1024_S1x1024x1024 j := by
  unfold blockY
  rw [keysA m c t h0, valsA m c t h0, outsAt0_A m c t h0]
  frame_out
  simp (disch := decide) only [View.readCov_skip, View.readCov_fill, read_unread_whole]
  rfl

/-- At a later block the first result's block is the block's normalised rows. -/
theorem out10B (c : Dev nD) (t : Fin cfg0.N) (h0 : ¬t.val % 8 = 0) (j : S1x1024x1024.Idx) :
    (outsAt0 m c t.val t.isLt).1 j = shapeCast S1x1024x1024 (blockY m c t) shapeCasts_S1024x1024_S1x1024x1024 j := by
  unfold blockY
  rw [keysB m c t h0, valsB m c t h0, outsAt0_B m c t h0]
  frame_out
  simp (disch := decide) only [View.readCov_skip, View.readCov_fill, read_unread_whole]
  rfl

/-- At a sequence's first block the second result's block is those rows, cast. -/
theorem out11A (c : Dev nD) (t : Fin cfg0.N) (h0 : t.val % 8 = 0) (j : S1x1024x1024.Idx) :
    (outsAt0 m c t.val t.isLt).2.1 j = shapeCast S1x1024x1024 (truncf .bf16 (blockY m c t) bitsLt_bf16_f32) shapeCasts_S1024x1024_S1x1024x1024 j := by
  unfold blockY
  rw [keysA m c t h0, valsA m c t h0, outsAt0_A m c t h0]
  frame_out
  simp (disch := decide) only [View.readCov_skip, View.readCov_fill, read_unread_whole]
  rfl

/-- At a later block the second result's block is those rows, cast. -/
theorem out11B (c : Dev nD) (t : Fin cfg0.N) (h0 : ¬t.val % 8 = 0) (j : S1x1024x1024.Idx) :
    (outsAt0 m c t.val t.isLt).2.1 j = shapeCast S1x1024x1024 (truncf .bf16 (blockY m c t) bitsLt_bf16_f32) shapeCasts_S1024x1024_S1x1024x1024 j := by
  unfold blockY
  rw [keysB m c t h0, valsB m c t h0, outsAt0_B m c t h0]
  frame_out
  simp (disch := decide) only [View.readCov_skip, View.readCov_fill, read_unread_whole]
  rfl

/-- The residue the rounding to the narrow format leaves of a block. -/
def residue (y : FVec Ideal S1024x1024 .f32) : FVec Ideal S1024x1024 .bf16 :=
  truncf .bf16 (subf y (extf .f32 (truncf .bf16 y bitsLt_bf16_f32) bitsLt_bf16_f32)) bitsLt_bf16_f32

/-- At a sequence's first block the third result's block is the affinities of those rows. -/
theorem out12A (c : Dev nD) (t : Fin cfg0.N) (h0 : t.val % 8 = 0) (j : S1x16x1024.Idx) :
    (outsAt0 m c t.val t.isLt).2.2.1 j = k0_pay2 (k0_pay3 (iblk m c 8 t)) (k0_pay4 (iblk m c 9 t)) (truncf .bf16 (blockY m c t) bitsLt_bf16_f32) (residue (blockY m c t)) j := by
  unfold blockY
  rw [keysA m c t h0, valsA m c t h0, outsAt0_A m c t h0]
  frame_out
  simp (disch := decide) only [View.readCov_skip, View.readCov_fill, read_unread_whole]
  rfl

/-- At a later block the third result's block is the affinities of those rows. -/
theorem out12B (c : Dev nD) (t : Fin cfg0.N) (h0 : ¬t.val % 8 = 0) (j : S1x16x1024.Idx) :
    (outsAt0 m c t.val t.isLt).2.2.1 j = k0_pay2 (k0_pay3 (iblk m c 8 t)) (k0_pay4 (iblk m c 9 t)) (truncf .bf16 (blockY m c t) bitsLt_bf16_f32) (residue (blockY m c t)) j := by
  unfold blockY
  rw [keysB m c t h0, valsB m c t h0, outsAt0_B m c t h0]
  frame_out
  simp (disch := decide) only [View.readCov_skip, View.readCov_fill, read_unread_whole]
  rfl

end Cert.KernelIdeal.Value
-- ==== Proof.AttnRef.lean ====
module

public import proofs.«01_k».proof.Proof.Gen.ReferenceIdeal.Run
public import Idealize.ShloMosaic.Lib.Pipeline.ValueKit
public import Idealize.ShloMosaic.Lib.Pipeline.ReadBack
public import Idealize.ShloMosaic.Lib.Pointwise
public import proofs.«01_k».proof.Proof.AttnFn

@[expose] public section

set_option maxRecDepth 16384

noncomputable section

open Idealize.ShloMosaic Idealize.ShloMosaic.TcCoe Idealize.SL.Sem
open Idealize.ShloMosaic.Pipeline (Dat)
open scoped BigOperators

namespace Cert.ReferenceIdeal.Value

open Cert.ReferenceIdeal Cert.ReferenceIdeal.Gen Cert.Attn

/-- The maximum over the last of four axes, at an index: the greatest of the entries along that axis. -/
theorem hostMax_r4 {n0 n1 n2 n3 : ℕ} {u : Shape} (S : FVec Ideal (⟨4, ![n0, n1, n2, n3]⟩ : Shape) .f32) (init : FVec Ideal u .f32)
    (h : (⟨4, ![n0, n1, n2, n3]⟩ : Shape).ReducesTo [3] ⟨3, ![n0, n1, n2]⟩) (hu : 0 < u.numel) (a : Fin n0) (b : Fin n1) (c : Fin n2) :
    Host.reduce (FloatOps.maximumf (F := Ideal) (φ := .f32)) S init h hu (ix3 a b c)
      = Finset.univ.fold max (init (Shape.Idx.first hu)) fun k : Fin n3 => S (ix4 a b c k) := by
  rw [Host.reduce_eq_fold]
  exact h.fold_fiber_r4_a3 (ix3 a b c) _ _ S

/-- The maximum over the last of three axes, at an index: the greatest of the entries along that axis. -/
theorem hostMax_r3 {n0 n1 n2 : ℕ} {u : Shape} (S : FVec Ideal (⟨3, ![n0, n1, n2]⟩ : Shape) .f32) (init : FVec Ideal u .f32)
    (h : (⟨3, ![n0, n1, n2]⟩ : Shape).ReducesTo [2] ⟨2, ![n0, n1]⟩) (hu : 0 < u.numel) (a : Fin n0) (b : Fin n1) :
    Host.reduce (FloatOps.maximumf (F := Ideal) (φ := .f32)) S init h hu (ix2 a b)
      = Finset.univ.fold max (init (Shape.Idx.first hu)) fun k : Fin n2 => S (ix3 a b k) := by
  rw [Host.reduce_eq_fold]
  exact h.fold_fiber_r3_a2 (ix2 a b) _ _ S

/-- The exponentials of an array less the row's bound `R`, at an index. -/
theorem expR (S : FVec Ideal S4x4x8192x256 .f32) (R : FVec Ideal S4x4x8192 .f32) (b h : Fin 4) (r : Fin 8192) (s : Fin 256) :
    (Host.exp (subf S (broadcastInDim S4x4x8192x256 ![0, 1, 2, 3] bcast_S4x4x8192x1_S4x4x8192x256_0_1_2_3 (broadcastInDim S4x4x8192x1 ![0, 1, 2] bcast_S4x4x8192_S4x4x8192x1_0_1_2 (maximumf (broadcastInDim S4x4x8192 ![] bcast_S_S4x4x8192 (constant S_ .f32 0xFF800000#32)) R)))) : FVec Ideal S4x4x8192x256 .f32) (ix4 b h r s)
      = Ideal.exp (S (ix4 b h r s) - max (Ideal.ofBits .f32 4286578688#32) (R (ix3 b h r))) := by
  pointwise

/-- The exponentials of the logits less the row's bound `R`, at an index. -/
theorem expR' (S : FVec Ideal S4x8192x16 .f32) (R : FVec Ideal S4x8192 .f32) (b : Fin 4) (r : Fin 8192) (s : Fin 16) :
    (Host.exp (subf S (broadcastInDim S4x8192x16 ![0, 1, 2] bcast_S4x8192x1_S4x8192x16_0_1_2 (broadcastInDim S4x8192x1 ![0, 1] bcast_S4x8192_S4x8192x1_0_1 (maximumf (broadcastInDim S4x8192 ![] bcast_S_S4x8192 (constant S_ .f32 0xFF800000#32)) R)))) : FVec Ideal S4x8192x16 .f32) (ix3 b r s)
      = Ideal.exp (S (ix3 b r s) - max (Ideal.ofBits .f32 4286578688#32) (R (ix2 b r))) := by
  pointwise

/-- The scores' greatest entries, as the reference composes them. -/
def rM (S : FVec Ideal S4x4x8192x256 .f32) : FVec Ideal S4x4x8192 .f32 :=
  Host.reduce FloatOps.maximumf S (constant S_ .f32 0xFF800000#32) reducesTo_S4x4x8192x256_S4x4x8192_d3 h_S_

/-- The logits' greatest entries, as the reference composes them. -/
def rM' (S : FVec Ideal S4x8192x16 .f32) : FVec Ideal S4x8192 .f32 :=
  Host.reduce FloatOps.maximumf S (constant S_ .f32 0xFF800000#32) reducesTo_S4x8192x16_S4x8192_d2 h_S_

/-- The scores' greatest entries at an index. -/
theorem rM_apply (S : FVec Ideal S4x4x8192x256 .f32) (b h : Fin 4) (r : Fin 8192) : rM S (ix3 b h r) = top fun s => S (ix4 b h r s) :=
  hostMax_r4 S _ _ _ b h r

/-- The logits' greatest entries at an index. -/
theorem rM'_apply (S : FVec Ideal S4x8192x16 .f32) (b : Fin 4) (r : Fin 8192) : rM' S (ix2 b r) = top fun s => S (ix3 b r s) :=
  hostMax_r3 S _ _ _ b r

variable (x : FVec Ideal S4x8192x1024 .f32) (mem : FVec Ideal S4x256x1024 .f32) (wq wk wv wo : FVec Ideal S1024x1024 .f32)
  (g be : FVec Ideal S1024 .f32) (wr : FVec Ideal S1024x16 .f32)

/-- The scaled scores, as the reference composes them. -/
def rS : FVec Ideal S4x4x8192x256 .f32 :=
  mulf (Host.dotGeneral dot_S4x8192x4x256_S4x256x4x256_S4x4x8192x256_3_3_1_1_02_02 none (shapeCast _ (Host.dotGeneral dot_S4x8192x1024_S1024x1024_S4x8192x1024_2_0_01_1_n_n none x wq) shapeCasts_S4x8192x1024_S4x8192x4x256) (shapeCast _ (Host.dotGeneral dot_S4x256x1024_S1024x1024_S4x256x1024_2_0_01_1_n_n none mem wk) shapeCasts_S4x256x1024_S4x256x4x256)) (broadcastInDim S4x4x8192x256 ![] bcast_S_S4x4x8192x256 (constant S_ .f32 0x3D800000#32))

/-- The scores' exponentials, as the reference composes them. -/
def rE (S : FVec Ideal S4x4x8192x256 .f32) : FVec Ideal S4x4x8192x256 .f32 :=
  Host.exp (subf S (broadcastInDim S4x4x8192x256 ![0, 1, 2, 3] bcast_S4x4x8192x1_S4x4x8192x256_0_1_2_3 (broadcastInDim S4x4x8192x1 ![0, 1, 2] bcast_S4x4x8192_S4x4x8192x1_0_1_2 (maximumf (broadcastInDim S4x4x8192 ![] bcast_S_S4x4x8192 (constant S_ .f32 0xFF800000#32)) (rM S)))))

/-- The rows before their normalisation, as the reference composes them. -/
def rY (E : FVec Ideal S4x4x8192x256 .f32) : FVec Ideal S4x8192x1024 .f32 :=
  addf (mulf (broadcastInDim S4x8192x1024 ![] bcast_S_S4x8192x1024 (constant S_ .f32 0x3F9837F0#32)) x) (Host.dotGeneral dot_S4x8192x1024_S1024x1024_S4x8192x1024_2_0_01_1_n_n none (shapeCast _ (transpose S4x8192x4x256 [0, 3, 1, 2] (Host.dotGeneral (φ₁ := .f32) (φ₂ := .f32) dot_S4x256x4x256_S4x4x8192x256_S4x4x256x8192_1_3_3_2_02_01 none (shapeCast _ (Host.dotGeneral dot_S4x256x1024_S1024x1024_S4x256x1024_2_0_01_1_n_n none mem wv) shapeCasts_S4x256x1024_S4x256x4x256) (Host.divf E (broadcastInDim S4x4x8192x256 ![0, 1, 2, 3] bcast_S4x4x8192x1_S4x4x8192x256_0_1_2_3 (broadcastInDim S4x4x8192x1 ![0, 1, 2] bcast_S4x4x8192_S4x4x8192x1_0_1_2 (Host.reduceAdd E (constant S_ .f32 0x00000000#32) reducesTo_S4x4x8192x256_S4x4x8192_d3 h_S_))))) transposes_S4x4x256x8192_S4x8192x4x256_0_3_1_2) shapeCasts_S4x8192x4x256_S4x8192x1024) wo)

/-- The scores' exponentials at an index. -/
theorem rE_apply (S : FVec Ideal S4x4x8192x256 .f32) (b h : Fin 4) (r : Fin 8192) (s : Fin 256) :
    rE S (ix4 b h r s) = Ideal.exp (S (ix4 b h r s) - top fun s => S (ix4 b h r s)) := by
  refine (expR S (rM S) b h r s).trans ?_
  rw [rM_apply, max_top]

/-- The scaled scores at an index. -/
theorem rS_apply (b h : Fin 4) (r : Fin 8192) (s : Fin 256) :
    rS x mem wq wk (ix4 b h r s) =
      (∑ i : Fin 256, (∑ c : Fin 1024, x (ix3 b r c) * wq (ix2 c (col h i))) * ∑ c : Fin 1024, mem (ix3 b s c) * wk (ix2 c (col h i)))
        * Ideal.ofBits FTy.f32 1031798784#32 := by
  simp only [col]
  pointwise [rS]

/-- The rows before their normalisation, at an index. -/
theorem rY_apply (S : FVec Ideal S4x4x8192x256 .f32) (b : Fin 4) (r : Fin 8192) (d : Fin 1024) :
    rY x mem wv wo (rE S) (ix3 b r d) =
      Ideal.ofBits FTy.f32 1066940400#32 * x (ix3 b r d) +
      ∑ i : Fin 1024, (∑ s : Fin 256, (∑ c : Fin 1024, mem (ix3 b s c) * wv (ix2 c i)) *
        soft (fun s => S (ix4 b (hd i) r s)) s) * wo (ix2 i d) := by
  have hE : ∀ (b h : Fin 4) (r : Fin 8192) (s : Fin 256), rE S (ix4 b h r s) = _ := fun b h r s => rE_apply S b h r s
  generalize rE S = E at *
  simp only [soft, ← hE, hd]
  pointwise [rY]

/-- The normalised rows, as the reference composes them. -/
def rN (Y : FVec Ideal S4x8192x1024 .f32) : FVec Ideal S4x8192x1024 .f32 :=
  have mu : FVec Ideal S4x8192x1 .f32 := Host.divf (broadcastInDim S4x8192x1 ![0, 1] bcast_S4x8192_S4x8192x1_0_1 (Host.reduceAdd Y (constant S_ .f32 0x00000000#32) reducesTo_S4x8192x1024_S4x8192_d2 h_S_)) (broadcastInDim S4x8192x1 ![] bcast_S_S4x8192x1 (constant S_ .f32 0x44800000#32))
  have e : FVec Ideal S4x8192x1024 .f32 := subf Y (broadcastInDim S4x8192x1024 ![0, 1, 2] bcast_S4x8192x1_S4x8192x1024_0_1_2 mu)
  addf (mulf (mulf e (broadcastInDim S4x8192x1024 ![0, 1, 2] bcast_S4x8192x1_S4x8192x1024_0_1_2 (Host.rsqrt (addf (Host.divf (broadcastInDim S4x8192x1 ![0, 1] bcast_S4x8192_S4x8192x1_0_1 (Host.reduceAdd (mulf e e) (constant S_ .f32 0x00000000#32) reducesTo_S4x8192x1024_S4x8192_d2 h_S_)) (broadcastInDim S4x8192x1 ![] bcast_S_S4x8192x1 (constant S_ .f32 0x44800000#32))) (broadcastInDim S4x8192x1 ![] bcast_S_S4x8192x1 (constant S_ .f32 0x3727C5AC#32)))))) (broadcastInDim S4x8192x1024 ![0, 1, 2] bcast_S1x1x1024_S4x8192x1024_0_1_2 (broadcastInDim S1x1x1024 ![2] bcast_S1024_S1x1x1024_2 g))) (broadcastInDim S4x8192x1024 ![0, 1, 2] bcast_S1x1x1024_S4x8192x1024_0_1_2 (broadcastInDim S1x1x1024 ![2] bcast_S1024_S1x1x1024_2 be))

/-- The normalised rows at an index. -/
theorem rN_apply (Y : FVec Ideal S4x8192x1024 .f32) (b : Fin 4) (r : Fin 8192) (d : Fin 1024) :
    rN g be Y (ix3 b r d) = lnRow (fun d => Y (ix3 b r d)) d * g (ix1 d) + be (ix1 d) := by
  simp only [lnRow, mean]
  pointwise [rN]

/-- The router's logits, as the reference composes them. -/
def rL (N : FVec Ideal S4x8192x1024 .f32) : FVec Ideal S4x8192x16 .f32 :=
  Host.dotGeneral dot_S4x8192x1024_S1024x16_S4x8192x16_2_0_01_1_n_n none N wr

/-- The router's logits at an index. -/
theorem rL_apply (N : FVec Ideal S4x8192x1024 .f32) (b : Fin 4) (r : Fin 8192) (e : Fin 16) :
    rL wr N (ix3 b r e) = ∑ i : Fin 1024, N (ix3 b r i) * wr (ix2 i e) := by
  pointwise [rL]

/-- The logits' exponentials, as the reference composes them. -/
def rE' (L : FVec Ideal S4x8192x16 .f32) : FVec Ideal S4x8192x16 .f32 :=
  Host.exp (subf L (broadcastInDim S4x8192x16 ![0, 1, 2] bcast_S4x8192x1_S4x8192x16_0_1_2 (broadcastInDim S4x8192x1 ![0, 1] bcast_S4x8192_S4x8192x1_0_1 (maximumf (broadcastInDim S4x8192 ![] bcast_S_S4x8192 (constant S_ .f32 0xFF800000#32)) (rM' L)))))

/-- The logits' exponentials at an index. -/
theorem rE'_apply (L : FVec Ideal S4x8192x16 .f32) (b : Fin 4) (r : Fin 8192) (e : Fin 16) :
    rE' L (ix3 b r e) = Ideal.exp (L (ix3 b r e) - top fun e => L (ix3 b r e)) := by
  refine (expR' L (rM' L) b r e).trans ?_
  rw [rM'_apply, max_top]

/-- The affinities, as the reference composes them. -/
def rA (E : FVec Ideal S4x8192x16 .f32) : FVec Ideal S4x16x8192 .f32 :=
  transpose S4x16x8192 [0, 2, 1] (Host.divf E (broadcastInDim S4x8192x16 ![0, 1, 2] bcast_S4x8192x1_S4x8192x16_0_1_2 (broadcastInDim S4x8192x1 ![0, 1] bcast_S4x8192_S4x8192x1_0_1 (Host.reduceAdd E (constant S_ .f32 0x00000000#32) reducesTo_S4x8192x16_S4x8192_d2 h_S_)))) transposes_S4x8192x16_S4x16x8192_0_2_1

/-- The affinities at an index. -/
theorem rA_apply (L : FVec Ideal S4x8192x16 .f32) (b : Fin 4) (e : Fin 16) (r : Fin 8192) :
    rA (rE' L) (ix3 b e r) = soft (fun e => L (ix3 b r e)) e := by
  have hE : ∀ (b : Fin 4) (r : Fin 8192) (s : Fin 16), rE' L (ix3 b r s) = _ := fun b r s => rE'_apply L b r s
  generalize rE' L = E at *
  simp only [soft, ← hE]
  pointwise [rA]

/-- The first result of the arguments, as the reference composes it. -/
def rOut : FVec Ideal S4x8192x1024 .f32 := rN g be (rY x mem wv wo (rE (rS x mem wq wk)))

/-- The reference run's first result is the composition above of the arguments. -/
theorem v50_eq (V0 : Valuation τ sig (Elt Ideal)) :
    res_main_v50 V0 = rOut (V0 (Proc.devRef .tc main_arg0)) (V0 (Proc.devRef .tc main_arg1)) (V0 (Proc.devRef .tc main_arg2))
      (V0 (Proc.devRef .tc main_arg3)) (V0 (Proc.devRef .tc main_arg4)) (V0 (Proc.devRef .tc main_arg5)) (V0 (Proc.devRef .tc main_arg6))
      (V0 (Proc.devRef .tc main_arg7)) := rfl

/-- The reference run's logits' exponentials are the composition above of the arguments. -/
theorem v58_eq (V0 : Valuation τ sig (Elt Ideal)) :
    res_main_v58 V0 = rE' (rL (V0 (Proc.devRef .tc main_arg8)) (res_main_v50 V0)) := rfl

end Cert.ReferenceIdeal.Value
-- ==== Proof.AttnFinite.lean ====
module

public import proofs.«01_k».proof.Proof.AttnFn

@[expose] public section

noncomputable section

open Idealize.ShloMosaic
open scoped BigOperators

namespace Cert.Attn

/-- A number that is neither infinity. -/
def Fine (a : EReal) : Prop := ∃ r : ℝ, a = (r : EReal)

/-- A number between the infinities is fine. -/
theorem Fine.of_ne {a : EReal} (h : a ≠ ⊥) (h' : a ≠ ⊤) : Fine a := ⟨a.toReal, (EReal.coe_toReal h' h).symm⟩

/-- A number whose absolute value is below infinity is fine. -/
theorem Fine.of_abs {a : EReal} (h : max a (-a) < ⊤) : Fine a := by
  refine Fine.of_ne ?_ ?_
  · rintro rfl; simp at h
  · rintro rfl; simp at h

/-- The sum of two fine numbers is fine. -/
theorem Fine.add {a b : EReal} (ha : Fine a) (hb : Fine b) : Fine (a + b) := by
  obtain ⟨x, rfl⟩ := ha; obtain ⟨y, rfl⟩ := hb
  exact ⟨x + y, (EReal.coe_add x y).symm⟩

/-- The difference of two fine numbers is fine. -/
theorem Fine.sub {a b : EReal} (ha : Fine a) (hb : Fine b) : Fine (a - b) := by
  obtain ⟨x, rfl⟩ := ha; obtain ⟨y, rfl⟩ := hb
  exact ⟨x - y, (EReal.coe_sub x y).symm⟩

/-- The product of two fine numbers is fine. -/
theorem Fine.mul {a b : EReal} (ha : Fine a) (hb : Fine b) : Fine (a * b) := by
  obtain ⟨x, rfl⟩ := ha; obtain ⟨y, rfl⟩ := hb
  exact ⟨x * y, (EReal.coe_mul x y).symm⟩

/-- A fine number less itself is zero. -/
theorem Fine.sub_self {a : EReal} (ha : Fine a) : a - a = 0 := by
  obtain ⟨x, rfl⟩ := ha
  rw [← EReal.coe_sub]; simp

/-- A sum of reals, taken among the extended numbers. -/
theorem coe_sum' {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A finite sum of fine numbers is fine. -/
theorem Fine.sum {ι : Type} [Fintype ι] {f : ι → EReal} (h : ∀ i, Fine (f i)) : Fine (∑ i, f i) := by
  choose g hg using h
  exact ⟨∑ i, g i, by simp only [hg]; exact (coe_sum' _ g).symm⟩

/-- The greatest entry of a nonempty row of fine numbers is fine. -/
theorem Fine.top {n : ℕ} (hn : 0 < n) {f : Fin n → EReal} (h : ∀ i, Fine (f i)) : Fine (top f) := by
  have hb : Ideal.ofBits .f32 4286578688#32 = ⊥ := by simp [Ideal.ofBits, Ideal.ieee]
  unfold Attn.top
  rw [hb]
  refine Fine.of_ne ?_ ?_
  · obtain ⟨x, hx⟩ := h ⟨0, hn⟩
    have h1 : f ⟨0, hn⟩ ≤ Finset.univ.fold max ⊥ f := (Finset.le_fold_max _).2 (Or.inr ⟨_, Finset.mem_univ _, le_rfl⟩)
    intro h2
    rw [h2, hx] at h1
    exact absurd (le_bot_iff.1 h1) (EReal.coe_ne_bot x)
  · refine ne_of_lt ((Finset.fold_max_lt _).2 ⟨bot_lt_top, fun i _ => ?_⟩)
    obtain ⟨x, hx⟩ := h i
    rw [hx]; exact EReal.coe_lt_top x

/-- The exponential of a fine number is a positive real. -/
theorem exp_fine {a : EReal} (h : Fine a) : ∃ r : ℝ, 0 < r ∧ Ideal.exp a = (r : EReal) := by
  obtain ⟨x, rfl⟩ := h
  exact ⟨Real.exp x, Real.exp_pos x, by simp⟩

/-- A fine number divided by a real other than zero is fine. -/
theorem Fine.div {a : EReal} (h : Fine a) {y : ℝ} (hy : y ≠ 0) : Fine (Ideal.div a (y : EReal)) := by
  obtain ⟨x, rfl⟩ := h
  refine ⟨x * y⁻¹, ?_⟩
  have : (y : EReal) ≠ 0 := by simpa using hy
  unfold Ideal.div
  rw [if_neg this, ← EReal.coe_inv, ← EReal.coe_mul]

/-- The soft maximum of a nonempty row of fine numbers is fine. -/
theorem Fine.soft {n : ℕ} (hn : 0 < n) {f : Fin n → EReal} (h : ∀ i, Fine (f i)) (s : Fin n) : Fine (soft f s) := by
  have ht := Fine.top hn h
  choose g hg0 hg using fun i => exp_fine ((h i).sub ht)
  unfold Attn.soft
  have hs : (∑ i, Ideal.exp (f i - Attn.top f)) = ((∑ i, g i : ℝ) : EReal) := by
    simp only [hg]; exact (coe_sum' _ g).symm
  rw [hs]
  refine Fine.div ⟨g s, hg s⟩ (ne_of_gt ?_)
  exact Finset.sum_pos (fun i _ => hg0 i) ⟨s, Finset.mem_univ s⟩

/-- The word of the number 1024. -/
theorem c1024 : Ideal.ofBits .f32 1149239296#32 = ((1024 : ℝ) : EReal) := by
  simp [Ideal.ofBits, Ideal.ieee]
  rw [← EReal.coe_mul]
  norm_num

/-- The word of the small constant stands for a positive real. -/
theorem ceps : ∃ e : ℝ, 0 < e ∧ Ideal.ofBits .f32 925353388#32 = (e : EReal) := by
  refine ⟨_, ?_, by simp [Ideal.ofBits, Ideal.ieee]; rfl⟩
  norm_num

/-- The word of the residual weight stands for a real. -/
theorem calpha : Fine (Ideal.ofBits .f32 1066940400#32) := by
  refine ⟨_, by simp [Ideal.ofBits, Ideal.ieee]; rfl⟩

/-- The word of the scores' scale stands for a real that is not negative. -/
theorem cscale : ∃ e : ℝ, 0 ≤ e ∧ Ideal.ofBits .f32 1031798784#32 = (e : EReal) := by
  refine ⟨_, ?_, by simp [Ideal.ofBits, Ideal.ieee]; rfl⟩
  norm_num

/-- A sum scaled by a real that is not negative is the sum of the scaled terms. -/
theorem sum_scale {ι : Type} [Fintype ι] (f : ι → EReal) {e : ℝ} (he : 0 ≤ e) : (∑ i, f i) * (e : EReal) = ∑ i, f i * (e : EReal) := by
  classical
  have h0 : (0 : EReal) ≤ (e : EReal) := by exact_mod_cast he
  refine Finset.induction_on (Finset.univ : Finset ι) (by simp) fun a s ha ih => ?_
  rw [Finset.sum_insert ha, Finset.sum_insert ha, EReal.right_distrib_of_nonneg_of_ne_top h0 (EReal.coe_ne_top e), ih]

/-- The normalisation of a row of fine numbers is fine. -/
theorem Fine.lnRow {y : Fin 1024 → EReal} (h : ∀ i, Fine (y i)) (d : Fin 1024) : Fine (lnRow y d) := by
  have hm : Fine (mean y) := by
    unfold mean
    rw [c1024]
    exact Fine.div (Fine.sum h) (by norm_num)
  unfold Attn.lnRow
  refine ((h d).sub hm).mul ?_
  choose g hg using fun i => (h i).sub hm
  obtain ⟨e, he, hee⟩ := ceps
  have hs : (∑ x, (y x - mean y) * (y x - mean y)) = ((∑ x, g x * g x : ℝ) : EReal) := by
    rw [coe_sum']; simp only [hg, EReal.coe_mul]
  have hp : (0 : ℝ) < (∑ x, g x * g x) * (1024 : ℝ)⁻¹ + e :=
    add_pos_of_nonneg_of_pos (mul_nonneg (Finset.sum_nonneg fun x _ => mul_self_nonneg _) (by norm_num)) he
  have h4 : ((1024 : ℝ) : EReal) ≠ 0 := by simp
  rw [hs, hee, c1024]
  unfold Ideal.div
  rw [if_neg h4, ← EReal.coe_inv, ← EReal.coe_mul, ← EReal.coe_add]
  refine ⟨(Real.sqrt ((∑ x, g x * g x) * (1024 : ℝ)⁻¹ + e))⁻¹, ?_⟩
  rw [Ideal.rsqrt_coe, if_neg (not_lt.2 hp.le), if_neg hp.ne']

end Cert.Attn
-- ==== Proof.AttnValue.lean ====
module

public import proofs.«01_k».proof.Proof.Gen.KernelIdeal.Value
public import proofs.«01_k».proof.Proof.Gen.ReferenceIdeal.Run
public import Idealize.ShloMosaic.Lib.Pipeline.ValueKit
public import Idealize.ShloMosaic.Lib.Pipeline.ReadBack
public import Idealize.ShloMosaic.Lib.Pointwise
public import proofs.«01_k».proof.Proof.AttnBlocks
public import proofs.«01_k».proof.Proof.AttnRef
public import proofs.«01_k».proof.Proof.AttnFinite

@[expose] public section

set_option maxRecDepth 16384

noncomputable section

open Idealize.ShloMosaic Idealize.ShloMosaic.TcCoe Idealize.SL.Sem
open Idealize.ShloMosaic.Pipeline (Dat)
open scoped BigOperators

namespace Cert.KernelIdeal.Value

open Cert.KernelIdeal Cert.KernelIdeal.Gen

open Cert.Attn

variable (m : (ℓ : Loc nD τ sig) → Buf (Elt Ideal) ℓ)

/-- Every window's block index at every grid point. -/
theorem idxA : ∀ t : Fin cfg0.N, win0_0.index t = ![t.val / 8, t.val % 8, 0]
    ∧ win0_1.index t = ![t.val / 8, 0, 0]
    ∧ win0_2.index t = ![0, 0]
    ∧ win0_3.index t = ![0, 0]
    ∧ win0_4.index t = ![0, 0]
    ∧ win0_5.index t = ![0, 0]
    ∧ win0_6.index t = ![0, 0]
    ∧ win0_7.index t = ![0, 0]
    ∧ win0_8.index t = ![0, 0]
    ∧ win0_9.index t = ![0, 0]
    ∧ win0_10.index t = ![t.val / 8, t.val % 8, 0]
    ∧ win0_11.index t = ![t.val / 8, t.val % 8, 0]
    ∧ win0_12.index t = ![t.val / 8, 0, t.val % 8] :=
  (by decide +kernel : ∀ t : Fin grid0.N, _)

/-- The layer's input on a core. -/
abbrev x_ (c : Dev nD) : FVec Ideal S4x8192x1024 .f32 := m ((c : Thread nD τ).loc main_arg0)
/-- The memory rows on a core. -/
abbrev mem_ (c : Dev nD) : FVec Ideal S4x256x1024 .f32 := m ((c : Thread nD τ).loc main_arg1)
/-- The query weights on a core. -/
abbrev wq_ (c : Dev nD) : FVec Ideal S1024x1024 .f32 := m ((c : Thread nD τ).loc main_arg2)
/-- The key weights on a core. -/
abbrev wk_ (c : Dev nD) : FVec Ideal S1024x1024 .f32 := m ((c : Thread nD τ).loc main_arg3)
/-- The value weights on a core. -/
abbrev wv_ (c : Dev nD) : FVec Ideal S1024x1024 .f32 := m ((c : Thread nD τ).loc main_arg4)
/-- The output weights on a core. -/
abbrev wo_ (c : Dev nD) : FVec Ideal S1024x1024 .f32 := m ((c : Thread nD τ).loc main_arg5)
/-- The normalisation's gains on a core. -/
abbrev g_ (c : Dev nD) : FVec Ideal S1024 .f32 := m ((c : Thread nD τ).loc main_arg6)
/-- The normalisation's biases on a core. -/
abbrev b_ (c : Dev nD) : FVec Ideal S1024 .f32 := m ((c : Thread nD τ).loc main_arg7)
/-- The router's weights on a core. -/
abbrev wr_ (c : Dev nD) : FVec Ideal S1024x16 .f32 := m ((c : Thread nD τ).loc main_arg8)

/-- The batch a point works on. -/
def bat (t : Fin cfg0.N) : Fin 4 := ⟨t.val / 8, by have : t.val < 32 := t.isLt; omega⟩
/-- The row of the whole array that row `r` of a point's block is. -/
def row (t : Fin cfg0.N) (r : Fin 1024) : Fin 8192 := ⟨t.val % 8 * 1024 + r.val, by omega⟩

/-- A block of the activations, at an entry. -/
theorem ib0 (c : Dev nD) (t : Fin cfg0.N) (r d : Fin 1024) : (iblk m c 0 t : Vec Ideal S1x1024x1024 .f32) (ix3 0 r d) = x_ m c (ix3 (bat t) (row t r) d) := by
  blk_point [iblk, V, idxA t]
  all_goals rfl
/-- A block of the memory, at an entry. -/
theorem ib1 (c : Dev nD) (t : Fin cfg0.N) (s : Fin 256) (d : Fin 1024) : (iblk m c 1 t : Vec Ideal S1x256x1024 .f32) (ix3 0 s d) = mem_ m c (ix3 (bat t) s d) := by
  blk_point [iblk, V, idxA t]
  all_goals rfl
/-- The key weights as the kernel reads them. -/
theorem ib2 (c : Dev nD) (t : Fin cfg0.N) (s d : Fin 1024) : (iblk m c 2 t : Vec Ideal S1024x1024 .bf16) (ix2 s d) = wk_ m c (ix2 s d) := by
  blk_point [iblk, V, idxA t]
/-- The value weights as the kernel reads them. -/
theorem ib3 (c : Dev nD) (t : Fin cfg0.N) (s d : Fin 1024) : (iblk m c 3 t : Vec Ideal S1024x1024 .bf16) (ix2 s d) = wv_ m c (ix2 s d) := by
  blk_point [iblk, V, idxA t]
/-- The query weights as the kernel reads them. -/
theorem ib4 (c : Dev nD) (t : Fin cfg0.N) (s d : Fin 1024) : (iblk m c 4 t : Vec Ideal S1024x1024 .bf16) (ix2 s d) = wq_ m c (ix2 s d) := by
  blk_point [iblk, V, idxA t]
/-- The output weights as the kernel reads them. -/
theorem ib5 (c : Dev nD) (t : Fin cfg0.N) (s d : Fin 1024) : (iblk m c 5 t : Vec Ideal S1024x1024 .bf16) (ix2 s d) = wo_ m c (ix2 s d) := by
  blk_point [iblk, V, idxA t]
/-- The gain as the kernel reads it. -/
theorem ib6 (c : Dev nD) (t : Fin cfg0.N) (d : Fin 1024) : (iblk m c 6 t : Vec Ideal S1x1024 .f32) (ix2 0 d) = g_ m c (ix1 d) := by
  blk_point [iblk, V, idxA t]
/-- The bias as the kernel reads it. -/
theorem ib7 (c : Dev nD) (t : Fin cfg0.N) (d : Fin 1024) : (iblk m c 7 t : Vec Ideal S1x1024 .f32) (ix2 0 d) = b_ m c (ix1 d) := by
  blk_point [iblk, V, idxA t]
/-- The upper half of the split router as the kernel reads it: the router's weights, transposed. -/
theorem ib8 (c : Dev nD) (t : Fin cfg0.N) (e : Fin 16) (d : Fin 1024) : (iblk m c 8 t : Vec Ideal S16x1024 .bf16) (ix2 e d) = wr_ m c (ix2 d e) := by
  blk_point [iblk, V, idxA t]
/-- The lower half of the split router as the kernel reads it: a weight less itself. -/
theorem ib9 (c : Dev nD) (t : Fin cfg0.N) (e : Fin 16) (d : Fin 1024) : (iblk m c 9 t : Vec Ideal S16x1024 .bf16) (ix2 e d) = wr_ m c (ix2 d e) - wr_ m c (ix2 d e) := by
  have h : ((win0_9.blk t).view.emb (ix2 e d) : S16x1024.Idx) = ix2 e d := by blk_ext [idxA t]
  simp only [iblk, V]
  entry_read
  generalize hA : truncf (F := Ideal) FTy.bf16 (subf (F := Ideal) _ _) _ = A
  show A ((win0_9.blk t).view.emb (ix2 e d)) = _
  rw [h, ← hA]
  pointwise

/-- A key, at an entry: the product of the memory and the key weights. -/
theorem pay6_apply (M : Vec Ideal S1x256x1024 .f32) (w : Vec Ideal S1024x1024 .bf16) (s : Fin 256) (d : Fin 1024) :
    k0_pay6 (F := Ideal) M w (ix2 s d) = ∑ c : Fin 1024, M (ix3 0 s c) * w (ix2 c d) := by
  pointwise [k0_pay6, k0_pay5]
/-- A value, at an entry: the product of the memory and the value weights. -/
theorem pay7_apply (M : Vec Ideal S1x256x1024 .f32) (w : Vec Ideal S1024x1024 .bf16) (s : Fin 256) (d : Fin 1024) :
    k0_pay7 (F := Ideal) M w (ix2 s d) = ∑ c : Fin 1024, M (ix3 0 s c) * w (ix2 c d) := by
  pointwise [k0_pay7, k0_pay5]

/-- The first block of a sequence lies in the same sequence. -/
theorem bat_start (t : Fin cfg0.N) : bat ⟨8 * (t.val / 8), Pipeline.run_start_lt t⟩ = bat t := by
  apply Fin.ext; simp only [bat]; omega

/-- The keys a point reads: the memory of its batch times the key weights. -/
theorem keys_val (c : Dev nD) (t : Fin cfg0.N) (s : Fin 256) (d : Fin 1024) :
    (outsAt0 m c t.val t.isLt).2.2.2.1 (ix2 s d) = ∑ q : Fin 1024, mem_ m c (ix3 (bat t) s q) * wk_ m c (ix2 q d) := by
  rw [keys_at, keysOf, pay6_apply]
  simp only [ib1, ib2, bat_start]

/-- The values a point reads: the memory of its batch times the value weights. -/
theorem vals_val (c : Dev nD) (t : Fin cfg0.N) (s : Fin 256) (d : Fin 1024) :
    (outsAt0 m c t.val t.isLt).2.2.2.2 (ix2 s d) = ∑ q : Fin 1024, mem_ m c (ix3 (bat t) s q) * wv_ m c (ix2 q d) := by
  rw [vals_at, valsOf, pay7_apply]
  simp only [ib1, ib3, bat_start]

/-- The rows the reference normalises, of the arguments on a core. -/
def Y_ (c : Dev nD) : FVec Ideal S4x8192x1024 .f32 :=
  Cert.ReferenceIdeal.Value.rY (x_ m c) (mem_ m c) (wv_ m c) (wo_ m c) (Cert.ReferenceIdeal.Value.rE (Cert.ReferenceIdeal.Value.rS (x_ m c) (mem_ m c) (wq_ m c) (wk_ m c)))

/-- A row of a point's block before its normalisation is the reference's row. -/
theorem rowY_val (c : Dev nD) (t : Fin cfg0.N) (r d : Fin 1024) :
    rowY (iblk m c 0 t) (iblk m c 4 t) (iblk m c 5 t) (outsAt0 m c t.val t.isLt).2.2.2.1 (outsAt0 m c t.val t.isLt).2.2.2.2 r d
      = Y_ m c (ix3 (bat t) (row t r) d) := by
  unfold Y_
  rw [Cert.ReferenceIdeal.Value.rY_apply]
  unfold rowY
  rw [ib0]
  refine congrArg₂ (fun a b : EReal => a + b) rfl ?_
  refine Finset.sum_congr rfl fun i _ => ?_
  rw [ib5]
  refine congrArg₂ (fun a b : EReal => a * b) ?_ rfl
  unfold ctx
  refine Finset.sum_congr rfl fun s _ => ?_
  rw [mul_comm, vals_val]
  refine congrArg₂ (fun a b : EReal => a * b) rfl (congrFun (congrArg soft (funext fun s => ?_)) s)
  rw [Cert.ReferenceIdeal.Value.rS_apply]
  obtain ⟨e, he, hee⟩ := cscale
  rw [hee, sum_scale _ he]
  refine Finset.sum_congr rfl fun q _ => ?_
  beta_reduce
  rw [pay9_apply, hee, keys_val]
  simp only [ib0, ib4]
  rw [mul_right_comm]

/-- A point's block is the reference's rows. -/
theorem blockY_val (c : Dev nD) (t : Fin cfg0.N) (r d : Fin 1024) :
    blockY m c t (ix2 r d) = Cert.ReferenceIdeal.Value.rN (g_ m c) (b_ m c) (Y_ m c) (ix3 (bat t) (row t r) d) := by
  unfold blockY
  rw [attnY_apply, Cert.ReferenceIdeal.Value.rN_apply, ib6, ib7]
  simp only [rowY_val]

/-- At every block the first result's block is the block's normalised rows. -/
theorem out10 (c : Dev nD) (t : Fin cfg0.N) (j : S1x1024x1024.Idx) :
    (outsAt0 m c t.val t.isLt).1 j = shapeCast S1x1024x1024 (blockY m c t) shapeCasts_S1024x1024_S1x1024x1024 j := by
  by_cases h : t.val % 8 = 0
  · exact out10A m c t h j
  · exact out10B m c t h j

/-- At every block the second result's block is those rows, cast. -/
theorem out11 (c : Dev nD) (t : Fin cfg0.N) (j : S1x1024x1024.Idx) :
    (outsAt0 m c t.val t.isLt).2.1 j = shapeCast S1x1024x1024 (truncf .bf16 (blockY m c t) bitsLt_bf16_f32) shapeCasts_S1024x1024_S1x1024x1024 j := by
  by_cases h : t.val % 8 = 0
  · exact out11A m c t h j
  · exact out11B m c t h j

/-- At every block the third result's block is the affinities of those rows. -/
theorem out12 (c : Dev nD) (t : Fin cfg0.N) (j : S1x16x1024.Idx) :
    (outsAt0 m c t.val t.isLt).2.2.1 j = k0_pay2 (k0_pay3 (iblk m c 8 t)) (k0_pay4 (iblk m c 9 t)) (truncf .bf16 (blockY m c t) bitsLt_bf16_f32) (residue (blockY m c t)) j := by
  by_cases h : t.val % 8 = 0
  · exact out12A m c t h j
  · exact out12B m c t h j

/-- Rows stored under a leading axis of length one, at an entry. -/
theorem cast_row (A : FVec Ideal S1024x1024 .f32) (z : Fin 1) (r d : Fin 1024) :
    shapeCast S1x1024x1024 A shapeCasts_S1024x1024_S1x1024x1024 (ix3 z r d) = A (ix2 r d) := by
  pointwise

/-- The same of the rows cast. -/
theorem cast_row' (A : FVec Ideal S1024x1024 .f32) (z : Fin 1) (r d : Fin 1024) :
    shapeCast S1x1024x1024 (truncf .bf16 A bitsLt_bf16_f32) shapeCasts_S1024x1024_S1x1024x1024 (ix3 z r d) = A (ix2 r d) := by
  pointwise

/-- The first result of the arguments on a core, as the reference composes it. -/
def N_ (c : Dev nD) : FVec Ideal S4x8192x1024 .f32 := Cert.ReferenceIdeal.Value.rN (g_ m c) (b_ m c) (Y_ m c)

/-- The kernel's first result, after the run, is the reference's first result. -/
theorem result0 (c : Dev nD) : (dats m 0 c).arrAt 10 cfg0.N = N_ m c := by
  refine (dats m 0 c).arrAt_eq_of_covers 10 _ (by decide +kernel) fun t hf y => ?_
  blk_simp
  rw [after0_10, out10]
  obtain ⟨z, r, d, rfl⟩ : ∃ (z : Fin 1) (r d : Fin 1024), y = ix3 z r d := ⟨y 0, y 1, y 2, eq_ix3 y⟩
  have h : ((win0_10.blk t).view.emb (ix3 z r d) : S4x8192x1024.Idx) = ix3 (bat t) (row t r) d := by
    blk_ext [idxA t]
    all_goals rfl
  rw [cast_row, blockY_val]
  exact (congrArg (N_ m c) h).symm

/-- The kernel's second result, after the run, is the reference's second result. -/
theorem result1 (c : Dev nD) : (dats m 0 c).arrAt 11 cfg0.N = (truncf .bf16 (N_ m c) bitsLt_bf16_f32 : FVec Ideal S4x8192x1024 .bf16) := by
  refine (dats m 0 c).arrAt_eq_of_covers 11 _ (by decide +kernel) fun t hf y => ?_
  blk_simp
  rw [after0_11, out11]
  obtain ⟨z, r, d, rfl⟩ : ∃ (z : Fin 1) (r d : Fin 1024), y = ix3 z r d := ⟨y 0, y 1, y 2, eq_ix3 y⟩
  have h : ((win0_11.blk t).view.emb (ix3 z r d) : S4x8192x1024.Idx) = ix3 (bat t) (row t r) d := by
    blk_ext [idxA t]
    all_goals rfl
  rw [cast_row', blockY_val]
  exact (congrArg (N_ m c) h).symm

/-- What is asked of the arguments on a core: none holds an infinity. -/
structure AllFine (c : Dev nD) : Prop where
  x : ∀ i, Fine (x_ m c i)
  mem : ∀ i, Fine (mem_ m c i)
  wq : ∀ i, Fine (wq_ m c i)
  wk : ∀ i, Fine (wk_ m c i)
  wv : ∀ i, Fine (wv_ m c i)
  wo : ∀ i, Fine (wo_ m c i)
  g : ∀ i, Fine (g_ m c i)
  b : ∀ i, Fine (b_ m c i)
  wr : ∀ i, Fine (wr_ m c i)

/-- The rows before their normalisation hold no infinity if the arguments hold none. -/
theorem Y_fine (c : Dev nD) (h : AllFine m c) (b : Fin 4) (r : Fin 8192) (d : Fin 1024) : Fine (Y_ m c (ix3 b r d)) := by
  unfold Y_
  rw [Cert.ReferenceIdeal.Value.rY_apply]
  refine (calpha.mul (h.x _)).add (Fine.sum fun i => (Fine.sum fun s => (Fine.sum fun q => (h.mem _).mul (h.wv _)).mul (Fine.soft (by decide) (fun s => ?_) s)).mul (h.wo _))
  rw [Cert.ReferenceIdeal.Value.rS_apply]
  obtain ⟨e, he, hee⟩ := cscale
  rw [hee]
  exact (Fine.sum fun q => (Fine.sum fun p => (h.x _).mul (h.wq _)).mul (Fine.sum fun p => (h.mem _).mul (h.wk _))).mul ⟨e, rfl⟩

/-- The first result holds no infinity if the arguments hold none. -/
theorem N_fine (c : Dev nD) (h : AllFine m c) (b : Fin 4) (r : Fin 8192) (d : Fin 1024) : Fine (N_ m c (ix3 b r d)) := by
  unfold N_
  rw [Cert.ReferenceIdeal.Value.rN_apply]
  exact ((Fine.lnRow (fun i => Y_fine m c h b r i) d).mul (h.g _)).add (h.b _)

/-- The kernel's third result, after the run, is the reference's third result if the arguments hold no infinity. -/
theorem result2 (c : Dev nD) (hf : AllFine m c) : (dats m 0 c).arrAt 12 cfg0.N
    = Cert.ReferenceIdeal.Value.rA (Cert.ReferenceIdeal.Value.rE' (Cert.ReferenceIdeal.Value.rL (wr_ m c) (N_ m c))) := by
  refine (dats m 0 c).arrAt_eq_of_covers 12 _ (by decide +kernel) fun t _ y => ?_
  blk_simp
  rw [after0_12, out12]
  obtain ⟨z, e, r, rfl⟩ : ∃ (z : Fin 1) (e : Fin 16) (r : Fin 1024), y = ix3 z e r := ⟨y 0, y 1, y 2, eq_ix3 y⟩
  have h : ((win0_12.blk t).view.emb (ix3 z e r) : S4x16x8192.Idx) = ix3 (bat t) e (row t r) := by
    blk_ext [idxA t]
    all_goals rfl
  refine Eq.trans ?_ (congrArg (Cert.ReferenceIdeal.Value.rA _) h).symm
  rw [Cert.ReferenceIdeal.Value.rA_apply, pay2_apply]
  refine congrFun (congrArg soft (funext fun e => ?_)) e
  rw [Cert.ReferenceIdeal.Value.rL_apply]
  have h1 : ∀ x : Fin 1024, (truncf .bf16 (blockY m c t) bitsLt_bf16_f32 : FVec Ideal S1024x1024 .bf16) (ix2 r x) = N_ m c (ix3 (bat t) (row t r) x) := fun x => blockY_val m c t r x
  have h2 : ∀ x : Fin 1024, residue (blockY m c t) (ix2 r x) = 0 := fun x => by
    show blockY m c t (ix2 r x) - blockY m c t (ix2 r x) = (0 : EReal)
    have := N_fine m c hf (bat t) (row t r) x
    rw [blockY_val]; exact this.sub_self
  have h3 : ∀ x : Fin 1024, k0_pay3 (F := Ideal) (iblk m c 8 t) (ix2 e x) = wr_ m c (ix2 x e) := fun x => by
    rw [← ib8 m c t]; pointwise [k0_pay3]
  have h4 : ∀ x : Fin 1024, k0_pay4 (F := Ideal) (iblk m c 9 t) (ix2 e x) = 0 := fun x => by
    rw [← (hf.wr (ix2 x e)).sub_self, ← ib9 m c t]; pointwise [k0_pay4]
  simp only [h1, h2, h3, h4, mul_zero, zero_mul, Finset.sum_const_zero, add_zero]
  exact Finset.sum_congr rfl fun x _ => mul_comm _ _

end Cert.KernelIdeal.Value
-- ==== Proof.AttnPre.lean ====
module

public import proofs.«01_k».proof.Defs
public import proofs.«01_k».proof.Proof.Gen.Pre_finite
public import proofs.«01_k».proof.Proof.AttnValue

@[expose] public section

set_option maxRecDepth 16384

noncomputable section

open Idealize.ShloMosaic Idealize.ShloMosaic.TcCoe Idealize.SL.Sem

namespace Cert.KernelIdeal.Value

open Cert.KernelIdeal Cert.KernelIdeal.Gen

open Cert.Attn

variable (m : (ℓ : Loc nD τ sig) → Buf (Elt Ideal) ℓ)

/-- A comparison that answers "true" says that its left side is the smaller one. -/
theorem lt_of_test {a b : EReal} (h : Ideal.cmp .olt a b = 1#1) : a < b := by
  rw [Ideal.cmp_olt] at h
  by_contra hn
  simp [hn] at h

/-- An array that passes the test "every absolute value is below infinity" holds no infinity. -/
theorem fine_of_test {S : Shape} (a : FVec Ideal S .f32) (hb : Cert.Pre_finite.S_.BroadcastsInDim S (![] : Fin 0 → Fin S.rank))
    (h : cmpf .olt (Host.absf a) (broadcastInDim S ![] hb (constant (F := Ideal) Cert.Pre_finite.S_ .f32 0x7F800000#32)) = fun _ => 1#1)
    (i : S.Idx) : Fine (a i) := by
  have h1 : Ideal.cmp .olt (max (a i : EReal) (-(a i : EReal))) (Ideal.ofBits .f32 0x7F800000#32) = 1#1 := congrFun h i
  have h2 := lt_of_test h1
  have h3 : (Ideal.ofBits .f32 0x7F800000#32 : EReal) = ⊤ := by simp [Ideal.ofBits, Ideal.ieee]
  rw [h3] at h2
  exact Fine.of_abs h2

/-- The precondition says that no argument array holds an infinity. -/
theorem allFine_of_pre (h : Cert.Pre_KernelIdeal_finite m) (c : Dev nD) : AllFine m c := by
  obtain ⟨h0, h1, h2, h3, h4, h5, h6, h7, h8⟩ := h c
  exact ⟨fine_of_test _ _ h0, fine_of_test _ _ h1, fine_of_test _ _ h2, fine_of_test _ _ h3, fine_of_test _ _ h4,
    fine_of_test _ _ h5, fine_of_test _ _ h6, fine_of_test _ _ h7, fine_of_test _ _ h8⟩

end Cert.KernelIdeal.Value
-- ==== Proof.InprojValue.lean ====
module

public import proofs.«01_k».proof.Proof.Gen.Kernel3Ideal.Value
public import proofs.«01_k».proof.Proof.Gen.Reference3Ideal.Run
public import proofs.«01_k».proof.Proof.AttnFn
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem
open Idealize.ShloMosaic.Pipeline (Dat)
open Cert.Attn (lnRow mean)
open scoped BigOperators

namespace Cert.Inproj

/-- The logistic function as the kernel composes it. -/
def lgt (x : EReal) : EReal := Ideal.div 1 (1 + Ideal.exp (0 - x))

/-- A row of 1024 entries, normalised, times the gain, plus the bias. -/
def lnA (x g b : Fin 1024 → EReal) (d : Fin 1024) : EReal := lnRow x d * g d + b d

end Cert.Inproj

namespace Cert.Reference3Ideal.Value

open Cert.Reference3Ideal Cert.Reference3Ideal.Gen Cert.Inproj

variable (x : FVec Ideal S4x8192x1024 .f32) (g be : FVec Ideal S1024 .f32) (w : FVec Ideal S1024x4608 .f32) (bg : FVec Ideal S2048 .f32)

/-- The normalised rows, as the reference composes them. -/
def rN : FVec Ideal S4x8192x1024 .f32 :=
  have mu : FVec Ideal S4x8192x1 .f32 := Host.divf (broadcastInDim S4x8192x1 ![0, 1] bcast_S4x8192_S4x8192x1_0_1 (Host.reduceAdd x (constant S_ .f32 0x00000000#32) reducesTo_S4x8192x1024_S4x8192_d2 h_S_)) (broadcastInDim S4x8192x1 ![] bcast_S_S4x8192x1 (constant S_ .f32 0x44800000#32))
  have e : FVec Ideal S4x8192x1024 .f32 := subf x (broadcastInDim S4x8192x1024 ![0, 1, 2] bcast_S4x8192x1_S4x8192x1024_0_1_2 mu)
  addf (mulf (mulf e (broadcastInDim S4x8192x1024 ![0, 1, 2] bcast_S4x8192x1_S4x8192x1024_0_1_2 (Host.rsqrt (addf (Host.divf (broadcastInDim S4x8192x1 ![0, 1] bcast_S4x8192_S4x8192x1_0_1 (Host.reduceAdd (mulf e e) (constant S_ .f32 0x00000000#32) reducesTo_S4x8192x1024_S4x8192_d2 h_S_)) (broadcastInDim S4x8192x1 ![] bcast_S_S4x8192x1 (constant S_ .f32 0x44800000#32))) (broadcastInDim S4x8192x1 ![] bcast_S_S4x8192x1 (constant S_ .f32 0x3727C5AC#32)))))) (broadcastInDim S4x8192x1024 ![0, 1, 2] bcast_S1x1x1024_S4x8192x1024_0_1_2 (broadcastInDim S1x1x1024 ![2] bcast_S1024_S1x1x1024_2 g))) (broadcastInDim S4x8192x1024 ![0, 1, 2] bcast_S1x1x1024_S4x8192x1024_0_1_2 (broadcastInDim S1x1x1024 ![2] bcast_S1024_S1x1x1024_2 be))

/-- The normalised rows at an index. -/
theorem rN_apply (b : Fin 4) (r : Fin 8192) (d : Fin 1024) :
    rN x g be (ix3 b r d) = lnA (fun d => x (ix3 b r d)) (fun d => g (ix1 d)) (fun d => be (ix1 d)) d := by
  simp only [lnA, lnRow, mean]
  pointwise [rN]

/-- The product of all the normalised rows and the input weights, as the reference composes it. -/
abbrev rP (H : FVec Ideal S4x8192x1024 .f32) : FVec Ideal S4x8192x4608 .f32 :=
  Host.dotGeneral dot_S4x8192x1024_S1024x4608_S4x8192x4608_2_0_01_1_n_n none H w

/-- The gated linear unit, as the reference composes it. -/
def rU (H : FVec Ideal S4x8192x1024 .f32) : FVec Ideal S4x8192x512 .f32 :=
  mulf (extractStridedSlice S4x8192x512 ![0, 0, 0] (extractStridedSlice S4x8192x1024 ![0, 0, 0] (rP w H) slices_S4x8192x4608_S4x8192x1024_0_0_0) slices_S4x8192x1024_S4x8192x512_0_0_0) (Host.divf (broadcastInDim S4x8192x512 ![] bcast_S_S4x8192x512 (constant S_ .f32 0x3F800000#32)) (addf (broadcastInDim S4x8192x512 ![] bcast_S_S4x8192x512 (constant S_ .f32 0x3F800000#32)) (Host.exp (Host.negf (extractStridedSlice S4x8192x512 ![0, 0, 512] (extractStridedSlice S4x8192x1024 ![0, 0, 0] (rP w H) slices_S4x8192x4608_S4x8192x1024_0_0_0) slices_S4x8192x1024_S4x8192x512_0_0_512)))))

/-- The gated linear unit at an index. -/
theorem rU_apply (H : FVec Ideal S4x8192x1024 .f32) (b : Fin 4) (r : Fin 8192) (k : Fin 512) :
    rU w H (ix3 b r k) = (∑ q : Fin 1024, H (ix3 b r q) * w (ix2 q ⟨k.val, by omega⟩))
      * lgt (∑ q : Fin 1024, H (ix3 b r q) * w (ix2 q ⟨512 + k.val, by omega⟩)) := by
  simp only [lgt, zero_sub]
  pointwise [rU]

/-- The transposed projection, as the reference composes it. -/
def rT (H : FVec Ideal S4x8192x1024 .f32) : FVec Ideal S4x1536x8192 .bf16 :=
  truncf .bf16 (transpose S4x1536x8192 [0, 2, 1] (extractStridedSlice S4x8192x1536 ![0, 0, 1024] (rP w H) slices_S4x8192x4608_S4x8192x1536_0_0_1024) transposes_S4x8192x1536_S4x1536x8192_0_2_1) bitsLt_bf16_f32

/-- The transposed projection at an index. -/
theorem rT_apply (H : FVec Ideal S4x8192x1024 .f32) (b : Fin 4) (j : Fin 1536) (r : Fin 8192) :
    rT w H (ix3 b j r) = ∑ q : Fin 1024, w (ix2 q ⟨1024 + j.val, by omega⟩) * H (ix3 b r q) := by
  refine Eq.trans ?_ (Finset.sum_congr rfl fun q _ => mul_comm _ _)
  pointwise [rT]

/-- The gates, as the reference composes them. -/
def rG (H : FVec Ideal S4x8192x1024 .f32) : FVec Ideal S4x8192x2048 .bf16 :=
  truncf .bf16 (Host.divf (broadcastInDim S4x8192x2048 ![] bcast_S_S4x8192x2048 (constant S_ .f32 0x3F800000#32)) (addf (broadcastInDim S4x8192x2048 ![] bcast_S_S4x8192x2048 (constant S_ .f32 0x3F800000#32)) (Host.exp (Host.negf (addf (extractStridedSlice S4x8192x2048 ![0, 0, 2560] (rP w H) slices_S4x8192x4608_S4x8192x2048_0_0_2560) (broadcastInDim S4x8192x2048 ![0, 1, 2] bcast_S1x1x2048_S4x8192x2048_0_1_2 (broadcastInDim S1x1x2048 ![2] bcast_S2048_S1x1x2048_2 bg))))))) bitsLt_bf16_f32

/-- The gates at an index. -/
theorem rG_apply (H : FVec Ideal S4x8192x1024 .f32) (b : Fin 4) (r : Fin 8192) (j : Fin 2048) :
    rG w bg H (ix3 b r j) = lgt (∑ q : Fin 1024, H (ix3 b r q) * w (ix2 q ⟨2560 + j.val, by omega⟩) + bg (ix1 j)) := by
  simp only [lgt, zero_sub]
  pointwise [rG]

end Cert.Reference3Ideal.Value

namespace Cert.Kernel3Ideal.Value

open Cert.Kernel3Ideal Cert.Kernel3Ideal.Gen Cert.Inproj

variable (m : (ℓ : Loc nD τ sig) → Buf (Elt Ideal) ℓ)

section Payloads
variable (v0 : FVec Ideal S1x256x1024 .f32) (v2 v4 : FVec Ideal S1x1024 .f32) (w : FVec Ideal S1024x1024 .bf16)
  (wh : FVec Ideal S1536x1024 .bf16) (wg : FVec Ideal S1024x2048 .bf16) (bg : FVec Ideal S1x2048 .f32)

/-- The normalised rows of the first half of a block, at an entry. -/
theorem pay4_apply (r : Fin 256) (d : Fin 1024) :
    k0_pay4 (F := Ideal) v0 v2 v4 (ix2 r d) = lnA (fun d => v0 (ix3 0 r d)) (fun d => v2 (ix2 0 d)) (fun d => v4 (ix2 0 d)) d := by
  simp only [lnA, lnRow, mean]
  pointwise [k0_pay4]

/-- The second half of a block is normalised as the first is. -/
theorem pay13_eq : k0_pay13 (F := Ideal) v0 v2 v4 = k0_pay4 (F := Ideal) v0 v2 v4 := rfl

/-- The gated linear unit of the first half of a block, at an entry. -/
theorem pay10_apply (z : Fin 1) (r : Fin 256) (k : Fin 512) :
    k0_pay10 (F := Ideal) (k0_pay8 v0 v2 v4 w) (k0_pay9 v0 v2 v4 w) (ix3 z r k)
      = (∑ q : Fin 1024, k0_pay4 (F := Ideal) v0 v2 v4 (ix2 r q) * w (ix2 q ⟨k.val, by omega⟩))
        * lgt (∑ q : Fin 1024, k0_pay4 (F := Ideal) v0 v2 v4 (ix2 r q) * w (ix2 q ⟨512 + k.val, by omega⟩)) := by
  unfold k0_pay8 k0_pay9 k0_pay7 k0_pay6
  generalize k0_pay4 (F := Ideal) v0 v2 v4 = H
  pointwise [k0_pay10, lgt]

/-- The gated linear unit of the second half of a block is composed as the first's. -/
theorem pay1_eq : k0_pay1 (F := Ideal) (k0_pay17 v0 v2 v4 w) (k0_pay18 v0 v2 v4 w) (Scalar.ofBits .f32 0x3F800000#32)
      = k0_pay10 (F := Ideal) (k0_pay8 v0 v2 v4 w) (k0_pay9 v0 v2 v4 w) := rfl

/-- The transposed projection of a half block, at an entry. -/
theorem pay11_apply (H : FVec Ideal S256x1024 .bf16) (z : Fin 1) (j : Fin 1536) (r : Fin 256) :
    k0_pay11 (F := Ideal) H wh (ix3 z j r) = ∑ q : Fin 1024, wh (ix2 j q) * H (ix2 r q) := by
  pointwise [k0_pay11]

/-- The second half's transposed projection is composed as the first's. -/
theorem pay2_eq (H : FVec Ideal S256x1024 .bf16) : k0_pay2 (F := Ideal) H wh = k0_pay11 (F := Ideal) H wh := rfl

/-- The gates of a half block, at an entry. -/
theorem pay12_apply (H : FVec Ideal S256x1024 .bf16) (z : Fin 1) (r : Fin 256) (j : Fin 2048) :
    k0_pay12 (F := Ideal) H wg bg (ix3 z r j) = lgt (∑ q : Fin 1024, H (ix2 r q) * wg (ix2 q j) + bg (ix2 0 j)) := by
  pointwise [k0_pay12, lgt]

/-- The second half's gates are composed as the first's. -/
theorem pay3_eq (H : FVec Ideal S256x1024 .bf16) : k0_pay3 (F := Ideal) H wg bg = k0_pay12 (F := Ideal) H wg bg := rfl

/-- The narrowed normalised rows are the normalised rows. -/
theorem pay6_apply (r : Fin 256) (d : Fin 1024) :
    k0_pay6 (F := Ideal) v0 v2 v4 (ix2 r d) = k0_pay4 (F := Ideal) v0 v2 v4 (ix2 r d) := rfl
/-- The narrowed normalised rows of the second half are composed as the first's. -/
theorem pay15_eq : k0_pay15 (F := Ideal) v0 v2 v4 = k0_pay6 (F := Ideal) v0 v2 v4 := rfl
/-- The stored normalised rows, at an entry. -/
theorem pay5_apply (z : Fin 1) (r : Fin 256) (d : Fin 1024) :
    k0_pay5 (F := Ideal) v0 v2 v4 (ix3 z r d) = k0_pay4 (F := Ideal) v0 v2 v4 (ix2 r d) := by
  unfold k0_pay5
  generalize k0_pay4 (F := Ideal) v0 v2 v4 = H
  pointwise
/-- The second half's rows are stored as the first's. -/
theorem pay14_eq : k0_pay14 (F := Ideal) v0 v2 v4 = k0_pay5 (F := Ideal) v0 v2 v4 := rfl

end Payloads

section Blocks
variable (x0 : FVec Ideal S1x512x1024 .f32) (x1 x2 : FVec Ideal S1x1024 .f32) (x3 : FVec Ideal S1024x1024 .bf16)
  (x4 : FVec Ideal S1536x1024 .bf16) (x5 : FVec Ideal S1024x2048 .bf16) (x6 : FVec Ideal S1x2048 .f32)

/-- A row of a block, normalised. -/
def hB (r : Fin 512) (d : Fin 1024) : EReal := lnA (fun d => x0 (ix3 0 r d)) (fun d => x1 (ix2 0 d)) (fun d => x2 (ix2 0 d)) d

/-- The rows the first half of a point normalises, at an entry. -/
theorem lo_apply (r : Fin 256) (d : Fin 1024) :
    k0_pay4 (F := Ideal) (View.ld (Val := Elt Ideal) x0 r0_0) (View.ld (Val := Elt Ideal) x1 r0_1) (View.ld (Val := Elt Ideal) x2 r0_1) (ix2 r d)
      = hB x0 x1 x2 ⟨r.val, by omega⟩ d := by
  refine (pay4_apply _ _ _ r d).trans ?_
  simp only [hB]
  congr 1 <;> funext d <;> pointwise
/-- The rows the second half of a point normalises, at an entry. -/
theorem hi_apply (r : Fin 256) (d : Fin 1024) :
    k0_pay4 (F := Ideal) (View.ld (Val := Elt Ideal) x0 r0_9) (View.ld (Val := Elt Ideal) x1 r0_1) (View.ld (Val := Elt Ideal) x2 r0_1) (ix2 r d)
      = hB x0 x1 x2 ⟨256 + r.val, by omega⟩ d := by
  refine (pay4_apply _ _ _ r d).trans ?_
  simp only [hB]
  congr 1 <;> funext d <;> pointwise

/-- The normalised rows a point leaves. -/
theorem out7_apply (j : S1x512x1024.Idx) : out0_7 (F := Ideal) x0 x1 x2 x3 x4 x5 x6 j = (fun j => (hB x0 x1 x2 (j 1) (j 2) : EReal)) j := by
  unfold_out out0_7
  refine View.canon_append_of_piecesOf (s := S1x512x1024) (Val := Elt Ideal) (e := .f32) (fun j => (hB x0 x1 x2 (j 1) (j 2) : EReal)) [] [_, _] ⟨fun x => ?_, fun x => ?_, trivial⟩ j
    (View.cover_of_tiledL _ ![1, 256, 1024] ?_ j)
  · obtain ⟨z, r, d, rfl⟩ : ∃ (z : Fin 1) (r : Fin 256) (d : Fin 1024), x = ix3 z r d := ⟨x 0, x 1, x 2, eq_ix3 x⟩
    refine ((pay5_apply _ _ _ z r d).trans (hi_apply x0 x1 x2 r d)).trans ?_
    rw [show (r0_9.emb (ix3 z r d) : S1x512x1024.Idx) = ix3 0 ⟨256 + r.val, by omega⟩ d from by blk_ext]
    rfl
  · obtain ⟨z, r, d, rfl⟩ : ∃ (z : Fin 1) (r : Fin 256) (d : Fin 1024), x = ix3 z r d := ⟨x 0, x 1, x 2, eq_ix3 x⟩
    refine ((pay5_apply _ _ _ z r d).trans (lo_apply x0 x1 x2 r d)).trans ?_
    rw [show (r0_0.emb (ix3 z r d) : S1x512x1024.Idx) = ix3 0 ⟨r.val, by omega⟩ d from by blk_ext]
    rfl
  · rfl

/-- The gated linear unit of a block, at an entry. -/
def uB (r k : Fin 512) : EReal :=
  (∑ q : Fin 1024, hB x0 x1 x2 r q * x3 (ix2 q ⟨k.val, by omega⟩)) * lgt (∑ q : Fin 1024, hB x0 x1 x2 r q * x3 (ix2 q ⟨512 + k.val, by omega⟩))
/-- The transposed projection of a block, at an entry. -/
def tB (j : Fin 1536) (r : Fin 512) : EReal := ∑ q : Fin 1024, x4 (ix2 j q) * hB x0 x1 x2 r q
/-- The gates of a block, at an entry. -/
def gB (r : Fin 512) (j : Fin 2048) : EReal := lgt (∑ q : Fin 1024, hB x0 x1 x2 r q * x5 (ix2 q j) + x6 (ix2 0 j))

/-- A whole array read whole is itself. -/
theorem ld3 : (View.ld (Val := Elt Ideal) x3 r0_2 : Vec Ideal S1024x1024 .bf16) = x3 := by
  funext i
  rw [eq_ix2 i]
  pointwise
/-- A whole array read whole is itself. -/
theorem ld4 : (View.ld (Val := Elt Ideal) x4 r0_4 : Vec Ideal S1536x1024 .bf16) = x4 := by
  funext i
  rw [eq_ix2 i]
  pointwise
/-- A whole array read whole is itself. -/
theorem ld5 : (View.ld (Val := Elt Ideal) x5 r0_6 : Vec Ideal S1024x2048 .bf16) = x5 := by
  funext i
  rw [eq_ix2 i]
  pointwise
/-- A whole array read whole is itself. -/
theorem ld6 : (View.ld (Val := Elt Ideal) x6 r0_7 : Vec Ideal S1x2048 .f32) = x6 := by
  funext i
  obtain ⟨z, d, rfl⟩ : ∃ (z : Fin 1) (d : Fin 2048), i = ix2 z d := ⟨i 0, i 1, eq_ix2 i⟩
  obtain rfl : z = 0 := Subsingleton.elim _ _
  pointwise

/-- The gated linear unit a point leaves. -/
theorem out8_apply (j : S1x512x512.Idx) : out0_8 (F := Ideal) x0 x1 x2 x3 x4 x5 x6 j = (fun j => (uB x0 x1 x2 x3 (j 1) (j 2) : EReal)) j := by
  unfold_out out0_8
  refine View.canon_append_of_piecesOf (s := S1x512x512) (Val := Elt Ideal) (e := .f32) (fun j => (uB x0 x1 x2 x3 (j 1) (j 2) : EReal)) [] [_, _] ⟨fun x => ?_, fun x => ?_, trivial⟩ j
    (View.cover_of_tiledL _ ![1, 256, 512] ?_ j)
  · obtain ⟨z, r, d, rfl⟩ : ∃ (z : Fin 1) (r : Fin 256) (d : Fin 512), x = ix3 z r d := ⟨x 0, x 1, x 2, eq_ix3 x⟩
    refine (pay10_apply _ _ _ _ z r d).trans ?_
    rw [ld3, show (r0_10.emb (ix3 z r d) : S1x512x512.Idx) = ix3 0 ⟨256 + r.val, by omega⟩ d from by blk_ext]
    simp only [hi_apply]
    rfl
  · obtain ⟨z, r, d, rfl⟩ : ∃ (z : Fin 1) (r : Fin 256) (d : Fin 512), x = ix3 z r d := ⟨x 0, x 1, x 2, eq_ix3 x⟩
    refine (pay10_apply _ _ _ _ z r d).trans ?_
    rw [ld3, show (r0_3.emb (ix3 z r d) : S1x512x512.Idx) = ix3 0 ⟨r.val, by omega⟩ d from by blk_ext]
    simp only [lo_apply]
    rfl
  · rfl

/-- The transposed projection a point leaves. -/
theorem out9_apply (j : S1x1536x512.Idx) : out0_9 (F := Ideal) x0 x1 x2 x3 x4 x5 x6 j = (fun j => (tB x0 x1 x2 x4 (j 1) (j 2) : EReal)) j := by
  unfold_out out0_9
  refine View.canon_append_of_piecesOf (s := S1x1536x512) (Val := Elt Ideal) (e := .bf16) (fun j => (tB x0 x1 x2 x4 (j 1) (j 2) : EReal)) [] [_, _] ⟨fun x => ?_, fun x => ?_, trivial⟩ j
    (View.cover_of_tiledL _ ![1, 1536, 256] ?_ j)
  · obtain ⟨z, d, r, rfl⟩ : ∃ (z : Fin 1) (d : Fin 1536) (r : Fin 256), x = ix3 z d r := ⟨x 0, x 1, x 2, eq_ix3 x⟩
    refine (pay11_apply _ _ z d r).trans ?_
    rw [ld4, show (r0_11.emb (ix3 z d r) : S1x1536x512.Idx) = ix3 0 d ⟨256 + r.val, by omega⟩ from by blk_ext]
    refine Finset.sum_congr rfl fun q _ => congrArg (x4 (ix2 d q) * ·) (hi_apply x0 x1 x2 r q)
  · obtain ⟨z, d, r, rfl⟩ : ∃ (z : Fin 1) (d : Fin 1536) (r : Fin 256), x = ix3 z d r := ⟨x 0, x 1, x 2, eq_ix3 x⟩
    refine (pay11_apply _ _ z d r).trans ?_
    rw [ld4, show (r0_5.emb (ix3 z d r) : S1x1536x512.Idx) = ix3 0 d ⟨r.val, by omega⟩ from by blk_ext]
    refine Finset.sum_congr rfl fun q _ => congrArg (x4 (ix2 d q) * ·) (lo_apply x0 x1 x2 r q)
  · rfl

/-- The gates a point leaves. -/
theorem out10_apply (j : S1x512x2048.Idx) : out0_10 (F := Ideal) x0 x1 x2 x3 x4 x5 x6 j = (fun j => (gB x0 x1 x2 x5 x6 (j 1) (j 2) : EReal)) j := by
  unfold_out out0_10
  refine View.canon_append_of_piecesOf (s := S1x512x2048) (Val := Elt Ideal) (e := .bf16) (fun j => (gB x0 x1 x2 x5 x6 (j 1) (j 2) : EReal)) [] [_, _] ⟨fun x => ?_, fun x => ?_, trivial⟩ j
    (View.cover_of_tiledL _ ![1, 256, 2048] ?_ j)
  · obtain ⟨z, r, d, rfl⟩ : ∃ (z : Fin 1) (r : Fin 256) (d : Fin 2048), x = ix3 z r d := ⟨x 0, x 1, x 2, eq_ix3 x⟩
    refine (pay12_apply _ _ _ z r d).trans ?_
    rw [ld5, ld6, show (r0_12.emb (ix3 z r d) : S1x512x2048.Idx) = ix3 0 ⟨256 + r.val, by omega⟩ d from by blk_ext]
    refine congrArg (fun s => lgt (s + x6 (ix2 0 d))) (Finset.sum_congr rfl fun q _ => congrArg (· * x5 (ix2 q d)) (hi_apply x0 x1 x2 r q))
  · obtain ⟨z, r, d, rfl⟩ : ∃ (z : Fin 1) (r : Fin 256) (d : Fin 2048), x = ix3 z r d := ⟨x 0, x 1, x 2, eq_ix3 x⟩
    refine (pay12_apply _ _ _ z r d).trans ?_
    rw [ld5, ld6, show (r0_8.emb (ix3 z r d) : S1x512x2048.Idx) = ix3 0 ⟨r.val, by omega⟩ d from by blk_ext]
    refine congrArg (fun s => lgt (s + x6 (ix2 0 d))) (Finset.sum_congr rfl fun q _ => congrArg (· * x5 (ix2 q d)) (lo_apply x0 x1 x2 r q))
  · rfl

end Blocks

/-- Every window's block index at every grid point. -/
theorem idxI : ∀ t : Fin cfg0.N, win0_0.index t = ![t.val / 16, t.val % 16, 0]
    ∧ win0_1.index t = ![0, 0]
    ∧ win0_2.index t = ![0, 0]
    ∧ win0_3.index t = ![0, 0]
    ∧ win0_4.index t = ![0, 0]
    ∧ win0_5.index t = ![0, 0]
    ∧ win0_6.index t = ![0, 0]
    ∧ win0_7.index t = ![t.val / 16, t.val % 16, 0]
    ∧ win0_8.index t = ![t.val / 16, t.val % 16, 0]
    ∧ win0_9.index t = ![t.val / 16, 0, t.val % 16]
    ∧ win0_10.index t = ![t.val / 16, t.val % 16, 0] :=
  (by decide +kernel : ∀ t : Fin grid0.N, _)

/-- The layer's input on a core. -/
abbrev x_ (c : Dev nD) : FVec Ideal S4x8192x1024 .f32 := m ((c : Thread nD τ).loc main_arg0)
/-- The normalisation's gains on a core. -/
abbrev g_ (c : Dev nD) : FVec Ideal S1024 .f32 := m ((c : Thread nD τ).loc main_arg1)
/-- The normalisation's biases on a core. -/
abbrev b_ (c : Dev nD) : FVec Ideal S1024 .f32 := m ((c : Thread nD τ).loc main_arg2)
/-- The input weights on a core. -/
abbrev w_ (c : Dev nD) : FVec Ideal S1024x4608 .f32 := m ((c : Thread nD τ).loc main_arg3)
/-- The gates' biases on a core. -/
abbrev bg_ (c : Dev nD) : FVec Ideal S2048 .f32 := m ((c : Thread nD τ).loc main_arg4)

/-- The batch a point works on. -/
def bat (t : Fin cfg0.N) : Fin 4 := ⟨t.val / 16, by have : t.val < 64 := t.isLt; omega⟩
/-- The row of the whole array that row `r` of a point's block is. -/
def row (t : Fin cfg0.N) (r : Fin 512) : Fin 8192 := ⟨t.val % 16 * 512 + r.val, by omega⟩

/-- A block of the input, at an entry. -/
theorem ib0 (c : Dev nD) (t : Fin cfg0.N) (r : Fin 512) (d : Fin 1024) : (iblk m c 0 t : Vec Ideal S1x512x1024 .f32) (ix3 0 r d) = x_ m c (ix3 (bat t) (row t r) d) := by
  blk_point [iblk, V, idxI t]
  all_goals rfl
/-- The gain as the kernel reads it. -/
theorem ib1 (c : Dev nD) (t : Fin cfg0.N) (d : Fin 1024) : (iblk m c 1 t : Vec Ideal S1x1024 .f32) (ix2 0 d) = g_ m c (ix1 d) := by
  blk_point [iblk, V, idxI t]
/-- The bias as the kernel reads it. -/
theorem ib2 (c : Dev nD) (t : Fin cfg0.N) (d : Fin 1024) : (iblk m c 2 t : Vec Ideal S1x1024 .f32) (ix2 0 d) = b_ m c (ix1 d) := by
  blk_point [iblk, V, idxI t]
/-- The gated linear unit's weights as the kernel reads them. -/
theorem ib3 (c : Dev nD) (t : Fin cfg0.N) (s d : Fin 1024) : (iblk m c 3 t : Vec Ideal S1024x1024 .bf16) (ix2 s d) = w_ m c (ix2 s ⟨d.val, by omega⟩) := by
  blk_point [iblk, V, idxI t]
/-- The transposed projection's weights as the kernel reads them. -/
theorem ib4 (c : Dev nD) (t : Fin cfg0.N) (s : Fin 1536) (d : Fin 1024) : (iblk m c 4 t : Vec Ideal S1536x1024 .bf16) (ix2 s d) = w_ m c (ix2 d ⟨1024 + s.val, by omega⟩) := by
  blk_point [iblk, V, idxI t]
/-- The gates' weights as the kernel reads them. -/
theorem ib5 (c : Dev nD) (t : Fin cfg0.N) (s : Fin 1024) (d : Fin 2048) : (iblk m c 5 t : Vec Ideal S1024x2048 .bf16) (ix2 s d) = w_ m c (ix2 s ⟨2560 + d.val, by omega⟩) := by
  blk_point [iblk, V, idxI t]
/-- The gates' bias as the kernel reads it. -/
theorem ib6 (c : Dev nD) (t : Fin cfg0.N) (d : Fin 2048) : (iblk m c 6 t : Vec Ideal S1x2048 .f32) (ix2 0 d) = bg_ m c (ix1 d) := by
  blk_point [iblk, V, idxI t]

open Cert.Reference3Ideal.Value (rN rN_apply rU rU_apply rT rT_apply rG rG_apply)

/-- A row of a block, normalised, is the reference's normalised row. -/
theorem hB_eq (c : Dev nD) (t : Fin cfg0.N) (r : Fin 512) (d : Fin 1024) :
    hB (iblk m c 0 t) (iblk m c 1 t) (iblk m c 2 t) r d = rN (x_ m c) (g_ m c) (b_ m c) (ix3 (bat t) (row t r) d) := by
  rw [rN_apply]
  simp only [hB, ib0, ib1, ib2]

/-- The first result, after the run, is the reference's normalised rows. -/
theorem final_h (c : Dev nD) : (dats m 0 c).arrAt 7 cfg0.N = rN (x_ m c) (g_ m c) (b_ m c) := by
  refine (dats m 0 c).arrAt_eq_of_covers 7 _ (by decide +kernel) fun t hf y => ?_
  blk_simp
  rw [after0_7]
  obtain ⟨z, r, d, rfl⟩ : ∃ (z : Fin 1) (r : Fin 512) (d : Fin 1024), y = ix3 z r d := ⟨y 0, y 1, y 2, eq_ix3 y⟩
  have h : ((win0_7.blk t).view.emb (ix3 z r d) : S4x8192x1024.Idx) = ix3 (bat t) (row t r) d := by
    blk_ext [idxI t]
    all_goals rfl
  refine (out7_apply _ _ _ _ _ _ _ (ix3 z r d)).trans ((hB_eq m c t r d).trans ?_)
  exact (congrArg (rN (x_ m c) (g_ m c) (b_ m c)) h).symm

/-- The second result, after the run, is the reference's gated linear unit. -/
theorem final_u (c : Dev nD) : (dats m 0 c).arrAt 8 cfg0.N = rU (w_ m c) (rN (x_ m c) (g_ m c) (b_ m c)) := by
  refine (dats m 0 c).arrAt_eq_of_covers 8 _ (by decide +kernel) fun t hf y => ?_
  blk_simp
  rw [after0_8]
  obtain ⟨z, r, d, rfl⟩ : ∃ (z : Fin 1) (r d : Fin 512), y = ix3 z r d := ⟨y 0, y 1, y 2, eq_ix3 y⟩
  have h : ((win0_8.blk t).view.emb (ix3 z r d) : S4x8192x512.Idx) = ix3 (bat t) (row t r) d := by
    blk_ext [idxI t]
    all_goals rfl
  refine (out8_apply _ _ _ _ _ _ _ (ix3 z r d)).trans (Eq.trans ?_ (congrArg (rU (w_ m c) (rN (x_ m c) (g_ m c) (b_ m c))) h).symm)
  rw [rU_apply]
  show uB _ _ _ _ r d = _
  simp only [uB, hB_eq, ib3]

/-- The third result, after the run, is the reference's transposed projection. -/
theorem final_t (c : Dev nD) : (dats m 0 c).arrAt 9 cfg0.N = rT (w_ m c) (rN (x_ m c) (g_ m c) (b_ m c)) := by
  refine (dats m 0 c).arrAt_eq_of_covers 9 _ (by decide +kernel) fun t hf y => ?_
  blk_simp
  rw [after0_9]
  obtain ⟨z, d, r, rfl⟩ : ∃ (z : Fin 1) (d : Fin 1536) (r : Fin 512), y = ix3 z d r := ⟨y 0, y 1, y 2, eq_ix3 y⟩
  have h : ((win0_9.blk t).view.emb (ix3 z d r) : S4x1536x8192.Idx) = ix3 (bat t) d (row t r) := by
    blk_ext [idxI t]
    all_goals rfl
  refine (out9_apply _ _ _ _ _ _ _ (ix3 z d r)).trans (Eq.trans ?_ (congrArg (rT (w_ m c) (rN (x_ m c) (g_ m c) (b_ m c))) h).symm)
  rw [rT_apply]
  show tB _ _ _ _ d r = _
  simp only [tB, hB_eq, ib4]

/-- The fourth result, after the run, is the reference's gates. -/
theorem final_g (c : Dev nD) : (dats m 0 c).arrAt 10 cfg0.N = rG (w_ m c) (bg_ m c) (rN (x_ m c) (g_ m c) (b_ m c)) := by
  refine (dats m 0 c).arrAt_eq_of_covers 10 _ (by decide +kernel) fun t hf y => ?_
  blk_simp
  rw [after0_10]
  obtain ⟨z, r, d, rfl⟩ : ∃ (z : Fin 1) (r : Fin 512) (d : Fin 2048), y = ix3 z r d := ⟨y 0, y 1, y 2, eq_ix3 y⟩
  have h : ((win0_10.blk t).view.emb (ix3 z r d) : S4x8192x2048.Idx) = ix3 (bat t) (row t r) d := by
    blk_ext [idxI t]
    all_goals rfl
  refine (out10_apply _ _ _ _ _ _ _ (ix3 z r d)).trans (Eq.trans ?_ (congrArg (rG (w_ m c) (bg_ m c) (rN (x_ m c) (g_ m c) (b_ m c))) h).symm)
  rw [rG_apply]
  show gB _ _ _ _ _ r d = _
  simp only [gB, hB_eq, ib5, ib6]

end Cert.Kernel3Ideal.Value
-- ==== Proof.MixValue.lean ====
module

public import proofs.«01_k».proof.Proof.Gen.Kernel4Ideal.Value
public import proofs.«01_k».proof.Proof.Gen.Reference4Ideal.Run
public import proofs.«01_k».proof.Proof.AttnFn
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem
open Idealize.ShloMosaic.Pipeline (Dat)
open Cert.Attn (lnRow mean)
open scoped BigOperators

namespace Cert.Mix

/-- One entry of the gated sum of the two branches: each branch's row times its output weights, times its gate. -/
def gated (ga gb : EReal) (u z a b : Fin 512 → EReal) : EReal := ga * (∑ q, u q * a q) + gb * ∑ q, z q * b q

/-- One entry of the rows before their normalisation: the scaled residual plus the gated sum times the merging weights. -/
def merged (h : EReal) (y w : Fin 1024 → EReal) : EReal := Ideal.ofBits FTy.f32 1066940400#32 * h + ∑ k, y k * w k

end Cert.Mix

namespace Cert.Reference4Ideal.Value

open Cert.Reference4Ideal Cert.Reference4Ideal.Gen Cert.Mix

variable (u z : FVec Ideal S4x8192x512 .f32) (ga : FVec Ideal S4x8192x2048 .f32) (h : FVec Ideal S4x8192x1024 .f32)
  (wa wb : FVec Ideal S512x1024 .f32) (wm : FVec Ideal S1024x1024 .f32) (g be : FVec Ideal S1024 .f32)

/-- The gated sum of the two branches, as the reference composes it. -/
def rC : FVec Ideal S4x8192x1024 .f32 :=
  addf (mulf (extractStridedSlice S4x8192x1024 ![0, 0, 0] ga slices_S4x8192x2048_S4x8192x1024_0_0_0) (Host.dotGeneral dot_S4x8192x512_S512x1024_S4x8192x1024_2_0_01_1_n_n none u wa)) (mulf (extractStridedSlice S4x8192x1024 ![0, 0, 1024] ga slices_S4x8192x2048_S4x8192x1024_0_0_1024) (Host.dotGeneral dot_S4x8192x512_S512x1024_S4x8192x1024_2_0_01_1_n_n none z wb))

/-- The gated sum at an index. -/
theorem rC_apply (b : Fin 4) (r : Fin 8192) (k : Fin 1024) :
    rC u z ga wa wb (ix3 b r k) = gated (ga (ix3 b r ⟨k.val, by omega⟩)) (ga (ix3 b r ⟨1024 + k.val, by omega⟩))
      (fun q => u (ix3 b r q)) (fun q => z (ix3 b r q)) (fun q => wa (ix2 q k)) (fun q => wb (ix2 q k)) := by
  simp only [gated]
  pointwise [rC]

/-- The rows before their normalisation, as the reference composes them. -/
def rY (C : FVec Ideal S4x8192x1024 .f32) : FVec Ideal S4x8192x1024 .f32 :=
  addf (mulf (broadcastInDim S4x8192x1024 ![] bcast_S_S4x8192x1024 (constant S_ .f32 0x3F9837F0#32)) h) (Host.dotGeneral dot_S4x8192x1024_S1024x1024_S4x8192x1024_2_0_01_1_n_n none C wm)

/-- The rows before their normalisation, at an index. -/
theorem rY_apply (C : FVec Ideal S4x8192x1024 .f32) (b : Fin 4) (r : Fin 8192) (d : Fin 1024) :
    rY h wm C (ix3 b r d) = merged (h (ix3 b r d)) (fun k => C (ix3 b r k)) (fun k => wm (ix2 k d)) := by
  simp only [merged]
  pointwise [rY]

/-- The normalised rows, as the reference composes them. -/
def rN (Y : FVec Ideal S4x8192x1024 .f32) : FVec Ideal S4x8192x1024 .f32 :=
  have mu : FVec Ideal S4x8192x1 .f32 := Host.divf (broadcastInDim S4x8192x1 ![0, 1] bcast_S4x8192_S4x8192x1_0_1 (Host.reduceAdd Y (constant S_ .f32 0x00000000#32) reducesTo_S4x8192x1024_S4x8192_d2 h_S_)) (broadcastInDim S4x8192x1 ![] bcast_S_S4x8192x1 (constant S_ .f32 0x44800000#32))
  have e : FVec Ideal S4x8192x1024 .f32 := subf Y (broadcastInDim S4x8192x1024 ![0, 1, 2] bcast_S4x8192x1_S4x8192x1024_0_1_2 mu)
  addf (mulf (mulf e (broadcastInDim S4x8192x1024 ![0, 1, 2] bcast_S4x8192x1_S4x8192x1024_0_1_2 (Host.rsqrt (addf (Host.divf (broadcastInDim S4x8192x1 ![0, 1] bcast_S4x8192_S4x8192x1_0_1 (Host.reduceAdd (mulf e e) (constant S_ .f32 0x00000000#32) reducesTo_S4x8192x1024_S4x8192_d2 h_S_)) (broadcastInDim S4x8192x1 ![] bcast_S_S4x8192x1 (constant S_ .f32 0x44800000#32))) (broadcastInDim S4x8192x1 ![] bcast_S_S4x8192x1 (constant S_ .f32 0x3727C5AC#32)))))) (broadcastInDim S4x8192x1024 ![0, 1, 2] bcast_S1x1x1024_S4x8192x1024_0_1_2 (broadcastInDim S1x1x1024 ![2] bcast_S1024_S1x1x1024_2 g))) (broadcastInDim S4x8192x1024 ![0, 1, 2] bcast_S1x1x1024_S4x8192x1024_0_1_2 (broadcastInDim S1x1x1024 ![2] bcast_S1024_S1x1x1024_2 be))

/-- The normalised rows at an index. -/
theorem rN_apply (Y : FVec Ideal S4x8192x1024 .f32) (b : Fin 4) (r : Fin 8192) (d : Fin 1024) :
    rN g be Y (ix3 b r d) = lnRow (fun d => Y (ix3 b r d)) d * g (ix1 d) + be (ix1 d) := by
  simp only [lnRow, mean]
  pointwise [rN]

/-- The reference's result is the normalisation of the merged rows. -/
theorem res_eq (m : (ℓ : Loc nD τ sig) → Buf (Elt Ideal) ℓ) (c : Dev nD) :
    res_main_v34 m c = rN (m ((c.tc : Thread nD τ).loc main_arg7)) (m ((c.tc : Thread nD τ).loc main_arg8))
      (rY (m ((c.tc : Thread nD τ).loc main_arg3)) (m ((c.tc : Thread nD τ).loc main_arg6))
        (rC (m ((c.tc : Thread nD τ).loc main_arg0)) (m ((c.tc : Thread nD τ).loc main_arg1)) (m ((c.tc : Thread nD τ).loc main_arg2))
          (m ((c.tc : Thread nD τ).loc main_arg4)) (m ((c.tc : Thread nD τ).loc main_arg5)))) := rfl

end Cert.Reference4Ideal.Value

namespace Cert.Kernel4Ideal.Value

open Cert.Kernel4Ideal Cert.Kernel4Ideal.Gen Cert.Mix

variable (m : (ℓ : Loc nD τ sig) → Buf (Elt Ideal) ℓ)

section Payloads
variable (v0 : FVec Ideal S1x512x512 .bf16) (v2 v16 : FVec Ideal S512x1024 .bf16) (a0 a1 a2 a3 : FVec Ideal S1x512x1x128 .f32)
  (v19 : FVec Ideal S1x512x2048 .bf16) (w : FVec Ideal S1024x1024 .bf16) (h : FVec Ideal S1x512x1024 .f32) (g b : FVec Ideal S1x1024 .f32)

/-- Four quarters of 128 positions side by side. -/
def cat : FVec Ideal S512x512 .f32 :=
  concatenate S512x512 1 [⟨S512x128, shapeCast S512x128 a0 shapeCasts_S1x512x1x128_S512x128⟩, ⟨S512x128, shapeCast S512x128 a1 shapeCasts_S1x512x1x128_S512x128⟩, ⟨S512x128, shapeCast S512x128 a2 shapeCasts_S1x512x1x128_S512x128⟩, ⟨S512x128, shapeCast S512x128 a3 shapeCasts_S1x512x1x128_S512x128⟩] concatenates_S512x128_S512x128_S512x128_S512x128_S512x512_d1

/-- The four quarters side by side, at an entry, when all four are parts of one array of rows of 128 positions. -/
theorem cat_apply (f : Fin 512 → Fin 4 → Fin 128 → EReal) (h0 : ∀ q s, a0 (ix4 0 q 0 s) = f q 0 s) (h1 : ∀ q s, a1 (ix4 0 q 0 s) = f q 1 s)
    (h2 : ∀ q s, a2 (ix4 0 q 0 s) = f q 2 s) (h3 : ∀ q s, a3 (ix4 0 q 0 s) = f q 3 s) (q r : Fin 512) :
    cat a0 a1 a2 a3 (ix2 q r) = f q ⟨r.val / 128, by omega⟩ ⟨r.val % 128, by omega⟩ := by
  pointwise [cat]
  split
  · rw [h0]
    congr 1 <;> apply Fin.ext <;> simp <;> omega
  split
  · rw [h1]
    congr 1 <;> apply Fin.ext <;> simp <;> omega
  split
  · rw [h2]
    congr 1 <;> apply Fin.ext <;> simp <;> omega
  · rw [h3]
    congr 1 <;> apply Fin.ext <;> simp <;> omega

/-- The gated sum of a half block, of the transposed branch's rows. -/
def comb (Z : FVec Ideal S512x512 .f32) : FVec Ideal S512x1024 .bf16 :=
  have v4 : FVec Ideal S512x1024 .f32 := matmul dot_S512x512_S512x1024_S512x1024_1_0_0_1_n_n none (shapeCast S512x512 v0 shapeCasts_S1x512x512_S512x512) (shapeCast S512x1024 v2 shapeCasts_S512x1024_S512x1024) (constant S512x1024 .f32 0x00000000#32)
  have v18 : FVec Ideal S512x1024 .f32 := matmul dot_S512x512_S512x1024_S512x1024_1_0_0_1_n_n none (truncf .bf16 (transpose S512x512 [1, 0] Z transposes_S512x512_p1_0_S512x512) bitsLt_bf16_f32) (shapeCast S512x1024 v16 shapeCasts_S512x1024_S512x1024) (constant S512x1024 .f32 0x00000000#32)
  have v21 : FVec Ideal S512x2048 .f32 := extf .f32 (shapeCast S512x2048 v19 shapeCasts_S1x512x2048_S512x2048) bitsLt_bf16_f32
  truncf .bf16 (addf (mulf (extractStridedSlice S512x1024 ![0, 0] v21 slices_S512x2048_o0_0_S512x1024) v4) (mulf (extractStridedSlice S512x1024 ![0, 1024] v21 slices_S512x2048_o0_1024_S512x1024) v18)) bitsLt_bf16_f32

/-- The gated sum the kernel composes for the first half of a block. -/
theorem pay2_eq : k0_pay2 (F := Ideal) v0 v2 a0 a1 a2 a3 v16 v19 = comb v0 v2 v16 v19 (cat a0 a1 a2 a3) := rfl

/-- The gated sum of a half block, at an entry. -/
theorem comb_apply (Z : FVec Ideal S512x512 .f32) (r : Fin 512) (k : Fin 1024) :
    comb v0 v2 v16 v19 Z (ix2 r k) = gated (v19 (ix3 0 r ⟨k.val, by omega⟩)) (v19 (ix3 0 r ⟨1024 + k.val, by omega⟩))
      (fun q => v0 (ix3 0 r q)) (fun q => Z (ix2 q r)) (fun q => v2 (ix2 q k)) (fun q => v16 (ix2 q k)) := by
  simp only [gated]
  pointwise [comb]

/-- The rows of a half block before their normalisation. -/
def preY (C : FVec Ideal S512x1024 .bf16) : FVec Ideal S512x1024 .f32 :=
  addf (mulf (broadcast S512x1024 (Scalar.ofBits .f32 0x3F9837F0#32)) (shapeCast S512x1024 h shapeCasts_S1x512x1024_S512x1024))
    (matmul dot_S512x1024_S1024x1024_S512x1024_1_0_0_1_n_n none C (shapeCast S1024x1024 w shapeCasts_S1024x1024_S1024x1024) (constant S512x1024 .f32 0x00000000#32))

/-- The rows of a half block before their normalisation, at an entry. -/
theorem preY_apply (C : FVec Ideal S512x1024 .bf16) (r : Fin 512) (d : Fin 1024) :
    preY w h C (ix2 r d) = merged (h (ix3 0 r d)) (fun k => C (ix2 r k)) (fun k => w (ix2 k d)) := by
  simp only [merged]
  pointwise [preY]

/-- The normalisation of a half block, as the kernel composes it. -/
def lnB (y : FVec Ideal S512x1024 .f32) : FVec Ideal S1x512x1024 .f32 :=
  have mu : FVec Ideal S512x1 .f32 := divf (shapeCast S512x1 (multiReduction .add [1] S512 y 0x00000000#32 reduces_S512x1024_S512 (.inl rfl) rfl) shapeCasts_S512_S512x1) (broadcast S512x1 (Scalar.ofBits .f32 0x44800000#32))
  have e : FVec Ideal S512x1024 .f32 := subf y (broadcastTo S512x1024 mu broadcasts_S512x1_S512x1024)
  have va : FVec Ideal S512x1 .f32 := divf (shapeCast S512x1 (multiReduction .add [1] S512 (mulf e e) 0x00000000#32 reduces_S512x1024_S512 (.inl rfl) rfl) shapeCasts_S512_S512x1) (broadcast S512x1 (Scalar.ofBits .f32 0x44800000#32))
  have s : FVec Ideal S512x1 .f32 := rsqrt (addf va (broadcast S512x1 (Scalar.ofBits .f32 0x3727C5AC#32)))
  shapeCast S1x512x1024 (addf (mulf (mulf e (broadcastTo S512x1024 s broadcasts_S512x1_S512x1024))
    (broadcastTo S512x1024 (shapeCast S1x1024 g shapeCasts_S1x1024_S1x1024) broadcasts_S1x1024_S512x1024))
    (broadcastTo S512x1024 (shapeCast S1x1024 b shapeCasts_S1x1024_S1x1024) broadcasts_S1x1024_S512x1024)) shapeCasts_S512x1024_S1x512x1024

/-- The normalisation of a half block, at an entry. -/
theorem lnB_apply (y : FVec Ideal S512x1024 .f32) (z : Fin 1) (r : Fin 512) (d : Fin 1024) :
    lnB g b y (ix3 z r d) = lnRow (fun d => y (ix2 r d)) d * g (ix2 0 d) + b (ix2 0 d) := by
  simp only [lnRow, mean]
  pointwise [lnB]

/-- The rows stored for the first half of a block are the normalisation of the rows put together. -/
theorem pay3_eq (C : FVec Ideal S512x1024 .bf16) : k0_pay3 (F := Ideal) C w h g b = lnB g b (preY w h C) := by
  unfold k0_pay3 lnB preY
  rfl

/-- The rows stored for the second half of a block are composed as the first's. -/
theorem pay1_eq : k0_pay1 (F := Ideal) (k0_pay5 (k0_pay4 v0) v2 a0 a1 a2 a3 v16 v19 w) (k0_pay6 h) g b
      = k0_pay3 (F := Ideal) (k0_pay2 v0 v2 a0 a1 a2 a3 v16 v19) w h g b := by
  unfold k0_pay1 k0_pay5 k0_pay4 k0_pay6 k0_pay3 k0_pay2
  rfl

end Payloads

section Blocks
variable (x0 : FVec Ideal S1x1024x512 .bf16) (x1 : FVec Ideal S1x512x8x128 .f32) (x2 : FVec Ideal S1x1024x2048 .bf16) (x3 : FVec Ideal S1x1024x1024 .f32)
  (x4 x5 : FVec Ideal S512x1024 .bf16) (x6 : FVec Ideal S1024x1024 .bf16) (x7 x8 : FVec Ideal S1x1024 .f32)

/-- The gated sum of a block, at an entry. -/
def cB (r k : Fin 1024) : EReal :=
  gated (x2 (ix3 0 r ⟨k.val, by omega⟩)) (x2 (ix3 0 r ⟨1024 + k.val, by omega⟩)) (fun q => x0 (ix3 0 r q))
    (fun q => x1 (ix4 0 q ⟨r.val / 128, by omega⟩ ⟨r.val % 128, by omega⟩)) (fun q => x4 (ix2 q k)) (fun q => x5 (ix2 q k))

/-- The rows of a block before their normalisation, at an entry. -/
def yB (r d : Fin 1024) : EReal := merged (x3 (ix3 0 r d)) (fun k => cB x0 x1 x2 x4 x5 r k) (fun k => x6 (ix2 k d))

/-- The normalised rows of a block, at an entry. -/
def nB (r d : Fin 1024) : EReal := lnRow (fun d => yB x0 x1 x2 x3 x4 x5 x6 r d) d * x7 (ix2 0 d) + x8 (ix2 0 d)

/-- The gated sum of the first half of a point, at an entry. -/
theorem lo_apply (r : Fin 512) (k : Fin 1024) :
    k0_pay2 (F := Ideal) (View.ld (Val := Elt Ideal) x0 r0_0) (View.ld (Val := Elt Ideal) x4 r0_1) (View.ld (Val := Elt Ideal) x1 r0_2) (View.ld (Val := Elt Ideal) x1 r0_3) (View.ld (Val := Elt Ideal) x1 r0_4) (View.ld (Val := Elt Ideal) x1 r0_5) (View.ld (Val := Elt Ideal) x5 r0_1) (View.ld (Val := Elt Ideal) x2 r0_6) (ix2 r k)
      = cB x0 x1 x2 x4 x5 ⟨r.val, by omega⟩ k := by
  rw [pay2_eq, comb_apply]
  simp only [cB]
  congr 1
  · pointwise
  · pointwise
  · funext q; pointwise
  · funext q
    refine (cat_apply _ _ _ _ (fun q i s => x1 (ix4 0 q ⟨i.val, by omega⟩ s)) (fun q s => ?_) (fun q s => ?_) (fun q s => ?_) (fun q s => ?_) q r).trans ?_
    · pointwise
    · pointwise
    · pointwise
    · pointwise
    · rfl
  · funext q; pointwise
  · funext q; pointwise

/-- The gated sum of the second half of a point, at an entry. -/
theorem hi_apply (r : Fin 512) (k : Fin 1024) :
    k0_pay2 (F := Ideal) (View.ld (Val := Elt Ideal) x0 r0_10) (View.ld (Val := Elt Ideal) x4 r0_1) (View.ld (Val := Elt Ideal) x1 r0_11) (View.ld (Val := Elt Ideal) x1 r0_12) (View.ld (Val := Elt Ideal) x1 r0_13) (View.ld (Val := Elt Ideal) x1 r0_14) (View.ld (Val := Elt Ideal) x5 r0_1) (View.ld (Val := Elt Ideal) x2 r0_15) (ix2 r k)
      = cB x0 x1 x2 x4 x5 ⟨512 + r.val, by omega⟩ k := by
  rw [pay2_eq, comb_apply]
  simp only [cB]
  congr 1
  · pointwise
  · pointwise
  · funext q; pointwise
  · funext q
    refine (cat_apply _ _ _ _ (fun q i s => x1 (ix4 0 q ⟨4 + i.val, by omega⟩ s)) (fun q s => ?_) (fun q s => ?_) (fun q s => ?_) (fun q s => ?_) q r).trans ?_
    · pointwise
    · pointwise
    · pointwise
    · pointwise
    · refine congrArg₂ (fun i s => x1 (ix4 0 q i s)) ?_ ?_ <;> apply Fin.ext <;> simp <;> omega
  · funext q; pointwise
  · funext q; pointwise

/-- The rows the first half of a point stores, at an entry. -/
theorem loN (C : FVec Ideal S512x1024 .bf16) (hC : ∀ r k, C (ix2 r k) = cB x0 x1 x2 x4 x5 ⟨r.val, by omega⟩ k) (z : Fin 1) (r : Fin 512) (d : Fin 1024) :
    k0_pay3 (F := Ideal) C (View.ld (Val := Elt Ideal) x6 r0_7) (View.ld (Val := Elt Ideal) x3 r0_8) (View.ld (Val := Elt Ideal) x7 r0_9) (View.ld (Val := Elt Ideal) x8 r0_9) (ix3 z r d)
      = nB x0 x1 x2 x3 x4 x5 x6 x7 x8 ⟨r.val, by omega⟩ d := by
  rw [pay3_eq, lnB_apply]
  simp only [nB, yB, preY_apply, hC]
  congr 1
  · congr 1
    · refine congrArg (fun f => lnRow f d) (funext fun d => ?_)
      congr 1
      · pointwise
      · funext k; pointwise
    · pointwise
  · pointwise

/-- The rows the second half of a point stores, at an entry. -/
theorem hiN (C : FVec Ideal S512x1024 .bf16) (hC : ∀ r k, C (ix2 r k) = cB x0 x1 x2 x4 x5 ⟨512 + r.val, by omega⟩ k) (z : Fin 1) (r : Fin 512) (d : Fin 1024) :
    k0_pay3 (F := Ideal) C (View.ld (Val := Elt Ideal) x6 r0_7) (View.ld (Val := Elt Ideal) x3 r0_16) (View.ld (Val := Elt Ideal) x7 r0_9) (View.ld (Val := Elt Ideal) x8 r0_9) (ix3 z r d)
      = nB x0 x1 x2 x3 x4 x5 x6 x7 x8 ⟨512 + r.val, by omega⟩ d := by
  rw [pay3_eq, lnB_apply]
  simp only [nB, yB, preY_apply, hC]
  congr 1
  · congr 1
    · refine congrArg (fun f => lnRow f d) (funext fun d => ?_)
      congr 1
      · pointwise
      · funext k; pointwise
    · pointwise
  · pointwise

/-- The normalised rows a point leaves. -/
theorem out_apply (j : S1x1024x1024.Idx) : out0_9 (F := Ideal) x0 x1 x2 x3 x4 x5 x6 x7 x8 j = (fun j => (nB x0 x1 x2 x3 x4 x5 x6 x7 x8 (j 1) (j 2) : EReal)) j := by
  unfold out0_9
  refine View.canon_append_of_piecesOf (s := S1x1024x1024) (Val := Elt Ideal) (e := .f32) (fun j => (nB x0 x1 x2 x3 x4 x5 x6 x7 x8 (j 1) (j 2) : EReal)) [] [_, _] ⟨fun x => ?_, fun x => ?_, trivial⟩ j
    (View.cover_of_tiledL _ ![1, 512, 1024] ?_ j)
  · obtain ⟨z, r, d, rfl⟩ : ∃ (z : Fin 1) (r : Fin 512) (d : Fin 1024), x = ix3 z r d := ⟨x 0, x 1, x 2, eq_ix3 x⟩
    rw [show (r0_16.emb (ix3 z r d) : S1x1024x1024.Idx) = ix3 0 ⟨512 + r.val, by omega⟩ d from by blk_ext]
    refine (congrFun (pay1_eq _ _ _ _ _ _ _ _ _ _ _ _) _).trans ((hiN x0 x1 x2 x3 x4 x5 x6 x7 x8 _ (fun r k => hi_apply x0 x1 x2 x4 x5 r k) z r d).trans ?_)
    rfl
  · obtain ⟨z, r, d, rfl⟩ : ∃ (z : Fin 1) (r : Fin 512) (d : Fin 1024), x = ix3 z r d := ⟨x 0, x 1, x 2, eq_ix3 x⟩
    rw [show (r0_8.emb (ix3 z r d) : S1x1024x1024.Idx) = ix3 0 ⟨r.val, by omega⟩ d from by blk_ext]
    refine (loN x0 x1 x2 x3 x4 x5 x6 x7 x8 _ (fun r k => lo_apply x0 x1 x2 x4 x5 r k) z r d).trans ?_
    rfl
  · rfl

end Blocks

/-- Every window's block index at every grid point. -/
theorem idxM : ∀ t : Fin cfg0.N, win0_0.index t = ![t.val / 8, t.val % 8, 0]
    ∧ win0_1.index t = ![t.val / 8, 0, t.val % 8, 0]
    ∧ win0_2.index t = ![t.val / 8, t.val % 8, 0]
    ∧ win0_3.index t = ![t.val / 8, t.val % 8, 0]
    ∧ win0_4.index t = ![0, 0]
    ∧ win0_5.index t = ![0, 0]
    ∧ win0_6.index t = ![0, 0]
    ∧ win0_7.index t = ![0, 0]
    ∧ win0_8.index t = ![0, 0]
    ∧ win0_9.index t = ![t.val / 8, t.val % 8, 0] :=
  (by decide +kernel : ∀ t : Fin grid0.N, _)

/-- The first branch's rows on a core. -/
abbrev u_ (c : Dev nD) : FVec Ideal S4x8192x512 .f32 := m ((c : Thread nD τ).loc main_arg0)
/-- The second branch's rows on a core. -/
abbrev z_ (c : Dev nD) : FVec Ideal S4x8192x512 .f32 := m ((c : Thread nD τ).loc main_arg1)
/-- The gates on a core. -/
abbrev ga_ (c : Dev nD) : FVec Ideal S4x8192x2048 .f32 := m ((c : Thread nD τ).loc main_arg2)
/-- The residual rows on a core. -/
abbrev h_ (c : Dev nD) : FVec Ideal S4x8192x1024 .f32 := m ((c : Thread nD τ).loc main_arg3)
/-- The first branch's output weights on a core. -/
abbrev wa_ (c : Dev nD) : FVec Ideal S512x1024 .f32 := m ((c : Thread nD τ).loc main_arg4)
/-- The second branch's output weights on a core. -/
abbrev wb_ (c : Dev nD) : FVec Ideal S512x1024 .f32 := m ((c : Thread nD τ).loc main_arg5)
/-- The merging weights on a core. -/
abbrev wm_ (c : Dev nD) : FVec Ideal S1024x1024 .f32 := m ((c : Thread nD τ).loc main_arg6)
/-- The normalisation's gains on a core. -/
abbrev g_ (c : Dev nD) : FVec Ideal S1024 .f32 := m ((c : Thread nD τ).loc main_arg7)
/-- The normalisation's biases on a core. -/
abbrev b_ (c : Dev nD) : FVec Ideal S1024 .f32 := m ((c : Thread nD τ).loc main_arg8)

/-- The batch a point works on. -/
def bat (t : Fin cfg0.N) : Fin 4 := ⟨t.val / 8, by have : t.val < 32 := t.isLt; omega⟩
/-- The row of the whole array that row `r` of a point's block is. -/
def row (t : Fin cfg0.N) (r : Fin 1024) : Fin 8192 := ⟨t.val % 8 * 1024 + r.val, by omega⟩

/-- A block of the first branch, at an entry. -/
theorem ib0 (c : Dev nD) (t : Fin cfg0.N) (r : Fin 1024) (d : Fin 512) : (iblk m c 0 t : Vec Ideal S1x1024x512 .bf16) (ix3 0 r d) = u_ m c (ix3 (bat t) (row t r) d) := by
  blk_point [iblk, V, idxM t]
  all_goals rfl
/-- A block of the gates, at an entry. -/
theorem ib2 (c : Dev nD) (t : Fin cfg0.N) (r : Fin 1024) (d : Fin 2048) : (iblk m c 2 t : Vec Ideal S1x1024x2048 .bf16) (ix3 0 r d) = ga_ m c (ix3 (bat t) (row t r) d) := by
  blk_point [iblk, V, idxM t]
  all_goals rfl
/-- A block of the residual, at an entry. -/
theorem ib3 (c : Dev nD) (t : Fin cfg0.N) (r d : Fin 1024) : (iblk m c 3 t : Vec Ideal S1x1024x1024 .f32) (ix3 0 r d) = h_ m c (ix3 (bat t) (row t r) d) := by
  blk_point [iblk, V, idxM t]
  all_goals rfl
/-- The first branch's output weights as the kernel reads them. -/
theorem ib4 (c : Dev nD) (t : Fin cfg0.N) (s : Fin 512) (d : Fin 1024) : (iblk m c 4 t : Vec Ideal S512x1024 .bf16) (ix2 s d) = wa_ m c (ix2 s d) := by
  blk_point [iblk, V, idxM t]
/-- The second branch's output weights as the kernel reads them. -/
theorem ib5 (c : Dev nD) (t : Fin cfg0.N) (s : Fin 512) (d : Fin 1024) : (iblk m c 5 t : Vec Ideal S512x1024 .bf16) (ix2 s d) = wb_ m c (ix2 s d) := by
  blk_point [iblk, V, idxM t]
/-- The merging weights as the kernel reads them. -/
theorem ib6 (c : Dev nD) (t : Fin cfg0.N) (s d : Fin 1024) : (iblk m c 6 t : Vec Ideal S1024x1024 .bf16) (ix2 s d) = wm_ m c (ix2 s d) := by
  blk_point [iblk, V, idxM t]
/-- The gain as the kernel reads it. -/
theorem ib7 (c : Dev nD) (t : Fin cfg0.N) (d : Fin 1024) : (iblk m c 7 t : Vec Ideal S1x1024 .f32) (ix2 0 d) = g_ m c (ix1 d) := by
  blk_point [iblk, V, idxM t]
/-- The bias as the kernel reads it. -/
theorem ib8 (c : Dev nD) (t : Fin cfg0.N) (d : Fin 1024) : (iblk m c 8 t : Vec Ideal S1x1024 .f32) (ix2 0 d) = b_ m c (ix1 d) := by
  blk_point [iblk, V, idxM t]
/-- A block of the second branch, at an entry: channels first, the rows split into groups of 128. -/
theorem ib1 (c : Dev nD) (t : Fin cfg0.N) (q : Fin 512) (r : Fin 1024) :
    (iblk m c 1 t : Vec Ideal S1x512x8x128 .f32) (ix4 0 q ⟨r.val / 128, by omega⟩ ⟨r.val % 128, by omega⟩) = z_ m c (ix3 (bat t) (row t r) q) := by
  blk_point [iblk, V, idxM t]
  · rfl
  · show _ = t.val % 8 * 1024 + r.val
    omega

open Cert.Reference4Ideal.Value (rC rC_apply rY rY_apply rN rN_apply)

/-- The reference's normalised rows of the kernel's arguments. -/
abbrev mixed (c : Dev nD) : FVec Ideal Cert.Reference4Ideal.S4x8192x1024 .f32 :=
  rN (g_ m c) (b_ m c) (rY (h_ m c) (wm_ m c) (rC (u_ m c) (z_ m c) (ga_ m c) (wa_ m c) (wb_ m c)))

/-- The result, after the run, is the reference's normalised rows. -/
theorem final (c : Dev nD) : (dats m 0 c).arrAt 9 cfg0.N = mixed m c := by
  refine (dats m 0 c).arrAt_eq_of_covers 9 _ (by decide +kernel) fun t hf y => ?_
  blk_simp
  rw [after0_9]
  obtain ⟨z, r, d, rfl⟩ : ∃ (z : Fin 1) (r d : Fin 1024), y = ix3 z r d := ⟨y 0, y 1, y 2, eq_ix3 y⟩
  have h : ((win0_9.blk t).view.emb (ix3 z r d) : S4x8192x1024.Idx) = ix3 (bat t) (row t r) d := by
    blk_ext [idxM t]
    all_goals rfl
  refine (out_apply _ _ _ _ _ _ _ _ _ (ix3 z r d)).trans (Eq.trans ?_ (congrArg (mixed m c) h).symm)
  show nB _ _ _ _ _ _ _ _ _ r d = rN (g_ m c) (b_ m c) (rY (h_ m c) (wm_ m c) (rC (u_ m c) (z_ m c) (ga_ m c) (wa_ m c) (wb_ m c))) (ix3 (bat t) (row t r) d)
  rw [rN_apply]
  simp only [nB, yB, cB, rY_apply, rC_apply, ib0, ib1, ib2, ib3, ib4, ib5, ib6, ib7, ib8]

end Cert.Kernel4Ideal.Value
-- ==== Proof.CombineRef.lean ====
module

public import proofs.«01_k».proof.Proof.Gen.Reference5Ideal.Run
public import proofs.«01_k».proof.Proof.AttnFn
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem
open Cert.Attn (lnRow mean)
open scoped BigOperators

namespace Cert.Comb

/-- What one expert adds to one entry of a token's row: the gate times the row of the expert's output at the token's place,
    nothing where the place is none of the 1024. -/
def taken (s : BitVec 32) (g : EReal) (y : Fin 1024 → EReal) : EReal := if h : s.toNat < 1024 then g * y ⟨s.toNat, h⟩ else 0

/-- The mark of a comparison for equality, as a number. -/
theorem mark_eq (a b : BitVec 32) : FloatOps.uitofp (F := Ideal) FTy.f32 (IntOp.cmpi CmpIPredicate.eq a b) = if a = b then (1 : EReal) else 0 := by
  by_cases h : a = b
  · subst h
    simp [IntOp.cmpi, FloatOps.uitofp]
  · simp [IntOp.cmpi, FloatOps.uitofp, h]

/-- Summing the marked places of a row leaves the row's entry at the marked place. -/
theorem sum_marked (s : BitVec 32) (g : EReal) (y : Fin 1024 → EReal) :
    ∑ p : Fin 1024, FloatOps.uitofp (F := Ideal) FTy.f32 (IntOp.cmpi CmpIPredicate.eq s (BitVec.ofNat 32 p.val)) * g * y p = taken s g y := by
  have hp : ∀ p : Fin 1024, s = BitVec.ofNat 32 p.val ↔ s.toNat = p.val := fun p => by
    rw [← BitVec.toNat_inj, BitVec.toNat_ofNat, Nat.mod_eq_of_lt (by omega)]
  simp only [mark_eq, hp, taken]
  split
  · next h =>
    rw [Finset.sum_eq_single ⟨s.toNat, h⟩ (fun p _ hne => by rw [if_neg (fun e => hne (Fin.ext e.symm)), zero_mul, zero_mul])
      (fun hn => absurd (Finset.mem_univ _) hn), if_pos rfl, one_mul]
  · next h =>
    refine Finset.sum_eq_zero fun p _ => ?_
    rw [if_neg (fun e => h (by omega)), zero_mul, zero_mul]

end Cert.Comb

namespace Cert.Reference5Ideal.Value

open Cert.Reference5Ideal Cert.Reference5Ideal.Gen Cert.Comb

variable (x : FVec Ideal S4x8192x1024 .f32) (s : IVec S4x8192x16 32) (gt : FVec Ideal S4x8192x16 .f32)
  (g be : FVec Ideal S1024 .f32) (y : FVec Ideal S4x16x1024x1024 .f32)

/-- The rows before their normalisation, as the reference composes them. -/
def rY : FVec Ideal S4x8192x1024 .f32 :=
  addf (mulf (broadcastInDim S4x8192x1024 ![] bcast_S_S4x8192x1024 (constant S_ .f32 0x3F9837F0#32)) x) (Host.dotGeneral dot_S4x8192x16x1024_S4x16x1024x1024_S4x8192x1024_32_21_1_3_0_0 none (mulf (uitofp .f32 (cmpi .eq (broadcastInDim S4x8192x16x1024 ![0, 1, 2, 3] bcast_S4x8192x16x1_S4x8192x16x1024_0_1_2_3 (broadcastInDim S4x8192x16x1 ![0, 1, 2] bcast_S4x8192x16_S4x8192x16x1_0_1_2 s)) (broadcastInDim S4x8192x16x1024 ![0, 1, 2, 3] bcast_S1x1x1x1024_S4x8192x16x1024_0_1_2_3 (iotaInDim S1x1x1x1024 32 3)))) (broadcastInDim S4x8192x16x1024 ![0, 1, 2, 3] bcast_S4x8192x16x1_S4x8192x16x1024_0_1_2_3 (broadcastInDim S4x8192x16x1 ![0, 1, 2] bcast_S4x8192x16_S4x8192x16x1_0_1_2 gt))) y)

/-- The rows before their normalisation, at an index. -/
theorem rY_apply (b : Fin 4) (r : Fin 8192) (d : Fin 1024) :
    rY x s gt y (ix3 b r d) = Ideal.ofBits FTy.f32 1066940400#32 * x (ix3 b r d)
      + ∑ e : Fin 16, taken (s (ix3 b r e)) (gt (ix3 b r e)) (fun p => y (ix4 b e p d)) := by
  pointwise [rY]
  rw [Finset.sum_comm]
  simp only [sum_marked]

/-- The normalised rows, as the reference composes them. -/
def rN (Y : FVec Ideal S4x8192x1024 .f32) : FVec Ideal S4x8192x1024 .f32 :=
  have mu : FVec Ideal S4x8192x1 .f32 := Host.divf (broadcastInDim S4x8192x1 ![0, 1] bcast_S4x8192_S4x8192x1_0_1 (Host.reduceAdd Y (constant S_ .f32 0x00000000#32) reducesTo_S4x8192x1024_S4x8192_d2 h_S_)) (broadcastInDim S4x8192x1 ![] bcast_S_S4x8192x1 (constant S_ .f32 0x44800000#32))
  have e : FVec Ideal S4x8192x1024 .f32 := subf Y (broadcastInDim S4x8192x1024 ![0, 1, 2] bcast_S4x8192x1_S4x8192x1024_0_1_2 mu)
  addf (mulf (mulf e (broadcastInDim S4x8192x1024 ![0, 1, 2] bcast_S4x8192x1_S4x8192x1024_0_1_2 (Host.rsqrt (addf (Host.divf (broadcastInDim S4x8192x1 ![0, 1] bcast_S4x8192_S4x8192x1_0_1 (Host.reduceAdd (mulf e e) (constant S_ .f32 0x00000000#32) reducesTo_S4x8192x1024_S4x8192_d2 h_S_)) (broadcastInDim S4x8192x1 ![] bcast_S_S4x8192x1 (constant S_ .f32 0x44800000#32))) (broadcastInDim S4x8192x1 ![] bcast_S_S4x8192x1 (constant S_ .f32 0x3727C5AC#32)))))) (broadcastInDim S4x8192x1024 ![0, 1, 2] bcast_S1x1x1024_S4x8192x1024_0_1_2 (broadcastInDim S1x1x1024 ![2] bcast_S1024_S1x1x1024_2 g))) (broadcastInDim S4x8192x1024 ![0, 1, 2] bcast_S1x1x1024_S4x8192x1024_0_1_2 (broadcastInDim S1x1x1024 ![2] bcast_S1024_S1x1x1024_2 be))

/-- The normalised rows at an index. -/
theorem rN_apply (Y : FVec Ideal S4x8192x1024 .f32) (b : Fin 4) (r : Fin 8192) (d : Fin 1024) :
    rN g be Y (ix3 b r d) = lnRow (fun d => Y (ix3 b r d)) d * g (ix1 d) + be (ix1 d) := by
  simp only [lnRow, mean]
  pointwise [rN]

/-- The reference's result is the normalisation of the rows put together. -/
theorem res_eq (m : (ℓ : Loc nD τ sig) → Buf (Elt Ideal) ℓ) (c : Dev nD) :
    res_out0 m c = rN (m ((c.tc : Thread nD τ).loc main_arg4)) (m ((c.tc : Thread nD τ).loc main_arg5))
      (rY (m ((c.tc : Thread nD τ).loc main_arg1)) (m ((c.tc : Thread nD τ).loc main_arg2)) (m ((c.tc : Thread nD τ).loc main_arg3))
        (m ((c.tc : Thread nD τ).loc main_arg6))) := rfl

end Cert.Reference5Ideal.Value

end
-- ==== Proof.CombineStep.lean ====
module

public import proofs.«01_k».proof.Proof.Gen.Kernel5Ideal.Frame
public import proofs.«01_k».proof.Proof.CombineRef

@[expose] public section

set_option maxRecDepth 131072

noncomputable section

open Idealize.ShloMosaic Idealize.ShloMosaic.TcCoe Idealize.SL.Sem
open Cert.Attn (lnRow mean)
open scoped BigOperators

namespace Cert.Kernel5Ideal.Value

open Cert.Kernel5Ideal Cert.Kernel5Ideal.Gen Cert.Comb

section Steps
variable (X : FVec Ideal S1x128x1024 .f32) (S : IVec S1x128x16 32) (G : FVec Ideal S1x128x16 .f32) (g b : FVec Ideal S1x1024 .f32)
  (w : Fin 16 → BitVec 32) (Y : Fin 16 → FVec Ideal S1x1x144x1024 .bf16)

/-- A column of the places or the gates of a tile is inside it. -/
theorem col_in (e : Fin 16) : S128x16.Slices ![0, e.val] S128x1 := by revert e; decide

/-- One expert's part of a tile: its gates at the window's places of its tokens, times its window of outputs. -/
def part (e : Fin 16) : FVec Ideal S128x1024 .f32 :=
  have s : IVec S128x1 32 := subi (extractStridedSlice S128x1 ![0, e.val] (shapeCast S128x16 S shapeCasts_S1x128x16_S128x16) (col_in e)) (broadcast S128x1 (k0_mult1 (w e)))
  have q : FVec Ideal S128x1 .f32 := shapeCast S128x1 (extractStridedSlice S128x1 ![0, e.val] (shapeCast S128x16 G shapeCasts_S1x128x16_S128x16) (col_in e)) shapeCasts_S128x1_S128x1
  have h : FVec Ideal S128x144 .f32 := select (cmpi .eq (iota .tc S128x144 32 [1] iota_S128x144_d1_w32) (broadcastTo S128x144 s broadcasts_S128x1_S128x144)) (broadcastTo S128x144 q broadcasts_S128x1_S128x144) (broadcast S128x144 (Scalar.ofBits .f32 0x00000000#32))
  matmul dot_S128x144_S144x1024_S128x1024_1_0_0_1_n_n none (truncf .bf16 h bitsLt_bf16_f32) (shapeCast S144x1024 (Y e) shapeCasts_S1x1x144x1024_S144x1024) (constant S128x1024 .f32 0x00000000#32)

/-- One expert's part at an entry. -/
theorem part_apply (e : Fin 16) (r : Fin 128) (d : Fin 1024) :
    part S G w Y e (ix2 r d) = ∑ k : Fin 144, (if BitVec.ofNat 32 k.val = S (ix3 0 r e) - k0_mult1 (w e) then G (ix3 0 r e) else 0) * Y e (ix4 0 0 k d) := by
  pointwise [part]
  refine Finset.sum_congr rfl fun k _ => ?_
  by_cases hk : BitVec.ofNat 32 k.val = S (ix3 0 r e) - k0_mult1 (w e)
  · rw [if_pos hk]
    simp only [IntOp.cmpi, IntOp.subi, hk]
    simp [Scalar.select]
  · rw [if_neg hk]
    simp only [IntOp.cmpi, IntOp.subi]
    simp [Scalar.select, beq_eq_false_iff_ne.mpr hk]

/-- The rows of a tile with the first `n` experts' parts added. -/
def accB : (n : ℕ) → n ≤ 16 → FVec Ideal S128x1024 .f32
  | 0, _ => mulf (broadcast S128x1024 (Scalar.ofBits .f32 0x3F9837F0#32)) (shapeCast S128x1024 X shapeCasts_S1x128x1024_S128x1024)
  | n + 1, h => addf (accB n (Nat.le_of_succ_le h)) (part S G w Y ⟨n, h⟩)

/-- The rows of a tile with the first `n` experts' parts added, at an entry. -/
theorem accB_apply (n : ℕ) (h : n ≤ 16) (r : Fin 128) (d : Fin 1024) :
    accB X S G w Y n h (ix2 r d) = Ideal.ofBits FTy.f32 1066940400#32 * X (ix3 0 r d) + ∑ e : Fin n, part S G w Y ⟨e.val, by omega⟩ (ix2 r d) := by
  induction n with
  | zero => pointwise [accB]; exact (add_zero _).symm
  | succ n ih =>
    rw [Fin.sum_univ_castSucc, ← add_assoc]
    exact congrArg (· + _) (ih (Nat.le_of_succ_le h))

/-- The normalisation of a tile, as the kernel composes it. -/
def lnB (y : FVec Ideal S128x1024 .f32) : FVec Ideal S1x128x1024 .f32 :=
  have mu : FVec Ideal S128x1 .f32 := divf (shapeCast S128x1 (multiReduction .add [1] S128 y 0x00000000#32 reduces_S128x1024_S128 (.inl rfl) rfl) shapeCasts_S128_S128x1) (broadcast S128x1 (Scalar.ofBits .f32 0x44800000#32))
  have e : FVec Ideal S128x1024 .f32 := subf y (broadcastTo S128x1024 mu broadcasts_S128x1_S128x1024)
  have va : FVec Ideal S128x1 .f32 := divf (shapeCast S128x1 (multiReduction .add [1] S128 (mulf e e) 0x00000000#32 reduces_S128x1024_S128 (.inl rfl) rfl) shapeCasts_S128_S128x1) (broadcast S128x1 (Scalar.ofBits .f32 0x44800000#32))
  have s : FVec Ideal S128x1 .f32 := rsqrt (addf va (broadcast S128x1 (Scalar.ofBits .f32 0x3727C5AC#32)))
  shapeCast S1x128x1024 (addf (mulf (mulf e (broadcastTo S128x1024 s broadcasts_S128x1_S128x1024))
    (broadcastTo S128x1024 (shapeCast S1x1024 g shapeCasts_S1x1024_S1x1024) broadcasts_S1x1024_S128x1024))
    (broadcastTo S128x1024 (shapeCast S1x1024 b shapeCasts_S1x1024_S1x1024) broadcasts_S1x1024_S128x1024)) shapeCasts_S128x1024_S1x128x1024

/-- The normalisation of a tile, at an entry. -/
theorem lnB_apply (y : FVec Ideal S128x1024 .f32) (z : Fin 1) (r : Fin 128) (d : Fin 1024) :
    lnB g b y (ix3 z r d) = lnRow (fun d => y (ix2 r d)) d * g (ix2 0 d) + b (ix2 0 d) := by
  simp only [lnRow, mean]
  pointwise [lnB]

/-- The rows stored for a tile: its rows with every expert's part added, normalised. -/
def tile : FVec Ideal S1x128x1024 .f32 := lnB g b (accB X S G w Y 16 (Nat.le_refl _))

end Steps

/-- The entry of the table for an expert and a tile of a block, as the kernel addresses it. -/
def wOff (i : grid0.Coords) (s : Fin 4) (e : Fin 16) : Fin 3 → ℕ :=
  ![(Scalar.indexCast (BitVec.ofNat 32 (i 0).val)).toNat, e.val,
    (Scalar.indexCast (Scalar.addi (Scalar.muli (BitVec.ofNat 32 (i 1).val) 4#32) (BitVec.ofNat 32 s.val))).toNat]

/-- The entry of the table in closed form. -/
theorem wOff_eq : ∀ (i : grid0.Coords) (s : Fin 4) (e : Fin 16), wOff i s e = ![(i 0).val, e.val, 4 * (i 1).val + s.val] := by decide +kernel

/-- The entry is inside the table. -/
theorem wOff_inb (i : grid0.Coords) (s : Fin 4) (e : Fin 16) (a : Fin 3) : wOff i s e a + S1x1x1.size a ≤ S4x16x64.size a := by
  rw [wOff_eq]
  have h0 : (i 0).val < 4 := (i 0).isLt
  have h1 : (i 1).val < 16 := (i 1).isLt
  fin_cases a <;> simp <;> omega

/-- The window of an expert's outputs that starts at a word's place. -/
def yOff (e : Fin 16) (w : BitVec 32) : Fin 4 → ℕ := ![0, e.val, (Scalar.indexCast (k0_mult1 w)).toNat, 0]

/-- Where a word's window starts. -/
theorem start_eq : ∀ n : Fin 1025, (k0_mult1 (BitVec.ofNat 32 n.val)).toNat = min (n.val / 16 * 16) 880 := by decide +kernel

/-- Where the window of a word in the places' range starts. -/
theorem start_of (w : BitVec 32) (h : w.toNat ≤ 1024) : (k0_mult1 w).toNat = min (w.toNat / 16 * 16) 880 := by
  have := start_eq ⟨w.toNat, by omega⟩
  rwa [show BitVec.ofNat 32 w.toNat = w from BitVec.ofNat_toNat .. |>.trans (by simp)] at this

/-- A word in the places' range starts its window at a multiple of 16, and the window is inside every expert's places. -/
theorem window_ok (w : BitVec 32) (h : w.toNat ≤ 1024) (e : Fin 16) :
    16 ∣ (k0_mult1 w).toNat ∧ ∀ a, yOff e w a + S1x1x144x1024.size a ≤ S1x16x1024x1024.size a := by
  have hs := start_of w h
  refine ⟨by rw [hs]; omega, fun a => ?_⟩
  have hc : (Scalar.indexCast (k0_mult1 w)).toNat = (k0_mult1 w).toNat := rfl
  fin_cases a <;> simp [yOff, hc, hs] <;> omega

section Pieces
variable (m : (ℓ : Loc nD τ sig) → Buf (Elt Ideal) ℓ) (hO : Ok m) (hH : Hyps m hO) (c : Dev nD) (t : Fin (cfgM m hO).N)

/-- The word of the table for an expert and a tile. -/
def word (i : grid0.Coords) (s : Fin 4) (e : Fin 16) : BitVec 32 :=
  tbM0_0.view.readAt (Elt Ideal) (Rect.unit (s := S4x16x64) (wOff i s e) S1x1x1.size (wOff_inb i s e)).toLoadRect (tbl m 0) (Shape.Idx.first (numel1_S1x1x1.symm ▸ Nat.one_pos))

/-- The rows stored for a tile of a block, of the block's inputs as they are staged. -/
def stored (s : Fin 4) (hX : ∀ a, (![0, 128 * s.val, 0] : Fin 3 → ℕ) a + (![1, 128, 1024] : Fin 3 → ℕ) a ≤ S1x512x1024.size a)
    (hS : ∀ a, (![0, 128 * s.val, 0] : Fin 3 → ℕ) a + (![1, 128, 16] : Fin 3 → ℕ) a ≤ S1x512x16.size a)
    (hW : ∀ e a, yOff e (word m (grid0.coords t) s e) a + (![1, 1, 144, 1024] : Fin 4 → ℕ) a ≤ S1x16x1024x1024.size a) : FVec Ideal S1x128x1024 .f32 :=
  tile ((ms0_0 m hO t).view.readAt (Elt Ideal) (Rect.unit (s := S1x512x1024) ![0, 128 * s.val, 0] ![1, 128, 1024] hX).toLoadRect ((hs0_0 m hO t).unread (iblk m hO c 0 t)))
    ((ms0_1 m hO t).view.readAt (Elt Ideal) (Rect.unit (s := S1x512x16) ![0, 128 * s.val, 0] ![1, 128, 16] hS).toLoadRect ((hs0_1 m hO t).unread (iblk m hO c 1 t)))
    ((ms0_2 m hO t).view.readAt (Elt Ideal) (Rect.unit (s := S1x512x16) ![0, 128 * s.val, 0] ![1, 128, 16] hS).toLoadRect ((hs0_2 m hO t).unread (iblk m hO c 2 t)))
    ((ms0_3 m hO t).view.readAt (Elt Ideal) (Rect.unit (s := S1x1024) ![0, 0] ![1, 1024] inb_S1x1024_S1x1024_0_0).toLoadRect ((hs0_3 m hO t).unread (iblk m hO c 3 t)))
    ((ms0_4 m hO t).view.readAt (Elt Ideal) (Rect.unit (s := S1x1024) ![0, 0] ![1, 1024] inb_S1x1024_S1x1024_0_0).toLoadRect ((hs0_4 m hO t).unread (iblk m hO c 4 t)))
    (word m (grid0.coords t) s)
    fun e => (ms0_5 m hO t).view.readAt (Elt Ideal) (Rect.unit (s := S1x16x1024x1024) (yOff e (word m (grid0.coords t) s e)) ![1, 1, 144, 1024] (hW e)).toLoadRect ((hs0_5 m hO t).unread (iblk m hO c 5 t))

end Pieces

end Cert.Kernel5Ideal.Value

end
-- ==== Proof.CombineOuts.lean ====
module

public import proofs.«01_k».proof.Proof.CombineStep

@[expose] public section

set_option maxRecDepth 131072

noncomputable section

open Idealize.ShloMosaic Idealize.ShloMosaic.TcCoe Idealize.SL.Sem

namespace Cert.Kernel5Ideal.Value

open Cert.Kernel5Ideal Cert.Kernel5Ideal.Gen

variable (m : (ℓ : Loc nD τ sig) → Buf (Elt Ideal) ℓ) (hO : Ok m) (hH : Hyps m hO) (c : Dev nD) (t : Fin (cfgM m hO).N)

/-- What a point leaves in the output's block: the four tiles. -/
theorem outsAt0_eq (hW : ∀ s e a, yOff e (word m (grid0.coords t) s e) a + (![1, 1, 144, 1024] : Fin 4 → ℕ) a ≤ S1x16x1024x1024.size a) :
    outsAt0 m hO hH c t = VO0_6.read (Elt Ideal) (VO0_6.writes (Elt Ideal) VO0_6.junk
      [⟨Rect.unit ![0, 384, 0] ![1, 128, 1024] inb_S1x512x1024_S1x128x1024_0_384_0, stored m hO c t 3 inb_S1x512x1024_S1x128x1024_0_384_0 inb_S1x512x16_S1x128x16_0_384_0 (hW 3)⟩,
       ⟨Rect.unit ![0, 256, 0] ![1, 128, 1024] inb_S1x512x1024_S1x128x1024_0_256_0, stored m hO c t 2 inb_S1x512x1024_S1x128x1024_0_256_0 inb_S1x512x16_S1x128x16_0_256_0 (hW 2)⟩,
       ⟨Rect.unit ![0, 128, 0] ![1, 128, 1024] inb_S1x512x1024_S1x128x1024_0_128_0, stored m hO c t 1 inb_S1x512x1024_S1x128x1024_0_128_0 inb_S1x512x16_S1x128x16_0_128_0 (hW 1)⟩,
       ⟨Rect.unit ![0, 0, 0] ![1, 128, 1024] inb_S1x512x1024_S1x128x1024_0_0_0, stored m hO c t 0 inb_S1x512x1024_S1x128x1024_0_0_0 inb_S1x512x16_S1x128x16_0_0_0 (hW 0)⟩]) := by
  rfl

end Cert.Kernel5Ideal.Value

end
-- ==== Proof.CombinePre.lean ====
module

public import proofs.«01_k».proof.Defs
public import proofs.«01_k».proof.Proof.Gen.Pre_routed
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem

namespace Cert.Comb

open Cert.Pre_routed Cert.Pre_routed.Gen

/-- A tile's first place is one of the places or their end, and a token's place is none or one of the 128 from its tile's first. -/
structure Routed (f : IVec S4x16x64 32) (s : IVec S4x8192x16 32) : Prop where
  first_le : ∀ i, (f i).toNat ≤ 1024
  place : ∀ (b : Fin 4) (n : Fin 64) (q : Fin 128) (e : Fin 16), s (ix3 b ⟨n.val * 128 + q.val, by omega⟩ e) = 4294967295#32 ∨
    ((f (ix3 b e n)).toNat ≤ (s (ix3 b ⟨n.val * 128 + q.val, by omega⟩ e)).toNat ∧ (s (ix3 b ⟨n.val * 128 + q.val, by omega⟩ e)).toNat < (f (ix3 b e n)).toNat + 128
      ∧ (s (ix3 b ⟨n.val * 128 + q.val, by omega⟩ e)).toNat < 1024)

/-- Two tests both pass when their conjunction does. -/
theorem both : ∀ x y : Bool, BitVec.ofBool x &&& BitVec.ofBool y = 1#1 → x = true ∧ y = true := by decide

/-- One test passes or three others do when the disjunction of the one and the conjunction of the three does. -/
theorem either : ∀ x y z w : Bool, BitVec.ofBool x ||| BitVec.ofBool y &&& BitVec.ofBool z &&& BitVec.ofBool w = 1#1 → x = true ∨ y = true ∧ z = true ∧ w = true := by decide

/-- The test of a tile's first place. -/
theorem first_of_test (a : BitVec 32) (h : IntOp.andi (IntOp.cmpi .sge a 0#32) (IntOp.cmpi .sle a 1024#32) = 1#1) : a.toNat ≤ 1024 := by
  simp only [IntOp.andi, IntOp.cmpi] at h
  obtain ⟨h1, h2⟩ := both _ _ h
  rw [BitVec.sle_iff_toInt_le] at h1 h2
  simp only [BitVec.toInt_eq_toNat_cond, BitVec.toNat_ofNat] at h1 h2
  omega

/-- The test of a token's place against its tile's first. -/
theorem place_of_test (a p : BitVec 32) (ha : a.toNat ≤ 1024)
    (h : IntOp.ori (IntOp.cmpi .eq p 4294967295#32) (IntOp.andi (IntOp.andi (IntOp.cmpi .sle a p) (IntOp.cmpi .slt p (IntOp.addi a 128#32))) (IntOp.cmpi .slt p 1024#32)) = 1#1) :
    p = 4294967295#32 ∨ (a.toNat ≤ p.toNat ∧ p.toNat < a.toNat + 128 ∧ p.toNat < 1024) := by
  simp only [IntOp.andi, IntOp.cmpi, IntOp.ori, IntOp.addi] at h
  rcases either _ _ _ _ h with h | ⟨h1, h2, h3⟩
  · exact .inl (eq_of_beq h)
  rw [BitVec.sle_iff_toInt_le] at h1
  rw [BitVec.slt_iff_toInt_lt] at h2 h3
  simp only [BitVec.toInt_eq_toNat_cond, BitVec.toNat_ofNat, BitVec.toNat_add] at h1 h2 h3
  exact .inr (by omega)

/-- The precondition says so of the arrays. -/
theorem routed_of {F : FTy → Type} [FloatOps F] (f : IVec S4x16x64 32) (x : FVec F S4x8192x1024 .f32) (s : IVec S4x8192x16 32) (q : FVec F S4x8192x16 .f32)
    (g b : FVec F S1024 .f32) (y : FVec F S4x16x1024x1024 .f32)
    (h : (fn f x s q g b y).1 = (fun _ => 1#1) ∧ (fn f x s q g b y).2 = fun _ => 1#1) : Routed f s := by
  have h1 : ∀ i, (f i).toNat ≤ 1024 := fun i => first_of_test _ (congrFun h.1 i)
  refine ⟨h1, fun b n q e => place_of_test _ _ (h1 _) ?_⟩
  refine Eq.trans ?_ (congrFun h.2 (ix4 b n q e))
  symm
  simp only [fn, fn_part1]
  pointwise

end Cert.Comb

end
-- ==== Proof.CombineValue.lean ====
module

public import proofs.«01_k».proof.Proof.CombineOuts
public import proofs.«01_k».proof.Proof.CombinePre

@[expose] public section

set_option maxRecDepth 16384

noncomputable section

open Idealize.ShloMosaic Idealize.ShloMosaic.TcCoe Idealize.SL.Sem
open Idealize.ShloMosaic.Pipeline (Dat)
open Cert.Attn (lnRow mean)
open scoped BigOperators

namespace Cert.Kernel5Ideal.Value

open Cert.Kernel5Ideal Cert.Kernel5Ideal.Gen Cert.Comb

variable (m : (ℓ : Loc nD τ sig) → Buf (Elt Ideal) ℓ) (hO : Ok m) (hH : Hyps m hO)

/-- The first place each tile's tokens take of an expert, on a core. -/
abbrev f_ (c : Dev nD) : IVec S4x16x64 32 := m ((c : Thread nD τ).loc main_arg0)
/-- The activations after the cross-attention on a core. -/
abbrev x_ (c : Dev nD) : FVec Ideal S4x8192x1024 .f32 := m ((c : Thread nD τ).loc main_arg1)
/-- The places of the tokens on a core. -/
abbrev s_ (c : Dev nD) : IVec S4x8192x16 32 := m ((c : Thread nD τ).loc main_arg2)
/-- The gates of the tokens on a core. -/
abbrev q_ (c : Dev nD) : FVec Ideal S4x8192x16 .f32 := m ((c : Thread nD τ).loc main_arg3)
/-- The normalisation's gains on a core. -/
abbrev g_ (c : Dev nD) : FVec Ideal S1024 .f32 := m ((c : Thread nD τ).loc main_arg4)
/-- The normalisation's biases on a core. -/
abbrev b_ (c : Dev nD) : FVec Ideal S1024 .f32 := m ((c : Thread nD τ).loc main_arg5)
/-- The experts' outputs on a core. -/
abbrev y_ (c : Dev nD) : FVec Ideal S4x16x1024x1024 .f32 := m ((c : Thread nD τ).loc main_arg6)

/-- Every window's block index at every grid point, and the point's coordinates. -/
theorem idxC : ∀ t : Fin grid0.N, cc0_transform_0 (grid0.coords t) = ![t.val / 16, t.val % 16, 0]
    ∧ cc0_transform_1 (grid0.coords t) = ![t.val / 16, t.val % 16, 0]
    ∧ cc0_transform_2 (grid0.coords t) = ![t.val / 16, t.val % 16, 0]
    ∧ cc0_transform_3 (grid0.coords t) = ![0, 0]
    ∧ cc0_transform_4 (grid0.coords t) = ![0, 0]
    ∧ cc0_transform_5 (grid0.coords t) = ![t.val / 16, 0, 0, 0]
    ∧ cc0_transform_6 (grid0.coords t) = ![t.val / 16, t.val % 16, 0]
    ∧ (grid0.coords t 0).val = t.val / 16 ∧ (grid0.coords t 1).val = t.val % 16 := by decide +kernel

/-- The windows' block indices, as the pipeline spells them. -/
theorem idxW (t : Fin (cfgM m hO).N) : ((cfgM m hO).win 0).index t = ![t.val / 16, t.val % 16, 0]
    ∧ ((cfgM m hO).win 1).index t = ![t.val / 16, t.val % 16, 0]
    ∧ ((cfgM m hO).win 2).index t = ![t.val / 16, t.val % 16, 0]
    ∧ ((cfgM m hO).win 3).index t = ![0, 0]
    ∧ ((cfgM m hO).win 4).index t = ![0, 0]
    ∧ ((cfgM m hO).win 5).index t = ![t.val / 16, 0, 0, 0]
    ∧ ((cfgM m hO).win 6).index t = ![t.val / 16, t.val % 16, 0] := by
  obtain ⟨h0, h1, h2, h3, h4, h5, h6, -, -⟩ := idxC t
  exact ⟨h0, h1, h2, h3, h4, h5, h6⟩

/-- The batch a point works on. -/
def bat (t : Fin grid0.N) : Fin 4 := ⟨t.val / 16, by have : t.val < 64 := t.isLt; omega⟩
/-- The row of the whole array that row `r` of a point's block is. -/
def row (t : Fin grid0.N) (r : Fin 512) : Fin 8192 := ⟨t.val % 16 * 512 + r.val, by omega⟩
/-- The row of a point's block that row `r` of a tile is. -/
def inTile (s : Fin 4) (r : Fin 128) : Fin 512 := ⟨128 * s.val + r.val, by omega⟩

/-- A block of the activations, at an entry. -/
theorem ib0 (c : Dev nD) (t : Fin (cfgM m hO).N) (r : Fin 512) (d : Fin 1024) : (iblk m hO c 0 t : Vec Ideal S1x512x1024 .f32) (ix3 0 r d) = x_ m c (ix3 (bat t) (row t r) d) := by
  blk_point [iblk, V, idxW m hO t]
  all_goals rfl
/-- A block of the places, at an entry. -/
theorem ib1 (c : Dev nD) (t : Fin (cfgM m hO).N) (r : Fin 512) (e : Fin 16) : (iblk m hO c 1 t : IVec S1x512x16 32) (ix3 0 r e) = s_ m c (ix3 (bat t) (row t r) e) := by
  blk_point [iblk, V, idxW m hO t]
  all_goals rfl
/-- A block of the gates, at an entry. -/
theorem ib2 (c : Dev nD) (t : Fin (cfgM m hO).N) (r : Fin 512) (e : Fin 16) : (iblk m hO c 2 t : Vec Ideal S1x512x16 .f32) (ix3 0 r e) = q_ m c (ix3 (bat t) (row t r) e) := by
  blk_point [iblk, V, idxW m hO t]
  all_goals rfl

/-- The gains as a row. -/
theorem v3 (c : Dev nD) (d : Fin 1024) : (V m c main_v0 : Vec Ideal S1x1024 .f32) (ix2 0 d) = g_ m c (ix1 d) := by
  entry_read
  pointwise
/-- The biases as a row. -/
theorem v4 (c : Dev nD) (d : Fin 1024) : (V m c main_v1 : Vec Ideal S1x1024 .f32) (ix2 0 d) = b_ m c (ix1 d) := by
  entry_read
  pointwise
/-- The experts' outputs, narrowed. -/
theorem v5 (c : Dev nD) : (V m c main_v2 : Vec Ideal S4x16x1024x1024 .bf16) = y_ m c := by
  entry_read
  rfl

/-- The gains as the kernel reads them. -/
theorem ib3 (c : Dev nD) (t : Fin (cfgM m hO).N) (d : Fin 1024) : (iblk m hO c 3 t : Vec Ideal S1x1024 .f32) (ix2 0 d) = g_ m c (ix1 d) := by
  have h : ((((cfgM m hO).win 3).blk t).view.emb (ix2 0 d) : S1x1024.Idx) = ix2 0 d := by blk_ext [idxW m hO t]
  exact (congrArg (V m c main_v0 : Vec Ideal S1x1024 .f32) h).trans (v3 m c d)
/-- The biases as the kernel reads them. -/
theorem ib4 (c : Dev nD) (t : Fin (cfgM m hO).N) (d : Fin 1024) : (iblk m hO c 4 t : Vec Ideal S1x1024 .f32) (ix2 0 d) = b_ m c (ix1 d) := by
  have h : ((((cfgM m hO).win 4).blk t).view.emb (ix2 0 d) : S1x1024.Idx) = ix2 0 d := by blk_ext [idxW m hO t]
  exact (congrArg (V m c main_v1 : Vec Ideal S1x1024 .f32) h).trans (v4 m c d)
/-- A batch of the experts' outputs, at an entry. -/
theorem ib5 (c : Dev nD) (t : Fin (cfgM m hO).N) (e : Fin 16) (p d : Fin 1024) : (iblk m hO c 5 t : Vec Ideal S1x16x1024x1024 .bf16) (ix4 0 e p d) = y_ m c (ix4 (bat t) e p d) := by
  have h : ((((cfgM m hO).win 5).blk t).view.emb (ix4 0 e p d) : S4x16x1024x1024.Idx) = ix4 (bat t) e p d := by
    blk_ext [idxW m hO t]
    all_goals rfl
  exact (congrArg (V m c main_v2 : Vec Ideal S4x16x1024x1024 .bf16) h).trans (congrFun (v5 m c) _)

/-- A word of the table. -/
theorem word_eq (c : Dev nD) (t : Fin grid0.N) (s : Fin 4) (e : Fin 16) :
    word m (grid0.coords t) s e = f_ m c (ix3 (bat t) e ⟨4 * (t.val % 16) + s.val, by omega⟩) := by
  obtain rfl : c = 0 := Subsingleton.elim _ _
  unfold word
  rw [show (tbl m 0 : IVec S4x16x64 32) = f_ m 0 from V_main_arg0 m 0]
  obtain ⟨-, -, -, -, -, -, -, h0, h1⟩ := idxC t
  show f_ m 0 _ = _
  refine congrArg (f_ m 0) (funext fun a => Fin.ext ?_)
  refine (Rect.idx_unit_val _ _ _ _ a).trans ?_
  refine (congrArg (· + _) (congrFun (wOff_eq (grid0.coords t) s e) a)).trans ?_
  fin_cases a <;> simp [h0, h1, bat]

/-- Summing the marked places of a window leaves the entry at the token's place, or nothing where the token is not placed. -/
theorem sum_window (w p : BitVec 32) (g : EReal) (y : Fin 1024 → EReal) (hw : w.toNat ≤ 1024)
    (hp : p = 4294967295#32 ∨ (w.toNat ≤ p.toNat ∧ p.toNat < w.toNat + 128 ∧ p.toNat < 1024)) (hk : ∀ k : Fin 144, (k0_mult1 w).toNat + k.val < 1024) :
    ∑ k : Fin 144, (if BitVec.ofNat 32 k.val = p - k0_mult1 w then g else 0) * y ⟨(k0_mult1 w).toNat + k.val, hk k⟩ = taken p g y := by
  have hst := start_of w hw
  have hc : ∀ k : Fin 144, BitVec.ofNat 32 k.val = p - k0_mult1 w ↔ k.val = (2 ^ 32 - (k0_mult1 w).toNat + p.toNat) % 2 ^ 32 := fun k => by
    rw [← BitVec.toNat_inj, BitVec.toNat_ofNat, BitVec.toNat_sub, Nat.mod_eq_of_lt (by omega)]
  simp only [hc, taken]
  generalize (k0_mult1 w).toNat = st at hst hk
  rcases hp with rfl | ⟨h1, h2, h3⟩
  · rw [dif_neg (by simp)]
    refine Finset.sum_eq_zero fun k _ => ?_
    rw [if_neg (by simp; omega), zero_mul]
  · rw [dif_pos h3, Finset.sum_eq_single ⟨p.toNat - st, by omega⟩]
    · rw [if_pos (by simp only; omega)]
      exact congrArg (fun i => g * y i) (Fin.ext (by simp only; omega))
    · intro k _ hne
      rw [if_neg (fun e => hne (Fin.ext (by simp only; omega))), zero_mul]
    · intro hn
      exact absurd (Finset.mem_univ _) hn

open Cert.Reference5Ideal.Value (rY rY_apply rN rN_apply)

/-- The reference's rows of the kernel's arguments, before their normalisation. -/
abbrev summed (c : Dev nD) : FVec Ideal Cert.Reference5Ideal.S4x8192x1024 .f32 := rY (x_ m c) (s_ m c) (q_ m c) (y_ m c)

/-- The reference's normalised rows of the kernel's arguments. -/
abbrev combined (c : Dev nD) : FVec Ideal Cert.Reference5Ideal.S4x8192x1024 .f32 := rN (g_ m c) (b_ m c) (summed m c)

/-- A load of a staged block reads the block. -/
theorem load_apply {S : Shape} {e : EltTy} (M : Memref sig .tc .vmem S e) (hM : M.IsWhole) (X : S.Idx → Elt Ideal e) (off size : Fin S.rank → ℕ) (inb)
    (x : (Rect.unit off size inb).shape.Idx) (i : S.Idx) (hi : ∀ a, (i a : ℕ) = off a + x a) :
    M.view.readAt (Elt Ideal) (Rect.unit off size inb).toLoadRect (hM.unread X) x = X i := by
  rw [View.readAt_eq_ld, Memref.IsWhole.read_unread]
  exact View.ld_unit_apply_of X off size inb x i hi

/-- An index of a block or a tile by its three coordinates. -/
theorem coords3 {n k l : ℕ} (x : (⟨3, ![n, k, l]⟩ : Shape).Idx) : ∃ (z : Fin n) (r : Fin k) (d : Fin l), x = ix3 z r d := ⟨x 0, x 1, x 2, eq_ix3 x⟩

/-- The rows stored for a tile are the reference's. -/
theorem stored_apply (c : Dev nD) (t : Fin (cfgM m hO).N) (hR : Routed (f_ m c) (s_ m c)) (s : Fin 4) (hX) (hS) (hW) (z : Fin 1) (r : Fin 128) (d : Fin 1024) :
    stored m hO c t s hX hS hW (ix3 z r d) = combined m c (ix3 (bat t) (row t (inTile s r)) d) := by
  unfold stored tile
  rw [lnB_apply]
  refine Eq.trans ?_ (rN_apply _ _ _ _ _ _).symm
  congr 1
  · congr 1
    · refine congrArg (fun f => lnRow f d) (funext fun d => ?_)
      rw [accB_apply]
      refine Eq.trans ?_ (rY_apply _ _ _ _ _ _ _).symm
      congr 1
      · congr 1
        refine (load_apply (ms0_0 m hO t) (hs0_0 m hO t) (iblk m hO c 0 t) _ _ _ _ (ix3 0 (inTile s r) d) fun a => ?_).trans (ib0 m hO c t (inTile s r) d)
        fin_cases a <;> simp [inTile]
      · refine Finset.sum_congr rfl fun e _ => ?_
        rw [part_apply]
        have hp := (load_apply (ms0_1 m hO t) (hs0_1 m hO t) (iblk m hO c 1 t) _ ![1, 128, 16] hS (ix3 0 r e) (ix3 0 (inTile s r) e) (fun a => by fin_cases a <;> simp [inTile])).trans (ib1 m hO c t (inTile s r) e)
        have hg := (load_apply (ms0_2 m hO t) (hs0_2 m hO t) (iblk m hO c 2 t) _ ![1, 128, 16] hS (ix3 0 r e) (ix3 0 (inTile s r) e) (fun a => by fin_cases a <;> simp [inTile])).trans (ib2 m hO c t (inTile s r) e)
        have hw : (word m (grid0.coords t) s e).toNat ≤ 1024 := by rw [word_eq m c]; exact hR.first_le _
        have hk : ∀ k : Fin 144, (k0_mult1 (word m (grid0.coords t) s e)).toNat + k.val < 1024 := fun k => by rw [start_of _ hw]; omega
        refine Eq.trans (Finset.sum_congr rfl fun k _ => ?_) (sum_window (word m (grid0.coords t) s e) _ _ (fun p => y_ m c (ix4 (bat t) e p d)) hw ?_ hk)
        · rw [hg, hp]
          congr 1
          refine (load_apply (ms0_5 m hO t) (hs0_5 m hO t) (iblk m hO c 5 t) _ _ _ _ (ix4 0 e ⟨(k0_mult1 (word m (grid0.coords t) s e)).toNat + k.val, hk k⟩ d) fun a => ?_).trans (ib5 m hO c t e _ d)
          fin_cases a <;> simp [yOff]
          rfl
        · rw [word_eq m c]
          have := hR.place (bat t) ⟨4 * (t.val % 16) + s.val, by omega⟩ r e
          rwa [show (⟨(⟨4 * (t.val % 16) + s.val, by omega⟩ : Fin 64).val * 128 + r.val, by simp only; omega⟩ : Fin 8192) = row t (inTile s r) from Fin.ext (by simp only [row, inTile]; omega)] at this
    · refine (load_apply (ms0_3 m hO t) (hs0_3 m hO t) (iblk m hO c 3 t) _ _ _ _ (ix2 0 d) fun a => ?_).trans (ib3 m hO c t d)
      fin_cases a <;> simp
  · refine (load_apply (ms0_4 m hO t) (hs0_4 m hO t) (iblk m hO c 4 t) _ _ _ _ (ix2 0 d) fun a => ?_).trans (ib4 m hO c t d)
    fin_cases a <;> simp

/-- The words of the table keep their windows inside the experts' places. -/
theorem words_ok (t : Fin grid0.N) (hR : Routed (f_ m 0) (s_ m 0)) (s : Fin 4) (e : Fin 16) (a) :
    yOff e (word m (grid0.coords t) s e) a + (![1, 1, 144, 1024] : Fin 4 → ℕ) a ≤ S1x16x1024x1024.size a :=
  (window_ok (word m (grid0.coords t) s e) (by rw [word_eq m 0]; exact hR.first_le _) e).2 a

/-- What a point leaves in the output's block. -/
theorem outs_apply (c : Dev nD) (t : Fin (cfgM m hO).N) (hR : Routed (f_ m c) (s_ m c)) (j : S1x512x1024.Idx) :
    outsAt0 m hO hH c t j = (fun j => (combined m c (ix3 (bat t) (row t (j 1)) (j 2)) : EReal)) j := by
  obtain rfl : c = 0 := Subsingleton.elim _ _
  rw [outsAt0_eq m hO hH 0 t (words_ok m t hR), View.read_writes_junk_eq_canon]
  refine View.canon_append_of_piecesOf (s := S1x512x1024) (Val := Elt Ideal) (e := .f32) (fun j => (combined m 0 (ix3 (bat t) (row t (j 1)) (j 2)) : EReal)) [] [_, _, _, _]
    ⟨fun x => ?_, fun x => ?_, fun x => ?_, fun x => ?_, trivial⟩ j (View.cover_of_tiledL _ ![1, 128, 1024] ?_ j)
  · obtain ⟨z, r, d, rfl⟩ := coords3 x
    rw [show ((Rect.unit (s := S1x512x1024) ![0, 384, 0] ![1, 128, 1024] inb_S1x512x1024_S1x128x1024_0_384_0).emb (ix3 z r d) : S1x512x1024.Idx) = ix3 0 (inTile 3 r) d from by blk_ext; rfl]
    exact stored_apply m hO 0 t hR 3 _ _ _ z r d
  · obtain ⟨z, r, d, rfl⟩ := coords3 x
    rw [show ((Rect.unit (s := S1x512x1024) ![0, 256, 0] ![1, 128, 1024] inb_S1x512x1024_S1x128x1024_0_256_0).emb (ix3 z r d) : S1x512x1024.Idx) = ix3 0 (inTile 2 r) d from by blk_ext; rfl]
    exact stored_apply m hO 0 t hR 2 _ _ _ z r d
  · obtain ⟨z, r, d, rfl⟩ := coords3 x
    rw [show ((Rect.unit (s := S1x512x1024) ![0, 128, 0] ![1, 128, 1024] inb_S1x512x1024_S1x128x1024_0_128_0).emb (ix3 z r d) : S1x512x1024.Idx) = ix3 0 (inTile 1 r) d from by blk_ext; rfl]
    exact stored_apply m hO 0 t hR 1 _ _ _ z r d
  · obtain ⟨z, r, d, rfl⟩ := coords3 x
    rw [show ((Rect.unit (s := S1x512x1024) ![0, 0, 0] ![1, 128, 1024] inb_S1x512x1024_S1x128x1024_0_0_0).emb (ix3 z r d) : S1x512x1024.Idx) = ix3 0 (inTile 0 r) d from by blk_ext; exact (Nat.zero_add _).symm]
    exact stored_apply m hO 0 t hR 0 _ _ _ z r d
  · rfl

/-- The blocks written at the points are all the blocks of the result, whatever the table holds. -/
theorem covers (a : (pcfg0 (F := Ideal)).Adm) : ((cfg0 a).win 6).Covers :=
  (by decide +kernel : ((cfg0 (F := Ideal) ⟨fun | 0 => fun _ => 0#32, trivial⟩).win 6).Covers)

/-- The result, after the run, is the reference's normalised rows. -/
theorem final (c : Dev nD) (hR : Routed (f_ m c) (s_ m c)) : (dats m hO hH 0 c).arrAt 6 (cfgM m hO).N = combined m c := by
  refine (dats m hO hH 0 c).arrAt_eq_of_covers 6 _ (covers _) fun t hf y => ?_
  blk_simp
  rw [after0_6]
  obtain ⟨z, r, d, rfl⟩ := coords3 (n := 1) (k := 512) (l := 1024) y
  have h : ((((cfgM m hO).win 6).blk t).view.emb (ix3 z r d) : S4x8192x1024.Idx) = ix3 (bat t) (row t r) d := by
    blk_ext [idxW m hO t]
    all_goals rfl
  exact (outs_apply m hO hH c t hR (ix3 z r d)).trans (congrArg (combined m c) h).symm

end Cert.Kernel5Ideal.Value

end
-- ==== Proof.CombineHyps.lean ====
module

public import proofs.«01_k».proof.Proof.CombineStep
public import proofs.«01_k».proof.Proof.CombinePre
public import proofs.«01_k».proof.Proof.Gen.Kernel5.Frame

@[expose] public section

set_option maxRecDepth 16384

noncomputable section

open Idealize.ShloMosaic Idealize.ShloMosaic.TcCoe Idealize.SL.Sem

namespace Cert.Kernel5Ideal.Value

open Cert.Kernel5Ideal Cert.Kernel5Ideal.Gen Cert.Comb

/-- A word read from a table of the places' range is in that range. -/
theorem word_le (f : IVec S4x16x64 32) (h : ∀ i, (f i).toNat ≤ 1024) (R : Rect S4x16x64) (j) :
    (tbM0_0.view.readAt (Elt Ideal) R.toLoadRect f j : BitVec 32).toNat ≤ 1024 := h _

/-- A word of the places' range keeps its window inside an expert's places, the expert given by its number. -/
theorem window_in (w : BitVec 32) (h : w.toNat ≤ 1024) (e : ℕ) (he : e < 16) :
    16 ∣ (k0_mult1 w).toNat ∧ ∀ a, (![0, e, (Scalar.indexCast (k0_mult1 w)).toNat, 0] : Fin 4 → ℕ) a + S1x1x144x1024.size a ≤ S1x16x1024x1024.size a :=
  window_ok w h ⟨e, he⟩

/-- The conditions the body needs of the words it reads. -/
theorem hyps (m : (ℓ : Loc nD τ sig) → Buf (Elt Ideal) ℓ) (hO : Ok m) (h : Cert.Pre_Kernel5Ideal m) : Hyps m hO := by
  have hf : ∀ i, ((m (((0 : Dev nD) : Thread nD τ).loc main_arg0) : IVec S4x16x64 32) i).toNat ≤ 1024 := (routed_of _ _ _ _ _ _ _ (h 0)).first_le
  have ht : (tbl m 0 : IVec S4x16x64 32) = m (((0 : Dev nD) : Thread nD τ).loc main_arg0) := V_main_arg0 m 0
  apply Hyps.of
  all_goals exact fun c t => window_in _ (word_le _ (fun i => (congrArg (fun f : IVec S4x16x64 32 => (f i).toNat) ht).trans_le (hf i)) _ _) _ (by decide)

end Cert.Kernel5Ideal.Value

namespace Cert.Kernel5.Value

open Cert.Kernel5 Cert.Kernel5.Gen Cert.Comb

/-- A word read from a table of the places' range is in that range, the table being on hardware numbers. -/
theorem word_le (f : IVec S4x16x64 32) (h : ∀ i, (f i).toNat ≤ 1024) (R : Rect S4x16x64) (j) :
    (tbM0_0.view.readAt (Elt Bits) R.toLoadRect f j : BitVec 32).toNat ≤ 1024 := h _

/-- The conditions the body needs of the words it reads, on hardware numbers. -/
theorem hyps (m : (ℓ : Loc nD τ sig) → Buf (Elt Bits) ℓ) (hO : Ok m) (h : Cert.Pre_Kernel5 m) : Hyps m hO := by
  have hf : ∀ i, ((m (((0 : Dev nD) : Thread nD τ).loc main_arg0) : IVec S4x16x64 32) i).toNat ≤ 1024 := (routed_of _ _ _ _ _ _ _ (h 0)).first_le
  have ht : (tbl m 0 : IVec S4x16x64 32) = m (((0 : Dev nD) : Thread nD τ).loc main_arg0) := V_main_arg0 m 0
  apply Hyps.of
  all_goals exact fun c t => Cert.Kernel5Ideal.Value.window_in _ (word_le _ (fun i => (congrArg (fun f : IVec S4x16x64 32 => (f i).toNat) ht).trans_le (hf i)) _ _) _ (by decide)

end Cert.Kernel5.Value

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Pre_finite
public import proofs.«01_k».proof.Proof.Gen.KernelIdeal.Value
public import proofs.«01_k».proof.Proof.Gen.Kernel2Ideal.Value
public import proofs.«01_k».proof.Proof.Gen.ReferenceIdeal.Run
public import proofs.«01_k».proof.Proof.Gen.Reference2Ideal.Run
public import Idealize.ShloMosaic.Adequacy
public import Idealize.ShloMosaic.Init
public import proofs.«01_k».proof.Proof.ExpertValue
public import proofs.«01_k».proof.Proof.AttnPre
public import proofs.«01_k».proof.Proof.InprojValue
public import proofs.«01_k».proof.Proof.MixValue
public import proofs.«01_k».proof.Proof.Gen.Reference5Ideal.Run
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Reference5Ideal
public import proofs.«01_k».proof.Proof.Gen.Pre_routed
public import proofs.«01_k».proof.Proof.Gen.Kernel3Ideal.Value
public import proofs.«01_k».proof.Proof.Gen.Kernel4Ideal.Value
public import proofs.«01_k».proof.Proof.Gen.Reference3Ideal.Run
public import proofs.«01_k».proof.Proof.Gen.Reference4Ideal.Run
public import proofs.«01_k».proof.Proof.CombineValue
public import proofs.«01_k».proof.Proof.CombineHyps
public import proofs.«01_k».proof.Proof.CombineRef

@[expose] public section

set_option maxRecDepth 16384

noncomputable section

namespace Cert.Proof

open Idealize.ShloMosaic Idealize.SL.Sem

/-- The attention kernel on hardware numbers runs, keeps its arguments and leaves every counter at zero. -/
theorem frame_attn : Cert.quiescent_Kernel := fun m g _ => Cert.Kernel.Gen.frame m g

/-- The attention kernel on exact numbers runs, keeps its arguments and leaves every counter at zero. -/
theorem frame_attn_exact : Cert.quiescent_KernelIdeal := fun m g _ => Cert.KernelIdeal.Gen.frame m g

/-- The same under the precondition. -/
theorem frame_attn_pre : Cert.quiescent_KernelIdeal_pre_finite := fun m g _ => Cert.KernelIdeal.Gen.frame m g

/-- The attention reference on exact numbers runs, keeps its arguments and leaves every counter at zero. -/
theorem frame_attn_ref : Cert.quiescent_ReferenceIdeal := by
  intro m g _
  exact (θ_run Cert.ReferenceIdeal.defs _ _).mono
    (fun r h => ⟨fun c => (h c).2.2.2, sem_eq_zero_of_no_sems (by decide) r.2⟩) (Cert.ReferenceIdeal.Value.run m g)

/-- The same under the precondition. -/
theorem frame_attn_ref_pre : Cert.quiescent_ReferenceIdeal_pre_finite := fun m g _ => frame_attn_ref m g trivial

/-- The expert kernel on hardware numbers runs, keeps its arguments and leaves every counter at zero. -/
theorem frame_expert : Cert.quiescent_Kernel2 := fun m g _ => Cert.Kernel2.Gen.frame m g

/-- The expert kernel on exact numbers runs, keeps its arguments and leaves every counter at zero. -/
theorem frame_expert_exact : Cert.quiescent_Kernel2Ideal := fun m g _ => Cert.Kernel2Ideal.Gen.frame m g

/-- The expert reference on exact numbers runs, keeps its arguments and leaves every counter at zero. -/
theorem frame_expert_ref : Cert.quiescent_Reference2Ideal := by
  intro m g _
  exact (θ_run Cert.Reference2Ideal.defs _ _).mono
    (fun r h => ⟨fun c => (h c).2, sem_eq_zero_of_no_sems (by decide) r.2⟩) (Cert.Reference2Ideal.Value.run m g)

/-- The projection kernel on hardware numbers runs, keeps its arguments and leaves every counter at zero. -/
theorem frame_inproj : Cert.quiescent_Kernel3 := fun m g _ => Cert.Kernel3.Gen.frame m g

/-- The projection kernel on exact numbers runs, keeps its arguments and leaves every counter at zero. -/
theorem frame_inproj_exact : Cert.quiescent_Kernel3Ideal := fun m g _ => Cert.Kernel3Ideal.Gen.frame m g

/-- The projection reference on exact numbers runs, keeps its arguments and leaves every counter at zero. -/
theorem frame_inproj_ref : Cert.quiescent_Reference3Ideal := by
  intro m g _
  exact (θ_run Cert.Reference3Ideal.defs _ _).mono
    (fun r h => ⟨fun c => (h c).2.2.2.2, sem_eq_zero_of_no_sems (by decide) r.2⟩) (Cert.Reference3Ideal.Value.run m g)

/-- The combining kernel on hardware numbers runs, keeps its arguments and leaves every counter at zero, of places its table tells. -/
theorem frame_combine : Cert.quiescent_Kernel5 := fun m g h => Cert.Kernel5.Gen.frame m g trivial (Cert.Kernel5.Value.hyps m trivial h)

/-- The combining kernel on exact numbers runs, keeps its arguments and leaves every counter at zero, of places its table tells. -/
theorem frame_combine_exact : Cert.quiescent_Kernel5Ideal := fun m g h => Cert.Kernel5Ideal.Gen.frame m g trivial (Cert.Kernel5Ideal.Value.hyps m trivial h)

/-- The combining reference on exact numbers runs, keeps its arguments and leaves every counter at zero. -/
theorem frame_combine_ref : Cert.quiescent_Reference5Ideal := by
  intro m g _
  exact (θ_run Cert.Reference5Ideal.defs _ _).mono
    (fun r h => ⟨fun c => (h c).2, sem_eq_zero_of_no_sems (by decide) r.2⟩) (Cert.Reference5Ideal.Value.run m g)

/-- The same under the precondition. -/
theorem frame_combine_ref_pre : Cert.quiescent_Reference5Ideal_pre_routed := fun m g _ => frame_combine_ref m g trivial

/-- The mixing kernel on hardware numbers runs, keeps its arguments and leaves every counter at zero. -/
theorem frame_mix : Cert.quiescent_Kernel4 := fun m g _ => Cert.Kernel4.Gen.frame m g

/-- The mixing kernel on exact numbers runs, keeps its arguments and leaves every counter at zero. -/
theorem frame_mix_exact : Cert.quiescent_Kernel4Ideal := fun m g _ => Cert.Kernel4Ideal.Gen.frame m g

/-- The mixing reference on exact numbers runs, keeps its arguments and leaves every counter at zero. -/
theorem frame_mix_ref : Cert.quiescent_Reference4Ideal := by
  intro m g _
  exact (θ_run Cert.Reference4Ideal.defs _ _).mono
    (fun r h => ⟨fun c => (h c).2, sem_eq_zero_of_no_sems (by decide) r.2⟩) (Cert.Reference4Ideal.Value.run m g)

/-- On exact numbers the attention kernel and its reference end with the same three results. -/
theorem value_attn : Cert.algebraic_KernelIdeal_ReferenceIdeal_pre_finite := by
  intro m g m' g' hpre hagree
  refine ⟨fun c => Cert.KernelIdeal.Value.N_ m c, fun c => truncf .bf16 (Cert.KernelIdeal.Value.N_ m c) Cert.KernelIdeal.Gen.facts.bitsLt_bf16_f32,
    fun c => Cert.ReferenceIdeal.Value.rA (Cert.ReferenceIdeal.Value.rE' (Cert.ReferenceIdeal.Value.rL (Cert.KernelIdeal.Value.wr_ m c) (Cert.KernelIdeal.Value.N_ m c))), ?_, ?_⟩
  · exact (θ_run Cert.KernelIdeal.defs _ _).mono
      (fun r h c => ⟨(h c).1.trans (Cert.KernelIdeal.Value.result0 m c), (h c).2.1.trans (Cert.KernelIdeal.Value.result1 m c),
        (h c).2.2.1.trans (Cert.KernelIdeal.Value.result2 m c (Cert.KernelIdeal.Value.allFine_of_pre m hpre c)), (h c).2.2.2⟩)
      (Cert.KernelIdeal.Value.run_blocks m g)
  · refine (θ_run Cert.ReferenceIdeal.defs _ _).mono (fun r h c => ?_) (Cert.ReferenceIdeal.Value.run m' g')
    obtain ⟨a0, a1, a2, a3, a4, a5, a6, a7, a8⟩ := hagree c
    have e : Cert.ReferenceIdeal.Value.res_main_v50 (StableHlo.launchContents m' c) = Cert.KernelIdeal.Value.N_ m c := by
      rw [Cert.ReferenceIdeal.Value.v50_eq]
      show Cert.ReferenceIdeal.Value.rOut (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) = _
      rw [a0, a1, a2, a3, a4, a5, a6, a7]
      rfl
    refine ⟨(h c).1.trans e, (h c).2.1.trans (congrArg (fun A => truncf .bf16 A _) e), (h c).2.2.1.trans ?_, (h c).2.2.2⟩
    show Cert.ReferenceIdeal.Value.rA (Cert.ReferenceIdeal.Value.res_main_v58 (StableHlo.launchContents m' c)) = _
    rw [Cert.ReferenceIdeal.Value.v58_eq, e]
    exact congrArg (fun w => Cert.ReferenceIdeal.Value.rA (Cert.ReferenceIdeal.Value.rE' (Cert.ReferenceIdeal.Value.rL w (Cert.KernelIdeal.Value.N_ m c)))) a8

/-- On exact numbers the expert kernel and its reference end with the same result. -/
theorem value_expert : Cert.algebraic_Kernel2Ideal_Reference2Ideal := by
  pair_intro
  · run_from Cert.Kernel2Ideal.Gen.run_main m g
  · run_from Cert.Reference2Ideal.Value.run m' g'
    exact (Cert.Kernel2Ideal.Value.final m c).symm

/-- On exact numbers the projection kernel and its reference end with the same four results. -/
theorem value_inproj : Cert.algebraic_Kernel3Ideal_Reference3Ideal := by
  intro m g m' g' _ hagree
  refine ⟨fun c => (Cert.Reference3Ideal.Value.rN (Cert.Kernel3Ideal.Value.x_ m c) (Cert.Kernel3Ideal.Value.g_ m c) (Cert.Kernel3Ideal.Value.b_ m c)), fun c => Cert.Reference3Ideal.Value.rU (Cert.Kernel3Ideal.Value.w_ m c) (Cert.Reference3Ideal.Value.rN (Cert.Kernel3Ideal.Value.x_ m c) (Cert.Kernel3Ideal.Value.g_ m c) (Cert.Kernel3Ideal.Value.b_ m c)),
    fun c => Cert.Reference3Ideal.Value.rT (Cert.Kernel3Ideal.Value.w_ m c) (Cert.Reference3Ideal.Value.rN (Cert.Kernel3Ideal.Value.x_ m c) (Cert.Kernel3Ideal.Value.g_ m c) (Cert.Kernel3Ideal.Value.b_ m c)), fun c => Cert.Reference3Ideal.Value.rG (Cert.Kernel3Ideal.Value.w_ m c) (Cert.Kernel3Ideal.Value.bg_ m c) (Cert.Reference3Ideal.Value.rN (Cert.Kernel3Ideal.Value.x_ m c) (Cert.Kernel3Ideal.Value.g_ m c) (Cert.Kernel3Ideal.Value.b_ m c)), ?_, ?_⟩
  · exact (θ_run Cert.Kernel3Ideal.defs _ _).mono
      (fun r h c => ⟨(h c).1.trans (Cert.Kernel3Ideal.Value.final_h m c), (h c).2.1.trans (Cert.Kernel3Ideal.Value.final_u m c), (h c).2.2.1.trans (Cert.Kernel3Ideal.Value.final_t m c),
        (h c).2.2.2.1.trans (Cert.Kernel3Ideal.Value.final_g m c), (h c).2.2.2.2⟩)
      (Cert.Kernel3Ideal.Value.run_blocks m g)
  · refine (θ_run Cert.Reference3Ideal.defs _ _).mono (fun r h c => ?_) (Cert.Reference3Ideal.Value.run m' g')
    obtain ⟨a0, a1, a2, a3, a4⟩ := hagree c
    have e : (Cert.Reference3Ideal.Value.rN (m' ((c.tc : Thread Cert.Reference3Ideal.nD Cert.Reference3Ideal.τ).loc Cert.Reference3Ideal.main_arg0)) (m' ((c.tc : Thread Cert.Reference3Ideal.nD Cert.Reference3Ideal.τ).loc Cert.Reference3Ideal.main_arg1)) (m' ((c.tc : Thread Cert.Reference3Ideal.nD Cert.Reference3Ideal.τ).loc Cert.Reference3Ideal.main_arg2))) = (Cert.Reference3Ideal.Value.rN (Cert.Kernel3Ideal.Value.x_ m c) (Cert.Kernel3Ideal.Value.g_ m c) (Cert.Kernel3Ideal.Value.b_ m c)) := by
      rw [a0, a1, a2]
    refine ⟨(h c).1.trans e, (h c).2.1.trans ?_, (h c).2.2.1.trans ?_, (h c).2.2.2.1.trans ?_, (h c).2.2.2.2⟩
    · show Cert.Reference3Ideal.Value.rU (m' ((c.tc : Thread Cert.Reference3Ideal.nD Cert.Reference3Ideal.τ).loc Cert.Reference3Ideal.main_arg3)) (Cert.Reference3Ideal.Value.rN (m' ((c.tc : Thread Cert.Reference3Ideal.nD Cert.Reference3Ideal.τ).loc Cert.Reference3Ideal.main_arg0)) (m' ((c.tc : Thread Cert.Reference3Ideal.nD Cert.Reference3Ideal.τ).loc Cert.Reference3Ideal.main_arg1)) (m' ((c.tc : Thread Cert.Reference3Ideal.nD Cert.Reference3Ideal.τ).loc Cert.Reference3Ideal.main_arg2))) = _
      rw [e, a3]
    · show Cert.Reference3Ideal.Value.rT (m' ((c.tc : Thread Cert.Reference3Ideal.nD Cert.Reference3Ideal.τ).loc Cert.Reference3Ideal.main_arg3)) (Cert.Reference3Ideal.Value.rN (m' ((c.tc : Thread Cert.Reference3Ideal.nD Cert.Reference3Ideal.τ).loc Cert.Reference3Ideal.main_arg0)) (m' ((c.tc : Thread Cert.Reference3Ideal.nD Cert.Reference3Ideal.τ).loc Cert.Reference3Ideal.main_arg1)) (m' ((c.tc : Thread Cert.Reference3Ideal.nD Cert.Reference3Ideal.τ).loc Cert.Reference3Ideal.main_arg2))) = _
      rw [e, a3]
    · show Cert.Reference3Ideal.Value.rG (m' ((c.tc : Thread Cert.Reference3Ideal.nD Cert.Reference3Ideal.τ).loc Cert.Reference3Ideal.main_arg3)) (m' ((c.tc : Thread Cert.Reference3Ideal.nD Cert.Reference3Ideal.τ).loc Cert.Reference3Ideal.main_arg4)) (Cert.Reference3Ideal.Value.rN (m' ((c.tc : Thread Cert.Reference3Ideal.nD Cert.Reference3Ideal.τ).loc Cert.Reference3Ideal.main_arg0)) (m' ((c.tc : Thread Cert.Reference3Ideal.nD Cert.Reference3Ideal.τ).loc Cert.Reference3Ideal.main_arg1)) (m' ((c.tc : Thread Cert.Reference3Ideal.nD Cert.Reference3Ideal.τ).loc Cert.Reference3Ideal.main_arg2))) = _
      rw [e, a3, a4]

/-- On exact numbers the combining kernel and its reference end with the same result, of places its table tells. -/
theorem value_combine : Cert.algebraic_Kernel5Ideal_Reference5Ideal := by
  intro m g m' g' hpre hagree
  have hH := Cert.Kernel5Ideal.Value.hyps m trivial hpre
  refine ⟨fun c => Cert.Kernel5Ideal.Value.combined m c, ?_, ?_⟩
  · exact (θ_run Cert.Kernel5Ideal.defs _ _).mono
      (fun r h c => ⟨((h.1 c).1 6).trans (Cert.Kernel5Ideal.Value.final m trivial hH c (Cert.Comb.routed_of _ _ _ _ _ _ _ (hpre c))), h.2 c⟩)
      (θ_run_and (Cert.Kernel5Ideal.Gen.run_main m g trivial hH) (Cert.Kernel5Ideal.Gen.unchanged m g trivial hH))
  · refine (θ_run Cert.Reference5Ideal.defs _ _).mono (fun r h c => ⟨(h c).1.trans ?_, (h c).2⟩) (Cert.Reference5Ideal.Value.run m' g')
    obtain ⟨a0, a1, a2, a3, a4, a5, a6⟩ := hagree c
    refine (Cert.Reference5Ideal.Value.res_eq m' c).trans ?_
    rw [a1, a2, a3, a4, a5, a6]

/-- On exact numbers the mixing kernel and its reference end with the same result. -/
theorem value_mix : Cert.algebraic_Kernel4Ideal_Reference4Ideal := by
  intro m g m' g' _ hagree
  refine ⟨fun c => Cert.Kernel4Ideal.Value.mixed m c, ?_, ?_⟩
  · exact (θ_run Cert.Kernel4Ideal.defs _ _).mono (fun r h c => ⟨(h c).1.trans (Cert.Kernel4Ideal.Value.final m c), (h c).2⟩) (Cert.Kernel4Ideal.Value.run_blocks m g)
  · refine (θ_run Cert.Reference4Ideal.defs _ _).mono (fun r h c => ⟨(h c).1.trans ?_, (h c).2⟩) (Cert.Reference4Ideal.Value.run m' g')
    obtain ⟨a0, a1, a2, a3, a4, a5, a6, a7, a8⟩ := hagree c
    rw [Cert.Reference4Ideal.Value.res_eq, a0, a1, a2, a3, a4, a5, a6, a7, a8]

theorem claim : Cert.Claim :=
  ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel5.Gen.facts, Cert.Kernel5Ideal.Gen.facts, Cert.Reference5Ideal.Gen.facts, Cert.Kernel4.Gen.facts, Cert.Kernel4Ideal.Gen.facts, Cert.Reference4Ideal.Gen.facts, Cert.Pre_finite.Gen.facts, Cert.Pre_routed.Gen.facts,
   frame_attn, frame_attn_exact, frame_attn_pre, frame_attn_ref, frame_attn_ref_pre,
   frame_expert, frame_expert_exact, frame_expert_ref,
   frame_inproj, frame_inproj_exact, frame_inproj_ref,
   frame_combine, frame_combine_exact, frame_combine_ref, frame_combine_ref_pre, frame_mix, frame_mix_exact, frame_mix_ref,
   trivial, value_attn, trivial, value_expert, trivial, value_inproj, trivial, value_combine, trivial, value_mix⟩

end Cert.Proof

end
